-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S2x2x512x2x128 Cert.KernelIdeal.S2x2x512x1x128
  ∧ IdealRules.bf16_pair.BufferStatement Cert.KernelIdeal.S2x528x2x128 Cert.KernelIdeal.S2x528x1x128
  ∧ IdealRules.bf16_pair.Statement Cert.KernelIdeal.S512x128 Cert.KernelIdeal.S256x128
  ∧ IdealRules.bf16_pair.Statement Cert.KernelIdeal.S1x1x256x2x128 Cert.KernelIdeal.S1x1x256x1x128
  ∧ IdealRules.bf16_pair.Statement Cert.KernelIdeal.S1024x128 Cert.KernelIdeal.S512x128
  ∧ IdealRules.bf16_pair.Statement Cert.KernelIdeal.S1x512x2x128 Cert.KernelIdeal.S1x512x1x128
  ∧ IdealRules.bf16_pair.Statement Cert.KernelIdeal.S32x128 Cert.KernelIdeal.S16x128
  ∧ IdealRules.bf16_pair.Statement Cert.KernelIdeal.S1x16x2x128 Cert.KernelIdeal.S1x16x1x128
  ∧ IdealRules.bf16_pair.Statement Cert.KernelIdeal.S264x2x128 Cert.KernelIdeal.S264x1x128
  ∧ IdealRules.bf16_pair.SelectZeroStatement Cert.KernelIdeal.S264x128
  ∧ IdealRules.bf16_pair.Statement Cert.KernelIdeal.S1x256x2x128 Cert.KernelIdeal.S1x256x1x128
  ∧ IdealRules.bf16_pair.SelectZeroStatement Cert.KernelIdeal.S256x128
  ∧ IdealRules.bf16_pair.Statement Cert.KernelIdeal.S1x1x2x128 Cert.KernelIdeal.S1x1x1x128
  ∧ IdealRules.bf16_pair.Statement Cert.KernelIdeal.S256x2x128 Cert.KernelIdeal.S256x1x128
  ∧ IdealRules.bf16_pair.Statement Cert.KernelIdeal.S512x256 Cert.KernelIdeal.S256x256
  ∧ IdealRules.bf16_pair.HalfStatement Cert.KernelIdeal.S264x128
  ∧ IdealRules.bf16_pair.HalfStatement Cert.KernelIdeal.S256x128
  ∧ IdealRules.bf16_pair.Statement Cert.KernelIdeal.S2x128 Cert.KernelIdeal.S1x128
  ∧ IdealRules.bf16_pair.PackStatement Cert.KernelIdeal.S264x128
  ∧ IdealRules.bf16_pair.PackStatement Cert.KernelIdeal.S256x128

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S36x257x16x104 : Shape := ⟨4, ![36, 257, 16, 104]⟩
abbrev S36x16x257x257 : Shape := ⟨4, ![36, 16, 257, 257]⟩
abbrev S36x16x257 : Shape := ⟨3, ![36, 16, 257]⟩
abbrev S36x16 : Shape := ⟨2, ![36, 16]⟩
abbrev S_ : Shape := ⟨0, ![]⟩

class Facts : Prop where
  bcast_S_S36x16 : S_.BroadcastsInDim S36x16 (![] : Fin 0 → Fin S36x16.rank)

variable [Facts]

def fn {F : FTy → Type} [FloatOps F] (main_arg0 : FVec F S36x257x16x104 .bf16) (main_arg1 : FVec F S36x257x16x104 .bf16) (main_arg2 : IVec S36x16x257x257 8) (main_arg3 : FVec F S36x16x257 .f32) (main_arg4 : FVec F S36x257x16x104 .fp8e4m3) (main_arg5 : FVec F S36x16 .f32) (main_arg6 : FVec F S36x257x16x104 .bf16) : IVec S36x16 1 :=
  let main_cst : FVec F S_ .f32 := constant S_ .f32 0x00000000#32
  let main_v0 : FVec F S36x16 .f32 := broadcastInDim S36x16 ![] bcast_S_S36x16 main_cst
  let main_v1 : IVec S36x16 1 := cmpf .oge main_arg5 main_v0
  let main_cst_0 : FVec F S_ .f32 := constant S_ .f32 0x7F800000#32
  let main_v2 : FVec F S36x16 .f32 := broadcastInDim S36x16 ![] bcast_S_S36x16 main_cst_0
  let main_v3 : IVec S36x16 1 := cmpf .olt main_arg5 main_v2
  let main_v4 : IVec S36x16 1 := andi main_v1 main_v3
  main_v4
-- ==== Kernel.lean ====
abbrev S36x257x16x104 : Shape := ⟨4, ![36, 257, 16, 104]⟩
abbrev S36x16x257x257 : Shape := ⟨4, ![36, 16, 257, 257]⟩
abbrev S36x16x257 : Shape := ⟨3, ![36, 16, 257]⟩
abbrev S36x16 : Shape := ⟨2, ![36, 16]⟩
abbrev S36x257x16x257 : Shape := ⟨4, ![36, 257, 16, 257]⟩
abbrev S72x1x8 : Shape := ⟨3, ![72, 1, 8]⟩
abbrev S1x257x8x128 : Shape := ⟨4, ![1, 257, 8, 128]⟩
abbrev S1x8x257 : Shape := ⟨3, ![1, 8, 257]⟩
abbrev S1x1x8 : Shape := ⟨3, ![1, 1, 8]⟩
abbrev S2x2x512x128 : Shape := ⟨4, ![2, 2, 512, 128]⟩
abbrev S2x528x128 : Shape := ⟨3, ![2, 528, 128]⟩
abbrev S1x128 : Shape := ⟨2, ![1, 128]⟩
abbrev S8x1 : Shape := ⟨2, ![8, 1]⟩
abbrev S257x8x128 : Shape := ⟨3, ![257, 8, 128]⟩
abbrev S257x2x128 : Shape := ⟨3, ![257, 2, 128]⟩
abbrev S1x1x8x128 : Shape := ⟨4, ![1, 1, 8, 128]⟩
abbrev S8x128 : Shape := ⟨2, ![8, 128]⟩
abbrev S128x1x128 : Shape := ⟨3, ![128, 1, 128]⟩
abbrev S128x128 : Shape := ⟨2, ![128, 128]⟩
abbrev S512x128 : Shape := ⟨2, ![512, 128]⟩
abbrev S256x128 : Shape := ⟨2, ![256, 128]⟩
abbrev S1x1x256x128 : Shape := ⟨4, ![1, 1, 256, 128]⟩
abbrev S8x256 : Shape := ⟨2, ![8, 256]⟩
abbrev S1x256x4x128 : Shape := ⟨4, ![1, 256, 4, 128]⟩
abbrev S256x4x128 : Shape := ⟨3, ![256, 4, 128]⟩
abbrev S1024x128 : Shape := ⟨2, ![1024, 128]⟩
abbrev S1x512x128 : Shape := ⟨3, ![1, 512, 128]⟩
abbrev S1x1x4x128 : Shape := ⟨4, ![1, 1, 4, 128]⟩
abbrev S4x128 : Shape := ⟨2, ![4, 128]⟩
abbrev S28x128 : Shape := ⟨2, ![28, 128]⟩
abbrev S32x128 : Shape := ⟨2, ![32, 128]⟩
abbrev S16x128 : Shape := ⟨2, ![16, 128]⟩
abbrev S1x16x128 : Shape := ⟨3, ![1, 16, 128]⟩
abbrev S1x528x128 : Shape := ⟨3, ![1, 528, 128]⟩
abbrev S528x128 : Shape := ⟨2, ![528, 128]⟩
abbrev S264x128 : Shape := ⟨2, ![264, 128]⟩
abbrev S1x257x4x128 : Shape := ⟨4, ![1, 257, 4, 128]⟩
abbrev S1028x128 : Shape := ⟨2, ![1028, 128]⟩
abbrev S1x256x2x128 : Shape := ⟨4, ![1, 256, 2, 128]⟩
abbrev S1x256x1x128 : Shape := ⟨4, ![1, 256, 1, 128]⟩
abbrev S1x1x2x128 : Shape := ⟨4, ![1, 1, 2, 128]⟩
abbrev S1x1x1x128 : Shape := ⟨4, ![1, 1, 1, 128]⟩
abbrev S1x2x512x128 : Shape := ⟨4, ![1, 2, 512, 128]⟩
abbrev S2x512x128 : Shape := ⟨3, ![2, 512, 128]⟩
abbrev S256x256 : Shape := ⟨2, ![256, 256]⟩
abbrev S264x256 : Shape := ⟨2, ![264, 256]⟩
abbrev S8x264 : Shape := ⟨2, ![8, 264]⟩
abbrev S128x256 : Shape := ⟨2, ![128, 256]⟩
abbrev S104x256 : Shape := ⟨2, ![104, 256]⟩
abbrev S1x8x1 : Shape := ⟨3, ![1, 8, 1]⟩
abbrev S1x1x1 : Shape := ⟨3, ![1, 1, 1]⟩
abbrev S120x128 : Shape := ⟨2, ![120, 128]⟩
abbrev S8x8 : Shape := ⟨2, ![8, 8]⟩
abbrev S8x120 : Shape := ⟨2, ![8, 120]⟩
abbrev S1x1x256 : Shape := ⟨3, ![1, 1, 256]⟩
abbrev S1x256 : Shape := ⟨2, ![1, 256]⟩
abbrev S264x1 : Shape := ⟨2, ![264, 1]⟩
abbrev S104x1 : Shape := ⟨2, ![104, 1]⟩
abbrev S8x104 : Shape := ⟨2, ![8, 104]⟩
abbrev S8x24 : Shape := ⟨2, ![8, 24]⟩
abbrev S24x256 : Shape := ⟨2, ![24, 256]⟩

abbrev nBuf : Space → Nat
  | .hbm => 12
  | .vmem => 24
  | .smem => 2
  | _ => 0

abbrev bufTy : (tb : Table) → Fin (tcTables nBuf tb) → BufTy
  | .hbm, ⟨0, _⟩ => ⟨S36x257x16x104, .bf16⟩
  | .hbm, ⟨1, _⟩ => ⟨S36x257x16x104, .bf16⟩
  | .hbm, ⟨2, _⟩ => ⟨S36x16x257x257, .i8⟩
  | .hbm, ⟨3, _⟩ => ⟨S36x16x257, .f32⟩
  | .hbm, ⟨4, _⟩ => ⟨S36x257x16x104, .fp8e4m3⟩
  | .hbm, ⟨5, _⟩ => ⟨S36x16, .f32⟩
  | .hbm, ⟨6, _⟩ => ⟨S36x257x16x104, .bf16⟩
  | .hbm, ⟨7, _⟩ => ⟨S36x257x16x257, .i8⟩
  | .hbm, ⟨8, _⟩ => ⟨S72x1x8, .f32⟩
  | .hbm, ⟨9, _⟩ => ⟨S36x257x16x104, .bf16⟩
  | .hbm, ⟨10, _⟩ => ⟨S36x257x16x104, .bf16⟩
  | .hbm, ⟨11, _⟩ => ⟨S36x257x16x104, .bf16⟩
  | .local _ .vmem, ⟨0, _⟩ => ⟨S1x257x8x128, .bf16⟩
  | .local _ .vmem, ⟨1, _⟩ => ⟨S1x257x8x128, .bf16⟩
  | .local _ .vmem, ⟨2, _⟩ => ⟨S1x257x8x128, .bf16⟩
  | .local _ .vmem, ⟨3, _⟩ => ⟨S1x257x8x128, .bf16⟩
  | .local _ .vmem, ⟨4, _⟩ => ⟨S1x257x8x128, .i8⟩
  | .local _ .vmem, ⟨5, _⟩ => ⟨S1x257x8x128, .i8⟩
  | .local _ .vmem, ⟨6, _⟩ => ⟨S1x257x8x128, .i8⟩
  | .local _ .vmem, ⟨7, _⟩ => ⟨S1x257x8x128, .i8⟩
  | .local _ .vmem, ⟨8, _⟩ => ⟨S1x257x8x128, .i8⟩
  | .local _ .vmem, ⟨9, _⟩ => ⟨S1x257x8x128, .i8⟩
  | .local _ .vmem, ⟨10, _⟩ => ⟨S1x8x257, .f32⟩
  | .local _ .vmem, ⟨11, _⟩ => ⟨S1x8x257, .f32⟩
  | .local _ .vmem, ⟨12, _⟩ => ⟨S1x257x8x128, .fp8e4m3⟩
  | .local _ .vmem, ⟨13, _⟩ => ⟨S1x257x8x128, .fp8e4m3⟩
  | .local _ .vmem, ⟨14, _⟩ => ⟨S1x257x8x128, .bf16⟩
  | .local _ .vmem, ⟨15, _⟩ => ⟨S1x257x8x128, .bf16⟩
  | .local _ .vmem, ⟨16, _⟩ => ⟨S1x257x8x128, .bf16⟩
  | .local _ .vmem, ⟨17, _⟩ => ⟨S1x257x8x128, .bf16⟩
  | .local _ .vmem, ⟨18, _⟩ => ⟨S1x257x8x128, .bf16⟩
  | .local _ .vmem, ⟨19, _⟩ => ⟨S1x257x8x128, .bf16⟩
  | .local _ .vmem, ⟨20, _⟩ => ⟨S1x257x8x128, .bf16⟩
  | .local _ .vmem, ⟨21, _⟩ => ⟨S1x257x8x128, .bf16⟩
  | .local _ .vmem, ⟨22, _⟩ => ⟨S2x2x512x128, .i32⟩
  | .local _ .vmem, ⟨23, _⟩ => ⟨S2x528x128, .i32⟩
  | .local _ .smem, ⟨0, _⟩ => ⟨S1x1x8, .f32⟩
  | .local _ .smem, ⟨1, _⟩ => ⟨S1x1x8, .f32⟩
  | _, _ => ⟨S36x257x16x104, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg7_0 : Ref sig .tc := ⟨.smem, 0, rfl⟩
abbrev cc0_stg7_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [BitOps F]

abbrev grid0 : Pipeline.Grid := ⟨2, ![36, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x257x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x257x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x257x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x257x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x257x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x257x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .smem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x257x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x257x8x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x257x8x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x257x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
abbrev S36x257x16x104 : Shape := ⟨4, ![36, 257, 16, 104]⟩
abbrev S36x16x257x257 : Shape := ⟨4, ![36, 16, 257, 257]⟩
abbrev S36x16x257 : Shape := ⟨3, ![36, 16, 257]⟩
abbrev S36x16 : Shape := ⟨2, ![36, 16]⟩
abbrev S36x257x16x257 : Shape := ⟨4, ![36, 257, 16, 257]⟩
abbrev S72x1x8 : Shape := ⟨3, ![72, 1, 8]⟩
abbrev S1x257x8x128 : Shape := ⟨4, ![1, 257, 8, 128]⟩
abbrev S1x8x257 : Shape := ⟨3, ![1, 8, 257]⟩
abbrev S1x1x8 : Shape := ⟨3, ![1, 1, 8]⟩
abbrev S2x2x512x128 : Shape := ⟨4, ![2, 2, 512, 128]⟩
abbrev S2x2x512x2x128 : Shape := ⟨5, ![2, 2, 512, 2, 128]⟩
abbrev S2x2x512x1x128 : Shape := ⟨5, ![2, 2, 512, 1, 128]⟩
abbrev S2x528x128 : Shape := ⟨3, ![2, 528, 128]⟩
abbrev S2x528x2x128 : Shape := ⟨4, ![2, 528, 2, 128]⟩
abbrev S2x528x1x128 : Shape := ⟨4, ![2, 528, 1, 128]⟩
abbrev S1x128 : Shape := ⟨2, ![1, 128]⟩
abbrev S8x1 : Shape := ⟨2, ![8, 1]⟩
abbrev S257x8x128 : Shape := ⟨3, ![257, 8, 128]⟩
abbrev S257x2x128 : Shape := ⟨3, ![257, 2, 128]⟩
abbrev S1x1x8x128 : Shape := ⟨4, ![1, 1, 8, 128]⟩
abbrev S8x128 : Shape := ⟨2, ![8, 128]⟩
abbrev S128x1x128 : Shape := ⟨3, ![128, 1, 128]⟩
abbrev S128x128 : Shape := ⟨2, ![128, 128]⟩
abbrev S512x128 : Shape := ⟨2, ![512, 128]⟩
abbrev S256x128 : Shape := ⟨2, ![256, 128]⟩
abbrev S1x1x256x128 : Shape := ⟨4, ![1, 1, 256, 128]⟩
abbrev S1x1x256x2x128 : Shape := ⟨5, ![1, 1, 256, 2, 128]⟩
abbrev S1x1x256x1x128 : Shape := ⟨5, ![1, 1, 256, 1, 128]⟩
abbrev S8x256 : Shape := ⟨2, ![8, 256]⟩
abbrev S1x256x4x128 : Shape := ⟨4, ![1, 256, 4, 128]⟩
abbrev S256x4x128 : Shape := ⟨3, ![256, 4, 128]⟩
abbrev S1024x128 : Shape := ⟨2, ![1024, 128]⟩
abbrev S1x512x128 : Shape := ⟨3, ![1, 512, 128]⟩
abbrev S1x512x2x128 : Shape := ⟨4, ![1, 512, 2, 128]⟩
abbrev S1x512x1x128 : Shape := ⟨4, ![1, 512, 1, 128]⟩
abbrev S1x1x4x128 : Shape := ⟨4, ![1, 1, 4, 128]⟩
abbrev S4x128 : Shape := ⟨2, ![4, 128]⟩
abbrev S28x128 : Shape := ⟨2, ![28, 128]⟩
abbrev S32x128 : Shape := ⟨2, ![32, 128]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S1x528x2x128 : Shape := ⟨4, ![1, 528, 2, 128]⟩
abbrev S528x2x128 : Shape := ⟨3, ![528, 2, 128]⟩
abbrev S264x128 : Shape := ⟨2, ![264, 128]⟩
abbrev S264x2x128 : Shape := ⟨3, ![264, 2, 128]⟩
abbrev S264x1x128 : Shape := ⟨3, ![264, 1, 128]⟩
abbrev S1x257x4x128 : Shape := ⟨4, ![1, 257, 4, 128]⟩
abbrev S1028x128 : Shape := ⟨2, ![1028, 128]⟩
abbrev S1x256x2x128 : Shape := ⟨4, ![1, 256, 2, 128]⟩
abbrev S1x256x1x128 : Shape := ⟨4, ![1, 256, 1, 128]⟩
abbrev S1x1x2x128 : Shape := ⟨4, ![1, 1, 2, 128]⟩
abbrev S1x1x1x128 : Shape := ⟨4, ![1, 1, 1, 128]⟩
abbrev S1x2x512x2x128 : Shape := ⟨5, ![1, 2, 512, 2, 128]⟩
abbrev S2x512x2x128 : Shape := ⟨4, ![2, 512, 2, 128]⟩
abbrev S512x2x128 : Shape := ⟨3, ![512, 2, 128]⟩
abbrev S256x2x128 : Shape := ⟨3, ![256, 2, 128]⟩
abbrev S256x1x128 : Shape := ⟨3, ![256, 1, 128]⟩
abbrev S256x256 : Shape := ⟨2, ![256, 256]⟩
abbrev S512x256 : Shape := ⟨2, ![512, 256]⟩
abbrev S264x256 : Shape := ⟨2, ![264, 256]⟩
abbrev S8x264 : Shape := ⟨2, ![8, 264]⟩
abbrev S128x256 : Shape := ⟨2, ![128, 256]⟩
abbrev S104x256 : Shape := ⟨2, ![104, 256]⟩
abbrev S2x128 : Shape := ⟨2, ![2, 128]⟩
abbrev S1x8x1 : Shape := ⟨3, ![1, 8, 1]⟩
abbrev S1x1x1 : Shape := ⟨3, ![1, 1, 1]⟩
abbrev S120x128 : Shape := ⟨2, ![120, 128]⟩
abbrev S8x8 : Shape := ⟨2, ![8, 8]⟩
abbrev S8x120 : Shape := ⟨2, ![8, 120]⟩
abbrev S1x1x256 : Shape := ⟨3, ![1, 1, 256]⟩
abbrev S1x256 : Shape := ⟨2, ![1, 256]⟩
abbrev S264x1 : Shape := ⟨2, ![264, 1]⟩
abbrev S104x1 : Shape := ⟨2, ![104, 1]⟩
abbrev S8x104 : Shape := ⟨2, ![8, 104]⟩
abbrev S8x24 : Shape := ⟨2, ![8, 24]⟩
abbrev S24x256 : Shape := ⟨2, ![24, 256]⟩

abbrev nBuf : Space → Nat
  | .hbm => 12
  | .vmem => 24
  | .smem => 2
  | _ => 0

abbrev bufTy : (tb : Table) → Fin (tcTables nBuf tb) → BufTy
  | .hbm, ⟨0, _⟩ => ⟨S36x257x16x104, .bf16⟩
  | .hbm, ⟨1, _⟩ => ⟨S36x257x16x104, .bf16⟩
  | .hbm, ⟨2, _⟩ => ⟨S36x16x257x257, .i8⟩
  | .hbm, ⟨3, _⟩ => ⟨S36x16x257, .f32⟩
  | .hbm, ⟨4, _⟩ => ⟨S36x257x16x104, .fp8e4m3⟩
  | .hbm, ⟨5, _⟩ => ⟨S36x16, .f32⟩
  | .hbm, ⟨6, _⟩ => ⟨S36x257x16x104, .bf16⟩
  | .hbm, ⟨7, _⟩ => ⟨S36x257x16x257, .i8⟩
  | .hbm, ⟨8, _⟩ => ⟨S72x1x8, .f32⟩
  | .hbm, ⟨9, _⟩ => ⟨S36x257x16x104, .bf16⟩
  | .hbm, ⟨10, _⟩ => ⟨S36x257x16x104, .bf16⟩
  | .hbm, ⟨11, _⟩ => ⟨S36x257x16x104, .bf16⟩
  | .local _ .vmem, ⟨0, _⟩ => ⟨S1x257x8x128, .bf16⟩
  | .local _ .vmem, ⟨1, _⟩ => ⟨S1x257x8x128, .bf16⟩
  | .local _ .vmem, ⟨2, _⟩ => ⟨S1x257x8x128, .bf16⟩
  | .local _ .vmem, ⟨3, _⟩ => ⟨S1x257x8x128, .bf16⟩
  | .local _ .vmem, ⟨4, _⟩ => ⟨S1x257x8x128, .i8⟩
  | .local _ .vmem, ⟨5, _⟩ => ⟨S1x257x8x128, .i8⟩
  | .local _ .vmem, ⟨6, _⟩ => ⟨S1x257x8x128, .i8⟩
  | .local _ .vmem, ⟨7, _⟩ => ⟨S1x257x8x128, .i8⟩
  | .local _ .vmem, ⟨8, _⟩ => ⟨S1x257x8x128, .i8⟩
  | .local _ .vmem, ⟨9, _⟩ => ⟨S1x257x8x128, .i8⟩
  | .local _ .vmem, ⟨10, _⟩ => ⟨S1x8x257, .f32⟩
  | .local _ .vmem, ⟨11, _⟩ => ⟨S1x8x257, .f32⟩
  | .local _ .vmem, ⟨12, _⟩ => ⟨S1x257x8x128, .fp8e4m3⟩
  | .local _ .vmem, ⟨13, _⟩ => ⟨S1x257x8x128, .fp8e4m3⟩
  | .local _ .vmem, ⟨14, _⟩ => ⟨S1x257x8x128, .bf16⟩
  | .local _ .vmem, ⟨15, _⟩ => ⟨S1x257x8x128, .bf16⟩
  | .local _ .vmem, ⟨16, _⟩ => ⟨S1x257x8x128, .bf16⟩
  | .local _ .vmem, ⟨17, _⟩ => ⟨S1x257x8x128, .bf16⟩
  | .local _ .vmem, ⟨18, _⟩ => ⟨S1x257x8x128, .bf16⟩
  | .local _ .vmem, ⟨19, _⟩ => ⟨S1x257x8x128, .bf16⟩
  | .local _ .vmem, ⟨20, _⟩ => ⟨S1x257x8x128, .bf16⟩
  | .local _ .vmem, ⟨21, _⟩ => ⟨S1x257x8x128, .bf16⟩
  | .local _ .vmem, ⟨22, _⟩ => ⟨S2x2x512x2x128, .bf16⟩
  | .local _ .vmem, ⟨23, _⟩ => ⟨S2x528x2x128, .bf16⟩
  | .local _ .smem, ⟨0, _⟩ => ⟨S1x1x8, .f32⟩
  | .local _ .smem, ⟨1, _⟩ => ⟨S1x1x8, .f32⟩
  | _, _ => ⟨S36x257x16x104, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_stg7_0 : Ref sig .tc := ⟨.smem, 0, rfl⟩
abbrev cc0_stg7_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![36, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, arg1.toNat, c1_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x257x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x257x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x257x8x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x257x8x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x257x8x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x257x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .smem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x257x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x257x8x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x257x8x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x257x8x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S36x257x16x104 : Shape := ⟨4, ![36, 257, 16, 104]⟩
abbrev S36x16x257x257 : Shape := ⟨4, ![36, 16, 257, 257]⟩
abbrev S36x16x257 : Shape := ⟨3, ![36, 16, 257]⟩
abbrev S36x16 : Shape := ⟨2, ![36, 16]⟩
abbrev S36x16x257x1 : Shape := ⟨4, ![36, 16, 257, 1]⟩
abbrev S36x16x104x257 : Shape := ⟨4, ![36, 16, 104, 257]⟩
abbrev S36x16x1x1 : Shape := ⟨4, ![36, 16, 1, 1]⟩
abbrev S_ : Shape := ⟨0, ![]⟩

abbrev nBuf : Space → Nat
  | .hbm => 44
  | .vmem => 4
  | .smem => 0
  | _ => 0

abbrev bufTy : (tb : Table) → Fin (tcTables nBuf tb) → BufTy
  | .hbm, ⟨0, _⟩ => ⟨S36x257x16x104, .bf16⟩
  | .hbm, ⟨1, _⟩ => ⟨S36x257x16x104, .bf16⟩
  | .hbm, ⟨2, _⟩ => ⟨S36x16x257x257, .i8⟩
  | .hbm, ⟨3, _⟩ => ⟨S36x16x257, .f32⟩
  | .hbm, ⟨4, _⟩ => ⟨S36x257x16x104, .fp8e4m3⟩
  | .hbm, ⟨5, _⟩ => ⟨S36x16, .f32⟩
  | .hbm, ⟨6, _⟩ => ⟨S36x257x16x104, .bf16⟩
  | .hbm, ⟨7, _⟩ => ⟨S36x16x257x257, .f32⟩
  | .hbm, ⟨8, _⟩ => ⟨S36x257x16x104, .bf16⟩
  | .hbm, ⟨9, _⟩ => ⟨S36x16x257x1, .f32⟩
  | .hbm, ⟨10, _⟩ => ⟨S36x16x257x257, .f32⟩
  | .hbm, ⟨11, _⟩ => ⟨S36x16x257x257, .f32⟩
  | .hbm, ⟨12, _⟩ => ⟨S36x16x257x257, .bf16⟩
  | .hbm, ⟨13, _⟩ => ⟨S36x16x257, .bf16⟩
  | .hbm, ⟨14, _⟩ => ⟨S36x16x257x1, .bf16⟩
  | .hbm, ⟨15, _⟩ => ⟨S36x16x257x257, .bf16⟩
  | .hbm, ⟨16, _⟩ => ⟨S36x16x257x257, .bf16⟩
  | .hbm, ⟨17, _⟩ => ⟨S36x16x104x257, .f32⟩
  | .hbm, ⟨18, _⟩ => ⟨S36x257x16x104, .f32⟩
  | .hbm, ⟨19, _⟩ => ⟨S36x16x257x257, .f32⟩
  | .hbm, ⟨20, _⟩ => ⟨S36x16x1x1, .f32⟩
  | .hbm, ⟨21, _⟩ => ⟨S36x16x257x257, .f32⟩
  | .hbm, ⟨22, _⟩ => ⟨S36x16x257x257, .f32⟩
  | .hbm, ⟨23, _⟩ => ⟨S36x16x257x257, .f32⟩
  | .hbm, ⟨24, _⟩ => ⟨S_, .f32⟩
  | .hbm, ⟨25, _⟩ => ⟨S36x16x257, .f32⟩
  | .hbm, ⟨26, _⟩ => ⟨S36x16x257x1, .f32⟩
  | .hbm, ⟨27, _⟩ => ⟨S36x16x257x257, .f32⟩
  | .hbm, ⟨28, _⟩ => ⟨S36x16x257x257, .f32⟩
  | .hbm, ⟨29, _⟩ => ⟨S36x16x257x257, .f32⟩
  | .hbm, ⟨30, _⟩ => ⟨S36x16x257x257, .bf16⟩
  | .hbm, ⟨31, _⟩ => ⟨S36x16x104x257, .f32⟩
  | .hbm, ⟨32, _⟩ => ⟨S36x257x16x104, .f32⟩
  | .hbm, ⟨33, _⟩ => ⟨S_, .f32⟩
  | .hbm, ⟨34, _⟩ => ⟨S36x257x16x104, .f32⟩
  | .hbm, ⟨35, _⟩ => ⟨S36x257x16x104, .f32⟩
  | .hbm, ⟨36, _⟩ => ⟨S36x16x104x257, .f32⟩
  | .hbm, ⟨37, _⟩ => ⟨S36x257x16x104, .f32⟩
  | .hbm, ⟨38, _⟩ => ⟨S_, .f32⟩
  | .hbm, ⟨39, _⟩ => ⟨S36x257x16x104, .f32⟩
  | .hbm, ⟨40, _⟩ => ⟨S36x257x16x104, .f32⟩
  | .hbm, ⟨41, _⟩ => ⟨S36x257x16x104, .bf16⟩
  | .hbm, ⟨42, _⟩ => ⟨S36x257x16x104, .bf16⟩
  | .hbm, ⟨43, _⟩ => ⟨S36x257x16x104, .bf16⟩
  | .local _ .vmem, ⟨0, _⟩ => ⟨S36x16x257x257, .i8⟩
  | .local _ .vmem, ⟨1, _⟩ => ⟨S36x257x16x104, .fp8e4m3⟩
  | .local _ .vmem, ⟨2, _⟩ => ⟨S36x16x257x257, .f32⟩
  | .local _ .vmem, ⟨3, _⟩ => ⟨S36x257x16x104, .bf16⟩
  | _, _ => ⟨S36x257x16x104, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S36x16x257x257 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x257x16x104 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x16x257x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x257x16x104 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelRun.lean ====
/-
  The kernel body of `Kernel`, run once at symbolic operands.

  The body is straight-line code printed in 62 parts. `sl_exec_parts!` (Lib/Exec.lean, "Part by part") runs it: one
  theorem per part, composed along the root sequence. What the body leaves in the three result buffers is found by
  the run as the witnesses of a subtype, as terms over the contents of the input buffers and of the two scratch buffers, since the
  body's stores cover each result buffer. The two scratch buffers end at something.
-/
module

public import proofs.«01_k».proof.Proof.Gen.Kernel.Skeleton
public import proofs.«01_k».proof.Proof.Gen.Kernel.Launch
public import Idealize.ShloMosaic.Lib.Tactic
public import Idealize.ShloMosaic.Lib.Pipeline.FrameBody

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 1000000 in
/-- What the body leaves in the three result buffers, with the proof that it runs to its return from the fourteen buffers
    held whole: the inputs come back as they were, the results at the witnesses, the scratch buffers at something. -/
noncomputable def kernelRun (c : Dev nD) (i : grid0.Coords)
    (M0 : Memref sig .tc .vmem S1x257x8x128 .bf16) (h0 : M0.IsWhole)
    (M1 : Memref sig .tc .vmem S1x257x8x128 .bf16) (h1 : M1.IsWhole)
    (M2 : Memref sig .tc .vmem S1x257x8x128 .i8) (h2 : M2.IsWhole)
    (M3 : Memref sig .tc .vmem S1x257x8x128 .i8) (h3 : M3.IsWhole)
    (M4 : Memref sig .tc .vmem S1x257x8x128 .i8) (h4 : M4.IsWhole)
    (M5 : Memref sig .tc .vmem S1x8x257 .f32) (h5 : M5.IsWhole)
    (M6 : Memref sig .tc .vmem S1x257x8x128 .fp8e4m3) (h6 : M6.IsWhole)
    (M7 : Memref sig .tc .smem S1x1x8 .f32) (h7 : M7.IsWhole)
    (M8 : Memref sig .tc .vmem S1x257x8x128 .bf16) (h8 : M8.IsWhole)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole)
    (M12 : Memref sig .tc .vmem S2x2x512x128 .i32) (h12 : M12.IsWhole)
    (M13 : Memref sig .tc .vmem S2x528x128 .i32) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f12 : Bf (F := F) c M12) (f13 : Bf (F := F) c M13) :
    { W : Bf (F := F) c M9 × Bf (F := F) c M10 × Bf (F := F) c M11 //
      ∀ (f9 : Bf (F := F) c M9) (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2
                ∗ (∃ f, pt c M12 f) ∗ (∃ f, pt c M13 f)) -∗ Q ⟨⟩))
        ⊢ wp frame (wpE (defs₀ (F := F)) Variants.none c none) E
            (cc0_attn_bwd i M0 h0 M1 h1 M2 h2 M3 h3 M4 h4 M5 h5 M6 h6 M7 h7 M8 h8 M9 h9 M10 h10 M11 h11 M12 h12 M13 h13) Q } := by
  refine ⟨⟨?_, ?_, ?_⟩, fun f9 f10 f11 E Q => ?run⟩
  case run =>
    iintro ⟨H0, H1, H2, H3, H4, H5, H6, H7, H8, H9, H10, H11, H12, H13, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

end Cert.Kernel.Hand

end
-- ==== Proof.KernelBody.lean ====
/-
  The frame of `Kernel`: every run ends with the argument arrays unchanged and every semaphore counter at zero.

  The body is run once, in `KernelRun.lean`. Here every window is forgotten: its staging buffer is handed over at some
  contents and taken back at some contents, so nothing about the values is needed. Windows 2, 3 and 4 stage one array,
  so each input window holds its share of the array's points-to (`Pipeline.shareOf`).
-/
module

public import proofs.«01_k».proof.Proof.Gen.Kernel.Frame
public import proofs.«01_k».proof.Proof.KernelRun
public import proofs.«01_k».proof.Defs
public import Idealize.ShloMosaic.Lib.Pipeline.Frame

@[expose] public section

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A whole memref owned at some contents is its buffer held at some contents. -/
theorem owns_pt (c : Dev nD) {sp : Space} {S : Shape} {e : EltTy} (M : Memref sig .tc sp S e) (h : M.IsWhole) :
    (iprop(∃ d, owns (c : Thread nD τ) M fullShare d) : sProp 𝕄) = iprop(∃ f : Bf (F := F) c M, pt c M f) :=
  Memref.IsWhole.exists_owns_eq h fullShare

/-- Every window is forgotten. -/
def forgets0 : Fin 12 → Bool := fun _ => true

/-- The proof data of the frame on core `c`: the arrays as the region finds them, what the body leaves unnamed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem fA_eq (c : Dev nD) (w : Fin cfg0.W) : (fdats m 0 c).A w = V m c (Pipeline.arrRef spec0 w) := by dsimp only [fdats]

/-- What the body is called with at point `t`. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))
/-- What the body returns at point `t`. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
/-- The body at a point: the buffers unpacked, the run, the buffers packed again. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl]
  unfold Pipeline.ΦA
  rw [scopedRest0_eq]
  rw [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9)), owns_pt c (st0_10 t) (hstage0_10 ((cfg0.slots t 10).cast nbuf0_10)), owns_pt c (st0_11 t) (hstage0_11 ((cfg0.slots t 11).cast nbuf0_11))]
  iintro ⟨⟨⟨⟨%g0, HS0⟩, ⟨%g1, HS1⟩⟩, Hg⟩, HO, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  obtain ⟨W, hW⟩ := kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (Memref.whole cc0_scratch0) (Memref.isWhole_whole _) (Memref.whole cc0_scratch1) (Memref.isWhole_whole _)
    f0 f1 f2 f3 f4 f5 f6 f7 f8 g0 g1
  iapply (hW f9 f10 f11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

set_option backward.isDefEq.respectTransparency.types false in
/-- Every run ends with every buffer the pipeline does not write as the region found it, and every counter at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget_shared (Q' := _) cfgs (fdats m) (0 : Fin 1) launch₀0 defs₀ Variants.none forgets0 m ρ main
    (hbody := fun c => (fbody_obligation m c).loose) (hq := fun _ _ _ => rfl)
    (howed := fun _ _ => rfl) (V := V m) (hmain := hmain m Variants.none) (hA := fA_eq m) (hΦ := fun _ _ => rfl)

/-- THE FRAME, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r ⟨h, hs⟩ => ⟨fun c =>
    ⟨(Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 5 rfl).trans (V_main_arg3 m c),
      (Pipeline.RDat.FramePost.arr_in h c 6 rfl).trans (V_main_arg4 m c),
      ((h c).2 main_arg5 (Pipeline.mem_restRefs_of main_arg5 (by decide) (by decide))).trans (V_main_arg5 m c),
      (Pipeline.RDat.FramePost.arr_in h c 8 rfl).trans (V_main_arg6 m c)⟩, hs⟩) (frun_main m ρ)

end Cert.Kernel.Hand

end
-- ==== Proof.KernelIdealRun.lean ====
/-
  The kernel body of `KernelIdeal`, run once at symbolic operands.

  The body is straight-line code printed in 62 parts. `sl_exec_parts!` (Lib/Exec.lean, "Part by part") runs it: one
  theorem per part, composed along the root sequence. What the body leaves in the three result buffers is found by
  the run as the witnesses of a subtype, as terms over the contents of the input buffers and of the two scratch buffers, since the
  body's stores cover each result buffer. The two scratch buffers end at something.
-/
module

public import proofs.«01_k».proof.Proof.Gen.KernelIdeal.Skeleton
public import proofs.«01_k».proof.Proof.Gen.KernelIdeal.Launch
public import Idealize.ShloMosaic.Lib.Tactic
public import Idealize.ShloMosaic.Lib.Pipeline.FrameBody

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The type of the contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 1000000 in
/-- What the body leaves in the three result buffers, with the proof that it runs to its return from the fourteen buffers
    held whole: the inputs come back as they were, the results at the witnesses, the scratch buffers at something. -/
noncomputable def kernelRun (c : Dev nD) (i : grid0.Coords)
    (M0 : Memref sig .tc .vmem S1x257x8x128 .bf16) (h0 : M0.IsWhole)
    (M1 : Memref sig .tc .vmem S1x257x8x128 .bf16) (h1 : M1.IsWhole)
    (M2 : Memref sig .tc .vmem S1x257x8x128 .i8) (h2 : M2.IsWhole)
    (M3 : Memref sig .tc .vmem S1x257x8x128 .i8) (h3 : M3.IsWhole)
    (M4 : Memref sig .tc .vmem S1x257x8x128 .i8) (h4 : M4.IsWhole)
    (M5 : Memref sig .tc .vmem S1x8x257 .f32) (h5 : M5.IsWhole)
    (M6 : Memref sig .tc .vmem S1x257x8x128 .fp8e4m3) (h6 : M6.IsWhole)
    (M7 : Memref sig .tc .smem S1x1x8 .f32) (h7 : M7.IsWhole)
    (M8 : Memref sig .tc .vmem S1x257x8x128 .bf16) (h8 : M8.IsWhole)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole)
    (M12 : Memref sig .tc .vmem S2x2x512x2x128 .bf16) (h12 : M12.IsWhole)
    (M13 : Memref sig .tc .vmem S2x528x2x128 .bf16) (h13 : M13.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f12 : Bf (F := F) c M12) (f13 : Bf (F := F) c M13) :
    { W : Bf (F := F) c M9 × Bf (F := F) c M10 × Bf (F := F) c M11 //
      ∀ (f9 : Bf (F := F) c M9) (f10 : Bf (F := F) c M10) (f11 : Bf (F := F) c M11) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 W.1 ∗ pt c M10 W.2.1 ∗ pt c M11 W.2.2
                ∗ (∃ f, pt c M12 f) ∗ (∃ f, pt c M13 f)) -∗ Q ⟨⟩))
        ⊢ wp frame (wpE (defs₀ (F := F)) Variants.none c none) E
            (cc0_attn_bwd i M0 h0 M1 h1 M2 h2 M3 h3 M4 h4 M5 h5 M6 h6 M7 h7 M8 h8 M9 h9 M10 h10 M11 h11 M12 h12 M13 h13) Q } := by
  refine ⟨⟨?_, ?_, ?_⟩, fun f9 f10 f11 E Q => ?run⟩
  case run =>
    iintro ⟨H0, H1, H2, H3, H4, H5, H6, H7, H8, H9, H10, H11, H12, H13, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    iexists _; iexact H13

end Cert.KernelIdeal.Hand

end
-- ==== Proof.KernelIdealBody.lean ====
/-
  The frame of `KernelIdeal`: every run ends with the argument arrays unchanged and every semaphore counter at zero.

  The body is run once, in `KernelIdealRun.lean`. Here every window is forgotten: its staging buffer is handed over at some
  contents and taken back at some contents, so nothing about the values is needed. Windows 2, 3 and 4 stage one array,
  so each input window holds its share of the array's points-to (`Pipeline.shareOf`).
-/
module

public import proofs.«01_k».proof.Proof.Gen.KernelIdeal.Frame
public import proofs.«01_k».proof.Proof.KernelIdealRun
public import proofs.«01_k».proof.Defs
public import Idealize.ShloMosaic.Lib.Pipeline.Frame

@[expose] public section

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A whole memref owned at some contents is its buffer held at some contents. -/
theorem owns_pt (c : Dev nD) {sp : Space} {S : Shape} {e : EltTy} (M : Memref sig .tc sp S e) (h : M.IsWhole) :
    (iprop(∃ d, owns (c : Thread nD τ) M fullShare d) : sProp 𝕄) = iprop(∃ f : Bf (F := F) c M, pt c M f) :=
  Memref.IsWhole.exists_owns_eq h fullShare

/-- Every window is forgotten. -/
def forgets0 : Fin 12 → Bool := fun _ => true

/-- The proof data of the frame on core `c`: the arrays as the region finds them, what the body leaves unnamed. -/
def fdats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem fA_eq (c : Dev nD) (w : Fin cfg0.W) : (fdats m 0 c).A w = V m c (Pipeline.arrRef spec0 w) := by dsimp only [fdats]

/-- What the body is called with at point `t`. -/
def fbodyPre (c : Dev nD) (t : Fin cfg0.N) : sProp 𝕄 :=
  iprop((fdats m 0 c).Φ t.castSucc ∗ (fdats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))
/-- What the body returns at point `t`. -/
def fbodyPost (c : Dev nD) (t : Fin cfg0.N) : sProp 𝕄 :=
  iprop((fdats m 0 c).Φ t.succ ∗ (fdats m 0 c).owesAt () t.succ
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare d))

set_option maxHeartbeats 1000000 in
/-- The body at a point: the buffers unpacked, the run, the buffers packed again. -/
theorem fsound_body (c : Dev nD) (t : Fin cfg0.N) :
    fbodyPre m c t ⊢ wp frame (wpE (defs₀ (F := F)) Variants.none c none) Set.univ (bodyAt0 t) (fun _ => fbodyPost m c t) := by
  unfold fbodyPre fbodyPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl]
  unfold Pipeline.ΦA
  rw [scopedRest0_eq]
  rw [owns_pt c (st0_0 t) (hstage0_0 ((cfg0.slots t 0).cast nbuf0_0)), owns_pt c (st0_1 t) (hstage0_1 ((cfg0.slots t 1).cast nbuf0_1)), owns_pt c (st0_2 t) (hstage0_2 ((cfg0.slots t 2).cast nbuf0_2)), owns_pt c (st0_3 t) (hstage0_3 ((cfg0.slots t 3).cast nbuf0_3)), owns_pt c (st0_4 t) (hstage0_4 ((cfg0.slots t 4).cast nbuf0_4)), owns_pt c (st0_5 t) (hstage0_5 ((cfg0.slots t 5).cast nbuf0_5)), owns_pt c (st0_6 t) (hstage0_6 ((cfg0.slots t 6).cast nbuf0_6)), owns_pt c (st0_7 t) (hstage0_7 ((cfg0.slots t 7).cast nbuf0_7)), owns_pt c (st0_8 t) (hstage0_8 ((cfg0.slots t 8).cast nbuf0_8)), owns_pt c (st0_9 t) (hstage0_9 ((cfg0.slots t 9).cast nbuf0_9)), owns_pt c (st0_10 t) (hstage0_10 ((cfg0.slots t 10).cast nbuf0_10)), owns_pt c (st0_11 t) (hstage0_11 ((cfg0.slots t 11).cast nbuf0_11))]
  iintro ⟨⟨⟨⟨%g0, HS0⟩, ⟨%g1, HS1⟩⟩, Hg⟩, HO, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  obtain ⟨W, hW⟩ := kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (Memref.whole cc0_scratch0) (Memref.isWhole_whole _) (Memref.whole cc0_scratch1) (Memref.isWhole_whole _)
    f0 f1 f2 f3 f4 f5 f6 f7 f8 g0 g1
  iapply (hW f9 f10 f11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [HO]; · iexact HO
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem fbody_obligation (c : Dev nD) :
    BodyObligation (fdats (F := F) m 0 c) (defs₀ (F := F)) Variants.none () Set.univ forgets0 := fun t => by
  rw [bigSep_W0, bigSep_W0, defs₀_row]
  exact triple_restated (fsound_body m c t) rfl .rfl fun _ => .rfl

set_option backward.isDefEq.respectTransparency.types false in
/-- Every run ends with every buffer the pipeline does not write as the region found it, and every counter at zero. -/
theorem frun_main :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget_shared (Q' := _) cfgs (fdats m) (0 : Fin 1) launch₀0 defs₀ Variants.none forgets0 m ρ main
    (hbody := fun c => (fbody_obligation m c).loose) (hq := fun _ _ _ => rfl)
    (howed := fun _ _ => rfl) (V := V m) (hmain := hmain m Variants.none) (hA := fA_eq m) (hΦ := fun _ _ => rfl)

/-- THE FRAME, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun r ⟨h, hs⟩ => ⟨fun c =>
    ⟨(Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 5 rfl).trans (V_main_arg3 m c),
      (Pipeline.RDat.FramePost.arr_in h c 6 rfl).trans (V_main_arg4 m c),
      ((h c).2 main_arg5 (Pipeline.mem_restRefs_of main_arg5 (by decide) (by decide))).trans (V_main_arg5 m c),
      (Pipeline.RDat.FramePost.arr_in h c 8 rfl).trans (V_main_arg6 m c)⟩, hs⟩) (frun_main m ρ)

end Cert.KernelIdeal.Hand

end
-- ==== Proof.Preserves.lean ====
/-
  The idealization of the kernel is justified: each statement that the kernel's ledger cites is proved by its rule,
  at the shapes where it is cited.
-/
module

public import proofs.«01_k».proof.Defs
public import Idealize.ShloMosaic.Lib.Bf16Pair
public import Idealize.ShloMosaic.Lib.Bf16PairInverse

@[expose] public section

namespace Cert.Preserves

open Idealize.ShloMosaic

/-- Every ledger entry of the idealized kernel, by its rule's proof. -/
theorem preserves : Cert.preserves_Kernel_KernelIdeal :=
  ⟨IdealRules.bf16_pair.bufferStatement Cert.KernelIdeal.S2x2x512x2x128 Cert.KernelIdeal.S2x2x512x1x128,
    IdealRules.bf16_pair.bufferStatement Cert.KernelIdeal.S2x528x2x128 Cert.KernelIdeal.S2x528x1x128,
    IdealRules.bf16_pair.statement Cert.KernelIdeal.S512x128 Cert.KernelIdeal.S256x128,
    IdealRules.bf16_pair.statement Cert.KernelIdeal.S1x1x256x2x128 Cert.KernelIdeal.S1x1x256x1x128,
    IdealRules.bf16_pair.statement Cert.KernelIdeal.S1024x128 Cert.KernelIdeal.S512x128,
    IdealRules.bf16_pair.statement Cert.KernelIdeal.S1x512x2x128 Cert.KernelIdeal.S1x512x1x128,
    IdealRules.bf16_pair.statement Cert.KernelIdeal.S32x128 Cert.KernelIdeal.S16x128,
    IdealRules.bf16_pair.statement Cert.KernelIdeal.S1x16x2x128 Cert.KernelIdeal.S1x16x1x128,
    IdealRules.bf16_pair.statement Cert.KernelIdeal.S264x2x128 Cert.KernelIdeal.S264x1x128,
    IdealRules.bf16_pair.selectZeroStatement Cert.KernelIdeal.S264x128,
    IdealRules.bf16_pair.statement Cert.KernelIdeal.S1x256x2x128 Cert.KernelIdeal.S1x256x1x128,
    IdealRules.bf16_pair.selectZeroStatement Cert.KernelIdeal.S256x128,
    IdealRules.bf16_pair.statement Cert.KernelIdeal.S1x1x2x128 Cert.KernelIdeal.S1x1x1x128,
    IdealRules.bf16_pair.statement Cert.KernelIdeal.S256x2x128 Cert.KernelIdeal.S256x1x128,
    IdealRules.bf16_pair.statement Cert.KernelIdeal.S512x256 Cert.KernelIdeal.S256x256,
    IdealRules.bf16_pair.halfStatement Cert.KernelIdeal.S264x128,
    IdealRules.bf16_pair.halfStatement Cert.KernelIdeal.S256x128,
    IdealRules.bf16_pair.statement Cert.KernelIdeal.S2x128 Cert.KernelIdeal.S1x128,
    IdealRules.bf16_pair.packStatement Cert.KernelIdeal.S264x128,
    IdealRules.bf16_pair.packStatement Cert.KernelIdeal.S256x128⟩

end Cert.Preserves
-- ==== Proof.Stages.lean ====
/-
  The stages of one head of the kernel, each as a function of the values it reads.

  The body repeats the same operations for each of the eight heads of a grid point. Here each group of operations is
  named once; `Heads.lean` shows that every result the body stores is made of these.
-/

module

public import proofs.«01_k».proof.Proof.KernelIdealRun

@[expose] public section

noncomputable section

namespace Cert.KernelIdeal.Hand

open Cert.KernelIdeal Cert.KernelIdeal.Gen

open Idealize.ShloMosaic
open Idealize.ShloMosaic.TcCoe

variable {F : FTy → Type} [FloatOps F]

/-- The row scales times the head's value scale. -/
def gPsv (ps : Vec F S1x1x256 .f32) (vs : Elt F .f32) : FVec F S1x256 .f32 :=
  have v788 : FVec F S1x256 .f32 := shapeCast S1x256 ps shapeCasts_S1x1x256_S1x256
  have v789 : FVec F S1x256 .f32 := broadcast S1x256 vs
  mulf v788 v789

/-- The reciprocal of the head's value scale, zero when the scale is. -/
def gInv (vs : Elt F .f32) : F .f32 :=
  have cst_341 : F .f32 := Scalar.ofBits .f32 0x00000000#32
  have v791 : BitVec 1 := Scalar.cmpf .oeq vs cst_341
  have cst_343 : F .f32 := Scalar.ofBits .f32 0x00000000#32
  have cst_342 : F .f32 := Scalar.ofBits .f32 0x3F800000#32
  have v792 : F .f32 := Scalar.divf cst_342 vs
  Scalar.select v791 cst_343 v792

/-- The row scales rounded. -/
def gPsb (ps : Vec F S1x1x256 .f32) : FVec F S1x256 .f32 :=
  have v788 : FVec F S1x256 .f32 := shapeCast S1x256 ps shapeCasts_S1x1x256_S1x256
  have v794 : FVec F S1x256 .bf16 := truncf .bf16 v788 bitsLt_bf16_f32
  extf .f32 v794 bitsLt_bf16_f32

/-- The products of the value rows with the output gradient rows. -/
def gDp (v : FVec F S264x128 .bf16) (dO : FVec F S256x128 .bf16) : FVec F S264x256 .f32 :=
  have cst_345 : FVec F S264x256 .f32 := constant S264x256 .f32 0x00000000#32
  matmul dot_S264x128_S256x128_S264x256_1_1_0_0_n_n none v dO cst_345

/-- The weights times the value scale. -/
def gPh (codes : FVec F S264x256 .f32) (psv : FVec F S1x256 .f32) : FVec F S264x256 .f32 :=
  have v801 : FVec F S264x256 .f32 := broadcastTo S264x256 psv broadcasts_S1x256_S264x256
  mulf codes v801

/-- The summands of the row sum. -/
def gU (dp : FVec F S264x256 .f32) (ph : FVec F S264x256 .f32) : FVec F S264x256 .f32 :=
  mulf dp ph

/-- The first seventeen groups of eight rows added up. -/
def gPart0 (u : FVec F S264x256 .f32) : FVec F S8x256 .f32 :=
  have v804 : FVec F S8x256 .f32 := extractStridedSlice S8x256 ![0, 0] u slices_S264x256_o0_0_S8x256
  have v805 : FVec F S8x256 .f32 := extractStridedSlice S8x256 ![8, 0] u slices_S264x256_o8_0_S8x256
  have v837 : FVec F S8x256 .f32 := addf v804 v805
  have v806 : FVec F S8x256 .f32 := extractStridedSlice S8x256 ![16, 0] u slices_S264x256_o16_0_S8x256
  have v838 : FVec F S8x256 .f32 := addf v837 v806
  have v807 : FVec F S8x256 .f32 := extractStridedSlice S8x256 ![24, 0] u slices_S264x256_o24_0_S8x256
  have v839 : FVec F S8x256 .f32 := addf v838 v807
  have v808 : FVec F S8x256 .f32 := extractStridedSlice S8x256 ![32, 0] u slices_S264x256_o32_0_S8x256
  have v840 : FVec F S8x256 .f32 := addf v839 v808
  have v809 : FVec F S8x256 .f32 := extractStridedSlice S8x256 ![40, 0] u slices_S264x256_o40_0_S8x256
  have v841 : FVec F S8x256 .f32 := addf v840 v809
  have v810 : FVec F S8x256 .f32 := extractStridedSlice S8x256 ![48, 0] u slices_S264x256_o48_0_S8x256
  have v842 : FVec F S8x256 .f32 := addf v841 v810
  have v811 : FVec F S8x256 .f32 := extractStridedSlice S8x256 ![56, 0] u slices_S264x256_o56_0_S8x256
  have v843 : FVec F S8x256 .f32 := addf v842 v811
  have v812 : FVec F S8x256 .f32 := extractStridedSlice S8x256 ![64, 0] u slices_S264x256_o64_0_S8x256
  have v844 : FVec F S8x256 .f32 := addf v843 v812
  have v813 : FVec F S8x256 .f32 := extractStridedSlice S8x256 ![72, 0] u slices_S264x256_o72_0_S8x256
  have v845 : FVec F S8x256 .f32 := addf v844 v813
  have v814 : FVec F S8x256 .f32 := extractStridedSlice S8x256 ![80, 0] u slices_S264x256_o80_0_S8x256
  have v846 : FVec F S8x256 .f32 := addf v845 v814
  have v815 : FVec F S8x256 .f32 := extractStridedSlice S8x256 ![88, 0] u slices_S264x256_o88_0_S8x256
  have v847 : FVec F S8x256 .f32 := addf v846 v815
  have v816 : FVec F S8x256 .f32 := extractStridedSlice S8x256 ![96, 0] u slices_S264x256_o96_0_S8x256
  have v848 : FVec F S8x256 .f32 := addf v847 v816
  have v817 : FVec F S8x256 .f32 := extractStridedSlice S8x256 ![104, 0] u slices_S264x256_o104_0_S8x256
  have v849 : FVec F S8x256 .f32 := addf v848 v817
  have v818 : FVec F S8x256 .f32 := extractStridedSlice S8x256 ![112, 0] u slices_S264x256_o112_0_S8x256
  have v850 : FVec F S8x256 .f32 := addf v849 v818
  have v819 : FVec F S8x256 .f32 := extractStridedSlice S8x256 ![120, 0] u slices_S264x256_o120_0_S8x256
  have v851 : FVec F S8x256 .f32 := addf v850 v819
  have v820 : FVec F S8x256 .f32 := extractStridedSlice S8x256 ![128, 0] u slices_S264x256_o128_0_S8x256
  addf v851 v820

/-- The last sixteen groups of eight rows added up. -/
def gPart1 (u : FVec F S264x256 .f32) : FVec F S8x256 .f32 :=
  have v821 : FVec F S8x256 .f32 := extractStridedSlice S8x256 ![136, 0] u slices_S264x256_o136_0_S8x256
  have v822 : FVec F S8x256 .f32 := extractStridedSlice S8x256 ![144, 0] u slices_S264x256_o144_0_S8x256
  have v859 : FVec F S8x256 .f32 := addf v821 v822
  have v823 : FVec F S8x256 .f32 := extractStridedSlice S8x256 ![152, 0] u slices_S264x256_o152_0_S8x256
  have v860 : FVec F S8x256 .f32 := addf v859 v823
  have v824 : FVec F S8x256 .f32 := extractStridedSlice S8x256 ![160, 0] u slices_S264x256_o160_0_S8x256
  have v861 : FVec F S8x256 .f32 := addf v860 v824
  have v825 : FVec F S8x256 .f32 := extractStridedSlice S8x256 ![168, 0] u slices_S264x256_o168_0_S8x256
  have v862 : FVec F S8x256 .f32 := addf v861 v825
  have v826 : FVec F S8x256 .f32 := extractStridedSlice S8x256 ![176, 0] u slices_S264x256_o176_0_S8x256
  have v863 : FVec F S8x256 .f32 := addf v862 v826
  have v827 : FVec F S8x256 .f32 := extractStridedSlice S8x256 ![184, 0] u slices_S264x256_o184_0_S8x256
  have v864 : FVec F S8x256 .f32 := addf v863 v827
  have v828 : FVec F S8x256 .f32 := extractStridedSlice S8x256 ![192, 0] u slices_S264x256_o192_0_S8x256
  have v865 : FVec F S8x256 .f32 := addf v864 v828
  have v829 : FVec F S8x256 .f32 := extractStridedSlice S8x256 ![200, 0] u slices_S264x256_o200_0_S8x256
  have v866 : FVec F S8x256 .f32 := addf v865 v829
  have v830 : FVec F S8x256 .f32 := extractStridedSlice S8x256 ![208, 0] u slices_S264x256_o208_0_S8x256
  have v867 : FVec F S8x256 .f32 := addf v866 v830
  have v831 : FVec F S8x256 .f32 := extractStridedSlice S8x256 ![216, 0] u slices_S264x256_o216_0_S8x256
  have v868 : FVec F S8x256 .f32 := addf v867 v831
  have v832 : FVec F S8x256 .f32 := extractStridedSlice S8x256 ![224, 0] u slices_S264x256_o224_0_S8x256
  have v869 : FVec F S8x256 .f32 := addf v868 v832
  have v833 : FVec F S8x256 .f32 := extractStridedSlice S8x256 ![232, 0] u slices_S264x256_o232_0_S8x256
  have v870 : FVec F S8x256 .f32 := addf v869 v833
  have v834 : FVec F S8x256 .f32 := extractStridedSlice S8x256 ![240, 0] u slices_S264x256_o240_0_S8x256
  have v871 : FVec F S8x256 .f32 := addf v870 v834
  have v835 : FVec F S8x256 .f32 := extractStridedSlice S8x256 ![248, 0] u slices_S264x256_o248_0_S8x256
  have v872 : FVec F S8x256 .f32 := addf v871 v835
  have v836 : FVec F S8x256 .f32 := extractStridedSlice S8x256 ![256, 0] u slices_S264x256_o256_0_S8x256
  addf v872 v836

/-- The sum of eight rows, in each of the eight. -/
def gRoll (x : FVec F S8x256 .f32) : FVec F S8x256 .f32 :=
  have c4_i32_346 : BitVec 32 := 4#32
  have v853 : FVec F S8x256 .f32 := dynamicRotate 0 c4_i32_346 none x rotates_S8x256_d0
  have v854 : FVec F S8x256 .f32 := addf x v853
  have c2_i32_347 : BitVec 32 := 2#32
  have v855 : FVec F S8x256 .f32 := dynamicRotate 0 c2_i32_347 none v854 rotates_S8x256_d0
  have v856 : FVec F S8x256 .f32 := addf v854 v855
  have c1_i32_348 : BitVec 32 := 1#32
  have v857 : FVec F S8x256 .f32 := dynamicRotate 0 c1_i32_348 none v856 rotates_S8x256_d0
  addf v856 v857

/-- The sum over the 264 rows, each row of the eight holding it. -/
def gSum (u : FVec F S264x256 .f32) : FVec F S8x256 .f32 := addf (gRoll (gPart0 u)) (gRoll (gPart1 u))

/-- The row sum times the reciprocal scale. -/
def gDsum (s : FVec F S8x256 .f32) (inv : F .f32) : FVec F S8x256 .f32 :=
  have v881 : FVec F S8x256 .f32 := broadcast S8x256 inv
  mulf s v881

/-- The score gradient of a head, keys down, queries across. -/
def gDs (ph : FVec F S264x256 .f32) (dp : FVec F S264x256 .f32) (dsum : FVec F S8x256 .f32) : FVec F S264x256 .bf16 :=
  have v883 : FVec F S8x256 .f32 := extractStridedSlice S8x256 ![0, 0] ph slices_S264x256_o0_0_S8x256
  have v884 : FVec F S8x256 .f32 := extractStridedSlice S8x256 ![0, 0] dp slices_S264x256_o0_0_S8x256
  have v885 : FVec F S8x256 .f32 := subf v884 dsum
  have v886 : FVec F S8x256 .f32 := mulf v883 v885
  have v887 : FVec F S8x256 .f32 := extractStridedSlice S8x256 ![8, 0] ph slices_S264x256_o8_0_S8x256
  have v888 : FVec F S8x256 .f32 := extractStridedSlice S8x256 ![8, 0] dp slices_S264x256_o8_0_S8x256
  have v889 : FVec F S8x256 .f32 := subf v888 dsum
  have v890 : FVec F S8x256 .f32 := mulf v887 v889
  have v891 : FVec F S8x256 .f32 := extractStridedSlice S8x256 ![16, 0] ph slices_S264x256_o16_0_S8x256
  have v892 : FVec F S8x256 .f32 := extractStridedSlice S8x256 ![16, 0] dp slices_S264x256_o16_0_S8x256
  have v893 : FVec F S8x256 .f32 := subf v892 dsum
  have v894 : FVec F S8x256 .f32 := mulf v891 v893
  have v895 : FVec F S8x256 .f32 := extractStridedSlice S8x256 ![24, 0] ph slices_S264x256_o24_0_S8x256
  have v896 : FVec F S8x256 .f32 := extractStridedSlice S8x256 ![24, 0] dp slices_S264x256_o24_0_S8x256
  have v897 : FVec F S8x256 .f32 := subf v896 dsum
  have v898 : FVec F S8x256 .f32 := mulf v895 v897
  have v899 : FVec F S8x256 .f32 := extractStridedSlice S8x256 ![32, 0] ph slices_S264x256_o32_0_S8x256
  have v900 : FVec F S8x256 .f32 := extractStridedSlice S8x256 ![32, 0] dp slices_S264x256_o32_0_S8x256
  have v901 : FVec F S8x256 .f32 := subf v900 dsum
  have v902 : FVec F S8x256 .f32 := mulf v899 v901
  have v903 : FVec F S8x256 .f32 := extractStridedSlice S8x256 ![40, 0] ph slices_S264x256_o40_0_S8x256
  have v904 : FVec F S8x256 .f32 := extractStridedSlice S8x256 ![40, 0] dp slices_S264x256_o40_0_S8x256
  have v905 : FVec F S8x256 .f32 := subf v904 dsum
  have v906 : FVec F S8x256 .f32 := mulf v903 v905
  have v907 : FVec F S8x256 .f32 := extractStridedSlice S8x256 ![48, 0] ph slices_S264x256_o48_0_S8x256
  have v908 : FVec F S8x256 .f32 := extractStridedSlice S8x256 ![48, 0] dp slices_S264x256_o48_0_S8x256
  have v909 : FVec F S8x256 .f32 := subf v908 dsum
  have v910 : FVec F S8x256 .f32 := mulf v907 v909
  have v911 : FVec F S8x256 .f32 := extractStridedSlice S8x256 ![56, 0] ph slices_S264x256_o56_0_S8x256
  have v912 : FVec F S8x256 .f32 := extractStridedSlice S8x256 ![56, 0] dp slices_S264x256_o56_0_S8x256
  have v913 : FVec F S8x256 .f32 := subf v912 dsum
  have v914 : FVec F S8x256 .f32 := mulf v911 v913
  have v915 : FVec F S8x256 .f32 := extractStridedSlice S8x256 ![64, 0] ph slices_S264x256_o64_0_S8x256
  have v916 : FVec F S8x256 .f32 := extractStridedSlice S8x256 ![64, 0] dp slices_S264x256_o64_0_S8x256
  have v917 : FVec F S8x256 .f32 := subf v916 dsum
  have v918 : FVec F S8x256 .f32 := mulf v915 v917
  have v919 : FVec F S8x256 .f32 := extractStridedSlice S8x256 ![72, 0] ph slices_S264x256_o72_0_S8x256
  have v920 : FVec F S8x256 .f32 := extractStridedSlice S8x256 ![72, 0] dp slices_S264x256_o72_0_S8x256
  have v921 : FVec F S8x256 .f32 := subf v920 dsum
  have v922 : FVec F S8x256 .f32 := mulf v919 v921
  have v923 : FVec F S8x256 .f32 := extractStridedSlice S8x256 ![80, 0] ph slices_S264x256_o80_0_S8x256
  have v924 : FVec F S8x256 .f32 := extractStridedSlice S8x256 ![80, 0] dp slices_S264x256_o80_0_S8x256
  have v925 : FVec F S8x256 .f32 := subf v924 dsum
  have v926 : FVec F S8x256 .f32 := mulf v923 v925
  have v927 : FVec F S8x256 .f32 := extractStridedSlice S8x256 ![88, 0] ph slices_S264x256_o88_0_S8x256
  have v928 : FVec F S8x256 .f32 := extractStridedSlice S8x256 ![88, 0] dp slices_S264x256_o88_0_S8x256
  have v929 : FVec F S8x256 .f32 := subf v928 dsum
  have v930 : FVec F S8x256 .f32 := mulf v927 v929
  have v931 : FVec F S8x256 .f32 := extractStridedSlice S8x256 ![96, 0] ph slices_S264x256_o96_0_S8x256
  have v932 : FVec F S8x256 .f32 := extractStridedSlice S8x256 ![96, 0] dp slices_S264x256_o96_0_S8x256
  have v933 : FVec F S8x256 .f32 := subf v932 dsum
  have v934 : FVec F S8x256 .f32 := mulf v931 v933
  have v935 : FVec F S8x256 .f32 := extractStridedSlice S8x256 ![104, 0] ph slices_S264x256_o104_0_S8x256
  have v936 : FVec F S8x256 .f32 := extractStridedSlice S8x256 ![104, 0] dp slices_S264x256_o104_0_S8x256
  have v937 : FVec F S8x256 .f32 := subf v936 dsum
  have v938 : FVec F S8x256 .f32 := mulf v935 v937
  have v939 : FVec F S8x256 .f32 := extractStridedSlice S8x256 ![112, 0] ph slices_S264x256_o112_0_S8x256
  have v940 : FVec F S8x256 .f32 := extractStridedSlice S8x256 ![112, 0] dp slices_S264x256_o112_0_S8x256
  have v941 : FVec F S8x256 .f32 := subf v940 dsum
  have v942 : FVec F S8x256 .f32 := mulf v939 v941
  have v943 : FVec F S8x256 .f32 := extractStridedSlice S8x256 ![120, 0] ph slices_S264x256_o120_0_S8x256
  have v944 : FVec F S8x256 .f32 := extractStridedSlice S8x256 ![120, 0] dp slices_S264x256_o120_0_S8x256
  have v945 : FVec F S8x256 .f32 := subf v944 dsum
  have v946 : FVec F S8x256 .f32 := mulf v943 v945
  have v947 : FVec F S8x256 .f32 := extractStridedSlice S8x256 ![128, 0] ph slices_S264x256_o128_0_S8x256
  have v948 : FVec F S8x256 .f32 := extractStridedSlice S8x256 ![128, 0] dp slices_S264x256_o128_0_S8x256
  have v949 : FVec F S8x256 .f32 := subf v948 dsum
  have v950 : FVec F S8x256 .f32 := mulf v947 v949
  have v951 : FVec F S8x256 .f32 := extractStridedSlice S8x256 ![136, 0] ph slices_S264x256_o136_0_S8x256
  have v952 : FVec F S8x256 .f32 := extractStridedSlice S8x256 ![136, 0] dp slices_S264x256_o136_0_S8x256
  have v953 : FVec F S8x256 .f32 := subf v952 dsum
  have v954 : FVec F S8x256 .f32 := mulf v951 v953
  have v955 : FVec F S8x256 .f32 := extractStridedSlice S8x256 ![144, 0] ph slices_S264x256_o144_0_S8x256
  have v956 : FVec F S8x256 .f32 := extractStridedSlice S8x256 ![144, 0] dp slices_S264x256_o144_0_S8x256
  have v957 : FVec F S8x256 .f32 := subf v956 dsum
  have v958 : FVec F S8x256 .f32 := mulf v955 v957
  have v959 : FVec F S8x256 .f32 := extractStridedSlice S8x256 ![152, 0] ph slices_S264x256_o152_0_S8x256
  have v960 : FVec F S8x256 .f32 := extractStridedSlice S8x256 ![152, 0] dp slices_S264x256_o152_0_S8x256
  have v961 : FVec F S8x256 .f32 := subf v960 dsum
  have v962 : FVec F S8x256 .f32 := mulf v959 v961
  have v963 : FVec F S8x256 .f32 := extractStridedSlice S8x256 ![160, 0] ph slices_S264x256_o160_0_S8x256
  have v964 : FVec F S8x256 .f32 := extractStridedSlice S8x256 ![160, 0] dp slices_S264x256_o160_0_S8x256
  have v965 : FVec F S8x256 .f32 := subf v964 dsum
  have v966 : FVec F S8x256 .f32 := mulf v963 v965
  have v967 : FVec F S8x256 .f32 := extractStridedSlice S8x256 ![168, 0] ph slices_S264x256_o168_0_S8x256
  have v968 : FVec F S8x256 .f32 := extractStridedSlice S8x256 ![168, 0] dp slices_S264x256_o168_0_S8x256
  have v969 : FVec F S8x256 .f32 := subf v968 dsum
  have v970 : FVec F S8x256 .f32 := mulf v967 v969
  have v971 : FVec F S8x256 .f32 := extractStridedSlice S8x256 ![176, 0] ph slices_S264x256_o176_0_S8x256
  have v972 : FVec F S8x256 .f32 := extractStridedSlice S8x256 ![176, 0] dp slices_S264x256_o176_0_S8x256
  have v973 : FVec F S8x256 .f32 := subf v972 dsum
  have v974 : FVec F S8x256 .f32 := mulf v971 v973
  have v975 : FVec F S8x256 .f32 := extractStridedSlice S8x256 ![184, 0] ph slices_S264x256_o184_0_S8x256
  have v976 : FVec F S8x256 .f32 := extractStridedSlice S8x256 ![184, 0] dp slices_S264x256_o184_0_S8x256
  have v977 : FVec F S8x256 .f32 := subf v976 dsum
  have v978 : FVec F S8x256 .f32 := mulf v975 v977
  have v979 : FVec F S8x256 .f32 := extractStridedSlice S8x256 ![192, 0] ph slices_S264x256_o192_0_S8x256
  have v980 : FVec F S8x256 .f32 := extractStridedSlice S8x256 ![192, 0] dp slices_S264x256_o192_0_S8x256
  have v981 : FVec F S8x256 .f32 := subf v980 dsum
  have v982 : FVec F S8x256 .f32 := mulf v979 v981
  have v983 : FVec F S8x256 .f32 := extractStridedSlice S8x256 ![200, 0] ph slices_S264x256_o200_0_S8x256
  have v984 : FVec F S8x256 .f32 := extractStridedSlice S8x256 ![200, 0] dp slices_S264x256_o200_0_S8x256
  have v985 : FVec F S8x256 .f32 := subf v984 dsum
  have v986 : FVec F S8x256 .f32 := mulf v983 v985
  have v987 : FVec F S8x256 .f32 := extractStridedSlice S8x256 ![208, 0] ph slices_S264x256_o208_0_S8x256
  have v988 : FVec F S8x256 .f32 := extractStridedSlice S8x256 ![208, 0] dp slices_S264x256_o208_0_S8x256
  have v989 : FVec F S8x256 .f32 := subf v988 dsum
  have v990 : FVec F S8x256 .f32 := mulf v987 v989
  have v991 : FVec F S8x256 .f32 := extractStridedSlice S8x256 ![216, 0] ph slices_S264x256_o216_0_S8x256
  have v992 : FVec F S8x256 .f32 := extractStridedSlice S8x256 ![216, 0] dp slices_S264x256_o216_0_S8x256
  have v993 : FVec F S8x256 .f32 := subf v992 dsum
  have v994 : FVec F S8x256 .f32 := mulf v991 v993
  have v995 : FVec F S8x256 .f32 := extractStridedSlice S8x256 ![224, 0] ph slices_S264x256_o224_0_S8x256
  have v996 : FVec F S8x256 .f32 := extractStridedSlice S8x256 ![224, 0] dp slices_S264x256_o224_0_S8x256
  have v997 : FVec F S8x256 .f32 := subf v996 dsum
  have v998 : FVec F S8x256 .f32 := mulf v995 v997
  have v999 : FVec F S8x256 .f32 := extractStridedSlice S8x256 ![232, 0] ph slices_S264x256_o232_0_S8x256
  have v1000 : FVec F S8x256 .f32 := extractStridedSlice S8x256 ![232, 0] dp slices_S264x256_o232_0_S8x256
  have v1001 : FVec F S8x256 .f32 := subf v1000 dsum
  have v1002 : FVec F S8x256 .f32 := mulf v999 v1001
  have v1003 : FVec F S8x256 .f32 := extractStridedSlice S8x256 ![240, 0] ph slices_S264x256_o240_0_S8x256
  have v1004 : FVec F S8x256 .f32 := extractStridedSlice S8x256 ![240, 0] dp slices_S264x256_o240_0_S8x256
  have v1005 : FVec F S8x256 .f32 := subf v1004 dsum
  have v1006 : FVec F S8x256 .f32 := mulf v1003 v1005
  have v1007 : FVec F S8x256 .f32 := extractStridedSlice S8x256 ![248, 0] ph slices_S264x256_o248_0_S8x256
  have v1008 : FVec F S8x256 .f32 := extractStridedSlice S8x256 ![248, 0] dp slices_S264x256_o248_0_S8x256
  have v1009 : FVec F S8x256 .f32 := subf v1008 dsum
  have v1010 : FVec F S8x256 .f32 := mulf v1007 v1009
  have v1011 : FVec F S8x256 .f32 := extractStridedSlice S8x256 ![256, 0] ph slices_S264x256_o256_0_S8x256
  have v1012 : FVec F S8x256 .f32 := extractStridedSlice S8x256 ![256, 0] dp slices_S264x256_o256_0_S8x256
  have v1013 : FVec F S8x256 .f32 := subf v1012 dsum
  have v1014 : FVec F S8x256 .f32 := mulf v1011 v1013
  have v1015 : FVec F S264x256 .f32 := concatenate S264x256 0 (⟨S8x256, v886⟩ :: ⟨S8x256, v890⟩ :: ⟨S8x256, v894⟩ :: ⟨S8x256, v898⟩ :: ⟨S8x256, v902⟩ :: ⟨S8x256, v906⟩ :: ⟨S8x256, v910⟩ :: ⟨S8x256, v914⟩ :: ⟨S8x256, v918⟩ :: ⟨S8x256, v922⟩ :: ⟨S8x256, v926⟩ :: ⟨S8x256, v930⟩ :: ⟨S8x256, v934⟩ :: ⟨S8x256, v938⟩ :: ⟨S8x256, v942⟩ :: ⟨S8x256, v946⟩ :: ⟨S8x256, v950⟩ :: ⟨S8x256, v954⟩ :: ⟨S8x256, v958⟩ :: ⟨S8x256, v962⟩ :: ⟨S8x256, v966⟩ :: ⟨S8x256, v970⟩ :: ⟨S8x256, v974⟩ :: ⟨S8x256, v978⟩ :: ⟨S8x256, v982⟩ :: ⟨S8x256, v986⟩ :: ⟨S8x256, v990⟩ :: ⟨S8x256, v994⟩ :: ⟨S8x256, v998⟩ :: ⟨S8x256, v1002⟩ :: ⟨S8x256, v1006⟩ :: ⟨S8x256, v1010⟩ :: ⟨S8x256, v1014⟩ :: []) concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S264x256_d0
  truncf .bf16 v1015 bitsLt_bf16_f32

/-- The key gradient of a head, before the score scale. -/
def gDk (ds : FVec F S264x256 .bf16) (q : FVec F S256x128 .bf16) (dsl : FVec F S264x1 .f32) (ql : FVec F S1x128 .f32) : FVec F S264x128 .f32 :=
  have cst_352 : FVec F S264x128 .f32 := constant S264x128 .f32 0x00000000#32
  have v1017 : FVec F S264x128 .f32 := matmul dot_S264x256_S256x128_S264x128_1_0_0_1_n_n none ds q cst_352
  have v1022 : FVec F S264x128 .f32 := broadcastTo S264x128 dsl broadcasts_S264x1_S264x128
  have v1023 : FVec F S264x128 .f32 := broadcastTo S264x128 ql broadcasts_S1x128_S264x128
  have v1024 : FVec F S264x128 .f32 := mulf v1022 v1023
  addf v1017 v1024

/-- The value gradient of a head. -/
def gDv (codes : FVec F S264x256 .f32) (psb : FVec F S1x256 .f32) (dO : FVec F S256x128 .bf16) (pl : FVec F S264x1 .f32) (dol : FVec F S1x128 .f32) : FVec F S264x128 .f32 :=
  have v796 : FVec F S264x256 .f32 := broadcastTo S264x256 psb broadcasts_S1x256_S264x256
  have v797 : FVec F S264x256 .f32 := mulf codes v796
  have v798 : FVec F S264x256 .bf16 := truncf .bf16 v797 bitsLt_bf16_f32
  have cst_344 : FVec F S264x128 .f32 := constant S264x128 .f32 0x00000000#32
  have v799 : FVec F S264x128 .f32 := matmul dot_S264x256_S256x128_S264x128_1_0_0_1_n_n none v798 dO cst_344
  have v1028 : FVec F S264x128 .f32 := broadcastTo S264x128 pl broadcasts_S264x1_S264x128
  have v1029 : FVec F S264x128 .f32 := broadcastTo S264x128 dol broadcasts_S1x128_S264x128
  have v1030 : FVec F S264x128 .f32 := mulf v1028 v1029
  addf v799 v1030

/-- The last key row as a column. -/
def gKcol (kl : FVec F S1x128 .f32) : FVec F S104x1 .f32 :=
  have v1032 : FVec F S1x128 .f32 := shapeCast S1x128 kl shapeCasts_S1x128_S1x128
  have v1033 : FVec F S8x128 .f32 := broadcastTo S8x128 v1032 broadcasts_S1x128_S8x128
  have cst_354 : F .f32 := Scalar.ofBits .f32 0x00000000#32
  have v1034 : FVec F S120x128 .f32 := broadcast S120x128 cst_354
  have v1035 : FVec F S128x128 .f32 := concatenate S128x128 0 [⟨S8x128, v1033⟩, ⟨S120x128, v1034⟩] concatenates_S8x128_S120x128_S128x128_d0
  have v1036 : FVec F S128x128 .f32 := transpose S128x128 [1, 0] v1035 transposes_S128x128_p1_0_S128x128
  extractStridedSlice S104x1 ![0, 0] v1036 slices_S128x128_o0_0_S104x1

/-- The query gradient of a head, transposed, before the score scale. -/
def gDqt (kt : FVec F S104x256 .bf16) (ds : FVec F S264x256 .bf16) (kcol : FVec F S104x1 .f32) : FVec F S104x256 .f32 :=
  have v1018 : FVec F S256x256 .bf16 := extractStridedSlice S256x256 ![0, 0] ds slices_S264x256_o0_0_S256x256
  have cst_353 : FVec F S104x256 .f32 := constant S104x256 .f32 0x00000000#32
  have v1019 : FVec F S104x256 .f32 := matmul dot_S104x256_S256x256_S104x256_1_0_0_1_n_n none kt v1018 cst_353
  have v1041 : FVec F S104x256 .f32 := broadcastTo S104x256 kcol broadcasts_S104x1_S104x256
  have v1038 : FVec F S8x256 .bf16 := extractStridedSlice S8x256 ![256, 0] ds slices_S264x256_o256_0_S8x256
  have v1039 : FVec F S8x256 .f32 := extf .f32 v1038 bitsLt_bf16_f32
  have v1040 : FVec F S1x256 .f32 := extractStridedSlice S1x256 ![0, 0] v1039 slices_S8x256_o0_0_S1x256
  have v1042 : FVec F S104x256 .f32 := broadcastTo S104x256 v1040 broadcasts_S1x256_S104x256
  have v1043 : FVec F S104x256 .f32 := mulf v1041 v1042
  addf v1019 v1043

/-- The last query's gradient from one head, in that head's row. -/
def gDql (dsn : FVec F S8x256 .bf16) (kt : FVec F S104x256 .bf16) (row : IVec S8x1 32) (h : BitVec 32) : FVec F S8x128 .f32 :=
  have v1048 : IVec S8x1 32 := broadcast S8x1 h
  have v1049 : IVec S8x1 1 := cmpi .eq row v1048
  have v1050 : IVec S8x1 1 := shapeCast S8x1 v1049 shapeCasts_S8x1_S8x1
  have v1051 : IVec S8x128 1 := broadcastTo S8x128 v1050 broadcasts_S8x1_S8x128
  have cst_355 : FVec F S8x104 .f32 := constant S8x104 .f32 0x00000000#32
  have v1045 : FVec F S8x104 .f32 := matmul dot_S8x256_S104x256_S8x104_1_1_0_0_n_n none dsn kt cst_355
  have cst_356 : F .f32 := Scalar.ofBits .f32 0x00000000#32
  have v1046 : FVec F S8x24 .f32 := broadcast S8x24 cst_356
  have v1047 : FVec F S8x128 .f32 := concatenate S8x128 1 [⟨S8x104, v1045⟩, ⟨S8x24, v1046⟩] concatenates_S8x104_S8x24_S8x128_d1
  have cst_358 : F .f32 := Scalar.ofBits .f32 0x00000000#32
  have v1052 : FVec F S8x128 .f32 := broadcast S8x128 cst_358
  select v1051 v1047 v1052

/-- The keys transposed, the first 104 lanes. -/
def gKt (k : FVec F S256x128 .bf16) : FVec F S104x256 .bf16 :=
  have v161 : FVec F S128x256 .bf16 := transpose S128x256 [1, 0] k transposes_S256x128_p1_0_S128x256
  extractStridedSlice S104x256 ![0, 0] v161 slices_S128x256_o0_0_S104x256

/-- The query gradient scaled and turned back to queries down. -/
def gTurn (x : FVec F S104x256 .f32) : FVec F S256x128 .f32 :=
  have cst_382 : F .f32 := Scalar.ofBits .f32 0x3DC8D2AB#32
  have v1329 : FVec F S104x256 .f32 := broadcast S104x256 cst_382
  have v1330 : FVec F S104x256 .f32 := mulf x v1329
  have cst_383 : F .f32 := Scalar.ofBits .f32 0x00000000#32
  have v1331 : FVec F S24x256 .f32 := broadcast S24x256 cst_383
  have v1332 : FVec F S128x256 .f32 := concatenate S128x256 0 [⟨S104x256, v1330⟩, ⟨S24x256, v1331⟩] concatenates_S104x256_S24x256_S128x256_d0
  transpose S256x128 [1, 0] v1332 transposes_S128x256_p1_0_S256x128

/-- Two heads' query gradients interleaved. -/
def gOutDq (lo : FVec F S256x128 .f32) (hi : FVec F S256x128 .f32) : Vec F S1x256x2x128 .bf16 :=
  have v1339_lo : FVec F S256x128 .bf16 := truncf .bf16 lo
  have v1339_hi : FVec F S256x128 .bf16 := truncf .bf16 hi
  interleaveRows S1x256x2x128 (shapeCast S1x256x1x128 v1339_lo shapeCasts_S256x128_S1x256x1x128) (shapeCast S1x256x1x128 v1339_hi shapeCasts_S256x128_S1x256x1x128) bitcasts_S1x256x2x128_w16_S1x256x1x128_w32

/-- Two heads' key gradients scaled and interleaved, the first 256 rows. -/
def gOutDk (lo : FVec F S264x128 .f32) (hi : FVec F S264x128 .f32) : Vec F S1x256x2x128 .bf16 :=
  have cst_380 : F .f32 := Scalar.ofBits .f32 0x3DC8D2AB#32
  have v1323 : FVec F S264x128 .f32 := broadcast S264x128 cst_380
  have v1324 : FVec F S264x128 .f32 := mulf lo v1323
  have v1327_lo : FVec F S264x128 .bf16 := truncf .bf16 v1324
  have v1340_lo : FVec F S256x128 .bf16 := extractStridedSlice S256x128 ![0, 0] v1327_lo slices_S264x128_o0_0_S256x128
  have cst_381 : F .f32 := Scalar.ofBits .f32 0x3DC8D2AB#32
  have v1325 : FVec F S264x128 .f32 := broadcast S264x128 cst_381
  have v1326 : FVec F S264x128 .f32 := mulf hi v1325
  have v1327_hi : FVec F S264x128 .bf16 := truncf .bf16 v1326
  have v1340_hi : FVec F S256x128 .bf16 := extractStridedSlice S256x128 ![0, 0] v1327_hi slices_S264x128_o0_0_S256x128
  interleaveRows S1x256x2x128 (shapeCast S1x256x1x128 v1340_lo shapeCasts_S256x128_S1x256x1x128) (shapeCast S1x256x1x128 v1340_hi shapeCasts_S256x128_S1x256x1x128) bitcasts_S1x256x2x128_w16_S1x256x1x128_w32

/-- Two heads' key gradients scaled and interleaved, the last row. -/
def gOutDkl (lo : FVec F S264x128 .f32) (hi : FVec F S264x128 .f32) : Vec F S1x1x2x128 .bf16 :=
  have cst_380 : F .f32 := Scalar.ofBits .f32 0x3DC8D2AB#32
  have v1323 : FVec F S264x128 .f32 := broadcast S264x128 cst_380
  have v1324 : FVec F S264x128 .f32 := mulf lo v1323
  have v1327_lo : FVec F S264x128 .bf16 := truncf .bf16 v1324
  have v1344_lo : FVec F S1x128 .bf16 := extractStridedSlice S1x128 ![256, 0] v1327_lo slices_S264x128_o256_0_S1x128
  have cst_381 : F .f32 := Scalar.ofBits .f32 0x3DC8D2AB#32
  have v1325 : FVec F S264x128 .f32 := broadcast S264x128 cst_381
  have v1326 : FVec F S264x128 .f32 := mulf hi v1325
  have v1327_hi : FVec F S264x128 .bf16 := truncf .bf16 v1326
  have v1344_hi : FVec F S1x128 .bf16 := extractStridedSlice S1x128 ![256, 0] v1327_hi slices_S264x128_o256_0_S1x128
  interleaveRows S1x1x2x128 (shapeCast S1x1x1x128 v1344_lo shapeCasts_S1x128_S1x1x1x128) (shapeCast S1x1x1x128 v1344_hi shapeCasts_S1x128_S1x1x1x128) bitcasts_S1x1x2x128_w16_S1x1x1x128_w32

/-- Two heads' value gradients interleaved, the first 256 rows. -/
def gOutDv (lo : FVec F S264x128 .f32) (hi : FVec F S264x128 .f32) : Vec F S1x256x2x128 .bf16 :=
  have v1328_lo : FVec F S264x128 .bf16 := truncf .bf16 lo
  have v1348_lo : FVec F S256x128 .bf16 := extractStridedSlice S256x128 ![0, 0] v1328_lo slices_S264x128_o0_0_S256x128
  have v1328_hi : FVec F S264x128 .bf16 := truncf .bf16 hi
  have v1348_hi : FVec F S256x128 .bf16 := extractStridedSlice S256x128 ![0, 0] v1328_hi slices_S264x128_o0_0_S256x128
  interleaveRows S1x256x2x128 (shapeCast S1x256x1x128 v1348_lo shapeCasts_S256x128_S1x256x1x128) (shapeCast S1x256x1x128 v1348_hi shapeCasts_S256x128_S1x256x1x128) bitcasts_S1x256x2x128_w16_S1x256x1x128_w32

/-- Two heads' value gradients interleaved, the last row. -/
def gOutDvl (lo : FVec F S264x128 .f32) (hi : FVec F S264x128 .f32) : Vec F S1x1x2x128 .bf16 :=
  have v1328_lo : FVec F S264x128 .bf16 := truncf .bf16 lo
  have v1352_lo : FVec F S1x128 .bf16 := extractStridedSlice S1x128 ![256, 0] v1328_lo slices_S264x128_o256_0_S1x128
  have v1328_hi : FVec F S264x128 .bf16 := truncf .bf16 hi
  have v1352_hi : FVec F S1x128 .bf16 := extractStridedSlice S1x128 ![256, 0] v1328_hi slices_S264x128_o256_0_S1x128
  interleaveRows S1x1x2x128 (shapeCast S1x1x1x128 v1352_lo shapeCasts_S1x128_S1x1x1x128) (shapeCast S1x1x1x128 v1352_hi shapeCasts_S1x128_S1x1x1x128) bitcasts_S1x1x2x128_w16_S1x1x1x128_w32

end Cert.KernelIdeal.Hand

end
-- ==== Proof.Inputs.lean ====
/-
  What the heads' stages read: the inputs of a head taken out of the loaded blocks, and the last query row,
  which the body computes for all eight heads together, keys down and heads across.
-/

module

public import proofs.«01_k».proof.Proof.Stages

@[expose] public section

noncomputable section

namespace Cert.KernelIdeal.Hand

open Cert.KernelIdeal Cert.KernelIdeal.Gen

open Idealize.ShloMosaic
open Idealize.ShloMosaic.TcCoe

variable {F : FTy → Type} [FloatOps F]

/-- A word shifted left. -/
def gShl (e : IVec S8x256 32) (n : BitVec 32) : IVec S8x256 32 :=
  have v137 : IVec S8x256 32 := broadcast S8x256 n
  shli e v137

/-- The codes of an even head: two halves of the queries side by side, the last keys below. -/
def gCodesLo (a : Vec F S256x2x128 .bf16) (b : Vec F S256x2x128 .bf16) (e : IVec S8x256 32) : FVec F S264x256 .f32 :=
  have v130_lo : FVec F S256x128 .bf16 := shapeCast S256x128 (rowsOfParity 0 S256x1x128 a bitcasts_S256x2x128_w16_S256x1x128_w32) shapeCasts_S256x1x128_S256x128
  have v135_lo : FVec F S256x128 .bf16 := shapeCast S256x128 (rowsOfParity 0 S256x1x128 b bitcasts_S256x2x128_w16_S256x1x128_w32) shapeCasts_S256x1x128_S256x128
  have v136_lo : FVec F S256x256 .bf16 := concatenate S256x256 1 [⟨S256x128, v130_lo⟩, ⟨S256x128, v135_lo⟩] concatenates_S256x128_S256x128_S256x256_d1
  have v144 : FVec F S256x256 .f32 := extf .f32 v136_lo
  have c24_i32_89 : BitVec 32 := 24#32
  have v139 : IVec S8x256 32 := broadcast S8x256 c24_i32_89
  have v140 : IVec S8x256 32 := shrsi e v139
  have v141 : FVec F S8x256 .f32 := sitofp .f32 v140
  concatenate S264x256 0 [⟨S256x256, v144⟩, ⟨S8x256, v141⟩] concatenates_S256x256_S8x256_S264x256_d0

/-- The codes of an odd head. -/
def gCodesHi (a : Vec F S256x2x128 .bf16) (b : Vec F S256x2x128 .bf16) (e : IVec S8x256 32) : FVec F S264x256 .f32 :=
  have v130_hi : FVec F S256x128 .bf16 := shapeCast S256x128 (rowsOfParity 1 S256x1x128 a bitcasts_S256x2x128_w16_S256x1x128_w32) shapeCasts_S256x1x128_S256x128
  have v135_hi : FVec F S256x128 .bf16 := shapeCast S256x128 (rowsOfParity 1 S256x1x128 b bitcasts_S256x2x128_w16_S256x1x128_w32) shapeCasts_S256x1x128_S256x128
  have v136_hi : FVec F S256x256 .bf16 := concatenate S256x256 1 [⟨S256x128, v130_hi⟩, ⟨S256x128, v135_hi⟩] concatenates_S256x128_S256x128_S256x256_d1
  have v173 : FVec F S256x256 .f32 := extf .f32 v136_hi
  have c24_i32_95 : BitVec 32 := 24#32
  have v168 : IVec S8x256 32 := broadcast S8x256 c24_i32_95
  have v169 : IVec S8x256 32 := shrsi e v168
  have v170 : FVec F S8x256 .f32 := sitofp .f32 v169
  concatenate S264x256 0 [⟨S256x256, v173⟩, ⟨S8x256, v170⟩] concatenates_S256x256_S8x256_S264x256_d0

/-- The value rows of an even head, the lanes past the head masked. -/
def gVLo (a : Vec F S264x2x128 .bf16) : FVec F S264x128 .bf16 :=
  have v0 : IVec S1x128 32 := iota .tc S1x128 32 [1] iota_S1x128_d1_w32
  have c104_i32 : BitVec 32 := 104#32
  have v2 : IVec S1x128 32 := broadcast S1x128 c104_i32
  have v3 : IVec S1x128 1 := cmpi .slt v0 v2
  have v106 : IVec S1x128 1 := shapeCast S1x128 v3 shapeCasts_S1x128_S1x128
  have v107 : IVec S264x128 1 := broadcastTo S264x128 v106 broadcasts_S1x128_S264x128
  have v105_lo : FVec F S264x128 .bf16 := shapeCast S264x128 (rowsOfParity 0 S264x1x128 a bitcasts_S264x2x128_w16_S264x1x128_w32) shapeCasts_S264x1x128_S264x128
  have v109_lo : FVec F S264x128 .bf16 := select v107 v105_lo (constant S264x128 .bf16 0x0000#16)
  v109_lo

/-- The value rows of an odd head. -/
def gVHi (a : Vec F S264x2x128 .bf16) : FVec F S264x128 .bf16 :=
  have v0 : IVec S1x128 32 := iota .tc S1x128 32 [1] iota_S1x128_d1_w32
  have c104_i32 : BitVec 32 := 104#32
  have v2 : IVec S1x128 32 := broadcast S1x128 c104_i32
  have v3 : IVec S1x128 1 := cmpi .slt v0 v2
  have v106 : IVec S1x128 1 := shapeCast S1x128 v3 shapeCasts_S1x128_S1x128
  have v107 : IVec S264x128 1 := broadcastTo S264x128 v106 broadcasts_S1x128_S264x128
  have v105_hi : FVec F S264x128 .bf16 := shapeCast S264x128 (rowsOfParity 1 S264x1x128 a bitcasts_S264x2x128_w16_S264x1x128_w32) shapeCasts_S264x1x128_S264x128
  have v109_hi : FVec F S264x128 .bf16 := select v107 v105_hi (constant S264x128 .bf16 0x0000#16)
  v109_hi

/-- The output gradient rows of an even head, the lanes past the head masked. -/
def gDoLo (a : Vec F S1x256x2x128 .bf16) : FVec F S256x128 .bf16 :=
  have v0 : IVec S1x128 32 := iota .tc S1x128 32 [1] iota_S1x128_d1_w32
  have c104_i32 : BitVec 32 := 104#32
  have v2 : IVec S1x128 32 := broadcast S1x128 c104_i32
  have v3 : IVec S1x128 1 := cmpi .slt v0 v2
  have v113 : IVec S1x128 1 := shapeCast S1x128 v3 shapeCasts_S1x128_S1x128
  have v114 : IVec S256x128 1 := broadcastTo S256x128 v113 broadcasts_S1x128_S256x128
  have v112_lo : FVec F S256x128 .bf16 := shapeCast S256x128 (rowsOfParity 0 S1x256x1x128 a bitcasts_S1x256x2x128_w16_S1x256x1x128_w32) shapeCasts_S1x256x1x128_S256x128
  have v116_lo : FVec F S256x128 .bf16 := select v114 v112_lo (constant S256x128 .bf16 0x0000#16)
  v116_lo

/-- The output gradient rows of an odd head. -/
def gDoHi (a : Vec F S1x256x2x128 .bf16) : FVec F S256x128 .bf16 :=
  have v0 : IVec S1x128 32 := iota .tc S1x128 32 [1] iota_S1x128_d1_w32
  have c104_i32 : BitVec 32 := 104#32
  have v2 : IVec S1x128 32 := broadcast S1x128 c104_i32
  have v3 : IVec S1x128 1 := cmpi .slt v0 v2
  have v113 : IVec S1x128 1 := shapeCast S1x128 v3 shapeCasts_S1x128_S1x128
  have v114 : IVec S256x128 1 := broadcastTo S256x128 v113 broadcasts_S1x128_S256x128
  have v112_hi : FVec F S256x128 .bf16 := shapeCast S256x128 (rowsOfParity 1 S1x256x1x128 a bitcasts_S1x256x2x128_w16_S1x256x1x128_w32) shapeCasts_S1x256x1x128_S256x128
  have v116_hi : FVec F S256x128 .bf16 := select v114 v112_hi (constant S256x128 .bf16 0x0000#16)
  v116_hi

/-- The query rows of an even head. -/
def gQLo (a : Vec F S1x256x2x128 .bf16) : FVec F S256x128 .bf16 :=
  have v119_lo : FVec F S256x128 .bf16 := shapeCast S256x128 (rowsOfParity 0 S1x256x1x128 a bitcasts_S1x256x2x128_w16_S1x256x1x128_w32) shapeCasts_S1x256x1x128_S256x128
  v119_lo

/-- The query rows of an odd head. -/
def gQHi (a : Vec F S1x256x2x128 .bf16) : FVec F S256x128 .bf16 :=
  have v119_hi : FVec F S256x128 .bf16 := shapeCast S256x128 (rowsOfParity 1 S1x256x1x128 a bitcasts_S1x256x2x128_w16_S1x256x1x128_w32) shapeCasts_S1x256x1x128_S256x128
  v119_hi

/-- The keys of an even head, transposed. -/
def gKLo (a : Vec F S1x256x2x128 .bf16) : FVec F S104x256 .bf16 :=
  have v122_lo : FVec F S256x128 .bf16 := shapeCast S256x128 (rowsOfParity 0 S1x256x1x128 a bitcasts_S1x256x2x128_w16_S1x256x1x128_w32) shapeCasts_S1x256x1x128_S256x128
  have v160 : FVec F S256x128 .bf16 := v122_lo
  have v161 : FVec F S128x256 .bf16 := transpose S128x256 [1, 0] v160 transposes_S256x128_p1_0_S128x256
  extractStridedSlice S104x256 ![0, 0] v161 slices_S128x256_o0_0_S104x256

/-- The keys of an odd head, transposed. -/
def gKHi (a : Vec F S1x256x2x128 .bf16) : FVec F S104x256 .bf16 :=
  have v122_hi : FVec F S256x128 .bf16 := shapeCast S256x128 (rowsOfParity 1 S1x256x1x128 a bitcasts_S1x256x2x128_w16_S1x256x1x128_w32) shapeCasts_S1x256x1x128_S256x128
  have v198 : FVec F S256x128 .bf16 := v122_hi
  have v199 : FVec F S128x256 .bf16 := transpose S128x256 [1, 0] v198 transposes_S256x128_p1_0_S128x256
  extractStridedSlice S104x256 ![0, 0] v199 slices_S128x256_o0_0_S104x256

/-- The last key row of an even head. -/
def gKlLo (a : Vec F S1x1x2x128 .bf16) : FVec F S1x128 .f32 :=
  have v125_lo : FVec F S1x128 .bf16 := shapeCast S1x128 (rowsOfParity 0 S1x1x1x128 a bitcasts_S1x1x2x128_w16_S1x1x1x128_w32) shapeCasts_S1x1x1x128_S1x128
  extf .f32 v125_lo

/-- The last key row of an odd head. -/
def gKlHi (a : Vec F S1x1x2x128 .bf16) : FVec F S1x128 .f32 :=
  have v125_hi : FVec F S1x128 .bf16 := shapeCast S1x128 (rowsOfParity 1 S1x1x1x128 a bitcasts_S1x1x2x128_w16_S1x1x1x128_w32) shapeCasts_S1x1x1x128_S1x128
  extf .f32 v125_hi

/-- Four heads' codes as one word. -/
def gWord (x : Vec F S1x257x8x128 .i8) : IVec S257x2x128 32 :=
  have v11 : IVec S257x8x128 8 := shapeCast S257x8x128 x shapeCasts_S1x257x8x128_S257x8x128
  bitcast S257x2x128 32 v11 bitcasts_S257x8x128_w8_S257x2x128_w32

/-- The last key's words, queries across, heads 0 to 3. -/
def gEdge0 (w : IVec S257x2x128 32) : IVec S8x256 32 :=
  have v1 : IVec S8x1 32 := iota .tc S8x1 32 [0] iota_S8x1_d0_w32
  have c0_i32 : BitVec 32 := 0#32
  have v67 : IVec S8x1 32 := broadcast S8x1 c0_i32
  have v68 : IVec S8x1 1 := cmpi .eq v1 v67
  have v71 : IVec S8x1 1 := shapeCast S8x1 v68 shapeCasts_S8x1_S8x1
  have v72 : IVec S8x128 1 := broadcastTo S8x128 v71 broadcasts_S8x1_S8x128
  have v65 : IVec S128x1x128 32 := extractStridedSlice S128x1x128 ![0, 0, 0] w slices_S257x2x128_o0_0_0_S128x1x128
  have v66 : IVec S128x128 32 := shapeCast S128x128 v65 shapeCasts_S128x1x128_S128x128
  have v69 : IVec S128x128 32 := transpose S128x128 [1, 0] v66 transposes_S128x128_p1_0_S128x128
  have v70 : IVec S8x128 32 := extractStridedSlice S8x128 ![0, 0] v69 slices_S128x128_o0_0_S8x128
  have c0_i32_41 : BitVec 32 := 0#32
  have v73 : IVec S8x128 32 := broadcast S8x128 c0_i32_41
  have v74 : IVec S8x128 32 := select v72 v70 v73
  have c0_i32_42 : BitVec 32 := 0#32
  have v77 : IVec S8x1 32 := broadcast S8x1 c0_i32_42
  have v78 : IVec S8x1 1 := cmpi .eq v1 v77
  have v81 : IVec S8x1 1 := shapeCast S8x1 v78 shapeCasts_S8x1_S8x1
  have v82 : IVec S8x128 1 := broadcastTo S8x128 v81 broadcasts_S8x1_S8x128
  have v75 : IVec S128x1x128 32 := extractStridedSlice S128x1x128 ![128, 0, 0] w slices_S257x2x128_o128_0_0_S128x1x128
  have v76 : IVec S128x128 32 := shapeCast S128x128 v75 shapeCasts_S128x1x128_S128x128
  have v79 : IVec S128x128 32 := transpose S128x128 [1, 0] v76 transposes_S128x128_p1_0_S128x128
  have v80 : IVec S8x128 32 := extractStridedSlice S8x128 ![0, 0] v79 slices_S128x128_o0_0_S8x128
  have c0_i32_43 : BitVec 32 := 0#32
  have v83 : IVec S8x128 32 := broadcast S8x128 c0_i32_43
  have v84 : IVec S8x128 32 := select v82 v80 v83
  concatenate S8x256 1 [⟨S8x128, v74⟩, ⟨S8x128, v84⟩] concatenates_S8x128_S8x128_S8x256_d1

/-- The last key's words, queries across, heads 4 to 7. -/
def gEdge1 (w : IVec S257x2x128 32) : IVec S8x256 32 :=
  have v1 : IVec S8x1 32 := iota .tc S8x1 32 [0] iota_S8x1_d0_w32
  have c0_i32_167 : BitVec 32 := 0#32
  have v344 : IVec S8x1 32 := broadcast S8x1 c0_i32_167
  have v345 : IVec S8x1 1 := cmpi .eq v1 v344
  have v348 : IVec S8x1 1 := shapeCast S8x1 v345 shapeCasts_S8x1_S8x1
  have v349 : IVec S8x128 1 := broadcastTo S8x128 v348 broadcasts_S8x1_S8x128
  have v342 : IVec S128x1x128 32 := extractStridedSlice S128x1x128 ![0, 1, 0] w slices_S257x2x128_o0_1_0_S128x1x128
  have v343 : IVec S128x128 32 := shapeCast S128x128 v342 shapeCasts_S128x1x128_S128x128
  have v346 : IVec S128x128 32 := transpose S128x128 [1, 0] v343 transposes_S128x128_p1_0_S128x128
  have v347 : IVec S8x128 32 := extractStridedSlice S8x128 ![0, 0] v346 slices_S128x128_o0_0_S8x128
  have c0_i32_168 : BitVec 32 := 0#32
  have v350 : IVec S8x128 32 := broadcast S8x128 c0_i32_168
  have v351 : IVec S8x128 32 := select v349 v347 v350
  have c0_i32_169 : BitVec 32 := 0#32
  have v354 : IVec S8x1 32 := broadcast S8x1 c0_i32_169
  have v355 : IVec S8x1 1 := cmpi .eq v1 v354
  have v358 : IVec S8x1 1 := shapeCast S8x1 v355 shapeCasts_S8x1_S8x1
  have v359 : IVec S8x128 1 := broadcastTo S8x128 v358 broadcasts_S8x1_S8x128
  have v352 : IVec S128x1x128 32 := extractStridedSlice S128x1x128 ![128, 1, 0] w slices_S257x2x128_o128_1_0_S128x1x128
  have v353 : IVec S128x128 32 := shapeCast S128x128 v352 shapeCasts_S128x1x128_S128x128
  have v356 : IVec S128x128 32 := transpose S128x128 [1, 0] v353 transposes_S128x128_p1_0_S128x128
  have v357 : IVec S8x128 32 := extractStridedSlice S8x128 ![0, 0] v356 slices_S128x128_o0_0_S8x128
  have c0_i32_170 : BitVec 32 := 0#32
  have v360 : IVec S8x128 32 := broadcast S8x128 c0_i32_170
  have v361 : IVec S8x128 32 := select v359 v357 v360
  concatenate S8x256 1 [⟨S8x128, v351⟩, ⟨S8x128, v361⟩] concatenates_S8x128_S8x128_S8x256_d1

/-- The last output gradient row of each head, masked. -/
def gDoLast (x : Vec F S1x1x8x128 .bf16) : FVec F S8x128 .bf16 :=
  have v0 : IVec S1x128 32 := iota .tc S1x128 32 [1] iota_S1x128_d1_w32
  have c104_i32 : BitVec 32 := 104#32
  have v2 : IVec S1x128 32 := broadcast S1x128 c104_i32
  have v3 : IVec S1x128 1 := cmpi .slt v0 v2
  have v16 : IVec S1x128 1 := shapeCast S1x128 v3 shapeCasts_S1x128_S1x128
  have v17 : IVec S8x128 1 := broadcastTo S8x128 v16 broadcasts_S1x128_S8x128
  have v14 : FVec F S8x128 .bf16 := shapeCast S8x128 x shapeCasts_S1x1x8x128_S8x128
  have cst : F .bf16 := Scalar.ofBits .bf16 0x0000#16
  have v15 : FVec F S8x128 .bf16 := broadcast S8x128 cst
  select v17 v14 v15

/-- Eight rows widened. -/
def gWide (x : FVec F S8x128 .bf16) : FVec F S8x128 .f32 :=
  extf .f32 x bitsLt_bf16_f32

/-- The last query row of each head. -/
def gQl (x : Vec F S1x1x8x128 .bf16) : FVec F S8x128 .f32 :=
  have v774 : FVec F S8x128 .bf16 := shapeCast S8x128 x shapeCasts_S1x1x8x128_S8x128
  extf .f32 v774 bitsLt_bf16_f32

/-- The last query's scale of each head, heads across. -/
def gPsRow (x : Vec F S1x8x1 .f32) : FVec F S1x128 .f32 :=
  have v585 : FVec F S8x1 .f32 := shapeCast S8x1 x shapeCasts_S1x8x1_S8x1
  have v627 : FVec F S8x1 .f32 := shapeCast S8x1 v585 shapeCasts_S8x1_S8x1
  have v628 : FVec F S8x128 .f32 := broadcastTo S8x128 v627 broadcasts_S8x1_S8x128
  have cst_312 : F .f32 := Scalar.ofBits .f32 0x00000000#32
  have v629 : FVec F S120x128 .f32 := broadcast S120x128 cst_312
  have v630 : FVec F S128x128 .f32 := concatenate S128x128 0 [⟨S8x128, v628⟩, ⟨S120x128, v629⟩] concatenates_S8x128_S120x128_S128x128_d0
  have v631 : FVec F S128x128 .f32 := transpose S128x128 [1, 0] v630 transposes_S128x128_p1_0_S128x128
  have v632 : FVec F S8x128 .f32 := extractStridedSlice S8x128 ![0, 0] v631 slices_S128x128_o0_0_S8x128
  extractStridedSlice S1x128 ![0, 0] v632 slices_S8x128_o0_0_S1x128

/-- The value scale of each head, heads across. -/
def gVsRow (s0 : Elt F .f32) (s1 : Elt F .f32) (s2 : Elt F .f32) (s3 : Elt F .f32) (s4 : Elt F .f32) (s5 : Elt F .f32) (s6 : Elt F .f32) (s7 : Elt F .f32) : FVec F S1x128 .f32 :=
  have v28 : IVec S8x1 32 := iota .tc S8x1 32 [0] iota_S8x1_d0_w32
  have c7_i32_311 : BitVec 32 := 7#32
  have v623 : IVec S8x1 32 := broadcast S8x1 c7_i32_311
  have v624 : IVec S8x1 1 := cmpi .eq v28 v623
  have v625 : FVec F S8x1 .f32 := broadcast S8x1 s7
  have c6_i32_310 : BitVec 32 := 6#32
  have v619 : IVec S8x1 32 := broadcast S8x1 c6_i32_310
  have v620 : IVec S8x1 1 := cmpi .eq v28 v619
  have v621 : FVec F S8x1 .f32 := broadcast S8x1 s6
  have c5_i32_309 : BitVec 32 := 5#32
  have v615 : IVec S8x1 32 := broadcast S8x1 c5_i32_309
  have v616 : IVec S8x1 1 := cmpi .eq v28 v615
  have v617 : FVec F S8x1 .f32 := broadcast S8x1 s5
  have c4_i32_308 : BitVec 32 := 4#32
  have v611 : IVec S8x1 32 := broadcast S8x1 c4_i32_308
  have v612 : IVec S8x1 1 := cmpi .eq v28 v611
  have v613 : FVec F S8x1 .f32 := broadcast S8x1 s4
  have c3_i32_307 : BitVec 32 := 3#32
  have v607 : IVec S8x1 32 := broadcast S8x1 c3_i32_307
  have v608 : IVec S8x1 1 := cmpi .eq v28 v607
  have v609 : FVec F S8x1 .f32 := broadcast S8x1 s3
  have c2_i32_306 : BitVec 32 := 2#32
  have v603 : IVec S8x1 32 := broadcast S8x1 c2_i32_306
  have v604 : IVec S8x1 1 := cmpi .eq v28 v603
  have v605 : FVec F S8x1 .f32 := broadcast S8x1 s2
  have c1_i32_305 : BitVec 32 := 1#32
  have v599 : IVec S8x1 32 := broadcast S8x1 c1_i32_305
  have v600 : IVec S8x1 1 := cmpi .eq v28 v599
  have v601 : FVec F S8x1 .f32 := broadcast S8x1 s1
  have c0_i32_304 : BitVec 32 := 0#32
  have v595 : IVec S8x1 32 := broadcast S8x1 c0_i32_304
  have v596 : IVec S8x1 1 := cmpi .eq v28 v595
  have v597 : FVec F S8x1 .f32 := broadcast S8x1 s0
  have cst_303 : F .f32 := Scalar.ofBits .f32 0x00000000#32
  have v594 : FVec F S8x1 .f32 := broadcast S8x1 cst_303
  have v598 : FVec F S8x1 .f32 := select v596 v597 v594
  have v602 : FVec F S8x1 .f32 := select v600 v601 v598
  have v606 : FVec F S8x1 .f32 := select v604 v605 v602
  have v610 : FVec F S8x1 .f32 := select v608 v609 v606
  have v614 : FVec F S8x1 .f32 := select v612 v613 v610
  have v618 : FVec F S8x1 .f32 := select v616 v617 v614
  have v622 : FVec F S8x1 .f32 := select v620 v621 v618
  have v626 : FVec F S8x1 .f32 := select v624 v625 v622
  have v634 : FVec F S8x1 .f32 := shapeCast S8x1 v626 shapeCasts_S8x1_S8x1
  have v635 : FVec F S8x128 .f32 := broadcastTo S8x128 v634 broadcasts_S8x1_S8x128
  have cst_313 : F .f32 := Scalar.ofBits .f32 0x00000000#32
  have v636 : FVec F S120x128 .f32 := broadcast S120x128 cst_313
  have v637 : FVec F S128x128 .f32 := concatenate S128x128 0 [⟨S8x128, v635⟩, ⟨S120x128, v636⟩] concatenates_S8x128_S120x128_S128x128_d0
  have v638 : FVec F S128x128 .f32 := transpose S128x128 [1, 0] v637 transposes_S128x128_p1_0_S128x128
  have v639 : FVec F S8x128 .f32 := extractStridedSlice S8x128 ![0, 0] v638 slices_S128x128_o0_0_S8x128
  extractStridedSlice S1x128 ![0, 0] v639 slices_S8x128_o0_0_S1x128

/-- The last query's codes, keys down and heads across. -/
def gCcol (a : Vec F S1x1x8x128 .i8) (b : Vec F S1x1x8x128 .i8) (d : Vec F S1x1x8x128 .i8) : FVec F S264x128 .f32 :=
  have v20 : IVec S8x128 8 := shapeCast S8x128 a shapeCasts_S1x1x8x128_S8x128
  have v21 : FVec F S8x128 .f32 := sitofp .f32 v20
  have cst_314 : F .f32 := Scalar.ofBits .f32 0x00000000#32
  have v641 : FVec F S120x128 .f32 := broadcast S120x128 cst_314
  have v642 : FVec F S128x128 .f32 := concatenate S128x128 0 [⟨S8x128, v21⟩, ⟨S120x128, v641⟩] concatenates_S8x128_S120x128_S128x128_d0
  have v643 : FVec F S128x128 .f32 := transpose S128x128 [1, 0] v642 transposes_S128x128_p1_0_S128x128
  have v23 : IVec S8x128 8 := shapeCast S8x128 b shapeCasts_S1x1x8x128_S8x128
  have v24 : FVec F S8x128 .f32 := sitofp .f32 v23
  have cst_315 : F .f32 := Scalar.ofBits .f32 0x00000000#32
  have v644 : FVec F S120x128 .f32 := broadcast S120x128 cst_315
  have v645 : FVec F S128x128 .f32 := concatenate S128x128 0 [⟨S8x128, v24⟩, ⟨S120x128, v644⟩] concatenates_S8x128_S120x128_S128x128_d0
  have v646 : FVec F S128x128 .f32 := transpose S128x128 [1, 0] v645 transposes_S128x128_p1_0_S128x128
  have v1 : IVec S8x1 32 := iota .tc S8x1 32 [0] iota_S8x1_d0_w32
  have c0_i32_316 : BitVec 32 := 0#32
  have v647 : IVec S8x1 32 := broadcast S8x1 c0_i32_316
  have v648 : IVec S8x1 1 := cmpi .eq v1 v647
  have v653 : IVec S8x1 1 := shapeCast S8x1 v648 shapeCasts_S8x1_S8x1
  have v654 : IVec S8x128 1 := broadcastTo S8x128 v653 broadcasts_S8x1_S8x128
  have v26 : IVec S8x128 8 := shapeCast S8x128 d shapeCasts_S1x1x8x128_S8x128
  have v27 : FVec F S8x128 .f32 := sitofp .f32 v26
  have cst_317 : F .f32 := Scalar.ofBits .f32 0x00000000#32
  have v649 : FVec F S120x128 .f32 := broadcast S120x128 cst_317
  have v650 : FVec F S128x128 .f32 := concatenate S128x128 0 [⟨S8x128, v27⟩, ⟨S120x128, v649⟩] concatenates_S8x128_S120x128_S128x128_d0
  have v651 : FVec F S128x128 .f32 := transpose S128x128 [1, 0] v650 transposes_S128x128_p1_0_S128x128
  have v652 : FVec F S8x128 .f32 := extractStridedSlice S8x128 ![0, 0] v651 slices_S128x128_o0_0_S8x128
  have cst_318 : F .f32 := Scalar.ofBits .f32 0x00000000#32
  have v655 : FVec F S8x128 .f32 := broadcast S8x128 cst_318
  have v656 : FVec F S8x128 .f32 := select v654 v652 v655
  concatenate S264x128 0 [⟨S128x128, v643⟩, ⟨S128x128, v646⟩, ⟨S8x128, v656⟩] concatenates_S128x128_S128x128_S8x128_S264x128_d0

/-- The last query's products with the value rows, heads down. -/
def gDpl (dl : FVec F S8x128 .bf16) (w0 : FVec F S264x128 .bf16) (w1 : FVec F S264x128 .bf16) (w2 : FVec F S264x128 .bf16) (w3 : FVec F S264x128 .bf16) (w4 : FVec F S264x128 .bf16) (w5 : FVec F S264x128 .bf16) (w6 : FVec F S264x128 .bf16) (w7 : FVec F S264x128 .bf16) : FVec F S8x264 .f32 :=
  have v28 : IVec S8x1 32 := iota .tc S8x1 32 [0] iota_S8x1_d0_w32
  have c0_i32_91 : BitVec 32 := 0#32
  have v149 : IVec S8x1 32 := broadcast S8x1 c0_i32_91
  have v150 : IVec S8x1 1 := cmpi .eq v28 v149
  have v151 : IVec S8x1 1 := shapeCast S8x1 v150 shapeCasts_S8x1_S8x1
  have v152 : IVec S8x264 1 := broadcastTo S8x264 v151 broadcasts_S8x1_S8x264
  have cst_90 : FVec F S8x264 .f32 := constant S8x264 .f32 0x00000000#32
  have v148 : FVec F S8x264 .f32 := matmul dot_S8x128_S264x128_S8x264_1_1_0_0_n_n none dl w0 cst_90
  have cst_92 : F .f32 := Scalar.ofBits .f32 0x00000000#32
  have v153 : FVec F S8x264 .f32 := broadcast S8x264 cst_92
  have v154 : FVec F S8x264 .f32 := select v152 v148 v153
  have c1_i32_98 : BitVec 32 := 1#32
  have v180 : IVec S8x1 32 := broadcast S8x1 c1_i32_98
  have v181 : IVec S8x1 1 := cmpi .eq v28 v180
  have v182 : IVec S8x1 1 := shapeCast S8x1 v181 shapeCasts_S8x1_S8x1
  have v183 : IVec S8x264 1 := broadcastTo S8x264 v182 broadcasts_S8x1_S8x264
  have cst_97 : FVec F S8x264 .f32 := constant S8x264 .f32 0x00000000#32
  have v179 : FVec F S8x264 .f32 := matmul dot_S8x128_S264x128_S8x264_1_1_0_0_n_n none dl w1 cst_97
  have cst_99 : F .f32 := Scalar.ofBits .f32 0x00000000#32
  have v184 : FVec F S8x264 .f32 := broadcast S8x264 cst_99
  have v185 : FVec F S8x264 .f32 := select v183 v179 v184
  have v186 : FVec F S8x264 .f32 := addf v154 v185
  have c2_i32 : BitVec 32 := 2#32
  have v250 : IVec S8x1 32 := broadcast S8x1 c2_i32
  have v251 : IVec S8x1 1 := cmpi .eq v28 v250
  have v252 : IVec S8x1 1 := shapeCast S8x1 v251 shapeCasts_S8x1_S8x1
  have v253 : IVec S8x264 1 := broadcastTo S8x264 v252 broadcasts_S8x1_S8x264
  have cst_138 : FVec F S8x264 .f32 := constant S8x264 .f32 0x00000000#32
  have v249 : FVec F S8x264 .f32 := matmul dot_S8x128_S264x128_S8x264_1_1_0_0_n_n none dl w2 cst_138
  have cst_139 : F .f32 := Scalar.ofBits .f32 0x00000000#32
  have v254 : FVec F S8x264 .f32 := broadcast S8x264 cst_139
  have v255 : FVec F S8x264 .f32 := select v253 v249 v254
  have v256 : FVec F S8x264 .f32 := addf v186 v255
  have c3_i32 : BitVec 32 := 3#32
  have v282 : IVec S8x1 32 := broadcast S8x1 c3_i32
  have v283 : IVec S8x1 1 := cmpi .eq v28 v282
  have v284 : IVec S8x1 1 := shapeCast S8x1 v283 shapeCasts_S8x1_S8x1
  have v285 : IVec S8x264 1 := broadcastTo S8x264 v284 broadcasts_S8x1_S8x264
  have cst_145 : FVec F S8x264 .f32 := constant S8x264 .f32 0x00000000#32
  have v281 : FVec F S8x264 .f32 := matmul dot_S8x128_S264x128_S8x264_1_1_0_0_n_n none dl w3 cst_145
  have cst_146 : F .f32 := Scalar.ofBits .f32 0x00000000#32
  have v286 : FVec F S8x264 .f32 := broadcast S8x264 cst_146
  have v287 : FVec F S8x264 .f32 := select v285 v281 v286
  have v288 : FVec F S8x264 .f32 := addf v256 v287
  have c4_i32 : BitVec 32 := 4#32
  have v426 : IVec S8x1 32 := broadcast S8x1 c4_i32
  have v427 : IVec S8x1 1 := cmpi .eq v28 v426
  have v428 : IVec S8x1 1 := shapeCast S8x1 v427 shapeCasts_S8x1_S8x1
  have v429 : IVec S8x264 1 := broadcastTo S8x264 v428 broadcasts_S8x1_S8x264
  have cst_219 : FVec F S8x264 .f32 := constant S8x264 .f32 0x00000000#32
  have v425 : FVec F S8x264 .f32 := matmul dot_S8x128_S264x128_S8x264_1_1_0_0_n_n none dl w4 cst_219
  have cst_220 : F .f32 := Scalar.ofBits .f32 0x00000000#32
  have v430 : FVec F S8x264 .f32 := broadcast S8x264 cst_220
  have v431 : FVec F S8x264 .f32 := select v429 v425 v430
  have v432 : FVec F S8x264 .f32 := addf v288 v431
  have c5_i32 : BitVec 32 := 5#32
  have v458 : IVec S8x1 32 := broadcast S8x1 c5_i32
  have v459 : IVec S8x1 1 := cmpi .eq v28 v458
  have v460 : IVec S8x1 1 := shapeCast S8x1 v459 shapeCasts_S8x1_S8x1
  have v461 : IVec S8x264 1 := broadcastTo S8x264 v460 broadcasts_S8x1_S8x264
  have cst_226 : FVec F S8x264 .f32 := constant S8x264 .f32 0x00000000#32
  have v457 : FVec F S8x264 .f32 := matmul dot_S8x128_S264x128_S8x264_1_1_0_0_n_n none dl w5 cst_226
  have cst_227 : F .f32 := Scalar.ofBits .f32 0x00000000#32
  have v462 : FVec F S8x264 .f32 := broadcast S8x264 cst_227
  have v463 : FVec F S8x264 .f32 := select v461 v457 v462
  have v464 : FVec F S8x264 .f32 := addf v432 v463
  have c6_i32 : BitVec 32 := 6#32
  have v528 : IVec S8x1 32 := broadcast S8x1 c6_i32
  have v529 : IVec S8x1 1 := cmpi .eq v28 v528
  have v530 : IVec S8x1 1 := shapeCast S8x1 v529 shapeCasts_S8x1_S8x1
  have v531 : IVec S8x264 1 := broadcastTo S8x264 v530 broadcasts_S8x1_S8x264
  have cst_266 : FVec F S8x264 .f32 := constant S8x264 .f32 0x00000000#32
  have v527 : FVec F S8x264 .f32 := matmul dot_S8x128_S264x128_S8x264_1_1_0_0_n_n none dl w6 cst_266
  have cst_267 : F .f32 := Scalar.ofBits .f32 0x00000000#32
  have v532 : FVec F S8x264 .f32 := broadcast S8x264 cst_267
  have v533 : FVec F S8x264 .f32 := select v531 v527 v532
  have v534 : FVec F S8x264 .f32 := addf v464 v533
  have c7_i32 : BitVec 32 := 7#32
  have v560 : IVec S8x1 32 := broadcast S8x1 c7_i32
  have v561 : IVec S8x1 1 := cmpi .eq v28 v560
  have v562 : IVec S8x1 1 := shapeCast S8x1 v561 shapeCasts_S8x1_S8x1
  have v563 : IVec S8x264 1 := broadcastTo S8x264 v562 broadcasts_S8x1_S8x264
  have cst_273 : FVec F S8x264 .f32 := constant S8x264 .f32 0x00000000#32
  have v559 : FVec F S8x264 .f32 := matmul dot_S8x128_S264x128_S8x264_1_1_0_0_n_n none dl w7 cst_273
  have cst_274 : F .f32 := Scalar.ofBits .f32 0x00000000#32
  have v564 : FVec F S8x264 .f32 := broadcast S8x264 cst_274
  have v565 : FVec F S8x264 .f32 := select v563 v559 v564
  addf v534 v565

/-- The same, keys down and heads across. -/
def gTcol (x : FVec F S8x264 .f32) : FVec F S264x128 .f32 :=
  have v658 : FVec F S8x128 .f32 := extractStridedSlice S8x128 ![0, 0] x slices_S8x264_o0_0_S8x128
  have cst_319 : F .f32 := Scalar.ofBits .f32 0x00000000#32
  have v659 : FVec F S120x128 .f32 := broadcast S120x128 cst_319
  have v660 : FVec F S128x128 .f32 := concatenate S128x128 0 [⟨S8x128, v658⟩, ⟨S120x128, v659⟩] concatenates_S8x128_S120x128_S128x128_d0
  have v661 : FVec F S128x128 .f32 := transpose S128x128 [1, 0] v660 transposes_S128x128_p1_0_S128x128
  have v662 : FVec F S8x128 .f32 := extractStridedSlice S8x128 ![0, 128] x slices_S8x264_o0_128_S8x128
  have cst_320 : F .f32 := Scalar.ofBits .f32 0x00000000#32
  have v663 : FVec F S120x128 .f32 := broadcast S120x128 cst_320
  have v664 : FVec F S128x128 .f32 := concatenate S128x128 0 [⟨S8x128, v662⟩, ⟨S120x128, v663⟩] concatenates_S8x128_S120x128_S128x128_d0
  have v665 : FVec F S128x128 .f32 := transpose S128x128 [1, 0] v664 transposes_S128x128_p1_0_S128x128
  have v666 : FVec F S8x8 .f32 := extractStridedSlice S8x8 ![0, 256] x slices_S8x264_o0_256_S8x8
  have cst_321 : F .f32 := Scalar.ofBits .f32 0x00000000#32
  have v667 : FVec F S8x120 .f32 := broadcast S8x120 cst_321
  have v668 : FVec F S8x128 .f32 := concatenate S8x128 1 [⟨S8x8, v666⟩, ⟨S8x120, v667⟩] concatenates_S8x8_S8x120_S8x128_d1
  have cst_322 : F .f32 := Scalar.ofBits .f32 0x00000000#32
  have v669 : FVec F S120x128 .f32 := broadcast S120x128 cst_322
  have v670 : FVec F S128x128 .f32 := concatenate S128x128 0 [⟨S8x128, v668⟩, ⟨S120x128, v669⟩] concatenates_S8x128_S120x128_S128x128_d0
  have v671 : FVec F S128x128 .f32 := transpose S128x128 [1, 0] v670 transposes_S128x128_p1_0_S128x128
  have v672 : FVec F S8x128 .f32 := extractStridedSlice S8x128 ![0, 0] v671 slices_S128x128_o0_0_S8x128
  concatenate S264x128 0 [⟨S128x128, v661⟩, ⟨S128x128, v665⟩, ⟨S8x128, v672⟩] concatenates_S128x128_S128x128_S8x128_S264x128_d0

/-- The last query's weights, rounded. -/
def gPcol (cc : FVec F S264x128 .f32) (ps : FVec F S1x128 .f32) : FVec F S264x128 .f32 :=
  have v674 : FVec F S1x128 .bf16 := truncf .bf16 ps bitsLt_bf16_f32
  have v675 : FVec F S1x128 .f32 := extf .f32 v674 bitsLt_bf16_f32
  have v676 : FVec F S264x128 .f32 := broadcastTo S264x128 v675 broadcasts_S1x128_S264x128
  have v677 : FVec F S264x128 .f32 := mulf cc v676
  have v678 : FVec F S264x128 .bf16 := truncf .bf16 v677 bitsLt_bf16_f32
  extf .f32 v678 bitsLt_bf16_f32

/-- The last query's weights. -/
def gPhc (cc : FVec F S264x128 .f32) (ps : FVec F S1x128 .f32) : FVec F S264x128 .f32 :=
  have v680 : FVec F S264x128 .f32 := broadcastTo S264x128 ps broadcasts_S1x128_S264x128
  mulf cc v680

/-- The last query's products times the value scale. -/
def gDpv (t : FVec F S264x128 .f32) (vs : FVec F S1x128 .f32) : FVec F S264x128 .f32 :=
  have v682 : FVec F S264x128 .f32 := broadcastTo S264x128 vs broadcasts_S1x128_S264x128
  mulf t v682

/-- The summands of the last query's row sum. -/
def gUc (x : FVec F S264x128 .f32) (y : FVec F S264x128 .f32) : FVec F S264x128 .f32 :=
  mulf x y

/-- The first seventeen groups of eight rows added up. -/
def gPart0c (u : FVec F S264x128 .f32) : FVec F S8x128 .f32 :=
  have v685 : FVec F S8x128 .f32 := extractStridedSlice S8x128 ![0, 0] u slices_S264x128_o0_0_S8x128
  have v686 : FVec F S8x128 .f32 := extractStridedSlice S8x128 ![8, 0] u slices_S264x128_o8_0_S8x128
  have v718 : FVec F S8x128 .f32 := addf v685 v686
  have v687 : FVec F S8x128 .f32 := extractStridedSlice S8x128 ![16, 0] u slices_S264x128_o16_0_S8x128
  have v719 : FVec F S8x128 .f32 := addf v718 v687
  have v688 : FVec F S8x128 .f32 := extractStridedSlice S8x128 ![24, 0] u slices_S264x128_o24_0_S8x128
  have v720 : FVec F S8x128 .f32 := addf v719 v688
  have v689 : FVec F S8x128 .f32 := extractStridedSlice S8x128 ![32, 0] u slices_S264x128_o32_0_S8x128
  have v721 : FVec F S8x128 .f32 := addf v720 v689
  have v690 : FVec F S8x128 .f32 := extractStridedSlice S8x128 ![40, 0] u slices_S264x128_o40_0_S8x128
  have v722 : FVec F S8x128 .f32 := addf v721 v690
  have v691 : FVec F S8x128 .f32 := extractStridedSlice S8x128 ![48, 0] u slices_S264x128_o48_0_S8x128
  have v723 : FVec F S8x128 .f32 := addf v722 v691
  have v692 : FVec F S8x128 .f32 := extractStridedSlice S8x128 ![56, 0] u slices_S264x128_o56_0_S8x128
  have v724 : FVec F S8x128 .f32 := addf v723 v692
  have v693 : FVec F S8x128 .f32 := extractStridedSlice S8x128 ![64, 0] u slices_S264x128_o64_0_S8x128
  have v725 : FVec F S8x128 .f32 := addf v724 v693
  have v694 : FVec F S8x128 .f32 := extractStridedSlice S8x128 ![72, 0] u slices_S264x128_o72_0_S8x128
  have v726 : FVec F S8x128 .f32 := addf v725 v694
  have v695 : FVec F S8x128 .f32 := extractStridedSlice S8x128 ![80, 0] u slices_S264x128_o80_0_S8x128
  have v727 : FVec F S8x128 .f32 := addf v726 v695
  have v696 : FVec F S8x128 .f32 := extractStridedSlice S8x128 ![88, 0] u slices_S264x128_o88_0_S8x128
  have v728 : FVec F S8x128 .f32 := addf v727 v696
  have v697 : FVec F S8x128 .f32 := extractStridedSlice S8x128 ![96, 0] u slices_S264x128_o96_0_S8x128
  have v729 : FVec F S8x128 .f32 := addf v728 v697
  have v698 : FVec F S8x128 .f32 := extractStridedSlice S8x128 ![104, 0] u slices_S264x128_o104_0_S8x128
  have v730 : FVec F S8x128 .f32 := addf v729 v698
  have v699 : FVec F S8x128 .f32 := extractStridedSlice S8x128 ![112, 0] u slices_S264x128_o112_0_S8x128
  have v731 : FVec F S8x128 .f32 := addf v730 v699
  have v700 : FVec F S8x128 .f32 := extractStridedSlice S8x128 ![120, 0] u slices_S264x128_o120_0_S8x128
  have v732 : FVec F S8x128 .f32 := addf v731 v700
  have v701 : FVec F S8x128 .f32 := extractStridedSlice S8x128 ![128, 0] u slices_S264x128_o128_0_S8x128
  addf v732 v701

/-- The last sixteen groups of eight rows added up. -/
def gPart1c (u : FVec F S264x128 .f32) : FVec F S8x128 .f32 :=
  have v702 : FVec F S8x128 .f32 := extractStridedSlice S8x128 ![136, 0] u slices_S264x128_o136_0_S8x128
  have v703 : FVec F S8x128 .f32 := extractStridedSlice S8x128 ![144, 0] u slices_S264x128_o144_0_S8x128
  have v740 : FVec F S8x128 .f32 := addf v702 v703
  have v704 : FVec F S8x128 .f32 := extractStridedSlice S8x128 ![152, 0] u slices_S264x128_o152_0_S8x128
  have v741 : FVec F S8x128 .f32 := addf v740 v704
  have v705 : FVec F S8x128 .f32 := extractStridedSlice S8x128 ![160, 0] u slices_S264x128_o160_0_S8x128
  have v742 : FVec F S8x128 .f32 := addf v741 v705
  have v706 : FVec F S8x128 .f32 := extractStridedSlice S8x128 ![168, 0] u slices_S264x128_o168_0_S8x128
  have v743 : FVec F S8x128 .f32 := addf v742 v706
  have v707 : FVec F S8x128 .f32 := extractStridedSlice S8x128 ![176, 0] u slices_S264x128_o176_0_S8x128
  have v744 : FVec F S8x128 .f32 := addf v743 v707
  have v708 : FVec F S8x128 .f32 := extractStridedSlice S8x128 ![184, 0] u slices_S264x128_o184_0_S8x128
  have v745 : FVec F S8x128 .f32 := addf v744 v708
  have v709 : FVec F S8x128 .f32 := extractStridedSlice S8x128 ![192, 0] u slices_S264x128_o192_0_S8x128
  have v746 : FVec F S8x128 .f32 := addf v745 v709
  have v710 : FVec F S8x128 .f32 := extractStridedSlice S8x128 ![200, 0] u slices_S264x128_o200_0_S8x128
  have v747 : FVec F S8x128 .f32 := addf v746 v710
  have v711 : FVec F S8x128 .f32 := extractStridedSlice S8x128 ![208, 0] u slices_S264x128_o208_0_S8x128
  have v748 : FVec F S8x128 .f32 := addf v747 v711
  have v712 : FVec F S8x128 .f32 := extractStridedSlice S8x128 ![216, 0] u slices_S264x128_o216_0_S8x128
  have v749 : FVec F S8x128 .f32 := addf v748 v712
  have v713 : FVec F S8x128 .f32 := extractStridedSlice S8x128 ![224, 0] u slices_S264x128_o224_0_S8x128
  have v750 : FVec F S8x128 .f32 := addf v749 v713
  have v714 : FVec F S8x128 .f32 := extractStridedSlice S8x128 ![232, 0] u slices_S264x128_o232_0_S8x128
  have v751 : FVec F S8x128 .f32 := addf v750 v714
  have v715 : FVec F S8x128 .f32 := extractStridedSlice S8x128 ![240, 0] u slices_S264x128_o240_0_S8x128
  have v752 : FVec F S8x128 .f32 := addf v751 v715
  have v716 : FVec F S8x128 .f32 := extractStridedSlice S8x128 ![248, 0] u slices_S264x128_o248_0_S8x128
  have v753 : FVec F S8x128 .f32 := addf v752 v716
  have v717 : FVec F S8x128 .f32 := extractStridedSlice S8x128 ![256, 0] u slices_S264x128_o256_0_S8x128
  addf v753 v717

/-- The sum of eight rows, in each of the eight. -/
def gRollc (x : FVec F S8x128 .f32) : FVec F S8x128 .f32 :=
  have c4_i32_323 : BitVec 32 := 4#32
  have v734 : FVec F S8x128 .f32 := dynamicRotate 0 c4_i32_323 none x rotates_S8x128_d0
  have v735 : FVec F S8x128 .f32 := addf x v734
  have c2_i32_324 : BitVec 32 := 2#32
  have v736 : FVec F S8x128 .f32 := dynamicRotate 0 c2_i32_324 none v735 rotates_S8x128_d0
  have v737 : FVec F S8x128 .f32 := addf v735 v736
  have c1_i32_325 : BitVec 32 := 1#32
  have v738 : FVec F S8x128 .f32 := dynamicRotate 0 c1_i32_325 none v737 rotates_S8x128_d0
  addf v737 v738

/-- The sum over the 264 rows, each row of the eight holding it. -/
def gSumc (u : FVec F S264x128 .f32) : FVec F S8x128 .f32 := addf (gRollc (gPart0c u)) (gRollc (gPart1c u))

/-- The last query's score gradient, keys down and heads across. -/
def gDsc (p : FVec F S264x128 .f32) (t : FVec F S264x128 .f32) (s : FVec F S8x128 .f32) : FVec F S264x128 .bf16 :=
  have v762 : FVec F S1x128 .f32 := extractStridedSlice S1x128 ![0, 0] s slices_S8x128_o0_0_S1x128
  have v763 : FVec F S264x128 .f32 := broadcastTo S264x128 v762 broadcasts_S1x128_S264x128
  have v764 : FVec F S264x128 .f32 := subf t v763
  have v765 : FVec F S264x128 .f32 := mulf p v764
  truncf .bf16 v765 bitsLt_bf16_f32

/-- The same widened. -/
def gDsw (x : FVec F S264x128 .bf16) : FVec F S264x128 .f32 :=
  extf .f32 x bitsLt_bf16_f32

/-- The same, heads down, the first 256 keys. -/
def gDsn (x : FVec F S264x128 .bf16) : FVec F S8x256 .bf16 :=
  have v767 : FVec F S256x128 .bf16 := extractStridedSlice S256x128 ![0, 0] x slices_S264x128_o0_0_S256x128
  have v768 : FVec F S256x128 .f32 := extf .f32 v767 bitsLt_bf16_f32
  have v769 : FVec F S128x256 .f32 := transpose S128x256 [1, 0] v768 transposes_S256x128_p1_0_S128x256
  have v770 : FVec F S8x256 .f32 := extractStridedSlice S8x256 ![0, 0] v769 slices_S128x256_o0_0_S8x256
  truncf .bf16 v770 bitsLt_bf16_f32

/-- The last query's score gradient at the last key times that key. -/
def gCorner (x : FVec F S264x128 .f32) (k : Vec F S1x1x8x128 .bf16) : FVec F S8x128 .f32 :=
  have v780 : FVec F S8x128 .f32 := extractStridedSlice S8x128 ![256, 0] x slices_S264x128_o256_0_S8x128
  have cst_337 : F .f32 := Scalar.ofBits .f32 0x00000000#32
  have v781 : FVec F S120x128 .f32 := broadcast S120x128 cst_337
  have v782 : FVec F S128x128 .f32 := concatenate S128x128 0 [⟨S8x128, v780⟩, ⟨S120x128, v781⟩] concatenates_S8x128_S120x128_S128x128_d0
  have v783 : FVec F S128x128 .f32 := transpose S128x128 [1, 0] v782 transposes_S128x128_p1_0_S128x128
  have v784 : FVec F S8x1 .f32 := extractStridedSlice S8x1 ![0, 0] v783 slices_S128x128_o0_0_S8x1
  have v785 : FVec F S8x128 .f32 := broadcastTo S8x128 v784 broadcasts_S8x1_S8x128
  have v778 : FVec F S8x128 .bf16 := shapeCast S8x128 k shapeCasts_S1x1x8x128_S8x128
  have v779 : FVec F S8x128 .f32 := extf .f32 v778 bitsLt_bf16_f32
  mulf v785 v779

end Cert.KernelIdeal.Hand

end
-- ==== Proof.Scratch.lean ====
/-
  What the body reads back from its two scratch buffers: the codes, turned so that keys run down, and the value rows.
-/
module

public import proofs.«01_k».proof.Proof.Inputs
public import Idealize.ShloMosaic.Lib.Pointwise
public import Idealize.ShloMosaic.Lib.BitcastFour
public import Idealize.ShloMosaic.Lib.BitcastPair
public import Idealize.ShloMosaic.Lib.WholeRead
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen

open Idealize.ShloMosaic
open Idealize.ShloMosaic.TcCoe

/-- A byte of the turned words is the code it was: row `r` of the turned words' bytes is head `r % 4` of key `r / 4`. -/
theorem byte_eq (X : Vec Ideal S1x257x8x128 .i8) (V : IVec S128x128 32) (hb : S128x128.Bitcasts 32 S512x128 8)
    (q0 : ℕ) (hq0 : q0 + 128 ≤ 257) (qd : Fin 2)
    (hV : ∀ (a l : Fin 128), V (ix2 a l) = gWord (F := Ideal) X (ix3 (⟨q0 + l.val, by omega⟩ : Fin 257) qd a)) (r : Fin 512) (l : Fin 128) :
    bitcast S512x128 8 V hb (ix2 r l)
      = X (ix4 (0 : Fin 1) (⟨q0 + l.val, by omega⟩ : Fin 257) (⟨4 * qd.val + r.val % 4, by omega⟩ : Fin 8) (⟨r.val / 4, by omega⟩ : Fin 128)) := by
  apply BitVec.eq_of_getLsbD_eq
  intro k hk
  rw [bitcast_getLsbD V hb (ix2 r l) k hk (by decide)]
  have e1 : ∀ hp, hb.srcIdx (ix2 r l) ((S512x128.row (ix2 r l) * 8 + k) / 32) hp = ix2 (⟨r.val / 4, by omega⟩ : Fin 128) l := by
    intro hp
    funext a
    match a with
    | ⟨0, _⟩ =>
      refine Fin.ext ((hb.srcIdx_row _ _ _ ⟨0, Nat.zero_lt_two⟩ rfl).trans ?_)
      show (r.val * 8 + k) / 32 = r.val / 4
      omega
    | ⟨1, _⟩ => exact Fin.ext (hb.srcIdx_other _ _ _ ⟨1, Nat.one_lt_two⟩ (by show ¬ 1 + 2 = 2; omega))
  rw [e1, hV]
  have e2 : (S512x128.row (ix2 r l) * 8 + k) % 32 = 8 * (r.val % 4) + k := by
    show (r.val * 8 + k) % 32 = _
    omega
  rw [e2]
  unfold gWord
  rw [bitcast_8_32_getLsbD _ _ _ _ (by omega)]
  have e3 : ∀ (hw : S257x8x128.Bitcasts 8 S257x2x128 32) (a : Fin 257) (b : Fin 128) hp,
      hw.srcIdx (ix3 a qd b) (4 * S257x2x128.row (ix3 a qd b) + (8 * (r.val % 4) + k) / 8) hp
        = ix3 a (⟨4 * qd.val + r.val % 4, by omega⟩ : Fin 8) b := by
    intro hw a b hp
    funext d
    match d with
    | ⟨0, _⟩ => exact Fin.ext (hw.srcIdx_other _ _ _ ⟨0, by decide⟩ (by show ¬ 0 + 2 = 3; omega))
    | ⟨1, _⟩ =>
      refine Fin.ext ((hw.srcIdx_row _ _ _ ⟨1, by decide⟩ rfl).trans ?_)
      show 4 * qd.val + (8 * (r.val % 4) + k) / 8 = 4 * qd.val + r.val % 4
      omega
    | ⟨2, _⟩ => exact Fin.ext (hw.srcIdx_other _ _ _ ⟨2, by decide⟩ (by show ¬ 2 + 2 = 3; omega))
  rw [e3]
  have e4 : (8 * (r.val % 4) + k) % 8 = k := by omega
  rw [e4]
  congr 1
  pointwise

/-- A word of the codes shifted so that one head's byte comes last, then back with its sign, is that head's code. -/
theorem shift_eq (X : Vec Ideal S1x257x8x128 .i8) (a : Fin 257) (qd : Fin 2) (b : Fin 128) (n : ℕ) (hn : n < 4) :
    IntOp.shrsi .vector (IntOp.shli .vector (gWord (F := Ideal) X (ix3 a qd b)) (BitVec.ofNat 32 (24 - 8 * n))) 24#32
      = (X (ix4 (0 : Fin 1) a (⟨4 * qd.val + n, by omega⟩ : Fin 8) b)).signExtend 32 := by
  have hw : ∀ q, q < 32 → (gWord (F := Ideal) X (ix3 a qd b)).getLsbD q
      = (X (ix4 (0 : Fin 1) a (⟨4 * qd.val + q / 8 % 4, by omega⟩ : Fin 8) b)).getLsbD (q % 8) := by
    intro q hq
    unfold gWord
    rw [bitcast_8_32_getLsbD _ _ _ _ hq]
    have e3 : ∀ (hw : S257x8x128.Bitcasts 8 S257x2x128 32) hp,
        hw.srcIdx (ix3 a qd b) (4 * S257x2x128.row (ix3 a qd b) + q / 8) hp
          = ix3 a (⟨4 * qd.val + q / 8 % 4, by omega⟩ : Fin 8) b := by
      intro hw hp
      funext d
      match d with
      | ⟨0, _⟩ => exact Fin.ext (hw.srcIdx_other _ _ _ ⟨0, by decide⟩ (by show ¬ 0 + 2 = 3; omega))
      | ⟨1, _⟩ =>
        refine Fin.ext ((hw.srcIdx_row _ _ _ ⟨1, by decide⟩ rfl).trans ?_)
        show 4 * qd.val + q / 8 = 4 * qd.val + q / 8 % 4
        omega
      | ⟨2, _⟩ => exact Fin.ext (hw.srcIdx_other _ _ _ ⟨2, by decide⟩ (by show ¬ 2 + 2 = 3; omega))
    rw [e3]
    congr 1
    pointwise
  generalize gWord (F := Ideal) X (ix3 a qd b) = w at hw
  have e : (w.extractLsb' (8 * n) 8) = X (ix4 (0 : Fin 1) a (⟨4 * qd.val + n, by omega⟩ : Fin 8) b) := by
    apply BitVec.eq_of_getLsbD_eq
    intro i hi
    rw [BitVec.getLsbD_extractLsb', decide_eq_true hi, Bool.true_and, hw _ (by omega)]
    have h1 : (8 * n + i) / 8 % 4 = n := by omega
    have h2 : (8 * n + i) % 8 = i := by omega
    simp only [h1, h2]
  rw [← e]
  interval_cases n <;> simp [IntOp.shrsi, IntOp.shli]
  all_goals
    apply BitVec.eq_of_getLsbD_eq
    intro i hi
    interval_cases i <;> simp [BitVec.getElem_sshiftRight, BitVec.getElem_shiftLeft, BitVec.getElem_signExtend, BitVec.getElem_extractLsb', BitVec.msb_eq_getLsbD_last]

theorem sq5 {α : Type} (g : S1x2x512x2x128.Idx → α) (h : S1x2x512x2x128.ShapeCasts S2x512x2x128) (b : Fin 2) (r : Fin 512) (p : Fin 2) (l : Fin 128) :
    shapeCast S2x512x2x128 g h (ix4 b r p l) = g (ix5 (0 : Fin 1) b r p l) := by pointwise

theorem sq4 {α : Type} (g : S1x512x2x128.Idx → α) (h : S1x512x2x128.ShapeCasts S512x2x128) (r : Fin 512) (p : Fin 2) (l : Fin 128) :
    shapeCast S512x2x128 g h (ix3 r p l) = g (ix4 (0 : Fin 1) r p l) := by pointwise

theorem sq4v {α : Type} (g : S1x528x2x128.Idx → α) (h : S1x528x2x128.ShapeCasts S528x2x128) (r : Fin 528) (p : Fin 2) (l : Fin 128) :
    shapeCast S528x2x128 g h (ix3 r p l) = g (ix4 (0 : Fin 1) r p l) := by pointwise

/-- A row of the code scratch seen through one head pair's view. -/
theorem rd12 (M : Memref sig .tc .vmem S2x2x512x2x128 .bf16) (f : M.view.ty.Contents (Elt Ideal)) (q hf s : ℕ) (hq : q < 2) (hh : hf < 2) (hs : s < 2)
    (i1 : ∀ a, (![q, 0, 0, 0, 0] : Fin 5 → ℕ) a + S1x2x512x2x128.size a ≤ S2x2x512x2x128.size a) (p1) (i2 : ∀ a, (![hf, 0, 0, 0] : Fin 4 → ℕ) a + S1x512x2x128.size a ≤ S2x512x2x128.size a) (p2) (i3)
    (hc1 : S1x2x512x2x128.ShapeCasts S2x512x2x128) (hc2 : S1x512x2x128.ShapeCasts S512x2x128)
    (r : Fin 256) (p : Fin 2) (l : Fin 128) :
    View.readAt (Elt Ideal) ((((M.slice (Rect.unit (s := S2x2x512x2x128) ![q, 0, 0, 0, 0] S1x2x512x2x128.size i1) p1).squeeze S2x512x2x128 squeezes_S1x2x512x2x128_S2x512x2x128).slice (Rect.unit (s := S2x512x2x128) ![hf, 0, 0, 0] S1x512x2x128.size i2) p2).squeeze S512x2x128 squeezes_S1x512x2x128_S512x2x128).view
      { off := ![s, 0, 0], size := S256x2x128.size, stride := ![2, 1, 1], inb := i3 } f (ix3 r p l)
      = M.view.read (Elt Ideal) f (ix5 (⟨q, hq⟩ : Fin 2) (⟨hf, hh⟩ : Fin 2) (⟨s + 2 * r.val, by omega⟩ : Fin 512) p l) := by
  refine (congrFun (Memref.read_squeeze_slice ((M.slice (Rect.unit (s := S2x2x512x2x128) ![q, 0, 0, 0, 0] S1x2x512x2x128.size i1) p1).squeeze S2x512x2x128 squeezes_S1x2x512x2x128_S2x512x2x128) (Rect.unit (s := S2x512x2x128) ![hf, 0, 0, 0] S1x512x2x128.size i2) p2 squeezes_S1x512x2x128_S512x2x128 hc2 f) _).trans ?_
  refine (congrArg (shapeCast S512x2x128 _ hc2) (?_ : _ = ix3 (⟨s + 2 * r.val, by omega⟩ : Fin 512) p l)).trans ?_
  · funext a
    match a with
    | ⟨0, _⟩ => rfl
    | ⟨1, _⟩ => exact Fin.ext (by show 0 + 1 * p.val = p.val; omega)
    | ⟨2, _⟩ => exact Fin.ext (by show 0 + 1 * l.val = l.val; omega)
  refine (sq4 _ hc2 _ p l).trans ?_
  refine (congrFun (Memref.read_squeeze_slice M (Rect.unit (s := S2x2x512x2x128) ![q, 0, 0, 0, 0] S1x2x512x2x128.size i1) p1 squeezes_S1x2x512x2x128_S2x512x2x128 hc1 f) _).trans ?_
  refine (congrArg (shapeCast S2x512x2x128 _ hc1) (?_ : _ = ix4 (⟨hf, hh⟩ : Fin 2) (⟨s + 2 * r.val, by omega⟩ : Fin 512) p l)).trans ?_
  · funext a
    match a with
    | ⟨0, _⟩ => rfl
    | ⟨1, _⟩ => exact Fin.ext (by show 0 + 1 * (s + 2 * r.val) = s + 2 * r.val; omega)
    | ⟨2, _⟩ => exact Fin.ext (by show 0 + 1 * p.val = p.val; omega)
    | ⟨3, _⟩ => exact Fin.ext (by show 0 + 1 * l.val = l.val; omega)
  refine (sq5 _ hc1 _ _ p l).trans ?_
  rw [View.readAt_apply]
  congr 1
  funext a
  match a with
  | ⟨0, _⟩ => rfl
  | ⟨1, _⟩ => exact Fin.ext (by show 0 + 1 * hf = hf; omega)
  | ⟨2, _⟩ => exact Fin.ext (by show 0 + 1 * (s + 2 * r.val) = s + 2 * r.val; omega)
  | ⟨3, _⟩ => exact Fin.ext (by show 0 + 1 * p.val = p.val; omega)
  | ⟨4, _⟩ => exact Fin.ext (by show 0 + 1 * l.val = l.val; omega)

/-- A row of the value scratch seen through one head pair's view. -/
theorem rd13 (M : Memref sig .tc .vmem S2x528x2x128 .bf16) (f : M.view.ty.Contents (Elt Ideal)) (q s : ℕ) (hq : q < 2) (hs : s < 2)
    (i1 : ∀ a, (![q, 0, 0, 0] : Fin 4 → ℕ) a + S1x528x2x128.size a ≤ S2x528x2x128.size a) (p1) (i3)
    (hc1 : S1x528x2x128.ShapeCasts S528x2x128)
    (r : Fin 264) (p : Fin 2) (l : Fin 128) :
    View.readAt (Elt Ideal) ((M.slice (Rect.unit (s := S2x528x2x128) ![q, 0, 0, 0] S1x528x2x128.size i1) p1).squeeze S528x2x128 squeezes_S1x528x2x128_S528x2x128).view
      { off := ![s, 0, 0], size := S264x2x128.size, stride := ![2, 1, 1], inb := i3 } f (ix3 r p l)
      = M.view.read (Elt Ideal) f (ix4 (⟨q, hq⟩ : Fin 2) (⟨s + 2 * r.val, by omega⟩ : Fin 528) p l) := by
  refine (congrFun (Memref.read_squeeze_slice M (Rect.unit (s := S2x528x2x128) ![q, 0, 0, 0] S1x528x2x128.size i1) p1 squeezes_S1x528x2x128_S528x2x128 hc1 f) _).trans ?_
  refine (congrArg (shapeCast S528x2x128 _ hc1) (?_ : _ = ix3 (⟨s + 2 * r.val, by omega⟩ : Fin 528) p l)).trans ?_
  · funext a
    match a with
    | ⟨0, _⟩ => rfl
    | ⟨1, _⟩ => exact Fin.ext (by show 0 + 1 * p.val = p.val; omega)
    | ⟨2, _⟩ => exact Fin.ext (by show 0 + 1 * l.val = l.val; omega)
  refine (sq4v _ hc1 _ p l).trans ?_
  rw [View.readAt_apply]
  congr 1
  funext a
  match a with
  | ⟨0, _⟩ => rfl
  | ⟨1, _⟩ => exact Fin.ext (by show 0 + 1 * (s + 2 * r.val) = s + 2 * r.val; omega)
  | ⟨2, _⟩ => exact Fin.ext (by show 0 + 1 * p.val = p.val; omega)
  | ⟨3, _⟩ => exact Fin.ext (by show 0 + 1 * l.val = l.val; omega)

end Cert.KernelIdeal.Hand
-- ==== Proof.Heads.lean ====
/-
  Each result the body stores, as the stages of `Stages.lean` and `Inputs.lean` applied to the loaded blocks.
-/

module

public import proofs.«01_k».proof.Proof.Inputs

@[expose] public section

noncomputable section

namespace Cert.KernelIdeal.Hand

open Cert.KernelIdeal Cert.KernelIdeal.Gen

open Idealize.ShloMosaic
open Idealize.ShloMosaic.TcCoe

variable {F : FTy → Type} [FloatOps F]

/-- What the body reads at a grid point: the input buffers, with the blocks they hold, and the two scratch buffers. -/
structure In (F : FTy → Type) [FloatOps F] (c : Dev nD) where
  M0 : Memref sig .tc .vmem S1x257x8x128 .bf16
  h0 : M0.IsWhole
  X0 : Vec F S1x257x8x128 .bf16
  M1 : Memref sig .tc .vmem S1x257x8x128 .bf16
  h1 : M1.IsWhole
  X1 : Vec F S1x257x8x128 .bf16
  M2 : Memref sig .tc .vmem S1x257x8x128 .i8
  h2 : M2.IsWhole
  X2 : Vec F S1x257x8x128 .i8
  M3 : Memref sig .tc .vmem S1x257x8x128 .i8
  h3 : M3.IsWhole
  X3 : Vec F S1x257x8x128 .i8
  M4 : Memref sig .tc .vmem S1x257x8x128 .i8
  h4 : M4.IsWhole
  X4 : Vec F S1x257x8x128 .i8
  M5 : Memref sig .tc .vmem S1x8x257 .f32
  h5 : M5.IsWhole
  X5 : Vec F S1x8x257 .f32
  M6 : Memref sig .tc .vmem S1x257x8x128 .fp8e4m3
  h6 : M6.IsWhole
  X6 : Vec F S1x257x8x128 .fp8e4m3
  M7 : Memref sig .tc .smem S1x1x8 .f32
  h7 : M7.IsWhole
  X7 : Vec F S1x1x8 .f32
  M8 : Memref sig .tc .vmem S1x257x8x128 .bf16
  h8 : M8.IsWhole
  X8 : Vec F S1x257x8x128 .bf16
  M12 : Memref sig .tc .vmem S2x2x512x2x128 .bf16
  h12 : M12.IsWhole
  f12 : Bf (F := F) c M12
  M13 : Memref sig .tc .vmem S2x528x2x128 .bf16
  h13 : M13.IsWhole
  f13 : Bf (F := F) c M13

variable {c : Dev nD}

/-- Input buffer 0's contents. -/
abbrev In.f0 (x : In F c) : Bf (F := F) c x.M0 := x.h0.unread x.X0
/-- Input buffer 1's contents. -/
abbrev In.f1 (x : In F c) : Bf (F := F) c x.M1 := x.h1.unread x.X1
/-- Input buffer 2's contents. -/
abbrev In.f2 (x : In F c) : Bf (F := F) c x.M2 := x.h2.unread x.X2
/-- Input buffer 3's contents. -/
abbrev In.f3 (x : In F c) : Bf (F := F) c x.M3 := x.h3.unread x.X3
/-- Input buffer 4's contents. -/
abbrev In.f4 (x : In F c) : Bf (F := F) c x.M4 := x.h4.unread x.X4
/-- Input buffer 5's contents. -/
abbrev In.f5 (x : In F c) : Bf (F := F) c x.M5 := x.h5.unread x.X5
/-- Input buffer 6's contents. -/
abbrev In.f6 (x : In F c) : Bf (F := F) c x.M6 := x.h6.unread x.X6
/-- Input buffer 7's contents. -/
abbrev In.f7 (x : In F c) : Bf (F := F) c x.M7 := x.h7.unread x.X7
/-- Input buffer 8's contents. -/
abbrev In.f8 (x : In F c) : Bf (F := F) c x.M8 := x.h8.unread x.X8
/-- Head 0's codes. -/
def codes0 (x : In F c) : FVec F S264x256 .f32 :=
  gCodesLo (kernelRun.sl.v130_raw c x.M2 x.M3 x.M12 x.f2 x.f3 x.f12) (kernelRun.sl.v135_raw c x.M2 x.M3 x.M12 x.f2 x.f3 x.f12) (gShl (gEdge0 (gWord (View.readAt (Elt F) x.M4.view (Rect.unit (s := S1x257x8x128) ![0, 0, 0, 0] S1x257x8x128.size inb_S1x257x8x128_S1x257x8x128_0_0_0_0).toLoadRect x.f4))) 24#32)

/-- Head 0's value rows. -/
def val0 (x : In F c) : FVec F S264x128 .bf16 :=
  gVLo (kernelRun.sl.v105_raw c x.M6 x.M13 x.f6 x.f13)

/-- Head 0's output gradient rows. -/
def dO0 (x : In F c) : FVec F S256x128 .bf16 :=
  gDoLo (View.readAt (Elt F) x.M8.view (Rect.unit (s := S1x257x8x128) ![0, 0, 0, 0] S1x256x2x128.size inb_S1x257x8x128_S1x256x2x128_0_0_0_0).toLoadRect x.f8)

/-- Head 0's query rows. -/
def qr0 (x : In F c) : FVec F S256x128 .bf16 :=
  gQLo (View.readAt (Elt F) x.M0.view (Rect.unit (s := S1x257x8x128) ![0, 0, 0, 0] S1x256x2x128.size inb_S1x257x8x128_S1x256x2x128_0_0_0_0).toLoadRect x.f0)

/-- Head 0's keys, transposed. -/
def kt0 (x : In F c) : FVec F S104x256 .bf16 :=
  gKLo (View.readAt (Elt F) x.M1.view (Rect.unit (s := S1x257x8x128) ![0, 0, 0, 0] S1x256x2x128.size inb_S1x257x8x128_S1x256x2x128_0_0_0_0).toLoadRect x.f1)

/-- Head 0's last key row. -/
def kl0 (x : In F c) : FVec F S1x128 .f32 :=
  gKlLo (View.readAt (Elt F) x.M1.view (Rect.unit (s := S1x257x8x128) ![0, 256, 0, 0] S1x1x2x128.size inb_S1x257x8x128_S1x1x2x128_0_256_0_0).toLoadRect x.f1)

/-- Head 0's row scales. -/
def ps0 (x : In F c) : Vec F S1x1x256 .f32 :=
  (View.readAt (Elt F) x.M5.view (Rect.unit (s := S1x8x257) ![0, 0, 0] S1x1x256.size inb_S1x8x257_S1x1x256_0_0_0).toLoadRect x.f5)

/-- Head 0's value scale. -/
def vs0 (x : In F c) : Elt F .f32 :=
  (View.readAt (Elt F) x.M7.view (Rect.unit (s := S1x1x8) ![0, 0, 0] S1x1x1.size inb_S1x1x8_S1x1x1_0_0_0).toLoadRect x.f7) (Shape.Idx.first (by decide))

/-- Head 1's codes. -/
def codes1 (x : In F c) : FVec F S264x256 .f32 :=
  gCodesHi (kernelRun.sl.v130_raw c x.M2 x.M3 x.M12 x.f2 x.f3 x.f12) (kernelRun.sl.v135_raw c x.M2 x.M3 x.M12 x.f2 x.f3 x.f12) (gShl (gEdge0 (gWord (View.readAt (Elt F) x.M4.view (Rect.unit (s := S1x257x8x128) ![0, 0, 0, 0] S1x257x8x128.size inb_S1x257x8x128_S1x257x8x128_0_0_0_0).toLoadRect x.f4))) 16#32)

/-- Head 1's value rows. -/
def val1 (x : In F c) : FVec F S264x128 .bf16 :=
  gVHi (kernelRun.sl.v105_raw c x.M6 x.M13 x.f6 x.f13)

/-- Head 1's output gradient rows. -/
def dO1 (x : In F c) : FVec F S256x128 .bf16 :=
  gDoHi (View.readAt (Elt F) x.M8.view (Rect.unit (s := S1x257x8x128) ![0, 0, 0, 0] S1x256x2x128.size inb_S1x257x8x128_S1x256x2x128_0_0_0_0).toLoadRect x.f8)

/-- Head 1's query rows. -/
def qr1 (x : In F c) : FVec F S256x128 .bf16 :=
  gQHi (View.readAt (Elt F) x.M0.view (Rect.unit (s := S1x257x8x128) ![0, 0, 0, 0] S1x256x2x128.size inb_S1x257x8x128_S1x256x2x128_0_0_0_0).toLoadRect x.f0)

/-- Head 1's keys, transposed. -/
def kt1 (x : In F c) : FVec F S104x256 .bf16 :=
  gKHi (View.readAt (Elt F) x.M1.view (Rect.unit (s := S1x257x8x128) ![0, 0, 0, 0] S1x256x2x128.size inb_S1x257x8x128_S1x256x2x128_0_0_0_0).toLoadRect x.f1)

/-- Head 1's last key row. -/
def kl1 (x : In F c) : FVec F S1x128 .f32 :=
  gKlHi (View.readAt (Elt F) x.M1.view (Rect.unit (s := S1x257x8x128) ![0, 256, 0, 0] S1x1x2x128.size inb_S1x257x8x128_S1x1x2x128_0_256_0_0).toLoadRect x.f1)

/-- Head 1's row scales. -/
def ps1 (x : In F c) : Vec F S1x1x256 .f32 :=
  (View.readAt (Elt F) x.M5.view (Rect.unit (s := S1x8x257) ![0, 1, 0] S1x1x256.size inb_S1x8x257_S1x1x256_0_1_0).toLoadRect x.f5)

/-- Head 1's value scale. -/
def vs1 (x : In F c) : Elt F .f32 :=
  (View.readAt (Elt F) x.M7.view (Rect.unit (s := S1x1x8) ![0, 0, 1] S1x1x1.size inb_S1x1x8_S1x1x1_0_0_1).toLoadRect x.f7) (Shape.Idx.first (by decide))

/-- Head 2's codes. -/
def codes2 (x : In F c) : FVec F S264x256 .f32 :=
  gCodesLo (kernelRun.sl.v231_raw c x.M2 x.M3 x.M12 x.f2 x.f3 x.f12) (kernelRun.sl.v236_raw c x.M2 x.M3 x.M12 x.f2 x.f3 x.f12) (gShl (gEdge0 (gWord (View.readAt (Elt F) x.M4.view (Rect.unit (s := S1x257x8x128) ![0, 0, 0, 0] S1x257x8x128.size inb_S1x257x8x128_S1x257x8x128_0_0_0_0).toLoadRect x.f4))) 8#32)

/-- Head 2's value rows. -/
def val2 (x : In F c) : FVec F S264x128 .bf16 :=
  gVLo (kernelRun.sl.v206_raw c x.M6 x.M13 x.f6 x.f13)

/-- Head 2's output gradient rows. -/
def dO2 (x : In F c) : FVec F S256x128 .bf16 :=
  gDoLo (View.readAt (Elt F) x.M8.view (Rect.unit (s := S1x257x8x128) ![0, 0, 2, 0] S1x256x2x128.size inb_S1x257x8x128_S1x256x2x128_0_0_2_0).toLoadRect x.f8)

/-- Head 2's query rows. -/
def qr2 (x : In F c) : FVec F S256x128 .bf16 :=
  gQLo (View.readAt (Elt F) x.M0.view (Rect.unit (s := S1x257x8x128) ![0, 0, 2, 0] S1x256x2x128.size inb_S1x257x8x128_S1x256x2x128_0_0_2_0).toLoadRect x.f0)

/-- Head 2's keys, transposed. -/
def kt2 (x : In F c) : FVec F S104x256 .bf16 :=
  gKLo (View.readAt (Elt F) x.M1.view (Rect.unit (s := S1x257x8x128) ![0, 0, 2, 0] S1x256x2x128.size inb_S1x257x8x128_S1x256x2x128_0_0_2_0).toLoadRect x.f1)

/-- Head 2's last key row. -/
def kl2 (x : In F c) : FVec F S1x128 .f32 :=
  gKlLo (View.readAt (Elt F) x.M1.view (Rect.unit (s := S1x257x8x128) ![0, 256, 2, 0] S1x1x2x128.size inb_S1x257x8x128_S1x1x2x128_0_256_2_0).toLoadRect x.f1)

/-- Head 2's row scales. -/
def ps2 (x : In F c) : Vec F S1x1x256 .f32 :=
  (View.readAt (Elt F) x.M5.view (Rect.unit (s := S1x8x257) ![0, 2, 0] S1x1x256.size inb_S1x8x257_S1x1x256_0_2_0).toLoadRect x.f5)

/-- Head 2's value scale. -/
def vs2 (x : In F c) : Elt F .f32 :=
  (View.readAt (Elt F) x.M7.view (Rect.unit (s := S1x1x8) ![0, 0, 2] S1x1x1.size inb_S1x1x8_S1x1x1_0_0_2).toLoadRect x.f7) (Shape.Idx.first (by decide))

/-- Head 3's codes. -/
def codes3 (x : In F c) : FVec F S264x256 .f32 :=
  gCodesHi (kernelRun.sl.v231_raw c x.M2 x.M3 x.M12 x.f2 x.f3 x.f12) (kernelRun.sl.v236_raw c x.M2 x.M3 x.M12 x.f2 x.f3 x.f12) (gShl (gEdge0 (gWord (View.readAt (Elt F) x.M4.view (Rect.unit (s := S1x257x8x128) ![0, 0, 0, 0] S1x257x8x128.size inb_S1x257x8x128_S1x257x8x128_0_0_0_0).toLoadRect x.f4))) 0#32)

/-- Head 3's value rows. -/
def val3 (x : In F c) : FVec F S264x128 .bf16 :=
  gVHi (kernelRun.sl.v206_raw c x.M6 x.M13 x.f6 x.f13)

/-- Head 3's output gradient rows. -/
def dO3 (x : In F c) : FVec F S256x128 .bf16 :=
  gDoHi (View.readAt (Elt F) x.M8.view (Rect.unit (s := S1x257x8x128) ![0, 0, 2, 0] S1x256x2x128.size inb_S1x257x8x128_S1x256x2x128_0_0_2_0).toLoadRect x.f8)

/-- Head 3's query rows. -/
def qr3 (x : In F c) : FVec F S256x128 .bf16 :=
  gQHi (View.readAt (Elt F) x.M0.view (Rect.unit (s := S1x257x8x128) ![0, 0, 2, 0] S1x256x2x128.size inb_S1x257x8x128_S1x256x2x128_0_0_2_0).toLoadRect x.f0)

/-- Head 3's keys, transposed. -/
def kt3 (x : In F c) : FVec F S104x256 .bf16 :=
  gKHi (View.readAt (Elt F) x.M1.view (Rect.unit (s := S1x257x8x128) ![0, 0, 2, 0] S1x256x2x128.size inb_S1x257x8x128_S1x256x2x128_0_0_2_0).toLoadRect x.f1)

/-- Head 3's last key row. -/
def kl3 (x : In F c) : FVec F S1x128 .f32 :=
  gKlHi (View.readAt (Elt F) x.M1.view (Rect.unit (s := S1x257x8x128) ![0, 256, 2, 0] S1x1x2x128.size inb_S1x257x8x128_S1x1x2x128_0_256_2_0).toLoadRect x.f1)

/-- Head 3's row scales. -/
def ps3 (x : In F c) : Vec F S1x1x256 .f32 :=
  (View.readAt (Elt F) x.M5.view (Rect.unit (s := S1x8x257) ![0, 3, 0] S1x1x256.size inb_S1x8x257_S1x1x256_0_3_0).toLoadRect x.f5)

/-- Head 3's value scale. -/
def vs3 (x : In F c) : Elt F .f32 :=
  (View.readAt (Elt F) x.M7.view (Rect.unit (s := S1x1x8) ![0, 0, 3] S1x1x1.size inb_S1x1x8_S1x1x1_0_0_3).toLoadRect x.f7) (Shape.Idx.first (by decide))

/-- Head 4's codes. -/
def codes4 (x : In F c) : FVec F S264x256 .f32 :=
  gCodesLo (kernelRun.sl.v407_raw c x.M2 x.M3 x.M12 x.f2 x.f3) (kernelRun.sl.v412_raw c x.M2 x.M3 x.M12 x.f2 x.f3) (gShl (gEdge1 (gWord (View.readAt (Elt F) x.M4.view (Rect.unit (s := S1x257x8x128) ![0, 0, 0, 0] S1x257x8x128.size inb_S1x257x8x128_S1x257x8x128_0_0_0_0).toLoadRect x.f4))) 24#32)

/-- Head 4's value rows. -/
def val4 (x : In F c) : FVec F S264x128 .bf16 :=
  gVLo (kernelRun.sl.v382_raw c x.M6 x.M13 x.f6)

/-- Head 4's output gradient rows. -/
def dO4 (x : In F c) : FVec F S256x128 .bf16 :=
  gDoLo (View.readAt (Elt F) x.M8.view (Rect.unit (s := S1x257x8x128) ![0, 0, 4, 0] S1x256x2x128.size inb_S1x257x8x128_S1x256x2x128_0_0_4_0).toLoadRect x.f8)

/-- Head 4's query rows. -/
def qr4 (x : In F c) : FVec F S256x128 .bf16 :=
  gQLo (View.readAt (Elt F) x.M0.view (Rect.unit (s := S1x257x8x128) ![0, 0, 4, 0] S1x256x2x128.size inb_S1x257x8x128_S1x256x2x128_0_0_4_0).toLoadRect x.f0)

/-- Head 4's keys, transposed. -/
def kt4 (x : In F c) : FVec F S104x256 .bf16 :=
  gKLo (View.readAt (Elt F) x.M1.view (Rect.unit (s := S1x257x8x128) ![0, 0, 4, 0] S1x256x2x128.size inb_S1x257x8x128_S1x256x2x128_0_0_4_0).toLoadRect x.f1)

/-- Head 4's last key row. -/
def kl4 (x : In F c) : FVec F S1x128 .f32 :=
  gKlLo (View.readAt (Elt F) x.M1.view (Rect.unit (s := S1x257x8x128) ![0, 256, 4, 0] S1x1x2x128.size inb_S1x257x8x128_S1x1x2x128_0_256_4_0).toLoadRect x.f1)

/-- Head 4's row scales. -/
def ps4 (x : In F c) : Vec F S1x1x256 .f32 :=
  (View.readAt (Elt F) x.M5.view (Rect.unit (s := S1x8x257) ![0, 4, 0] S1x1x256.size inb_S1x8x257_S1x1x256_0_4_0).toLoadRect x.f5)

/-- Head 4's value scale. -/
def vs4 (x : In F c) : Elt F .f32 :=
  (View.readAt (Elt F) x.M7.view (Rect.unit (s := S1x1x8) ![0, 0, 4] S1x1x1.size inb_S1x1x8_S1x1x1_0_0_4).toLoadRect x.f7) (Shape.Idx.first (by decide))

/-- Head 5's codes. -/
def codes5 (x : In F c) : FVec F S264x256 .f32 :=
  gCodesHi (kernelRun.sl.v407_raw c x.M2 x.M3 x.M12 x.f2 x.f3) (kernelRun.sl.v412_raw c x.M2 x.M3 x.M12 x.f2 x.f3) (gShl (gEdge1 (gWord (View.readAt (Elt F) x.M4.view (Rect.unit (s := S1x257x8x128) ![0, 0, 0, 0] S1x257x8x128.size inb_S1x257x8x128_S1x257x8x128_0_0_0_0).toLoadRect x.f4))) 16#32)

/-- Head 5's value rows. -/
def val5 (x : In F c) : FVec F S264x128 .bf16 :=
  gVHi (kernelRun.sl.v382_raw c x.M6 x.M13 x.f6)

/-- Head 5's output gradient rows. -/
def dO5 (x : In F c) : FVec F S256x128 .bf16 :=
  gDoHi (View.readAt (Elt F) x.M8.view (Rect.unit (s := S1x257x8x128) ![0, 0, 4, 0] S1x256x2x128.size inb_S1x257x8x128_S1x256x2x128_0_0_4_0).toLoadRect x.f8)

/-- Head 5's query rows. -/
def qr5 (x : In F c) : FVec F S256x128 .bf16 :=
  gQHi (View.readAt (Elt F) x.M0.view (Rect.unit (s := S1x257x8x128) ![0, 0, 4, 0] S1x256x2x128.size inb_S1x257x8x128_S1x256x2x128_0_0_4_0).toLoadRect x.f0)

/-- Head 5's keys, transposed. -/
def kt5 (x : In F c) : FVec F S104x256 .bf16 :=
  gKHi (View.readAt (Elt F) x.M1.view (Rect.unit (s := S1x257x8x128) ![0, 0, 4, 0] S1x256x2x128.size inb_S1x257x8x128_S1x256x2x128_0_0_4_0).toLoadRect x.f1)

/-- Head 5's last key row. -/
def kl5 (x : In F c) : FVec F S1x128 .f32 :=
  gKlHi (View.readAt (Elt F) x.M1.view (Rect.unit (s := S1x257x8x128) ![0, 256, 4, 0] S1x1x2x128.size inb_S1x257x8x128_S1x1x2x128_0_256_4_0).toLoadRect x.f1)

/-- Head 5's row scales. -/
def ps5 (x : In F c) : Vec F S1x1x256 .f32 :=
  (View.readAt (Elt F) x.M5.view (Rect.unit (s := S1x8x257) ![0, 5, 0] S1x1x256.size inb_S1x8x257_S1x1x256_0_5_0).toLoadRect x.f5)

/-- Head 5's value scale. -/
def vs5 (x : In F c) : Elt F .f32 :=
  (View.readAt (Elt F) x.M7.view (Rect.unit (s := S1x1x8) ![0, 0, 5] S1x1x1.size inb_S1x1x8_S1x1x1_0_0_5).toLoadRect x.f7) (Shape.Idx.first (by decide))

/-- Head 6's codes. -/
def codes6 (x : In F c) : FVec F S264x256 .f32 :=
  gCodesLo (kernelRun.sl.v509_raw c x.M2 x.M3 x.M12 x.f2 x.f3) (kernelRun.sl.v514_raw c x.M2 x.M3 x.M12 x.f2 x.f3) (gShl (gEdge1 (gWord (View.readAt (Elt F) x.M4.view (Rect.unit (s := S1x257x8x128) ![0, 0, 0, 0] S1x257x8x128.size inb_S1x257x8x128_S1x257x8x128_0_0_0_0).toLoadRect x.f4))) 8#32)

/-- Head 6's value rows. -/
def val6 (x : In F c) : FVec F S264x128 .bf16 :=
  gVLo (kernelRun.sl.v484_raw c x.M6 x.M13 x.f6)

/-- Head 6's output gradient rows. -/
def dO6 (x : In F c) : FVec F S256x128 .bf16 :=
  gDoLo (View.readAt (Elt F) x.M8.view (Rect.unit (s := S1x257x8x128) ![0, 0, 6, 0] S1x256x2x128.size inb_S1x257x8x128_S1x256x2x128_0_0_6_0).toLoadRect x.f8)

/-- Head 6's query rows. -/
def qr6 (x : In F c) : FVec F S256x128 .bf16 :=
  gQLo (View.readAt (Elt F) x.M0.view (Rect.unit (s := S1x257x8x128) ![0, 0, 6, 0] S1x256x2x128.size inb_S1x257x8x128_S1x256x2x128_0_0_6_0).toLoadRect x.f0)

/-- Head 6's keys, transposed. -/
def kt6 (x : In F c) : FVec F S104x256 .bf16 :=
  gKLo (View.readAt (Elt F) x.M1.view (Rect.unit (s := S1x257x8x128) ![0, 0, 6, 0] S1x256x2x128.size inb_S1x257x8x128_S1x256x2x128_0_0_6_0).toLoadRect x.f1)

/-- Head 6's last key row. -/
def kl6 (x : In F c) : FVec F S1x128 .f32 :=
  gKlLo (View.readAt (Elt F) x.M1.view (Rect.unit (s := S1x257x8x128) ![0, 256, 6, 0] S1x1x2x128.size inb_S1x257x8x128_S1x1x2x128_0_256_6_0).toLoadRect x.f1)

/-- Head 6's row scales. -/
def ps6 (x : In F c) : Vec F S1x1x256 .f32 :=
  (View.readAt (Elt F) x.M5.view (Rect.unit (s := S1x8x257) ![0, 6, 0] S1x1x256.size inb_S1x8x257_S1x1x256_0_6_0).toLoadRect x.f5)

/-- Head 6's value scale. -/
def vs6 (x : In F c) : Elt F .f32 :=
  (View.readAt (Elt F) x.M7.view (Rect.unit (s := S1x1x8) ![0, 0, 6] S1x1x1.size inb_S1x1x8_S1x1x1_0_0_6).toLoadRect x.f7) (Shape.Idx.first (by decide))

/-- Head 7's codes. -/
def codes7 (x : In F c) : FVec F S264x256 .f32 :=
  gCodesHi (kernelRun.sl.v509_raw c x.M2 x.M3 x.M12 x.f2 x.f3) (kernelRun.sl.v514_raw c x.M2 x.M3 x.M12 x.f2 x.f3) (gShl (gEdge1 (gWord (View.readAt (Elt F) x.M4.view (Rect.unit (s := S1x257x8x128) ![0, 0, 0, 0] S1x257x8x128.size inb_S1x257x8x128_S1x257x8x128_0_0_0_0).toLoadRect x.f4))) 0#32)

/-- Head 7's value rows. -/
def val7 (x : In F c) : FVec F S264x128 .bf16 :=
  gVHi (kernelRun.sl.v484_raw c x.M6 x.M13 x.f6)

/-- Head 7's output gradient rows. -/
def dO7 (x : In F c) : FVec F S256x128 .bf16 :=
  gDoHi (View.readAt (Elt F) x.M8.view (Rect.unit (s := S1x257x8x128) ![0, 0, 6, 0] S1x256x2x128.size inb_S1x257x8x128_S1x256x2x128_0_0_6_0).toLoadRect x.f8)

/-- Head 7's query rows. -/
def qr7 (x : In F c) : FVec F S256x128 .bf16 :=
  gQHi (View.readAt (Elt F) x.M0.view (Rect.unit (s := S1x257x8x128) ![0, 0, 6, 0] S1x256x2x128.size inb_S1x257x8x128_S1x256x2x128_0_0_6_0).toLoadRect x.f0)

/-- Head 7's keys, transposed. -/
def kt7 (x : In F c) : FVec F S104x256 .bf16 :=
  gKHi (View.readAt (Elt F) x.M1.view (Rect.unit (s := S1x257x8x128) ![0, 0, 6, 0] S1x256x2x128.size inb_S1x257x8x128_S1x256x2x128_0_0_6_0).toLoadRect x.f1)

/-- Head 7's last key row. -/
def kl7 (x : In F c) : FVec F S1x128 .f32 :=
  gKlHi (View.readAt (Elt F) x.M1.view (Rect.unit (s := S1x257x8x128) ![0, 256, 6, 0] S1x1x2x128.size inb_S1x257x8x128_S1x1x2x128_0_256_6_0).toLoadRect x.f1)

/-- Head 7's row scales. -/
def ps7 (x : In F c) : Vec F S1x1x256 .f32 :=
  (View.readAt (Elt F) x.M5.view (Rect.unit (s := S1x8x257) ![0, 7, 0] S1x1x256.size inb_S1x8x257_S1x1x256_0_7_0).toLoadRect x.f5)

/-- Head 7's value scale. -/
def vs7 (x : In F c) : Elt F .f32 :=
  (View.readAt (Elt F) x.M7.view (Rect.unit (s := S1x1x8) ![0, 0, 7] S1x1x1.size inb_S1x1x8_S1x1x1_0_0_7).toLoadRect x.f7) (Shape.Idx.first (by decide))

/-- The last output gradient rows. -/
def doLast (x : In F c) : FVec F S8x128 .bf16 :=
  gDoLast (View.readAt (Elt F) x.M8.view (Rect.unit (s := S1x257x8x128) ![0, 256, 0, 0] S1x1x8x128.size inb_S1x257x8x128_S1x1x8x128_0_256_0_0).toLoadRect x.f8)

/-- The last query rows. -/
def qLast (x : In F c) : FVec F S8x128 .f32 :=
  gQl (View.readAt (Elt F) x.M0.view (Rect.unit (s := S1x257x8x128) ![0, 256, 0, 0] S1x1x8x128.size inb_S1x257x8x128_S1x1x8x128_0_256_0_0).toLoadRect x.f0)

/-- The last query's scales. -/
def psRow (x : In F c) : FVec F S1x128 .f32 :=
  gPsRow (View.readAt (Elt F) x.M5.view (Rect.unit (s := S1x8x257) ![0, 0, 256] S1x8x1.size inb_S1x8x257_S1x8x1_0_0_256).toLoadRect x.f5)

/-- The value scales. -/
def vsRow (x : In F c) : FVec F S1x128 .f32 :=
  gVsRow (vs0 x) (vs1 x) (vs2 x) (vs3 x) (vs4 x) (vs5 x) (vs6 x) (vs7 x)

/-- The last query's codes. -/
def cCol (x : In F c) : FVec F S264x128 .f32 :=
  gCcol (View.readAt (Elt F) x.M2.view (Rect.unit (s := S1x257x8x128) ![0, 256, 0, 0] S1x1x8x128.size inb_S1x257x8x128_S1x1x8x128_0_256_0_0).toLoadRect x.f2) (View.readAt (Elt F) x.M3.view (Rect.unit (s := S1x257x8x128) ![0, 256, 0, 0] S1x1x8x128.size inb_S1x257x8x128_S1x1x8x128_0_256_0_0).toLoadRect x.f3) (View.readAt (Elt F) x.M4.view (Rect.unit (s := S1x257x8x128) ![0, 256, 0, 0] S1x1x8x128.size inb_S1x257x8x128_S1x1x8x128_0_256_0_0).toLoadRect x.f4)

/-- The last query's products. -/
def dpl (x : In F c) : FVec F S8x264 .f32 :=
  gDpl (doLast x) (val0 x) (val1 x) (val2 x) (val3 x) (val4 x) (val5 x) (val6 x) (val7 x)

/-- The last query's rounded weights. -/
def pCol (x : In F c) : FVec F S264x128 .f32 :=
  gPcol (cCol x) (psRow x)

/-- The last query's weights. -/
def phc (x : In F c) : FVec F S264x128 .f32 :=
  gPhc (cCol x) (psRow x)

/-- The last query's scaled products. -/
def dpv (x : In F c) : FVec F S264x128 .f32 :=
  gDpv (gTcol (dpl x)) (vsRow x)

/-- The last query's score gradient. -/
def dsc (x : In F c) : FVec F S264x128 .bf16 :=
  gDsc (phc x) (dpv x) (gSumc (gUc (dpv x) (phc x)))

/-- Head 0's products. -/
def dp0 (x : In F c) : FVec F S264x256 .f32 :=
  gDp (val0 x) (dO0 x)

/-- Head 0's weights times the value scale. -/
def ph0 (x : In F c) : FVec F S264x256 .f32 :=
  gPh (codes0 x) (gPsv (ps0 x) (vs0 x))

/-- Head 0's score gradient. -/
def ds0 (x : In F c) : FVec F S264x256 .bf16 :=
  gDs (ph0 x) (dp0 x) (gDsum (gSum (gU (dp0 x) (ph0 x))) (gInv (vs0 x)))

/-- Head 0's key gradient. -/
def dk0 (x : In F c) : FVec F S264x128 .f32 :=
  gDk (ds0 x) (qr0 x) (extractStridedSlice S264x1 ![0, 0] (gDsw (dsc x)) slices_S264x128_o0_0_S264x1) (extractStridedSlice S1x128 ![0, 0] (qLast x) slices_S8x128_o0_0_S1x128)

/-- Head 0's value gradient. -/
def dv0 (x : In F c) : FVec F S264x128 .f32 :=
  gDv (codes0 x) (gPsb (ps0 x)) (dO0 x) (extractStridedSlice S264x1 ![0, 0] (pCol x) slices_S264x128_o0_0_S264x1) (extractStridedSlice S1x128 ![0, 0] (gWide (doLast x)) slices_S8x128_o0_0_S1x128)

/-- Head 0's query gradient, transposed. -/
def dqt0 (x : In F c) : FVec F S104x256 .f32 :=
  gDqt (kt0 x) (ds0 x) (gKcol (kl0 x))

/-- Head 0's part of the last query's gradient. -/
def dql0 (x : In F c) : FVec F S8x128 .f32 :=
  gDql (gDsn (dsc x)) (kt0 x) (iota .tc S8x1 32 [0] iota_S8x1_d0_w32) 0#32

/-- Head 1's products. -/
def dp1 (x : In F c) : FVec F S264x256 .f32 :=
  gDp (val1 x) (dO1 x)

/-- Head 1's weights times the value scale. -/
def ph1 (x : In F c) : FVec F S264x256 .f32 :=
  gPh (codes1 x) (gPsv (ps1 x) (vs1 x))

/-- Head 1's score gradient. -/
def ds1 (x : In F c) : FVec F S264x256 .bf16 :=
  gDs (ph1 x) (dp1 x) (gDsum (gSum (gU (dp1 x) (ph1 x))) (gInv (vs1 x)))

/-- Head 1's key gradient. -/
def dk1 (x : In F c) : FVec F S264x128 .f32 :=
  gDk (ds1 x) (qr1 x) (extractStridedSlice S264x1 ![0, 1] (gDsw (dsc x)) slices_S264x128_o0_1_S264x1) (extractStridedSlice S1x128 ![1, 0] (qLast x) slices_S8x128_o1_0_S1x128)

/-- Head 1's value gradient. -/
def dv1 (x : In F c) : FVec F S264x128 .f32 :=
  gDv (codes1 x) (gPsb (ps1 x)) (dO1 x) (extractStridedSlice S264x1 ![0, 1] (pCol x) slices_S264x128_o0_1_S264x1) (extractStridedSlice S1x128 ![1, 0] (gWide (doLast x)) slices_S8x128_o1_0_S1x128)

/-- Head 1's query gradient, transposed. -/
def dqt1 (x : In F c) : FVec F S104x256 .f32 :=
  gDqt (kt1 x) (ds1 x) (gKcol (kl1 x))

/-- Head 1's part of the last query's gradient. -/
def dql1 (x : In F c) : FVec F S8x128 .f32 :=
  gDql (gDsn (dsc x)) (kt1 x) (iota .tc S8x1 32 [0] iota_S8x1_d0_w32) 1#32

/-- Head 2's products. -/
def dp2 (x : In F c) : FVec F S264x256 .f32 :=
  gDp (val2 x) (dO2 x)

/-- Head 2's weights times the value scale. -/
def ph2 (x : In F c) : FVec F S264x256 .f32 :=
  gPh (codes2 x) (gPsv (ps2 x) (vs2 x))

/-- Head 2's score gradient. -/
def ds2 (x : In F c) : FVec F S264x256 .bf16 :=
  gDs (ph2 x) (dp2 x) (gDsum (gSum (gU (dp2 x) (ph2 x))) (gInv (vs2 x)))

/-- Head 2's key gradient. -/
def dk2 (x : In F c) : FVec F S264x128 .f32 :=
  gDk (ds2 x) (qr2 x) (extractStridedSlice S264x1 ![0, 2] (gDsw (dsc x)) slices_S264x128_o0_2_S264x1) (extractStridedSlice S1x128 ![2, 0] (qLast x) slices_S8x128_o2_0_S1x128)

/-- Head 2's value gradient. -/
def dv2 (x : In F c) : FVec F S264x128 .f32 :=
  gDv (codes2 x) (gPsb (ps2 x)) (dO2 x) (extractStridedSlice S264x1 ![0, 2] (pCol x) slices_S264x128_o0_2_S264x1) (extractStridedSlice S1x128 ![2, 0] (gWide (doLast x)) slices_S8x128_o2_0_S1x128)

/-- Head 2's query gradient, transposed. -/
def dqt2 (x : In F c) : FVec F S104x256 .f32 :=
  gDqt (kt2 x) (ds2 x) (gKcol (kl2 x))

/-- Head 2's part of the last query's gradient. -/
def dql2 (x : In F c) : FVec F S8x128 .f32 :=
  gDql (gDsn (dsc x)) (kt2 x) (iota .tc S8x1 32 [0] iota_S8x1_d0_w32) 2#32

/-- Head 3's products. -/
def dp3 (x : In F c) : FVec F S264x256 .f32 :=
  gDp (val3 x) (dO3 x)

/-- Head 3's weights times the value scale. -/
def ph3 (x : In F c) : FVec F S264x256 .f32 :=
  gPh (codes3 x) (gPsv (ps3 x) (vs3 x))

/-- Head 3's score gradient. -/
def ds3 (x : In F c) : FVec F S264x256 .bf16 :=
  gDs (ph3 x) (dp3 x) (gDsum (gSum (gU (dp3 x) (ph3 x))) (gInv (vs3 x)))

/-- Head 3's key gradient. -/
def dk3 (x : In F c) : FVec F S264x128 .f32 :=
  gDk (ds3 x) (qr3 x) (extractStridedSlice S264x1 ![0, 3] (gDsw (dsc x)) slices_S264x128_o0_3_S264x1) (extractStridedSlice S1x128 ![3, 0] (qLast x) slices_S8x128_o3_0_S1x128)

/-- Head 3's value gradient. -/
def dv3 (x : In F c) : FVec F S264x128 .f32 :=
  gDv (codes3 x) (gPsb (ps3 x)) (dO3 x) (extractStridedSlice S264x1 ![0, 3] (pCol x) slices_S264x128_o0_3_S264x1) (extractStridedSlice S1x128 ![3, 0] (gWide (doLast x)) slices_S8x128_o3_0_S1x128)

/-- Head 3's query gradient, transposed. -/
def dqt3 (x : In F c) : FVec F S104x256 .f32 :=
  gDqt (kt3 x) (ds3 x) (gKcol (kl3 x))

/-- Head 3's part of the last query's gradient. -/
def dql3 (x : In F c) : FVec F S8x128 .f32 :=
  gDql (gDsn (dsc x)) (kt3 x) (iota .tc S8x1 32 [0] iota_S8x1_d0_w32) 3#32

/-- Head 4's products. -/
def dp4 (x : In F c) : FVec F S264x256 .f32 :=
  gDp (val4 x) (dO4 x)

/-- Head 4's weights times the value scale. -/
def ph4 (x : In F c) : FVec F S264x256 .f32 :=
  gPh (codes4 x) (gPsv (ps4 x) (vs4 x))

/-- Head 4's score gradient. -/
def ds4 (x : In F c) : FVec F S264x256 .bf16 :=
  gDs (ph4 x) (dp4 x) (gDsum (gSum (gU (dp4 x) (ph4 x))) (gInv (vs4 x)))

/-- Head 4's key gradient. -/
def dk4 (x : In F c) : FVec F S264x128 .f32 :=
  gDk (ds4 x) (qr4 x) (extractStridedSlice S264x1 ![0, 4] (gDsw (dsc x)) slices_S264x128_o0_4_S264x1) (extractStridedSlice S1x128 ![4, 0] (qLast x) slices_S8x128_o4_0_S1x128)

/-- Head 4's value gradient. -/
def dv4 (x : In F c) : FVec F S264x128 .f32 :=
  gDv (codes4 x) (gPsb (ps4 x)) (dO4 x) (extractStridedSlice S264x1 ![0, 4] (pCol x) slices_S264x128_o0_4_S264x1) (extractStridedSlice S1x128 ![4, 0] (gWide (doLast x)) slices_S8x128_o4_0_S1x128)

/-- Head 4's query gradient, transposed. -/
def dqt4 (x : In F c) : FVec F S104x256 .f32 :=
  gDqt (kt4 x) (ds4 x) (gKcol (kl4 x))

/-- Head 4's part of the last query's gradient. -/
def dql4 (x : In F c) : FVec F S8x128 .f32 :=
  gDql (gDsn (dsc x)) (kt4 x) (iota .tc S8x1 32 [0] iota_S8x1_d0_w32) 4#32

/-- Head 5's products. -/
def dp5 (x : In F c) : FVec F S264x256 .f32 :=
  gDp (val5 x) (dO5 x)

/-- Head 5's weights times the value scale. -/
def ph5 (x : In F c) : FVec F S264x256 .f32 :=
  gPh (codes5 x) (gPsv (ps5 x) (vs5 x))

/-- Head 5's score gradient. -/
def ds5 (x : In F c) : FVec F S264x256 .bf16 :=
  gDs (ph5 x) (dp5 x) (gDsum (gSum (gU (dp5 x) (ph5 x))) (gInv (vs5 x)))

/-- Head 5's key gradient. -/
def dk5 (x : In F c) : FVec F S264x128 .f32 :=
  gDk (ds5 x) (qr5 x) (extractStridedSlice S264x1 ![0, 5] (gDsw (dsc x)) slices_S264x128_o0_5_S264x1) (extractStridedSlice S1x128 ![5, 0] (qLast x) slices_S8x128_o5_0_S1x128)

/-- Head 5's value gradient. -/
def dv5 (x : In F c) : FVec F S264x128 .f32 :=
  gDv (codes5 x) (gPsb (ps5 x)) (dO5 x) (extractStridedSlice S264x1 ![0, 5] (pCol x) slices_S264x128_o0_5_S264x1) (extractStridedSlice S1x128 ![5, 0] (gWide (doLast x)) slices_S8x128_o5_0_S1x128)

/-- Head 5's query gradient, transposed. -/
def dqt5 (x : In F c) : FVec F S104x256 .f32 :=
  gDqt (kt5 x) (ds5 x) (gKcol (kl5 x))

/-- Head 5's part of the last query's gradient. -/
def dql5 (x : In F c) : FVec F S8x128 .f32 :=
  gDql (gDsn (dsc x)) (kt5 x) (iota .tc S8x1 32 [0] iota_S8x1_d0_w32) 5#32

/-- Head 6's products. -/
def dp6 (x : In F c) : FVec F S264x256 .f32 :=
  gDp (val6 x) (dO6 x)

/-- Head 6's weights times the value scale. -/
def ph6 (x : In F c) : FVec F S264x256 .f32 :=
  gPh (codes6 x) (gPsv (ps6 x) (vs6 x))

/-- Head 6's score gradient. -/
def ds6 (x : In F c) : FVec F S264x256 .bf16 :=
  gDs (ph6 x) (dp6 x) (gDsum (gSum (gU (dp6 x) (ph6 x))) (gInv (vs6 x)))

/-- Head 6's key gradient. -/
def dk6 (x : In F c) : FVec F S264x128 .f32 :=
  gDk (ds6 x) (qr6 x) (extractStridedSlice S264x1 ![0, 6] (gDsw (dsc x)) slices_S264x128_o0_6_S264x1) (extractStridedSlice S1x128 ![6, 0] (qLast x) slices_S8x128_o6_0_S1x128)

/-- Head 6's value gradient. -/
def dv6 (x : In F c) : FVec F S264x128 .f32 :=
  gDv (codes6 x) (gPsb (ps6 x)) (dO6 x) (extractStridedSlice S264x1 ![0, 6] (pCol x) slices_S264x128_o0_6_S264x1) (extractStridedSlice S1x128 ![6, 0] (gWide (doLast x)) slices_S8x128_o6_0_S1x128)

/-- Head 6's query gradient, transposed. -/
def dqt6 (x : In F c) : FVec F S104x256 .f32 :=
  gDqt (kt6 x) (ds6 x) (gKcol (kl6 x))

/-- Head 6's part of the last query's gradient. -/
def dql6 (x : In F c) : FVec F S8x128 .f32 :=
  gDql (gDsn (dsc x)) (kt6 x) (iota .tc S8x1 32 [0] iota_S8x1_d0_w32) 6#32

/-- Head 7's products. -/
def dp7 (x : In F c) : FVec F S264x256 .f32 :=
  gDp (val7 x) (dO7 x)

/-- Head 7's weights times the value scale. -/
def ph7 (x : In F c) : FVec F S264x256 .f32 :=
  gPh (codes7 x) (gPsv (ps7 x) (vs7 x))

/-- Head 7's score gradient. -/
def ds7 (x : In F c) : FVec F S264x256 .bf16 :=
  gDs (ph7 x) (dp7 x) (gDsum (gSum (gU (dp7 x) (ph7 x))) (gInv (vs7 x)))

/-- Head 7's key gradient. -/
def dk7 (x : In F c) : FVec F S264x128 .f32 :=
  gDk (ds7 x) (qr7 x) (extractStridedSlice S264x1 ![0, 7] (gDsw (dsc x)) slices_S264x128_o0_7_S264x1) (extractStridedSlice S1x128 ![7, 0] (qLast x) slices_S8x128_o7_0_S1x128)

/-- Head 7's value gradient. -/
def dv7 (x : In F c) : FVec F S264x128 .f32 :=
  gDv (codes7 x) (gPsb (ps7 x)) (dO7 x) (extractStridedSlice S264x1 ![0, 7] (pCol x) slices_S264x128_o0_7_S264x1) (extractStridedSlice S1x128 ![7, 0] (gWide (doLast x)) slices_S8x128_o7_0_S1x128)

/-- Head 7's query gradient, transposed. -/
def dqt7 (x : In F c) : FVec F S104x256 .f32 :=
  gDqt (kt7 x) (ds7 x) (gKcol (kl7 x))

/-- Head 7's part of the last query's gradient. -/
def dql7 (x : In F c) : FVec F S8x128 .f32 :=
  gDql (gDsn (dsc x)) (kt7 x) (iota .tc S8x1 32 [0] iota_S8x1_d0_w32) 7#32

/-- The last query's gradient of each head, before the score scale. -/
def dqLast (x : In F c) : FVec F S8x128 .f32 :=
  addf (addf (addf (addf (addf (addf (addf (addf (gCorner (gDsw (dsc x)) (View.readAt (Elt F) x.M1.view (Rect.unit (s := S1x257x8x128) ![0, 256, 0, 0] S1x1x8x128.size inb_S1x257x8x128_S1x1x8x128_0_256_0_0).toLoadRect x.f1)) (dql0 x)) (dql1 x)) (dql2 x)) (dql3 x)) (dql4 x)) (dql5 x)) (dql6 x)) (dql7 x)

/-- The last query's gradient rows as stored, all heads at once. -/
def gOutDqLast (x : FVec F S8x128 .f32) : FVec F S1x1x8x128 .bf16 :=
  shapeCast S1x1x8x128 (truncf .bf16 (mulf x (broadcast S8x128 (Scalar.ofBits .f32 0x3DC8D2AB#32))) bitsLt_bf16_f32) shapeCasts_S8x128_S1x1x8x128

end Cert.KernelIdeal.Hand
-- ==== Proof.Scratch2.lean ====
/-
  The codes as the body reads them back from its scratch.
-/
module

public import proofs.«01_k».proof.Proof.Scratch
public import proofs.«01_k».proof.Proof.Heads

@[expose] public section

set_option maxRecDepth 16384

noncomputable section

namespace Cert.KernelIdeal.Hand

open Cert.KernelIdeal Cert.KernelIdeal.Gen

open Idealize.ShloMosaic
open Idealize.ShloMosaic.TcCoe

/-- A code as a number. -/
def cod (b : BitVec 8) : EReal := FloatOps.sitofp (F := Ideal) .f32 b

theorem cod_bf16 (b : BitVec 8) : FloatOps.sitofp (F := Ideal) .bf16 b = cod b := rfl

theorem cod_sext (b : BitVec 8) : FloatOps.sitofp (F := Ideal) .f32 (b.signExtend 32) = cod b := by
  show ((((b.signExtend 32).toInt : ℝ)) : EReal) = (((b.toInt : ℝ)) : EReal)
  rw [BitVec.toInt_signExtend_of_le (by decide)]

/-- The code in row `r` of the bytes of one quad of heads, of query `q0 + l`. -/
def byteOf (X : Vec Ideal S1x257x8x128 .i8) (q0 : ℕ) (hq0 : q0 + 128 ≤ 257) (qd : Fin 2) (r : Fin 512) (l : Fin 128) : EReal :=
  cod (X (ix4 (0 : Fin 1) (⟨q0 + l.val, by omega⟩ : Fin 257) (⟨4 * qd.val + r.val % 4, by omega⟩ : Fin 8) (⟨r.val / 4, by omega⟩ : Fin 128)))

theorem pay13_at (X : Vec Ideal S1x257x8x128 .i8) (k : Fin 256) (p : Fin 2) (l : Fin 128) :
    k0_pay13 (F := Ideal) (gWord (F := Ideal) X) (ix5 0 0 k p l) = byteOf X 0 (by omega) 0 ⟨2 * k.val + p.val, by omega⟩ l := by
  pointwise [k0_pay13]
  split <;> rename_i hp
  · refine (congrArg (FloatOps.sitofp (F := Ideal) .bf16) (byte_eq X _ _ 0 (by omega) 0 (fun a l => ?_) _ l)).trans ?_
    · pointwise
      all_goals congr 2
    · refine (cod_bf16 _).trans (congrArg (fun r => byteOf X 0 (by omega) 0 r l) (Fin.ext ?_))
      show 2 * k.val = 2 * k.val + p.val
      omega
  · refine (congrArg (FloatOps.sitofp (F := Ideal) .bf16) (byte_eq X _ _ 0 (by omega) 0 (fun a l => ?_) _ l)).trans ?_
    · pointwise
      all_goals congr 2
    · refine (cod_bf16 _).trans (congrArg (fun r => byteOf X 0 (by omega) 0 r l) (Fin.ext ?_))
      show 2 * k.val + 1 = 2 * k.val + p.val
      omega

theorem pay14_at (X : Vec Ideal S1x257x8x128 .i8) (k : Fin 256) (p : Fin 2) (l : Fin 128) :
    k0_pay14 (F := Ideal) (gWord (F := Ideal) X) (ix5 0 0 k p l) = byteOf X 128 (by omega) 0 ⟨2 * k.val + p.val, by omega⟩ l := by
  pointwise [k0_pay14]
  split <;> rename_i hp
  · refine (congrArg (FloatOps.sitofp (F := Ideal) .bf16) (byte_eq X _ _ 128 (by omega) 0 (fun a l => ?_) _ l)).trans ?_
    · pointwise
      all_goals congr 2
    · refine (cod_bf16 _).trans (congrArg (fun r => byteOf X 128 (by omega) 0 r l) (Fin.ext ?_))
      show 2 * k.val = 2 * k.val + p.val
      omega
  · refine (congrArg (FloatOps.sitofp (F := Ideal) .bf16) (byte_eq X _ _ 128 (by omega) 0 (fun a l => ?_) _ l)).trans ?_
    · pointwise
      all_goals congr 2
    · refine (cod_bf16 _).trans (congrArg (fun r => byteOf X 128 (by omega) 0 r l) (Fin.ext ?_))
      show 2 * k.val + 1 = 2 * k.val + p.val
      omega

theorem pay15_at (X : Vec Ideal S1x257x8x128 .i8) (k : Fin 256) (p : Fin 2) (l : Fin 128) :
    k0_pay15 (F := Ideal) (gWord (F := Ideal) X) (ix5 0 0 k p l) = byteOf X 0 (by omega) 0 ⟨2 * k.val + p.val, by omega⟩ l := by
  pointwise [k0_pay15]
  split <;> rename_i hp
  · refine (congrArg (FloatOps.sitofp (F := Ideal) .bf16) (byte_eq X _ _ 0 (by omega) 0 (fun a l => ?_) _ l)).trans ?_
    · pointwise
      all_goals congr 2
    · refine (cod_bf16 _).trans (congrArg (fun r => byteOf X 0 (by omega) 0 r l) (Fin.ext ?_))
      show 2 * k.val = 2 * k.val + p.val
      omega
  · refine (congrArg (FloatOps.sitofp (F := Ideal) .bf16) (byte_eq X _ _ 0 (by omega) 0 (fun a l => ?_) _ l)).trans ?_
    · pointwise
      all_goals congr 2
    · refine (cod_bf16 _).trans (congrArg (fun r => byteOf X 0 (by omega) 0 r l) (Fin.ext ?_))
      show 2 * k.val + 1 = 2 * k.val + p.val
      omega

theorem pay16_at (X : Vec Ideal S1x257x8x128 .i8) (k : Fin 256) (p : Fin 2) (l : Fin 128) :
    k0_pay16 (F := Ideal) (gWord (F := Ideal) X) (ix5 0 0 k p l) = byteOf X 128 (by omega) 0 ⟨2 * k.val + p.val, by omega⟩ l := by
  pointwise [k0_pay16]
  split <;> rename_i hp
  · refine (congrArg (FloatOps.sitofp (F := Ideal) .bf16) (byte_eq X _ _ 128 (by omega) 0 (fun a l => ?_) _ l)).trans ?_
    · pointwise
      all_goals congr 2
    · refine (cod_bf16 _).trans (congrArg (fun r => byteOf X 128 (by omega) 0 r l) (Fin.ext ?_))
      show 2 * k.val = 2 * k.val + p.val
      omega
  · refine (congrArg (FloatOps.sitofp (F := Ideal) .bf16) (byte_eq X _ _ 128 (by omega) 0 (fun a l => ?_) _ l)).trans ?_
    · pointwise
      all_goals congr 2
    · refine (cod_bf16 _).trans (congrArg (fun r => byteOf X 128 (by omega) 0 r l) (Fin.ext ?_))
      show 2 * k.val + 1 = 2 * k.val + p.val
      omega

theorem pay78_at (X : Vec Ideal S1x257x8x128 .i8) (k : Fin 256) (p : Fin 2) (l : Fin 128) :
    k0_pay78 (F := Ideal) (gWord (F := Ideal) X) (ix5 0 0 k p l) = byteOf X 0 (by omega) 1 ⟨2 * k.val + p.val, by omega⟩ l := by
  pointwise [k0_pay78]
  split <;> rename_i hp
  · refine (congrArg (FloatOps.sitofp (F := Ideal) .bf16) (byte_eq X _ _ 0 (by omega) 1 (fun a l => ?_) _ l)).trans ?_
    · pointwise
      all_goals congr 2
    · refine (cod_bf16 _).trans (congrArg (fun r => byteOf X 0 (by omega) 1 r l) (Fin.ext ?_))
      show 2 * k.val = 2 * k.val + p.val
      omega
  · refine (congrArg (FloatOps.sitofp (F := Ideal) .bf16) (byte_eq X _ _ 0 (by omega) 1 (fun a l => ?_) _ l)).trans ?_
    · pointwise
      all_goals congr 2
    · refine (cod_bf16 _).trans (congrArg (fun r => byteOf X 0 (by omega) 1 r l) (Fin.ext ?_))
      show 2 * k.val + 1 = 2 * k.val + p.val
      omega

theorem pay82_at (X : Vec Ideal S1x257x8x128 .i8) (k : Fin 256) (p : Fin 2) (l : Fin 128) :
    k0_pay82 (F := Ideal) (k0_pay80 (F := Ideal) (gWord (F := Ideal) X)) (k0_pay81 (F := Ideal) (gWord (F := Ideal) X)) (ix5 0 0 k p l) = byteOf X 128 (by omega) 1 ⟨2 * k.val + p.val, by omega⟩ l := by
  pointwise [k0_pay82, k0_pay80, k0_pay81, k0_pay79]
  split <;> rename_i hp
  · refine (congrArg (FloatOps.sitofp (F := Ideal) .bf16) (byte_eq X _ _ 128 (by omega) 1 (fun a l => ?_) _ l)).trans ?_
    · pointwise
      all_goals congr 2
    · refine (cod_bf16 _).trans (congrArg (fun r => byteOf X 128 (by omega) 1 r l) (Fin.ext ?_))
      show 2 * k.val = 2 * k.val + p.val
      omega
  · refine (congrArg (FloatOps.sitofp (F := Ideal) .bf16) (byte_eq X _ _ 128 (by omega) 1 (fun a l => ?_) _ l)).trans ?_
    · pointwise
      all_goals congr 2
    · refine (cod_bf16 _).trans (congrArg (fun r => byteOf X 128 (by omega) 1 r l) (Fin.ext ?_))
      show 2 * k.val + 1 = 2 * k.val + p.val
      omega

theorem pay83_at (X : Vec Ideal S1x257x8x128 .i8) (k : Fin 256) (p : Fin 2) (l : Fin 128) :
    k0_pay83 (F := Ideal) (gWord (F := Ideal) X) (ix5 0 0 k p l) = byteOf X 0 (by omega) 1 ⟨2 * k.val + p.val, by omega⟩ l := by
  pointwise [k0_pay83]
  split <;> rename_i hp
  · refine (congrArg (FloatOps.sitofp (F := Ideal) .bf16) (byte_eq X _ _ 0 (by omega) 1 (fun a l => ?_) _ l)).trans ?_
    · pointwise
      all_goals congr 2
    · refine (cod_bf16 _).trans (congrArg (fun r => byteOf X 0 (by omega) 1 r l) (Fin.ext ?_))
      show 2 * k.val = 2 * k.val + p.val
      omega
  · refine (congrArg (FloatOps.sitofp (F := Ideal) .bf16) (byte_eq X _ _ 0 (by omega) 1 (fun a l => ?_) _ l)).trans ?_
    · pointwise
      all_goals congr 2
    · refine (cod_bf16 _).trans (congrArg (fun r => byteOf X 0 (by omega) 1 r l) (Fin.ext ?_))
      show 2 * k.val + 1 = 2 * k.val + p.val
      omega

theorem pay84_at (X : Vec Ideal S1x257x8x128 .i8) (k : Fin 256) (p : Fin 2) (l : Fin 128) :
    k0_pay84 (F := Ideal) (gWord (F := Ideal) X) (ix5 0 0 k p l) = byteOf X 128 (by omega) 1 ⟨2 * k.val + p.val, by omega⟩ l := by
  pointwise [k0_pay84]
  split <;> rename_i hp
  · refine (congrArg (FloatOps.sitofp (F := Ideal) .bf16) (byte_eq X _ _ 128 (by omega) 1 (fun a l => ?_) _ l)).trans ?_
    · pointwise
      all_goals congr 2
    · refine (cod_bf16 _).trans (congrArg (fun r => byteOf X 128 (by omega) 1 r l) (Fin.ext ?_))
      show 2 * k.val = 2 * k.val + p.val
      omega
  · refine (congrArg (FloatOps.sitofp (F := Ideal) .bf16) (byte_eq X _ _ 128 (by omega) 1 (fun a l => ?_) _ l)).trans ?_
    · pointwise
      all_goals congr 2
    · refine (cod_bf16 _).trans (congrArg (fun r => byteOf X 128 (by omega) 1 r l) (Fin.ext ?_))
      show 2 * k.val + 1 = 2 * k.val + p.val
      omega

variable {c : Dev nD}

theorem r_at (M : Memref sig .tc .vmem S1x257x8x128 .i8) (h : M.IsWhole) (X : Vec Ideal S1x257x8x128 .i8) :
    kernelRun.sl.r (F := Ideal) c M (h.unread X) = gWord (F := Ideal) X := by
  unfold kernelRun.sl.r
  refine congrArg (k0_pay6 (F := Ideal)) (funext fun y => (h.readAt_unread X _ y).trans (congrArg X ?_))
  funext a
  exact Fin.ext (by fin_cases a <;> simp [LoadRect.idx, Rect.unit])

theorem r_1_at (M : Memref sig .tc .vmem S1x257x8x128 .i8) (h : M.IsWhole) (X : Vec Ideal S1x257x8x128 .i8) :
    kernelRun.sl.r_1 (F := Ideal) c M (h.unread X) = gWord (F := Ideal) X := r_at (c := c) M h X

end Cert.KernelIdeal.Hand
-- ==== Proof.Scratch3.lean ====
/-
  The codes of each head as the body reads them back, by key and query.
-/
module

public import proofs.«01_k».proof.Proof.Scratch2

@[expose] public section

set_option maxRecDepth 16384

noncomputable section

namespace Cert.KernelIdeal.Hand

open Cert.KernelIdeal Cert.KernelIdeal.Gen

open Idealize.ShloMosaic
open Idealize.ShloMosaic.TcCoe

variable {c : Dev nD}

/-- The code of key `j` and query `i` of head `h`, as a number. -/
def cv (x : In Ideal c) (h : Fin 8) (j i : Fin 257) : EReal :=
  if h1 : j.val < 128 then cod (x.X2 (ix4 (0 : Fin 1) i h (⟨j.val, h1⟩ : Fin 128)))
  else if h2 : j.val < 256 then cod (x.X3 (ix4 (0 : Fin 1) i h (⟨j.val - 128, by omega⟩ : Fin 128)))
  else cod (x.X4 (ix4 (0 : Fin 1) i h (0 : Fin 128)))

theorem cv_lo (x : In Ideal c) (q s p hf : ℕ) (hq : q < 2) (hs : s < 2) (hp : p < 2) (hh : hf < 2) (r : Fin 256) (l : Fin 128) (hr : r.val < 128) (g0 g1 g2) :
    byteOf x.X2 (128 * hf) g0 ⟨q, g1⟩ ⟨2 * (s + 2 * r.val) + p, g2⟩ l = cv x ⟨4 * q + 2 * s + p, by omega⟩ ⟨r.val, by omega⟩ ⟨128 * hf + l.val, by omega⟩ := by
  unfold byteOf cv
  rw [dif_pos (by exact hr)]
  congr 3
  · exact Fin.ext (by show 4 * q + (2 * (s + 2 * r.val) + p) % 4 = 4 * q + 2 * s + p; omega)
  · exact Fin.ext (by show (2 * (s + 2 * r.val) + p) / 4 = r.val; omega)

theorem cv_hi (x : In Ideal c) (q s p hf : ℕ) (hq : q < 2) (hs : s < 2) (hp : p < 2) (hh : hf < 2) (r : Fin 256) (l : Fin 128) (hr : ¬ r.val < 128) (g0 g1 g2) :
    byteOf x.X3 (128 * hf) g0 ⟨q, g1⟩ ⟨2 * (s + 2 * r.val - 256) + p, g2⟩ l = cv x ⟨4 * q + 2 * s + p, by omega⟩ ⟨r.val, by omega⟩ ⟨128 * hf + l.val, by omega⟩ := by
  unfold byteOf cv
  rw [dif_neg (by exact hr), dif_pos (by show r.val < 256; omega)]
  congr 3
  · exact Fin.ext (by show 4 * q + (2 * (s + 2 * r.val - 256) + p) % 4 = 4 * q + 2 * s + p; omega)
  · exact Fin.ext (by show (2 * (s + 2 * r.val - 256) + p) / 4 = r.val - 128; omega)

theorem scr00 (x : In Ideal c) (f : x.M12.view.ty.Contents (Elt Ideal)) (s : ℕ) (hs : s < 2) (r : Fin 256) (p : Fin 2) (l : Fin 128) :
    x.M12.view.read (Elt Ideal) (x.M12.view.writes (Elt Ideal) f (kernelRun.sl.H12_4 c x.M2 x.M3 x.f2 x.f3)) (ix5 (0 : Fin 2) (0 : Fin 2) (⟨s + 2 * r.val, by omega⟩ : Fin 512) p l)
      = cv x ⟨4 * 0 + 2 * s + p.val, by omega⟩ ⟨r.val, by omega⟩ ⟨128 * 0 + l.val, by omega⟩ := by
  unfold kernelRun.sl.H12_4 kernelRun.sl.H12_2 kernelRun.sl.r_7
  unfold In.f2 In.f3
  rw [r_at, r_1_at]
  by_cases hr : r.val < 128
  · rw [View.read_writes_cons_unit_of_not_mem _ _ _ _ _ _ rfl 1 (by simp <;> omega)]
    rw [View.read_writes_cons_unit_of_not_mem _ _ _ _ _ _ rfl 2 (by simp <;> omega)]
    rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 0, by omega⟩ : Fin 256) p l) rfl (fun a => by fin_cases a <;> simp <;> omega)]
    refine (pay13_at x.X2 _ p l).trans ?_
    exact cv_lo x 0 s p.val 0 (by omega) hs p.isLt (by omega) r l hr _ _ _
  · rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 256, by omega⟩ : Fin 256) p l) rfl (fun a => by fin_cases a <;> simp <;> omega)]
    refine (pay15_at x.X3 _ p l).trans ?_
    exact cv_hi x 0 s p.val 0 (by omega) hs p.isLt (by omega) r l hr _ _ _

theorem scr01 (x : In Ideal c) (f : x.M12.view.ty.Contents (Elt Ideal)) (s : ℕ) (hs : s < 2) (r : Fin 256) (p : Fin 2) (l : Fin 128) :
    x.M12.view.read (Elt Ideal) (x.M12.view.writes (Elt Ideal) f (kernelRun.sl.H12_4 c x.M2 x.M3 x.f2 x.f3)) (ix5 (0 : Fin 2) (1 : Fin 2) (⟨s + 2 * r.val, by omega⟩ : Fin 512) p l)
      = cv x ⟨4 * 0 + 2 * s + p.val, by omega⟩ ⟨r.val, by omega⟩ ⟨128 * 1 + l.val, by omega⟩ := by
  unfold kernelRun.sl.H12_4 kernelRun.sl.H12_2 kernelRun.sl.r_7
  unfold In.f2 In.f3
  rw [r_at, r_1_at]
  by_cases hr : r.val < 128
  · rw [View.read_writes_cons_unit_of_not_mem _ _ _ _ _ _ rfl 2 (by simp <;> omega)]
    rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 0, by omega⟩ : Fin 256) p l) rfl (fun a => by fin_cases a <;> simp <;> omega)]
    refine (pay14_at x.X2 _ p l).trans ?_
    exact cv_lo x 0 s p.val 1 (by omega) hs p.isLt (by omega) r l hr _ _ _
  · rw [View.read_writes_cons_unit_of_mem _ _ _ _ _ _ (ix5 (0 : Fin 1) (0 : Fin 1) (⟨s + 2 * r.val - 256, by omega⟩ : Fin 256) p l) rfl (fun a => by fin_cases a <;> simp <;> omega)]
    refine (pay16_at x.X3 _ p l).trans ?_
    exact cv_hi x 0 s p.val 1 (by omega) hs p.isLt (by omega) r l hr _ _ _

theorem scr10 (x : In Ideal c) (f : x.M12.view.ty.Contents (Elt Ideal)) (s : ℕ) (hs : s < 2) (r : Fin 256) (p : Fin 2) (l : Fin 128) :
    x.M12.view.read (Elt Ideal) (x.M12.view.writes (Elt Ideal) f (kernelRun.sl.H12_8 c x.M2 x.M3 x.f2 x.f3)) (ix5 (1 : Fin 2) (0 : Fin 2) (⟨s + 2 * r.val, by omega⟩ : Fin 512) p l)
      = cv x ⟨4 * 1 + 2 * s + p.val, by omega⟩ ⟨r.val, by omega⟩ ⟨128 * 0 + l.val, by omega⟩ := by
  unfold kernelRun.sl.H12_8 kernelRun.sl.H12_5 kernelRun.sl.H12_4 kernelRun.sl.H12_2 kernelRun.sl.r_7 kernelRun.sl.r_63 kernelRun.sl.r_64
  unfold In.f2 In.f3
  rw [r_at, r_1_at]
  by_cases hr : r.val < 128
  · rw [View.read_writes_cons_unit_of_not_mem _ _ _ _ _ _ rfl 1 (by simp <;> omega)]
    rw [View.read_writes_cons_unit_of_not_mem _ _ _ _ _ _ rfl 2 (by simp <;> omega)]
    rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 0, by omega⟩ : Fin 256) p l) rfl (fun a => by fin_cases a <;> simp <;> omega)]
    refine (pay78_at x.X2 _ p l).trans ?_
    exact cv_lo x 1 s p.val 0 (by omega) hs p.isLt (by omega) r l hr _ _ _
  · rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 256, by omega⟩ : Fin 256) p l) rfl (fun a => by fin_cases a <;> simp <;> omega)]
    refine (pay83_at x.X3 _ p l).trans ?_
    exact cv_hi x 1 s p.val 0 (by omega) hs p.isLt (by omega) r l hr _ _ _

theorem scr11 (x : In Ideal c) (f : x.M12.view.ty.Contents (Elt Ideal)) (s : ℕ) (hs : s < 2) (r : Fin 256) (p : Fin 2) (l : Fin 128) :
    x.M12.view.read (Elt Ideal) (x.M12.view.writes (Elt Ideal) f (kernelRun.sl.H12_8 c x.M2 x.M3 x.f2 x.f3)) (ix5 (1 : Fin 2) (1 : Fin 2) (⟨s + 2 * r.val, by omega⟩ : Fin 512) p l)
      = cv x ⟨4 * 1 + 2 * s + p.val, by omega⟩ ⟨r.val, by omega⟩ ⟨128 * 1 + l.val, by omega⟩ := by
  unfold kernelRun.sl.H12_8 kernelRun.sl.H12_5 kernelRun.sl.H12_4 kernelRun.sl.H12_2 kernelRun.sl.r_7 kernelRun.sl.r_63 kernelRun.sl.r_64
  unfold In.f2 In.f3
  rw [r_at, r_1_at]
  by_cases hr : r.val < 128
  · rw [View.read_writes_cons_unit_of_not_mem _ _ _ _ _ _ rfl 2 (by simp <;> omega)]
    rw [View.read_writes_cons_unit_of_not_mem _ _ _ _ _ _ rfl 1 (by simp <;> omega)]
    rw [View.read_writes_cons_unit_of_mem _ _ _ _ _ _ (ix5 (0 : Fin 1) (0 : Fin 1) (⟨s + 2 * r.val - 0, by omega⟩ : Fin 256) p l) rfl (fun a => by fin_cases a <;> simp <;> omega)]
    refine (pay82_at x.X2 _ p l).trans ?_
    exact cv_lo x 1 s p.val 1 (by omega) hs p.isLt (by omega) r l hr _ _ _
  · rw [View.read_writes_cons_unit_of_mem _ _ _ _ _ _ (ix5 (0 : Fin 1) (0 : Fin 1) (⟨s + 2 * r.val - 256, by omega⟩ : Fin 256) p l) rfl (fun a => by fin_cases a <;> simp <;> omega)]
    refine (pay84_at x.X3 _ p l).trans ?_
    exact cv_hi x 1 s p.val 1 (by omega) hs p.isLt (by omega) r l hr _ _ _

theorem v130_at (x : In Ideal c) (r : Fin 256) (p : Fin 2) (l : Fin 128) :
    kernelRun.sl.v130_raw c x.M2 x.M3 x.M12 x.f2 x.f3 x.f12 (ix3 r p l) = cv x ⟨4 * 0 + 2 * 0 + p.val, by omega⟩ ⟨r.val, by omega⟩ ⟨128 * 0 + l.val, by omega⟩ := by
  unfold kernelRun.sl.v130_raw
  exact (rd12 x.M12 _ 0 0 0 (by omega) (by omega) (by omega) _ _ _ _ _ (by decide) (by decide) r p l).trans (scr00 x _ 0 (by omega) r p l)

theorem v135_at (x : In Ideal c) (r : Fin 256) (p : Fin 2) (l : Fin 128) :
    kernelRun.sl.v135_raw c x.M2 x.M3 x.M12 x.f2 x.f3 x.f12 (ix3 r p l) = cv x ⟨4 * 0 + 2 * 0 + p.val, by omega⟩ ⟨r.val, by omega⟩ ⟨128 * 1 + l.val, by omega⟩ := by
  unfold kernelRun.sl.v135_raw
  exact (rd12 x.M12 _ 0 1 0 (by omega) (by omega) (by omega) _ _ _ _ _ (by decide) (by decide) r p l).trans (scr01 x _ 0 (by omega) r p l)

theorem v231_at (x : In Ideal c) (r : Fin 256) (p : Fin 2) (l : Fin 128) :
    kernelRun.sl.v231_raw c x.M2 x.M3 x.M12 x.f2 x.f3 x.f12 (ix3 r p l) = cv x ⟨4 * 0 + 2 * 1 + p.val, by omega⟩ ⟨r.val, by omega⟩ ⟨128 * 0 + l.val, by omega⟩ := by
  unfold kernelRun.sl.v231_raw
  exact (rd12 x.M12 _ 0 0 1 (by omega) (by omega) (by omega) _ _ _ _ _ (by decide) (by decide) r p l).trans (scr00 x _ 1 (by omega) r p l)

theorem v236_at (x : In Ideal c) (r : Fin 256) (p : Fin 2) (l : Fin 128) :
    kernelRun.sl.v236_raw c x.M2 x.M3 x.M12 x.f2 x.f3 x.f12 (ix3 r p l) = cv x ⟨4 * 0 + 2 * 1 + p.val, by omega⟩ ⟨r.val, by omega⟩ ⟨128 * 1 + l.val, by omega⟩ := by
  unfold kernelRun.sl.v236_raw
  exact (rd12 x.M12 _ 0 1 1 (by omega) (by omega) (by omega) _ _ _ _ _ (by decide) (by decide) r p l).trans (scr01 x _ 1 (by omega) r p l)

theorem v407_at (x : In Ideal c) (r : Fin 256) (p : Fin 2) (l : Fin 128) :
    kernelRun.sl.v407_raw c x.M2 x.M3 x.M12 x.f2 x.f3  (ix3 r p l) = cv x ⟨4 * 1 + 2 * 0 + p.val, by omega⟩ ⟨r.val, by omega⟩ ⟨128 * 0 + l.val, by omega⟩ := by
  unfold kernelRun.sl.v407_raw
  exact (rd12 x.M12 _ 1 0 0 (by omega) (by omega) (by omega) _ _ _ _ _ (by decide) (by decide) r p l).trans (scr10 x _ 0 (by omega) r p l)

theorem v412_at (x : In Ideal c) (r : Fin 256) (p : Fin 2) (l : Fin 128) :
    kernelRun.sl.v412_raw c x.M2 x.M3 x.M12 x.f2 x.f3  (ix3 r p l) = cv x ⟨4 * 1 + 2 * 0 + p.val, by omega⟩ ⟨r.val, by omega⟩ ⟨128 * 1 + l.val, by omega⟩ := by
  unfold kernelRun.sl.v412_raw
  exact (rd12 x.M12 _ 1 1 0 (by omega) (by omega) (by omega) _ _ _ _ _ (by decide) (by decide) r p l).trans (scr11 x _ 0 (by omega) r p l)

theorem v509_at (x : In Ideal c) (r : Fin 256) (p : Fin 2) (l : Fin 128) :
    kernelRun.sl.v509_raw c x.M2 x.M3 x.M12 x.f2 x.f3  (ix3 r p l) = cv x ⟨4 * 1 + 2 * 1 + p.val, by omega⟩ ⟨r.val, by omega⟩ ⟨128 * 0 + l.val, by omega⟩ := by
  unfold kernelRun.sl.v509_raw
  exact (rd12 x.M12 _ 1 0 1 (by omega) (by omega) (by omega) _ _ _ _ _ (by decide) (by decide) r p l).trans (scr10 x _ 1 (by omega) r p l)

theorem v514_at (x : In Ideal c) (r : Fin 256) (p : Fin 2) (l : Fin 128) :
    kernelRun.sl.v514_raw c x.M2 x.M3 x.M12 x.f2 x.f3  (ix3 r p l) = cv x ⟨4 * 1 + 2 * 1 + p.val, by omega⟩ ⟨r.val, by omega⟩ ⟨128 * 1 + l.val, by omega⟩ := by
  unfold kernelRun.sl.v514_raw
  exact (rd12 x.M12 _ 1 1 1 (by omega) (by omega) (by omega) _ _ _ _ _ (by decide) (by decide) r p l).trans (scr11 x _ 1 (by omega) r p l)

end Cert.KernelIdeal.Hand
-- ==== Proof.Scratch4.lean ====
/-
  Reads of the blocks and of the value scratch, by key and lane.
-/
module

public import proofs.«01_k».proof.Proof.Scratch3

@[expose] public section

set_option maxRecDepth 16384

noncomputable section

namespace Cert.KernelIdeal.Hand

open Cert.KernelIdeal Cert.KernelIdeal.Gen

open Idealize.ShloMosaic
open Idealize.ShloMosaic.TcCoe

variable {c : Dev nD}

/-- A read of a whole block at an index is the block there. -/
theorem ld_at {S T : Shape} {e : EltTy} (M : Memref sig .tc .vmem S e) (h : M.IsWhole) (X : Vec Ideal S e) (B : LoadRect S) (y : B.shape.Idx) (i : S.Idx)
    (hi : ∀ a, (B.idx y a).val = (i a).val) : View.readAt (Elt Ideal) M.view B (h.unread X) y = X i :=
  (h.readAt_unread X B y).trans (congrArg X (funext fun a => Fin.ext (hi a)))

theorem ld_whole (M : Memref sig .tc .vmem S1x257x8x128 .i8) (h : M.IsWhole) (X : Vec Ideal S1x257x8x128 .i8) :
    View.readAt (Elt Ideal) M.view (Rect.unit (s := S1x257x8x128) ![0, 0, 0, 0] S1x257x8x128.size inb_S1x257x8x128_S1x257x8x128_0_0_0_0).toLoadRect (h.unread X) = X := by
  refine (funext fun y => (h.readAt_unread X _ y).trans (congrArg X ?_))
  funext a
  exact Fin.ext (by fin_cases a <;> simp [LoadRect.idx, Rect.unit])

theorem sel_slt (i : Fin 128) (a : EReal) :
    Scalar.select (IntOp.cmpi .slt (BitVec.ofNat 32 i.val) 104#32) a 0 = if i.val < 104 then a else 0 := by
  have e : (BitVec.ofNat 32 i.val).slt 104#32 = decide (i.val < 104) := by revert i; decide
  unfold Scalar.select IntOp.cmpi
  simp only [e]
  by_cases hi : i.val < 104 <;> simp [hi]

theorem sel_eq (n k : ℕ) (hn : n < 2 ^ 32) (hk : k < 2 ^ 32) {α : Type} (a b : α) :
    Scalar.select (IntOp.cmpi .eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat, Nat.mod_eq_of_lt hn, Nat.mod_eq_of_lt hk]
  unfold Scalar.select IntOp.cmpi
  by_cases hi : n = k
  · simp [hi]
  · have e2 : (BitVec.ofNat 32 n == BitVec.ofNat 32 k) = false := beq_eq_false_iff_ne.mpr (fun h => hi (e.1 h))
    simp [e2, hi]

/-- The last key's code, or zero in the rows that pad it. -/
theorem edge_case (X : Vec Ideal S1x257x8x128 .i8) (i : Fin 257) (qd : Fin 2) (n : ℕ) (hn : n < 4) (j : ℕ) (h1 : 256 ≤ j) (h2 : j < 264) (g) :
    FloatOps.sitofp (F := Ideal) .f32 (IntOp.shrsi .vector (IntOp.shli .vector
      (Scalar.select (IntOp.cmpi .eq (BitVec.ofNat 32 (j - 256)) 0#32) (gWord (F := Ideal) X (ix3 i qd (⟨j - 256, g⟩ : Fin 128))) 0#32) (BitVec.ofNat 32 (24 - 8 * n))) 24#32)
      = if j < 257 then cod (X (ix4 (0 : Fin 1) i (⟨4 * qd.val + n, by omega⟩ : Fin 8) (0 : Fin 128))) else 0 := by
  rw [sel_eq _ 0 (by omega) (by omega)]
  by_cases hj : j < 257
  · rw [if_pos (by omega), if_pos hj, shift_eq X i qd _ n hn, cod_sext]
    congr 3
    exact Fin.ext (by show j - 256 = 0; omega)
  · rw [if_neg (by omega), if_neg hj]
    have e : IntOp.shrsi .vector (IntOp.shli .vector 0#32 (BitVec.ofNat 32 (24 - 8 * n))) 24#32 = 0#32 := by
      interval_cases n <;> decide
    rw [e]
    show (((0#32 : BitVec 32).toInt : ℝ) : EReal) = 0
    simp

theorem vscr0 (x : In Ideal c) (f : x.M13.view.ty.Contents (Elt Ideal)) (s : ℕ) (hs : s < 2) (r : Fin 264) (p : Fin 2) (l : Fin 128) :
    x.M13.view.read (Elt Ideal) (x.M13.view.writes (Elt Ideal) f (kernelRun.sl.H13_2 c x.M6 x.f6)) (ix4 (0 : Fin 2) (⟨s + 2 * r.val, by omega⟩ : Fin 528) p l)
      = if hr : r.val < 257 then x.X6 (ix4 (0 : Fin 1) (⟨r.val, hr⟩ : Fin 257) (⟨4 * 0 + 2 * s + p.val, by omega⟩ : Fin 8) l) else 0 := by
  unfold kernelRun.sl.H13_2 kernelRun.sl.r_9 kernelRun.sl.r_10
  unfold In.f6
  by_cases hr : r.val < 256
  · rw [View.read_writes_cons_unit_of_not_mem _ _ _ _ _ _ rfl 1 (by simp <;> omega)]
    rw [View.read_writes_cons_unit_of_mem _ _ _ _ _ _ (ix4 (0 : Fin 1) (⟨s + 2 * r.val - 0, by omega⟩ : Fin 512) p l) rfl (fun a => by fin_cases a <;> simp <;> omega)]
    pointwise [k0_pay21, k0_pay19, k0_pay20, k0_pay18]
    rw [dif_pos (by omega)]
    split
    · refine ld_at (T := S1x257x8x128) x.M6 x.h6 x.X6 _ _ _ (fun a => ?_)
      fin_cases a <;> simp [LoadRect.idx, Rect.unit] <;> omega
    · refine ld_at (T := S1x257x8x128) x.M6 x.h6 x.X6 _ _ _ (fun a => ?_)
      fin_cases a <;> simp [LoadRect.idx, Rect.unit] <;> omega
  · rw [View.read_writes_cons_unit_of_mem _ _ _ _ _ _ (ix4 (0 : Fin 1) (⟨s + 2 * r.val - 512, by omega⟩ : Fin 16) p l) rfl (fun a => by fin_cases a <;> simp <;> omega)]
    pointwise [k0_pay22]
    by_cases h7 : r.val < 257
    · rw [dif_pos h7]
      split
      · rw [dif_pos (by omega)]
        refine ld_at (T := S1x257x8x128) x.M6 x.h6 x.X6 _ _ _ (fun a => ?_)
        fin_cases a <;> simp [LoadRect.idx, Rect.unit] <;> omega
      · rw [dif_pos (by omega)]
        refine ld_at (T := S1x257x8x128) x.M6 x.h6 x.X6 _ _ _ (fun a => ?_)
        fin_cases a <;> simp [LoadRect.idx, Rect.unit] <;> omega
    · rw [dif_neg h7]
      split <;> rw [dif_neg (by omega)]

theorem vscr1 (x : In Ideal c) (f : x.M13.view.ty.Contents (Elt Ideal)) (s : ℕ) (hs : s < 2) (r : Fin 264) (p : Fin 2) (l : Fin 128) :
    x.M13.view.read (Elt Ideal) (x.M13.view.writes (Elt Ideal) f (kernelRun.sl.H13_4 c x.M6 x.f6)) (ix4 (1 : Fin 2) (⟨s + 2 * r.val, by omega⟩ : Fin 528) p l)
      = if hr : r.val < 257 then x.X6 (ix4 (0 : Fin 1) (⟨r.val, hr⟩ : Fin 257) (⟨4 * 1 + 2 * s + p.val, by omega⟩ : Fin 8) l) else 0 := by
  unfold kernelRun.sl.H13_4 kernelRun.sl.H13_2 kernelRun.sl.r_9 kernelRun.sl.r_10
  unfold In.f6
  by_cases hr : r.val < 256
  · rw [View.read_writes_cons_unit_of_not_mem _ _ _ _ _ _ rfl 1 (by simp <;> omega)]
    rw [View.read_writes_cons_unit_of_mem _ _ _ _ _ _ (ix4 (0 : Fin 1) (⟨s + 2 * r.val - 0, by omega⟩ : Fin 512) p l) rfl (fun a => by fin_cases a <;> simp <;> omega)]
    pointwise [k0_pay89]
    rw [dif_pos (by omega)]
    split
    · refine ld_at (T := S1x257x8x128) x.M6 x.h6 x.X6 _ _ _ (fun a => ?_)
      fin_cases a <;> simp [LoadRect.idx, Rect.unit] <;> omega
    · refine ld_at (T := S1x257x8x128) x.M6 x.h6 x.X6 _ _ _ (fun a => ?_)
      fin_cases a <;> simp [LoadRect.idx, Rect.unit] <;> omega
  · rw [View.read_writes_cons_unit_of_mem _ _ _ _ _ _ (ix4 (0 : Fin 1) (⟨s + 2 * r.val - 512, by omega⟩ : Fin 16) p l) rfl (fun a => by fin_cases a <;> simp <;> omega)]
    pointwise [k0_pay90]
    by_cases h7 : r.val < 257
    · rw [dif_pos h7]
      split
      · rw [dif_pos (by omega)]
        refine ld_at (T := S1x257x8x128) x.M6 x.h6 x.X6 _ _ _ (fun a => ?_)
        fin_cases a <;> simp [LoadRect.idx, Rect.unit] <;> omega
      · rw [dif_pos (by omega)]
        refine ld_at (T := S1x257x8x128) x.M6 x.h6 x.X6 _ _ _ (fun a => ?_)
        fin_cases a <;> simp [LoadRect.idx, Rect.unit] <;> omega
    · rw [dif_neg h7]
      split <;> rw [dif_neg (by omega)]

theorem v105_at (x : In Ideal c) (r : Fin 264) (p : Fin 2) (l : Fin 128) :
    kernelRun.sl.v105_raw c x.M6 x.M13 x.f6 x.f13 (ix3 r p l)
      = if hr : r.val < 257 then x.X6 (ix4 (0 : Fin 1) (⟨r.val, hr⟩ : Fin 257) (⟨4 * 0 + 2 * 0 + p.val, by omega⟩ : Fin 8) l) else 0 := by
  unfold kernelRun.sl.v105_raw
  exact (rd13 x.M13 _ 0 0 (by omega) (by omega) _ _ _ (by decide) r p l).trans (vscr0 x _ 0 (by omega) r p l)

theorem v206_at (x : In Ideal c) (r : Fin 264) (p : Fin 2) (l : Fin 128) :
    kernelRun.sl.v206_raw c x.M6 x.M13 x.f6 x.f13 (ix3 r p l)
      = if hr : r.val < 257 then x.X6 (ix4 (0 : Fin 1) (⟨r.val, hr⟩ : Fin 257) (⟨4 * 0 + 2 * 1 + p.val, by omega⟩ : Fin 8) l) else 0 := by
  unfold kernelRun.sl.v206_raw
  exact (rd13 x.M13 _ 0 1 (by omega) (by omega) _ _ _ (by decide) r p l).trans (vscr0 x _ 1 (by omega) r p l)

theorem v382_at (x : In Ideal c) (r : Fin 264) (p : Fin 2) (l : Fin 128) :
    kernelRun.sl.v382_raw c x.M6 x.M13 x.f6  (ix3 r p l)
      = if hr : r.val < 257 then x.X6 (ix4 (0 : Fin 1) (⟨r.val, hr⟩ : Fin 257) (⟨4 * 1 + 2 * 0 + p.val, by omega⟩ : Fin 8) l) else 0 := by
  unfold kernelRun.sl.v382_raw
  exact (rd13 x.M13 _ 1 0 (by omega) (by omega) _ _ _ (by decide) r p l).trans (vscr1 x _ 0 (by omega) r p l)

theorem v484_at (x : In Ideal c) (r : Fin 264) (p : Fin 2) (l : Fin 128) :
    kernelRun.sl.v484_raw c x.M6 x.M13 x.f6  (ix3 r p l)
      = if hr : r.val < 257 then x.X6 (ix4 (0 : Fin 1) (⟨r.val, hr⟩ : Fin 257) (⟨4 * 1 + 2 * 1 + p.val, by omega⟩ : Fin 8) l) else 0 := by
  unfold kernelRun.sl.v484_raw
  exact (rd13 x.M13 _ 1 1 (by omega) (by omega) _ _ _ (by decide) r p l).trans (vscr1 x _ 1 (by omega) r p l)

end Cert.KernelIdeal.Hand
-- ==== Proof.Index.lean ====
/-
  What each stage's inputs hold, by head, key, query and lane.
-/
module

public import proofs.«01_k».proof.Proof.Scratch4

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

variable {c : Dev nD}

theorem codes0_at (x : In Ideal c) (j : Fin 264) (i : Fin 256) :
    codes0 x (ix2 j i) = if hj : j.val < 257 then cv x 0 ⟨j.val, hj⟩ ⟨i.val, by omega⟩ else 0 := by
  unfold codes0 In.f4
  rw [ld_whole]
  generalize hR : (if hj : j.val < 257 then cv x 0 ⟨j.val, hj⟩ ⟨i.val, by omega⟩ else 0) = R
  pointwise [gCodesLo, gShl, gEdge0]
  subst hR
  by_cases hj : j.val < 256
  · rw [dif_pos hj, dif_pos (show j.val < 257 by omega)]
    by_cases hi : i.val < 128
    · rw [dif_pos hi]
      refine (v130_at x _ _ _).trans ?_
      congr 1
      exact Fin.ext (by show 128 * 0 + i.val = i.val; omega)
    · rw [dif_neg hi]
      refine (v135_at x _ _ _).trans ?_
      congr 1
      exact Fin.ext (by show 128 * 1 + (i.val - 128) = i.val; omega)
  · rw [dif_neg hj]
    have hcv : ∀ hj' : j.val < 257, cv x 0 ⟨j.val, hj'⟩ ⟨i.val, by omega⟩ = cod (x.X4 (ix4 (0 : Fin 1) (⟨i.val, by omega⟩ : Fin 257) (0 : Fin 8) (0 : Fin 128))) := by
      intro hj'
      unfold cv
      rw [dif_neg (by show ¬ j.val < 128; omega), dif_neg (by exact hj)]
    by_cases hi : i.val < 128
    · rw [dif_pos hi]
      refine (edge_case x.X4 _ 0 0 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 0 0 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val0_at (x : In Ideal c) (j : Fin 264) (d : Fin 128) :
    val0 x (ix2 j d) = if d.val < 104 then (if hj : j.val < 257 then x.X6 (ix4 (0 : Fin 1) ⟨j.val, hj⟩ (0 : Fin 8) d) else 0) else 0 := by
  unfold val0
  pointwise [gVLo]
  rw [sel_slt, v105_at]
  rfl

theorem dO0_at (x : In Ideal c) (i : Fin 256) (d : Fin 128) :
    dO0 x (ix2 i d) = if d.val < 104 then x.X8 (ix4 (0 : Fin 1) (⟨i.val, by omega⟩ : Fin 257) (0 : Fin 8) d) else 0 := by
  unfold dO0
  pointwise [gDoLo]
  rw [sel_slt]
  congr 1
  refine ld_at (T := S1x257x8x128) x.M8 x.h8 x.X8 _ _ _ (fun a => ?_)
  fin_cases a <;> simp [LoadRect.idx, Rect.unit]

theorem qr0_at (x : In Ideal c) (i : Fin 256) (d : Fin 128) :
    qr0 x (ix2 i d) = x.X0 (ix4 (0 : Fin 1) (⟨i.val, by omega⟩ : Fin 257) (0 : Fin 8) d) := by
  unfold qr0
  pointwise [gQLo]
  refine ld_at (T := S1x257x8x128) x.M0 x.h0 x.X0 _ _ _ (fun a => ?_)
  fin_cases a <;> simp [LoadRect.idx, Rect.unit]

theorem kt0_at (x : In Ideal c) (d : Fin 104) (j : Fin 256) :
    kt0 x (ix2 d j) = x.X1 (ix4 (0 : Fin 1) (⟨j.val, by omega⟩ : Fin 257) (0 : Fin 8) (⟨d.val, by omega⟩ : Fin 128)) := by
  unfold kt0
  pointwise [gKLo]
  refine ld_at (T := S1x257x8x128) x.M1 x.h1 x.X1 _ _ _ (fun a => ?_)
  fin_cases a <;> simp [LoadRect.idx, Rect.unit]

theorem kl0_at (x : In Ideal c) (d : Fin 128) :
    kl0 x (ix2 0 d) = x.X1 (ix4 (0 : Fin 1) (256 : Fin 257) (0 : Fin 8) d) := by
  unfold kl0
  pointwise [gKlLo]
  refine ld_at (T := S1x257x8x128) x.M1 x.h1 x.X1 _ _ _ (fun a => ?_)
  fin_cases a <;> simp [LoadRect.idx, Rect.unit]

theorem ps0_at (x : In Ideal c) (i : Fin 256) :
    ps0 x (ix3 0 0 i) = x.X5 (ix3 (0 : Fin 1) (0 : Fin 8) (⟨i.val, by omega⟩ : Fin 257)) := by
  unfold ps0
  refine ld_at (T := S1x8x257) x.M5 x.h5 x.X5 _ _ _ (fun a => ?_)
  fin_cases a <;> simp [LoadRect.idx, Rect.unit]

theorem codes1_at (x : In Ideal c) (j : Fin 264) (i : Fin 256) :
    codes1 x (ix2 j i) = if hj : j.val < 257 then cv x 1 ⟨j.val, hj⟩ ⟨i.val, by omega⟩ else 0 := by
  unfold codes1 In.f4
  rw [ld_whole]
  generalize hR : (if hj : j.val < 257 then cv x 1 ⟨j.val, hj⟩ ⟨i.val, by omega⟩ else 0) = R
  pointwise [gCodesHi, gShl, gEdge0]
  subst hR
  by_cases hj : j.val < 256
  · rw [dif_pos hj, dif_pos (show j.val < 257 by omega)]
    by_cases hi : i.val < 128
    · rw [dif_pos hi]
      refine (v130_at x _ _ _).trans ?_
      congr 1
      exact Fin.ext (by show 128 * 0 + i.val = i.val; omega)
    · rw [dif_neg hi]
      refine (v135_at x _ _ _).trans ?_
      congr 1
      exact Fin.ext (by show 128 * 1 + (i.val - 128) = i.val; omega)
  · rw [dif_neg hj]
    have hcv : ∀ hj' : j.val < 257, cv x 1 ⟨j.val, hj'⟩ ⟨i.val, by omega⟩ = cod (x.X4 (ix4 (0 : Fin 1) (⟨i.val, by omega⟩ : Fin 257) (1 : Fin 8) (0 : Fin 128))) := by
      intro hj'
      unfold cv
      rw [dif_neg (by show ¬ j.val < 128; omega), dif_neg (by exact hj)]
    by_cases hi : i.val < 128
    · rw [dif_pos hi]
      refine (edge_case x.X4 _ 0 1 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 0 1 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val1_at (x : In Ideal c) (j : Fin 264) (d : Fin 128) :
    val1 x (ix2 j d) = if d.val < 104 then (if hj : j.val < 257 then x.X6 (ix4 (0 : Fin 1) ⟨j.val, hj⟩ (1 : Fin 8) d) else 0) else 0 := by
  unfold val1
  pointwise [gVHi]
  rw [sel_slt, v105_at]
  rfl

theorem dO1_at (x : In Ideal c) (i : Fin 256) (d : Fin 128) :
    dO1 x (ix2 i d) = if d.val < 104 then x.X8 (ix4 (0 : Fin 1) (⟨i.val, by omega⟩ : Fin 257) (1 : Fin 8) d) else 0 := by
  unfold dO1
  pointwise [gDoHi]
  rw [sel_slt]
  congr 1
  refine ld_at (T := S1x257x8x128) x.M8 x.h8 x.X8 _ _ _ (fun a => ?_)
  fin_cases a <;> simp [LoadRect.idx, Rect.unit]

theorem qr1_at (x : In Ideal c) (i : Fin 256) (d : Fin 128) :
    qr1 x (ix2 i d) = x.X0 (ix4 (0 : Fin 1) (⟨i.val, by omega⟩ : Fin 257) (1 : Fin 8) d) := by
  unfold qr1
  pointwise [gQHi]
  refine ld_at (T := S1x257x8x128) x.M0 x.h0 x.X0 _ _ _ (fun a => ?_)
  fin_cases a <;> simp [LoadRect.idx, Rect.unit]

theorem kt1_at (x : In Ideal c) (d : Fin 104) (j : Fin 256) :
    kt1 x (ix2 d j) = x.X1 (ix4 (0 : Fin 1) (⟨j.val, by omega⟩ : Fin 257) (1 : Fin 8) (⟨d.val, by omega⟩ : Fin 128)) := by
  unfold kt1
  pointwise [gKHi]
  refine ld_at (T := S1x257x8x128) x.M1 x.h1 x.X1 _ _ _ (fun a => ?_)
  fin_cases a <;> simp [LoadRect.idx, Rect.unit]

theorem kl1_at (x : In Ideal c) (d : Fin 128) :
    kl1 x (ix2 0 d) = x.X1 (ix4 (0 : Fin 1) (256 : Fin 257) (1 : Fin 8) d) := by
  unfold kl1
  pointwise [gKlHi]
  refine ld_at (T := S1x257x8x128) x.M1 x.h1 x.X1 _ _ _ (fun a => ?_)
  fin_cases a <;> simp [LoadRect.idx, Rect.unit]

theorem ps1_at (x : In Ideal c) (i : Fin 256) :
    ps1 x (ix3 0 0 i) = x.X5 (ix3 (0 : Fin 1) (1 : Fin 8) (⟨i.val, by omega⟩ : Fin 257)) := by
  unfold ps1
  refine ld_at (T := S1x8x257) x.M5 x.h5 x.X5 _ _ _ (fun a => ?_)
  fin_cases a <;> simp [LoadRect.idx, Rect.unit]

theorem codes2_at (x : In Ideal c) (j : Fin 264) (i : Fin 256) :
    codes2 x (ix2 j i) = if hj : j.val < 257 then cv x 2 ⟨j.val, hj⟩ ⟨i.val, by omega⟩ else 0 := by
  unfold codes2 In.f4
  rw [ld_whole]
  generalize hR : (if hj : j.val < 257 then cv x 2 ⟨j.val, hj⟩ ⟨i.val, by omega⟩ else 0) = R
  pointwise [gCodesLo, gShl, gEdge0]
  subst hR
  by_cases hj : j.val < 256
  · rw [dif_pos hj, dif_pos (show j.val < 257 by omega)]
    by_cases hi : i.val < 128
    · rw [dif_pos hi]
      refine (v231_at x _ _ _).trans ?_
      congr 1
      exact Fin.ext (by show 128 * 0 + i.val = i.val; omega)
    · rw [dif_neg hi]
      refine (v236_at x _ _ _).trans ?_
      congr 1
      exact Fin.ext (by show 128 * 1 + (i.val - 128) = i.val; omega)
  · rw [dif_neg hj]
    have hcv : ∀ hj' : j.val < 257, cv x 2 ⟨j.val, hj'⟩ ⟨i.val, by omega⟩ = cod (x.X4 (ix4 (0 : Fin 1) (⟨i.val, by omega⟩ : Fin 257) (2 : Fin 8) (0 : Fin 128))) := by
      intro hj'
      unfold cv
      rw [dif_neg (by show ¬ j.val < 128; omega), dif_neg (by exact hj)]
    by_cases hi : i.val < 128
    · rw [dif_pos hi]
      refine (edge_case x.X4 _ 0 2 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 0 2 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val2_at (x : In Ideal c) (j : Fin 264) (d : Fin 128) :
    val2 x (ix2 j d) = if d.val < 104 then (if hj : j.val < 257 then x.X6 (ix4 (0 : Fin 1) ⟨j.val, hj⟩ (2 : Fin 8) d) else 0) else 0 := by
  unfold val2
  pointwise [gVLo]
  rw [sel_slt, v206_at]
  rfl

theorem dO2_at (x : In Ideal c) (i : Fin 256) (d : Fin 128) :
    dO2 x (ix2 i d) = if d.val < 104 then x.X8 (ix4 (0 : Fin 1) (⟨i.val, by omega⟩ : Fin 257) (2 : Fin 8) d) else 0 := by
  unfold dO2
  pointwise [gDoLo]
  rw [sel_slt]
  congr 1
  refine ld_at (T := S1x257x8x128) x.M8 x.h8 x.X8 _ _ _ (fun a => ?_)
  fin_cases a <;> simp [LoadRect.idx, Rect.unit]

theorem qr2_at (x : In Ideal c) (i : Fin 256) (d : Fin 128) :
    qr2 x (ix2 i d) = x.X0 (ix4 (0 : Fin 1) (⟨i.val, by omega⟩ : Fin 257) (2 : Fin 8) d) := by
  unfold qr2
  pointwise [gQLo]
  refine ld_at (T := S1x257x8x128) x.M0 x.h0 x.X0 _ _ _ (fun a => ?_)
  fin_cases a <;> simp [LoadRect.idx, Rect.unit]

theorem kt2_at (x : In Ideal c) (d : Fin 104) (j : Fin 256) :
    kt2 x (ix2 d j) = x.X1 (ix4 (0 : Fin 1) (⟨j.val, by omega⟩ : Fin 257) (2 : Fin 8) (⟨d.val, by omega⟩ : Fin 128)) := by
  unfold kt2
  pointwise [gKLo]
  refine ld_at (T := S1x257x8x128) x.M1 x.h1 x.X1 _ _ _ (fun a => ?_)
  fin_cases a <;> simp [LoadRect.idx, Rect.unit]

theorem kl2_at (x : In Ideal c) (d : Fin 128) :
    kl2 x (ix2 0 d) = x.X1 (ix4 (0 : Fin 1) (256 : Fin 257) (2 : Fin 8) d) := by
  unfold kl2
  pointwise [gKlLo]
  refine ld_at (T := S1x257x8x128) x.M1 x.h1 x.X1 _ _ _ (fun a => ?_)
  fin_cases a <;> simp [LoadRect.idx, Rect.unit]

theorem ps2_at (x : In Ideal c) (i : Fin 256) :
    ps2 x (ix3 0 0 i) = x.X5 (ix3 (0 : Fin 1) (2 : Fin 8) (⟨i.val, by omega⟩ : Fin 257)) := by
  unfold ps2
  refine ld_at (T := S1x8x257) x.M5 x.h5 x.X5 _ _ _ (fun a => ?_)
  fin_cases a <;> simp [LoadRect.idx, Rect.unit]

theorem codes3_at (x : In Ideal c) (j : Fin 264) (i : Fin 256) :
    codes3 x (ix2 j i) = if hj : j.val < 257 then cv x 3 ⟨j.val, hj⟩ ⟨i.val, by omega⟩ else 0 := by
  unfold codes3 In.f4
  rw [ld_whole]
  generalize hR : (if hj : j.val < 257 then cv x 3 ⟨j.val, hj⟩ ⟨i.val, by omega⟩ else 0) = R
  pointwise [gCodesHi, gShl, gEdge0]
  subst hR
  by_cases hj : j.val < 256
  · rw [dif_pos hj, dif_pos (show j.val < 257 by omega)]
    by_cases hi : i.val < 128
    · rw [dif_pos hi]
      refine (v231_at x _ _ _).trans ?_
      congr 1
      exact Fin.ext (by show 128 * 0 + i.val = i.val; omega)
    · rw [dif_neg hi]
      refine (v236_at x _ _ _).trans ?_
      congr 1
      exact Fin.ext (by show 128 * 1 + (i.val - 128) = i.val; omega)
  · rw [dif_neg hj]
    have hcv : ∀ hj' : j.val < 257, cv x 3 ⟨j.val, hj'⟩ ⟨i.val, by omega⟩ = cod (x.X4 (ix4 (0 : Fin 1) (⟨i.val, by omega⟩ : Fin 257) (3 : Fin 8) (0 : Fin 128))) := by
      intro hj'
      unfold cv
      rw [dif_neg (by show ¬ j.val < 128; omega), dif_neg (by exact hj)]
    by_cases hi : i.val < 128
    · rw [dif_pos hi]
      refine (edge_case x.X4 _ 0 3 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 0 3 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val3_at (x : In Ideal c) (j : Fin 264) (d : Fin 128) :
    val3 x (ix2 j d) = if d.val < 104 then (if hj : j.val < 257 then x.X6 (ix4 (0 : Fin 1) ⟨j.val, hj⟩ (3 : Fin 8) d) else 0) else 0 := by
  unfold val3
  pointwise [gVHi]
  rw [sel_slt, v206_at]
  rfl

theorem dO3_at (x : In Ideal c) (i : Fin 256) (d : Fin 128) :
    dO3 x (ix2 i d) = if d.val < 104 then x.X8 (ix4 (0 : Fin 1) (⟨i.val, by omega⟩ : Fin 257) (3 : Fin 8) d) else 0 := by
  unfold dO3
  pointwise [gDoHi]
  rw [sel_slt]
  congr 1
  refine ld_at (T := S1x257x8x128) x.M8 x.h8 x.X8 _ _ _ (fun a => ?_)
  fin_cases a <;> simp [LoadRect.idx, Rect.unit]

theorem qr3_at (x : In Ideal c) (i : Fin 256) (d : Fin 128) :
    qr3 x (ix2 i d) = x.X0 (ix4 (0 : Fin 1) (⟨i.val, by omega⟩ : Fin 257) (3 : Fin 8) d) := by
  unfold qr3
  pointwise [gQHi]
  refine ld_at (T := S1x257x8x128) x.M0 x.h0 x.X0 _ _ _ (fun a => ?_)
  fin_cases a <;> simp [LoadRect.idx, Rect.unit]

theorem kt3_at (x : In Ideal c) (d : Fin 104) (j : Fin 256) :
    kt3 x (ix2 d j) = x.X1 (ix4 (0 : Fin 1) (⟨j.val, by omega⟩ : Fin 257) (3 : Fin 8) (⟨d.val, by omega⟩ : Fin 128)) := by
  unfold kt3
  pointwise [gKHi]
  refine ld_at (T := S1x257x8x128) x.M1 x.h1 x.X1 _ _ _ (fun a => ?_)
  fin_cases a <;> simp [LoadRect.idx, Rect.unit]

theorem kl3_at (x : In Ideal c) (d : Fin 128) :
    kl3 x (ix2 0 d) = x.X1 (ix4 (0 : Fin 1) (256 : Fin 257) (3 : Fin 8) d) := by
  unfold kl3
  pointwise [gKlHi]
  refine ld_at (T := S1x257x8x128) x.M1 x.h1 x.X1 _ _ _ (fun a => ?_)
  fin_cases a <;> simp [LoadRect.idx, Rect.unit]

theorem ps3_at (x : In Ideal c) (i : Fin 256) :
    ps3 x (ix3 0 0 i) = x.X5 (ix3 (0 : Fin 1) (3 : Fin 8) (⟨i.val, by omega⟩ : Fin 257)) := by
  unfold ps3
  refine ld_at (T := S1x8x257) x.M5 x.h5 x.X5 _ _ _ (fun a => ?_)
  fin_cases a <;> simp [LoadRect.idx, Rect.unit]

theorem codes4_at (x : In Ideal c) (j : Fin 264) (i : Fin 256) :
    codes4 x (ix2 j i) = if hj : j.val < 257 then cv x 4 ⟨j.val, hj⟩ ⟨i.val, by omega⟩ else 0 := by
  unfold codes4 In.f4
  rw [ld_whole]
  generalize hR : (if hj : j.val < 257 then cv x 4 ⟨j.val, hj⟩ ⟨i.val, by omega⟩ else 0) = R
  pointwise [gCodesLo, gShl, gEdge1]
  subst hR
  by_cases hj : j.val < 256
  · rw [dif_pos hj, dif_pos (show j.val < 257 by omega)]
    by_cases hi : i.val < 128
    · rw [dif_pos hi]
      refine (v407_at x _ _ _).trans ?_
      congr 1
      exact Fin.ext (by show 128 * 0 + i.val = i.val; omega)
    · rw [dif_neg hi]
      refine (v412_at x _ _ _).trans ?_
      congr 1
      exact Fin.ext (by show 128 * 1 + (i.val - 128) = i.val; omega)
  · rw [dif_neg hj]
    have hcv : ∀ hj' : j.val < 257, cv x 4 ⟨j.val, hj'⟩ ⟨i.val, by omega⟩ = cod (x.X4 (ix4 (0 : Fin 1) (⟨i.val, by omega⟩ : Fin 257) (4 : Fin 8) (0 : Fin 128))) := by
      intro hj'
      unfold cv
      rw [dif_neg (by show ¬ j.val < 128; omega), dif_neg (by exact hj)]
    by_cases hi : i.val < 128
    · rw [dif_pos hi]
      refine (edge_case x.X4 _ 1 0 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 1 0 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val4_at (x : In Ideal c) (j : Fin 264) (d : Fin 128) :
    val4 x (ix2 j d) = if d.val < 104 then (if hj : j.val < 257 then x.X6 (ix4 (0 : Fin 1) ⟨j.val, hj⟩ (4 : Fin 8) d) else 0) else 0 := by
  unfold val4
  pointwise [gVLo]
  rw [sel_slt, v382_at]
  rfl

theorem dO4_at (x : In Ideal c) (i : Fin 256) (d : Fin 128) :
    dO4 x (ix2 i d) = if d.val < 104 then x.X8 (ix4 (0 : Fin 1) (⟨i.val, by omega⟩ : Fin 257) (4 : Fin 8) d) else 0 := by
  unfold dO4
  pointwise [gDoLo]
  rw [sel_slt]
  congr 1
  refine ld_at (T := S1x257x8x128) x.M8 x.h8 x.X8 _ _ _ (fun a => ?_)
  fin_cases a <;> simp [LoadRect.idx, Rect.unit]

theorem qr4_at (x : In Ideal c) (i : Fin 256) (d : Fin 128) :
    qr4 x (ix2 i d) = x.X0 (ix4 (0 : Fin 1) (⟨i.val, by omega⟩ : Fin 257) (4 : Fin 8) d) := by
  unfold qr4
  pointwise [gQLo]
  refine ld_at (T := S1x257x8x128) x.M0 x.h0 x.X0 _ _ _ (fun a => ?_)
  fin_cases a <;> simp [LoadRect.idx, Rect.unit]

theorem kt4_at (x : In Ideal c) (d : Fin 104) (j : Fin 256) :
    kt4 x (ix2 d j) = x.X1 (ix4 (0 : Fin 1) (⟨j.val, by omega⟩ : Fin 257) (4 : Fin 8) (⟨d.val, by omega⟩ : Fin 128)) := by
  unfold kt4
  pointwise [gKLo]
  refine ld_at (T := S1x257x8x128) x.M1 x.h1 x.X1 _ _ _ (fun a => ?_)
  fin_cases a <;> simp [LoadRect.idx, Rect.unit]

theorem kl4_at (x : In Ideal c) (d : Fin 128) :
    kl4 x (ix2 0 d) = x.X1 (ix4 (0 : Fin 1) (256 : Fin 257) (4 : Fin 8) d) := by
  unfold kl4
  pointwise [gKlLo]
  refine ld_at (T := S1x257x8x128) x.M1 x.h1 x.X1 _ _ _ (fun a => ?_)
  fin_cases a <;> simp [LoadRect.idx, Rect.unit]

theorem ps4_at (x : In Ideal c) (i : Fin 256) :
    ps4 x (ix3 0 0 i) = x.X5 (ix3 (0 : Fin 1) (4 : Fin 8) (⟨i.val, by omega⟩ : Fin 257)) := by
  unfold ps4
  refine ld_at (T := S1x8x257) x.M5 x.h5 x.X5 _ _ _ (fun a => ?_)
  fin_cases a <;> simp [LoadRect.idx, Rect.unit]

theorem codes5_at (x : In Ideal c) (j : Fin 264) (i : Fin 256) :
    codes5 x (ix2 j i) = if hj : j.val < 257 then cv x 5 ⟨j.val, hj⟩ ⟨i.val, by omega⟩ else 0 := by
  unfold codes5 In.f4
  rw [ld_whole]
  generalize hR : (if hj : j.val < 257 then cv x 5 ⟨j.val, hj⟩ ⟨i.val, by omega⟩ else 0) = R
  pointwise [gCodesHi, gShl, gEdge1]
  subst hR
  by_cases hj : j.val < 256
  · rw [dif_pos hj, dif_pos (show j.val < 257 by omega)]
    by_cases hi : i.val < 128
    · rw [dif_pos hi]
      refine (v407_at x _ _ _).trans ?_
      congr 1
      exact Fin.ext (by show 128 * 0 + i.val = i.val; omega)
    · rw [dif_neg hi]
      refine (v412_at x _ _ _).trans ?_
      congr 1
      exact Fin.ext (by show 128 * 1 + (i.val - 128) = i.val; omega)
  · rw [dif_neg hj]
    have hcv : ∀ hj' : j.val < 257, cv x 5 ⟨j.val, hj'⟩ ⟨i.val, by omega⟩ = cod (x.X4 (ix4 (0 : Fin 1) (⟨i.val, by omega⟩ : Fin 257) (5 : Fin 8) (0 : Fin 128))) := by
      intro hj'
      unfold cv
      rw [dif_neg (by show ¬ j.val < 128; omega), dif_neg (by exact hj)]
    by_cases hi : i.val < 128
    · rw [dif_pos hi]
      refine (edge_case x.X4 _ 1 1 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 1 1 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val5_at (x : In Ideal c) (j : Fin 264) (d : Fin 128) :
    val5 x (ix2 j d) = if d.val < 104 then (if hj : j.val < 257 then x.X6 (ix4 (0 : Fin 1) ⟨j.val, hj⟩ (5 : Fin 8) d) else 0) else 0 := by
  unfold val5
  pointwise [gVHi]
  rw [sel_slt, v382_at]
  rfl

theorem dO5_at (x : In Ideal c) (i : Fin 256) (d : Fin 128) :
    dO5 x (ix2 i d) = if d.val < 104 then x.X8 (ix4 (0 : Fin 1) (⟨i.val, by omega⟩ : Fin 257) (5 : Fin 8) d) else 0 := by
  unfold dO5
  pointwise [gDoHi]
  rw [sel_slt]
  congr 1
  refine ld_at (T := S1x257x8x128) x.M8 x.h8 x.X8 _ _ _ (fun a => ?_)
  fin_cases a <;> simp [LoadRect.idx, Rect.unit]

theorem qr5_at (x : In Ideal c) (i : Fin 256) (d : Fin 128) :
    qr5 x (ix2 i d) = x.X0 (ix4 (0 : Fin 1) (⟨i.val, by omega⟩ : Fin 257) (5 : Fin 8) d) := by
  unfold qr5
  pointwise [gQHi]
  refine ld_at (T := S1x257x8x128) x.M0 x.h0 x.X0 _ _ _ (fun a => ?_)
  fin_cases a <;> simp [LoadRect.idx, Rect.unit]

theorem kt5_at (x : In Ideal c) (d : Fin 104) (j : Fin 256) :
    kt5 x (ix2 d j) = x.X1 (ix4 (0 : Fin 1) (⟨j.val, by omega⟩ : Fin 257) (5 : Fin 8) (⟨d.val, by omega⟩ : Fin 128)) := by
  unfold kt5
  pointwise [gKHi]
  refine ld_at (T := S1x257x8x128) x.M1 x.h1 x.X1 _ _ _ (fun a => ?_)
  fin_cases a <;> simp [LoadRect.idx, Rect.unit]

theorem kl5_at (x : In Ideal c) (d : Fin 128) :
    kl5 x (ix2 0 d) = x.X1 (ix4 (0 : Fin 1) (256 : Fin 257) (5 : Fin 8) d) := by
  unfold kl5
  pointwise [gKlHi]
  refine ld_at (T := S1x257x8x128) x.M1 x.h1 x.X1 _ _ _ (fun a => ?_)
  fin_cases a <;> simp [LoadRect.idx, Rect.unit]

theorem ps5_at (x : In Ideal c) (i : Fin 256) :
    ps5 x (ix3 0 0 i) = x.X5 (ix3 (0 : Fin 1) (5 : Fin 8) (⟨i.val, by omega⟩ : Fin 257)) := by
  unfold ps5
  refine ld_at (T := S1x8x257) x.M5 x.h5 x.X5 _ _ _ (fun a => ?_)
  fin_cases a <;> simp [LoadRect.idx, Rect.unit]

theorem codes6_at (x : In Ideal c) (j : Fin 264) (i : Fin 256) :
    codes6 x (ix2 j i) = if hj : j.val < 257 then cv x 6 ⟨j.val, hj⟩ ⟨i.val, by omega⟩ else 0 := by
  unfold codes6 In.f4
  rw [ld_whole]
  generalize hR : (if hj : j.val < 257 then cv x 6 ⟨j.val, hj⟩ ⟨i.val, by omega⟩ else 0) = R
  pointwise [gCodesLo, gShl, gEdge1]
  subst hR
  by_cases hj : j.val < 256
  · rw [dif_pos hj, dif_pos (show j.val < 257 by omega)]
    by_cases hi : i.val < 128
    · rw [dif_pos hi]
      refine (v509_at x _ _ _).trans ?_
      congr 1
      exact Fin.ext (by show 128 * 0 + i.val = i.val; omega)
    · rw [dif_neg hi]
      refine (v514_at x _ _ _).trans ?_
      congr 1
      exact Fin.ext (by show 128 * 1 + (i.val - 128) = i.val; omega)
  · rw [dif_neg hj]
    have hcv : ∀ hj' : j.val < 257, cv x 6 ⟨j.val, hj'⟩ ⟨i.val, by omega⟩ = cod (x.X4 (ix4 (0 : Fin 1) (⟨i.val, by omega⟩ : Fin 257) (6 : Fin 8) (0 : Fin 128))) := by
      intro hj'
      unfold cv
      rw [dif_neg (by show ¬ j.val < 128; omega), dif_neg (by exact hj)]
    by_cases hi : i.val < 128
    · rw [dif_pos hi]
      refine (edge_case x.X4 _ 1 2 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 1 2 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val6_at (x : In Ideal c) (j : Fin 264) (d : Fin 128) :
    val6 x (ix2 j d) = if d.val < 104 then (if hj : j.val < 257 then x.X6 (ix4 (0 : Fin 1) ⟨j.val, hj⟩ (6 : Fin 8) d) else 0) else 0 := by
  unfold val6
  pointwise [gVLo]
  rw [sel_slt, v484_at]
  rfl

theorem dO6_at (x : In Ideal c) (i : Fin 256) (d : Fin 128) :
    dO6 x (ix2 i d) = if d.val < 104 then x.X8 (ix4 (0 : Fin 1) (⟨i.val, by omega⟩ : Fin 257) (6 : Fin 8) d) else 0 := by
  unfold dO6
  pointwise [gDoLo]
  rw [sel_slt]
  congr 1
  refine ld_at (T := S1x257x8x128) x.M8 x.h8 x.X8 _ _ _ (fun a => ?_)
  fin_cases a <;> simp [LoadRect.idx, Rect.unit]

theorem qr6_at (x : In Ideal c) (i : Fin 256) (d : Fin 128) :
    qr6 x (ix2 i d) = x.X0 (ix4 (0 : Fin 1) (⟨i.val, by omega⟩ : Fin 257) (6 : Fin 8) d) := by
  unfold qr6
  pointwise [gQLo]
  refine ld_at (T := S1x257x8x128) x.M0 x.h0 x.X0 _ _ _ (fun a => ?_)
  fin_cases a <;> simp [LoadRect.idx, Rect.unit]

theorem kt6_at (x : In Ideal c) (d : Fin 104) (j : Fin 256) :
    kt6 x (ix2 d j) = x.X1 (ix4 (0 : Fin 1) (⟨j.val, by omega⟩ : Fin 257) (6 : Fin 8) (⟨d.val, by omega⟩ : Fin 128)) := by
  unfold kt6
  pointwise [gKLo]
  refine ld_at (T := S1x257x8x128) x.M1 x.h1 x.X1 _ _ _ (fun a => ?_)
  fin_cases a <;> simp [LoadRect.idx, Rect.unit]

theorem kl6_at (x : In Ideal c) (d : Fin 128) :
    kl6 x (ix2 0 d) = x.X1 (ix4 (0 : Fin 1) (256 : Fin 257) (6 : Fin 8) d) := by
  unfold kl6
  pointwise [gKlLo]
  refine ld_at (T := S1x257x8x128) x.M1 x.h1 x.X1 _ _ _ (fun a => ?_)
  fin_cases a <;> simp [LoadRect.idx, Rect.unit]

theorem ps6_at (x : In Ideal c) (i : Fin 256) :
    ps6 x (ix3 0 0 i) = x.X5 (ix3 (0 : Fin 1) (6 : Fin 8) (⟨i.val, by omega⟩ : Fin 257)) := by
  unfold ps6
  refine ld_at (T := S1x8x257) x.M5 x.h5 x.X5 _ _ _ (fun a => ?_)
  fin_cases a <;> simp [LoadRect.idx, Rect.unit]

theorem codes7_at (x : In Ideal c) (j : Fin 264) (i : Fin 256) :
    codes7 x (ix2 j i) = if hj : j.val < 257 then cv x 7 ⟨j.val, hj⟩ ⟨i.val, by omega⟩ else 0 := by
  unfold codes7 In.f4
  rw [ld_whole]
  generalize hR : (if hj : j.val < 257 then cv x 7 ⟨j.val, hj⟩ ⟨i.val, by omega⟩ else 0) = R
  pointwise [gCodesHi, gShl, gEdge1]
  subst hR
  by_cases hj : j.val < 256
  · rw [dif_pos hj, dif_pos (show j.val < 257 by omega)]
    by_cases hi : i.val < 128
    · rw [dif_pos hi]
      refine (v509_at x _ _ _).trans ?_
      congr 1
      exact Fin.ext (by show 128 * 0 + i.val = i.val; omega)
    · rw [dif_neg hi]
      refine (v514_at x _ _ _).trans ?_
      congr 1
      exact Fin.ext (by show 128 * 1 + (i.val - 128) = i.val; omega)
  · rw [dif_neg hj]
    have hcv : ∀ hj' : j.val < 257, cv x 7 ⟨j.val, hj'⟩ ⟨i.val, by omega⟩ = cod (x.X4 (ix4 (0 : Fin 1) (⟨i.val, by omega⟩ : Fin 257) (7 : Fin 8) (0 : Fin 128))) := by
      intro hj'
      unfold cv
      rw [dif_neg (by show ¬ j.val < 128; omega), dif_neg (by exact hj)]
    by_cases hi : i.val < 128
    · rw [dif_pos hi]
      refine (edge_case x.X4 _ 1 3 (by omega) j.val (by omega) j.isLt _).trans ?_
      by_cases h7 : j.val < 257
      · rw [if_pos h7, dif_pos h7, hcv h7]
        rfl
      · rw [if_neg h7, dif_neg h7]
    · rw [dif_neg hi]
      refine (edge_case x.X4 _ 1 3 (by omega) j.val (by omega) j.isLt _).trans ?_
      by_cases h7 : j.val < 257
      · rw [if_pos h7, dif_pos h7, hcv h7]
        congr 3
        exact Fin.ext (by show 128 + (i.val - 128) = i.val; omega)
      · rw [if_neg h7, dif_neg h7]

theorem val7_at (x : In Ideal c) (j : Fin 264) (d : Fin 128) :
    val7 x (ix2 j d) = if d.val < 104 then (if hj : j.val < 257 then x.X6 (ix4 (0 : Fin 1) ⟨j.val, hj⟩ (7 : Fin 8) d) else 0) else 0 := by
  unfold val7
  pointwise [gVHi]
  rw [sel_slt, v484_at]
  rfl

theorem dO7_at (x : In Ideal c) (i : Fin 256) (d : Fin 128) :
    dO7 x (ix2 i d) = if d.val < 104 then x.X8 (ix4 (0 : Fin 1) (⟨i.val, by omega⟩ : Fin 257) (7 : Fin 8) d) else 0 := by
  unfold dO7
  pointwise [gDoHi]
  rw [sel_slt]
  congr 1
  refine ld_at (T := S1x257x8x128) x.M8 x.h8 x.X8 _ _ _ (fun a => ?_)
  fin_cases a <;> simp [LoadRect.idx, Rect.unit]

theorem qr7_at (x : In Ideal c) (i : Fin 256) (d : Fin 128) :
    qr7 x (ix2 i d) = x.X0 (ix4 (0 : Fin 1) (⟨i.val, by omega⟩ : Fin 257) (7 : Fin 8) d) := by
  unfold qr7
  pointwise [gQHi]
  refine ld_at (T := S1x257x8x128) x.M0 x.h0 x.X0 _ _ _ (fun a => ?_)
  fin_cases a <;> simp [LoadRect.idx, Rect.unit]

theorem kt7_at (x : In Ideal c) (d : Fin 104) (j : Fin 256) :
    kt7 x (ix2 d j) = x.X1 (ix4 (0 : Fin 1) (⟨j.val, by omega⟩ : Fin 257) (7 : Fin 8) (⟨d.val, by omega⟩ : Fin 128)) := by
  unfold kt7
  pointwise [gKHi]
  refine ld_at (T := S1x257x8x128) x.M1 x.h1 x.X1 _ _ _ (fun a => ?_)
  fin_cases a <;> simp [LoadRect.idx, Rect.unit]

theorem kl7_at (x : In Ideal c) (d : Fin 128) :
    kl7 x (ix2 0 d) = x.X1 (ix4 (0 : Fin 1) (256 : Fin 257) (7 : Fin 8) d) := by
  unfold kl7
  pointwise [gKlHi]
  refine ld_at (T := S1x257x8x128) x.M1 x.h1 x.X1 _ _ _ (fun a => ?_)
  fin_cases a <;> simp [LoadRect.idx, Rect.unit]

theorem ps7_at (x : In Ideal c) (i : Fin 256) :
    ps7 x (ix3 0 0 i) = x.X5 (ix3 (0 : Fin 1) (7 : Fin 8) (⟨i.val, by omega⟩ : Fin 257)) := by
  unfold ps7
  refine ld_at (T := S1x8x257) x.M5 x.h5 x.X5 _ _ _ (fun a => ?_)
  fin_cases a <;> simp [LoadRect.idx, Rect.unit]

end Cert.KernelIdeal.Hand
-- ==== Proof.IndexLast.lean ====
/-
  What the last query's inputs hold, by head, key and lane.
-/
module

public import proofs.«01_k».proof.Proof.Scratch4

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

variable {c : Dev nD}

theorem doLast_at (x : In Ideal c) (h : Fin 8) (d : Fin 128) :
    doLast x (ix2 h d) = if d.val < 104 then x.X8 (ix4 (0 : Fin 1) (256 : Fin 257) h d) else 0 := by
  unfold doLast
  pointwise [gDoLast]
  rw [sel_slt]
  congr 1
  refine ld_at (T := S1x257x8x128) x.M8 x.h8 x.X8 _ _ _ (fun a => ?_)
  fin_cases a <;> simp [LoadRect.idx, Rect.unit]

theorem qLast_at (x : In Ideal c) (h : Fin 8) (d : Fin 128) :
    qLast x (ix2 h d) = x.X0 (ix4 (0 : Fin 1) (256 : Fin 257) h d) := by
  unfold qLast
  pointwise [gQl]
  refine ld_at (T := S1x257x8x128) x.M0 x.h0 x.X0 _ _ _ (fun a => ?_)
  fin_cases a <;> simp [LoadRect.idx, Rect.unit]

theorem psRow_at (x : In Ideal c) (i : Fin 128) :
    psRow x (ix2 0 i) = if hi : i.val < 8 then x.X5 (ix3 (0 : Fin 1) (⟨i.val, hi⟩ : Fin 8) (256 : Fin 257)) else 0 := by
  unfold psRow
  pointwise [gPsRow]
  by_cases hi : i.val < 8
  · rw [dif_pos hi, dif_pos hi]
    refine ld_at (T := S1x8x257) x.M5 x.h5 x.X5 _ _ _ (fun a => ?_)
    fin_cases a <;> simp [LoadRect.idx, Rect.unit]
  · rw [dif_neg hi, dif_neg hi]

theorem cCol_at (x : In Ideal c) (j : Fin 264) (i : Fin 128) (hi : i.val < 8) :
    cCol x (ix2 j i) = if hj : j.val < 257 then cv x ⟨i.val, hi⟩ ⟨j.val, hj⟩ 256 else 0 := by
  unfold cCol
  pointwise [gCcol]
  by_cases h1 : j.val < 128
  · rw [dif_pos h1, dif_pos hi, dif_pos (by omega)]
    unfold cv
    rw [dif_pos (by exact h1)]
    refine congrArg cod ?_
    refine ld_at (T := S1x257x8x128) x.M2 x.h2 x.X2 _ _ _ (fun a => ?_)
    fin_cases a <;> simp [LoadRect.idx, Rect.unit]
  · rw [dif_neg h1]
    by_cases h2 : j.val - 128 < 128
    · rw [dif_pos h2, dif_pos hi, dif_pos (by omega)]
      unfold cv
      rw [dif_neg (by exact h1), dif_pos (by show j.val < 256; omega)]
      refine congrArg cod ?_
      refine ld_at (T := S1x257x8x128) x.M3 x.h3 x.X3 _ _ _ (fun a => ?_)
      fin_cases a <;> simp [LoadRect.idx, Rect.unit]
    · rw [dif_neg h2, sel_eq _ 0 (by omega) (by omega), dif_pos hi]
      by_cases h3 : j.val < 257
      · rw [if_pos (by omega), dif_pos h3]
        unfold cv
        rw [dif_neg (by exact h1), dif_neg (by show ¬ j.val < 256; omega)]
        refine congrArg cod ?_
        have e0 : j.val - 128 - 128 = 0 := by omega
        refine ld_at (T := S1x257x8x128) x.M4 x.h4 x.X4 _ _ _ (fun a => ?_)
        fin_cases a <;> simp [LoadRect.idx, Rect.unit, e0]
      · rw [if_neg (by omega), dif_neg h3]

theorem vs0_at (x : In Ideal c) : vs0 x = x.X7 (ix3 (0 : Fin 1) (0 : Fin 1) (0 : Fin 8)) := by
  unfold vs0
  refine (x.h7.readAt_unread x.X7 _ _).trans (congrArg x.X7 (funext fun a => Fin.ext ?_))
  fin_cases a <;> rfl

theorem vs1_at (x : In Ideal c) : vs1 x = x.X7 (ix3 (0 : Fin 1) (0 : Fin 1) (1 : Fin 8)) := by
  unfold vs1
  refine (x.h7.readAt_unread x.X7 _ _).trans (congrArg x.X7 (funext fun a => Fin.ext ?_))
  fin_cases a <;> rfl

theorem vs2_at (x : In Ideal c) : vs2 x = x.X7 (ix3 (0 : Fin 1) (0 : Fin 1) (2 : Fin 8)) := by
  unfold vs2
  refine (x.h7.readAt_unread x.X7 _ _).trans (congrArg x.X7 (funext fun a => Fin.ext ?_))
  fin_cases a <;> rfl

theorem vs3_at (x : In Ideal c) : vs3 x = x.X7 (ix3 (0 : Fin 1) (0 : Fin 1) (3 : Fin 8)) := by
  unfold vs3
  refine (x.h7.readAt_unread x.X7 _ _).trans (congrArg x.X7 (funext fun a => Fin.ext ?_))
  fin_cases a <;> rfl

theorem vs4_at (x : In Ideal c) : vs4 x = x.X7 (ix3 (0 : Fin 1) (0 : Fin 1) (4 : Fin 8)) := by
  unfold vs4
  refine (x.h7.readAt_unread x.X7 _ _).trans (congrArg x.X7 (funext fun a => Fin.ext ?_))
  fin_cases a <;> rfl

theorem vs5_at (x : In Ideal c) : vs5 x = x.X7 (ix3 (0 : Fin 1) (0 : Fin 1) (5 : Fin 8)) := by
  unfold vs5
  refine (x.h7.readAt_unread x.X7 _ _).trans (congrArg x.X7 (funext fun a => Fin.ext ?_))
  fin_cases a <;> rfl

theorem vs6_at (x : In Ideal c) : vs6 x = x.X7 (ix3 (0 : Fin 1) (0 : Fin 1) (6 : Fin 8)) := by
  unfold vs6
  refine (x.h7.readAt_unread x.X7 _ _).trans (congrArg x.X7 (funext fun a => Fin.ext ?_))
  fin_cases a <;> rfl

theorem vs7_at (x : In Ideal c) : vs7 x = x.X7 (ix3 (0 : Fin 1) (0 : Fin 1) (7 : Fin 8)) := by
  unfold vs7
  refine (x.h7.readAt_unread x.X7 _ _).trans (congrArg x.X7 (funext fun a => Fin.ext ?_))
  fin_cases a <;> rfl

theorem vsRow_at (x : In Ideal c) (i : Fin 128) :
    vsRow x (ix2 0 i) = if hi : i.val < 8 then x.X7 (ix3 (0 : Fin 1) (0 : Fin 1) (⟨i.val, hi⟩ : Fin 8)) else 0 := by
  unfold vsRow
  pointwise [gVsRow]
  by_cases hi : i.val < 8
  · rw [dif_pos hi, dif_pos hi, vs0_at, vs1_at, vs2_at, vs3_at, vs4_at, vs5_at, vs6_at, vs7_at]
    obtain ⟨n, hn⟩ := i
    dsimp only at hi
    rw [sel_eq n 7 (by omega) (by omega), sel_eq n 6 (by omega) (by omega), sel_eq n 5 (by omega) (by omega), sel_eq n 4 (by omega) (by omega), sel_eq n 3 (by omega) (by omega), sel_eq n 2 (by omega) (by omega), sel_eq n 1 (by omega) (by omega), sel_eq n 0 (by omega) (by omega)]
    interval_cases n <;> rfl
  · rw [dif_neg hi, dif_neg hi]

end Cert.KernelIdeal.Hand
-- ==== Proof.RowSum.lean ====
/-
  The row sum and the score gradient of a head at an index.
-/
module

public import proofs.«01_k».proof.Proof.Scratch4

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

theorem sum_264 (f : Fin 264 → EReal) : ∑ j : Fin 264, f j = ∑ s : Fin 8, ∑ g : Fin 33, f ⟨8 * g.val + s.val, by omega⟩ := by
  rw [Finset.sum_comm, ← Fintype.sum_prod_type' (f := fun (g : Fin 33) (s : Fin 8) => f ⟨8 * g.val + s.val, by omega⟩)]
  refine (Fintype.sum_equiv (finProdFinEquiv (m := 33) (n := 8)) _ _ (fun p => ?_)).symm
  congr 1
  exact Fin.ext (by simp [finProdFinEquiv]; omega)

theorem sum_33 (f : Fin 33 → EReal) : ∑ g : Fin 33, f g = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 + f 32 := by
  simp only [Fin.sum_univ_castSucc, Fin.sum_univ_zero, zero_add]
  rfl

/-- The sum of eight rows, whichever of the eight rows is read. -/
theorem gRoll_at (x : FVec Ideal S8x256 .f32) (r : Fin 8) (i : Fin 256) :
    gRoll x (ix2 r i) = ∑ s : Fin 8, x (ix2 s i) := by
  rw [Fin.sum_univ_eight]
  fin_cases r
  · pointwise [gRoll]
    show ((x (ix2 (0 : Fin 8) i) + x (ix2 (4 : Fin 8) i)) + (x (ix2 (6 : Fin 8) i) + x (ix2 (2 : Fin 8) i))) + ((x (ix2 (7 : Fin 8) i) + x (ix2 (3 : Fin 8) i)) + (x (ix2 (5 : Fin 8) i) + x (ix2 (1 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (1 : Fin 8) i) + x (ix2 (5 : Fin 8) i)) + (x (ix2 (7 : Fin 8) i) + x (ix2 (3 : Fin 8) i))) + ((x (ix2 (0 : Fin 8) i) + x (ix2 (4 : Fin 8) i)) + (x (ix2 (6 : Fin 8) i) + x (ix2 (2 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (2 : Fin 8) i) + x (ix2 (6 : Fin 8) i)) + (x (ix2 (0 : Fin 8) i) + x (ix2 (4 : Fin 8) i))) + ((x (ix2 (1 : Fin 8) i) + x (ix2 (5 : Fin 8) i)) + (x (ix2 (7 : Fin 8) i) + x (ix2 (3 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (3 : Fin 8) i) + x (ix2 (7 : Fin 8) i)) + (x (ix2 (1 : Fin 8) i) + x (ix2 (5 : Fin 8) i))) + ((x (ix2 (2 : Fin 8) i) + x (ix2 (6 : Fin 8) i)) + (x (ix2 (0 : Fin 8) i) + x (ix2 (4 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (4 : Fin 8) i) + x (ix2 (0 : Fin 8) i)) + (x (ix2 (2 : Fin 8) i) + x (ix2 (6 : Fin 8) i))) + ((x (ix2 (3 : Fin 8) i) + x (ix2 (7 : Fin 8) i)) + (x (ix2 (1 : Fin 8) i) + x (ix2 (5 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (5 : Fin 8) i) + x (ix2 (1 : Fin 8) i)) + (x (ix2 (3 : Fin 8) i) + x (ix2 (7 : Fin 8) i))) + ((x (ix2 (4 : Fin 8) i) + x (ix2 (0 : Fin 8) i)) + (x (ix2 (2 : Fin 8) i) + x (ix2 (6 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (6 : Fin 8) i) + x (ix2 (2 : Fin 8) i)) + (x (ix2 (4 : Fin 8) i) + x (ix2 (0 : Fin 8) i))) + ((x (ix2 (5 : Fin 8) i) + x (ix2 (1 : Fin 8) i)) + (x (ix2 (3 : Fin 8) i) + x (ix2 (7 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRoll]
    show ((x (ix2 (7 : Fin 8) i) + x (ix2 (3 : Fin 8) i)) + (x (ix2 (5 : Fin 8) i) + x (ix2 (1 : Fin 8) i))) + ((x (ix2 (6 : Fin 8) i) + x (ix2 (2 : Fin 8) i)) + (x (ix2 (4 : Fin 8) i) + x (ix2 (0 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl

theorem sl (g : Fin 33) : S264x256.Slices ![8 * g.val, 0] S8x256 := by
  revert g
  decide

/-- Group `g` of eight rows. -/
def grp (u : FVec Ideal S264x256 .f32) (g : Fin 33) : FVec Ideal S8x256 .f32 :=
  extractStridedSlice S8x256 ![8 * g.val, 0] u (sl g)

theorem grp_at (u : FVec Ideal S264x256 .f32) (g : Fin 33) (r : Fin 8) (i : Fin 256) :
    grp u g (ix2 r i) = u (ix2 (⟨8 * g.val + r.val, by omega⟩ : Fin 264) i) := by
  unfold grp extractStridedSlice
  congr 1
  funext a
  fin_cases a <;> exact Fin.ext (by simp)

theorem gPart0_eq (u : FVec Ideal S264x256 .f32) :
    gPart0 u = addf (addf (addf (addf (addf (addf (addf (addf (addf (addf (addf (addf (addf (addf (addf (addf (grp u 0) (grp u 1)) (grp u 2)) (grp u 3)) (grp u 4)) (grp u 5)) (grp u 6)) (grp u 7)) (grp u 8)) (grp u 9)) (grp u 10)) (grp u 11)) (grp u 12)) (grp u 13)) (grp u 14)) (grp u 15)) (grp u 16) := rfl

theorem gPart1_eq (u : FVec Ideal S264x256 .f32) :
    gPart1 u = addf (addf (addf (addf (addf (addf (addf (addf (addf (addf (addf (addf (addf (addf (addf (grp u 17) (grp u 18)) (grp u 19)) (grp u 20)) (grp u 21)) (grp u 22)) (grp u 23)) (grp u 24)) (grp u 25)) (grp u 26)) (grp u 27)) (grp u 28)) (grp u 29)) (grp u 30)) (grp u 31)) (grp u 32) := rfl

/-- The row sum, whichever of its eight rows is read. -/
theorem gSum_at (u : FVec Ideal S264x256 .f32) (r : Fin 8) (i : Fin 256) :
    gSum u (ix2 r i) = ∑ j : Fin 264, u (ix2 j i) := by
  show gRoll (gPart0 u) (ix2 r i) + gRoll (gPart1 u) (ix2 r i) = _
  rw [gRoll_at, gRoll_at, sum_264, ← Finset.sum_add_distrib]
  refine Finset.sum_congr rfl fun s _ => ?_
  have e : ∀ g : Fin 33, u (ix2 (⟨8 * g.val + s.val, by omega⟩ : Fin 264) i) = grp u g (ix2 s i) := fun g => (grp_at u g s i).symm
  rw [Finset.sum_congr rfl fun g _ => e g, gPart0_eq, gPart1_eq]
  generalize grp u = G
  have e2 : ∀ (x y : FVec Ideal S8x256 .f32), addf x y (ix2 s i) = x (ix2 s i) + y (ix2 s i) := fun _ _ => rfl
  simp only [e2]
  rw [sum_33]
  ac_rfl

/-- The sum of eight rows, whichever of the eight rows is read. -/
theorem gRollc_at (x : FVec Ideal S8x128 .f32) (r : Fin 8) (i : Fin 128) :
    gRollc x (ix2 r i) = ∑ s : Fin 8, x (ix2 s i) := by
  rw [Fin.sum_univ_eight]
  fin_cases r
  · pointwise [gRollc]
    show ((x (ix2 (0 : Fin 8) i) + x (ix2 (4 : Fin 8) i)) + (x (ix2 (6 : Fin 8) i) + x (ix2 (2 : Fin 8) i))) + ((x (ix2 (7 : Fin 8) i) + x (ix2 (3 : Fin 8) i)) + (x (ix2 (5 : Fin 8) i) + x (ix2 (1 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (1 : Fin 8) i) + x (ix2 (5 : Fin 8) i)) + (x (ix2 (7 : Fin 8) i) + x (ix2 (3 : Fin 8) i))) + ((x (ix2 (0 : Fin 8) i) + x (ix2 (4 : Fin 8) i)) + (x (ix2 (6 : Fin 8) i) + x (ix2 (2 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (2 : Fin 8) i) + x (ix2 (6 : Fin 8) i)) + (x (ix2 (0 : Fin 8) i) + x (ix2 (4 : Fin 8) i))) + ((x (ix2 (1 : Fin 8) i) + x (ix2 (5 : Fin 8) i)) + (x (ix2 (7 : Fin 8) i) + x (ix2 (3 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (3 : Fin 8) i) + x (ix2 (7 : Fin 8) i)) + (x (ix2 (1 : Fin 8) i) + x (ix2 (5 : Fin 8) i))) + ((x (ix2 (2 : Fin 8) i) + x (ix2 (6 : Fin 8) i)) + (x (ix2 (0 : Fin 8) i) + x (ix2 (4 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (4 : Fin 8) i) + x (ix2 (0 : Fin 8) i)) + (x (ix2 (2 : Fin 8) i) + x (ix2 (6 : Fin 8) i))) + ((x (ix2 (3 : Fin 8) i) + x (ix2 (7 : Fin 8) i)) + (x (ix2 (1 : Fin 8) i) + x (ix2 (5 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (5 : Fin 8) i) + x (ix2 (1 : Fin 8) i)) + (x (ix2 (3 : Fin 8) i) + x (ix2 (7 : Fin 8) i))) + ((x (ix2 (4 : Fin 8) i) + x (ix2 (0 : Fin 8) i)) + (x (ix2 (2 : Fin 8) i) + x (ix2 (6 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (6 : Fin 8) i) + x (ix2 (2 : Fin 8) i)) + (x (ix2 (4 : Fin 8) i) + x (ix2 (0 : Fin 8) i))) + ((x (ix2 (5 : Fin 8) i) + x (ix2 (1 : Fin 8) i)) + (x (ix2 (3 : Fin 8) i) + x (ix2 (7 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl
  · pointwise [gRollc]
    show ((x (ix2 (7 : Fin 8) i) + x (ix2 (3 : Fin 8) i)) + (x (ix2 (5 : Fin 8) i) + x (ix2 (1 : Fin 8) i))) + ((x (ix2 (6 : Fin 8) i) + x (ix2 (2 : Fin 8) i)) + (x (ix2 (4 : Fin 8) i) + x (ix2 (0 : Fin 8) i))) = x (ix2 (0 : Fin 8) i) + x (ix2 (1 : Fin 8) i) + x (ix2 (2 : Fin 8) i) + x (ix2 (3 : Fin 8) i) + x (ix2 (4 : Fin 8) i) + x (ix2 (5 : Fin 8) i) + x (ix2 (6 : Fin 8) i) + x (ix2 (7 : Fin 8) i)
    ac_rfl

theorem slc (g : Fin 33) : S264x128.Slices ![8 * g.val, 0] S8x128 := by
  revert g
  decide

/-- Group `g` of eight rows. -/
def grpc (u : FVec Ideal S264x128 .f32) (g : Fin 33) : FVec Ideal S8x128 .f32 :=
  extractStridedSlice S8x128 ![8 * g.val, 0] u (slc g)

theorem grpc_at (u : FVec Ideal S264x128 .f32) (g : Fin 33) (r : Fin 8) (i : Fin 128) :
    grpc u g (ix2 r i) = u (ix2 (⟨8 * g.val + r.val, by omega⟩ : Fin 264) i) := by
  unfold grpc extractStridedSlice
  congr 1
  funext a
  fin_cases a <;> exact Fin.ext (by simp)

theorem gPart0c_eq (u : FVec Ideal S264x128 .f32) :
    gPart0c u = addf (addf (addf (addf (addf (addf (addf (addf (addf (addf (addf (addf (addf (addf (addf (addf (grpc u 0) (grpc u 1)) (grpc u 2)) (grpc u 3)) (grpc u 4)) (grpc u 5)) (grpc u 6)) (grpc u 7)) (grpc u 8)) (grpc u 9)) (grpc u 10)) (grpc u 11)) (grpc u 12)) (grpc u 13)) (grpc u 14)) (grpc u 15)) (grpc u 16) := rfl

theorem gPart1c_eq (u : FVec Ideal S264x128 .f32) :
    gPart1c u = addf (addf (addf (addf (addf (addf (addf (addf (addf (addf (addf (addf (addf (addf (addf (grpc u 17) (grpc u 18)) (grpc u 19)) (grpc u 20)) (grpc u 21)) (grpc u 22)) (grpc u 23)) (grpc u 24)) (grpc u 25)) (grpc u 26)) (grpc u 27)) (grpc u 28)) (grpc u 29)) (grpc u 30)) (grpc u 31)) (grpc u 32) := rfl

/-- The row sum, whichever of its eight rows is read. -/
theorem gSumc_at (u : FVec Ideal S264x128 .f32) (r : Fin 8) (i : Fin 128) :
    gSumc u (ix2 r i) = ∑ j : Fin 264, u (ix2 j i) := by
  show gRollc (gPart0c u) (ix2 r i) + gRollc (gPart1c u) (ix2 r i) = _
  rw [gRollc_at, gRollc_at, sum_264, ← Finset.sum_add_distrib]
  refine Finset.sum_congr rfl fun s _ => ?_
  have e : ∀ g : Fin 33, u (ix2 (⟨8 * g.val + s.val, by omega⟩ : Fin 264) i) = grpc u g (ix2 s i) := fun g => (grpc_at u g s i).symm
  rw [Finset.sum_congr rfl fun g _ => e g, gPart0c_eq, gPart1c_eq]
  generalize grpc u = G
  have e2 : ∀ (x y : FVec Ideal S8x128 .f32), addf x y (ix2 s i) = x (ix2 s i) + y (ix2 s i) := fun _ _ => rfl
  simp only [e2]
  rw [sum_33]
  ac_rfl

theorem trunc_same (x : FVec Ideal S264x256 .f32) : truncf .bf16 x bitsLt_bf16_f32 = x := rfl

/-- A stack of 33 groups of eight rows. -/
theorem stack_at (xs : List ((s : Shape) × (s.Idx → EReal))) (P : Fin 33 → S8x256.Idx → EReal)
    (hx : xs = List.ofFn fun g => (⟨S8x256, P g⟩ : (s : Shape) × (s.Idx → EReal)))
    (h : Shape.Concatenates (xs.map (·.1)) S264x256 0) (g : Fin 33) (r : Fin 8) (i : Fin 256) :
    concatenate S264x256 0 xs h (ix2 (⟨8 * g.val + r.val, by omega⟩ : Fin 264) i) = P g (ix2 r i) := by
  refine concatenate_apply_piece (t := S264x256) (0 : Fin 2) xs h _ g.val ?_ S8x256 (P g) ?_ rfl (8 * g.val) ?_ (ix2 r i) ?_ ?_
  · subst hx
    rw [List.length_ofFn]
    exact g.isLt
  · subst hx
    rw [List.getElem_ofFn]
  · subst hx
    clear h r i
    rw [List.map_take, List.map_take, List.map_ofFn, List.map_ofFn]
    have e : (List.ofFn ((fun s : Shape => if h : s.rank = S264x256.rank then s.size ((0 : Fin S264x256.rank).cast h.symm) else 0) ∘ (fun x : (s : Shape) × (s.Idx → EReal) => x.1) ∘ fun g => (⟨S8x256, P g⟩ : (s : Shape) × (s.Idx → EReal))))
        = List.replicate 33 8 := rfl
    have e2 : ((List.replicate 33 8).take g.val).sum = 8 * g.val := by
      rw [List.take_replicate, List.sum_replicate, min_eq_left (by omega), smul_eq_mul, mul_comm]
    exact (congrArg (fun l : List ℕ => (l.take g.val).sum) e).trans e2
  · exact fun b hb => by fin_cases b <;> first | exact absurd rfl hb | rfl
  · rfl

/-- The score gradient before rounding is the stack of its groups. -/
theorem gDs_group (ph dp : FVec Ideal S264x256 .f32) (ds : FVec Ideal S8x256 .f32) (g : Fin 33) (r : Fin 8) (i : Fin 256) :
    gDs ph dp ds (ix2 (⟨8 * g.val + r.val, by omega⟩ : Fin 264) i)
      = ph (ix2 (⟨8 * g.val + r.val, by omega⟩ : Fin 264) i) * (dp (ix2 (⟨8 * g.val + r.val, by omega⟩ : Fin 264) i) - ds (ix2 r i)) := by
  unfold gDs
  rw [trunc_same]
  refine (stack_at _ (fun g => mulf (grp ph g) (subf (grp dp g) ds)) rfl _ g r i).trans ?_
  show grp ph g (ix2 r i) * (grp dp g (ix2 r i) - ds (ix2 r i)) = _
  rw [grp_at, grp_at]

/-- The score gradient at an index, when the row sum's eight rows are equal. -/
theorem gDs_at (ph dp : FVec Ideal S264x256 .f32) (ds : FVec Ideal S8x256 .f32) (v : EReal) (j : Fin 264) (i : Fin 256)
    (hd : ∀ r : Fin 8, ds (ix2 r i) = v) : gDs ph dp ds (ix2 j i) = ph (ix2 j i) * (dp (ix2 j i) - v) := by
  have e : j = (⟨8 * (⟨j.val / 8, by omega⟩ : Fin 33).val + (⟨j.val % 8, by omega⟩ : Fin 8).val, by simp only; omega⟩ : Fin 264) := Fin.ext (by simp only; omega)
  rw [e, gDs_group, hd]

end Cert.KernelIdeal.Hand
-- ==== Proof.Spec.lean ====
/-
  The three gradients of one attention head in closed form, over the extended reals.

  `p j i` is the weight code of key `j` for query `i`, `ps i` the query's scale of it, `vs` the head's value scale.
-/

module

public import Idealize.ShloMosaic.Lib.Pointwise

@[expose] public section

noncomputable section

namespace Cert.Attn

open Idealize.ShloMosaic

/-- What one head of one batch entry reads. -/
@[ext] structure Head where
  q : Fin 257 → Fin 104 → EReal
  k : Fin 257 → Fin 104 → EReal
  v : Fin 257 → Fin 104 → EReal
  dO : Fin 257 → Fin 104 → EReal
  p : Fin 257 → Fin 257 → EReal
  ps : Fin 257 → EReal
  vs : EReal

/-- The score scale. -/
def scl : EReal := Scalar.ofBits (F := Ideal) .f32 0x3DC8D2AB#32

namespace Head

/-- The weight of key `j` for query `i`. -/
def w (a : Head) (j i : Fin 257) : EReal := a.p j i * a.ps i

/-- The product of a value row and an output gradient row, before the value scale. -/
def prod (a : Head) (j i : Fin 257) : EReal := ∑ d : Fin 104, a.v j d * a.dO i d

/-- The score gradient of key `j` for query `i`. -/
def ds (a : Head) (j i : Fin 257) : EReal := a.w j i * (a.prod j i * a.vs - ∑ j' : Fin 257, a.prod j' i * a.vs * a.w j' i)

/-- The value gradient. -/
def dv (a : Head) (j : Fin 257) (l : Fin 104) : EReal := ∑ i : Fin 257, a.w j i * a.dO i l

/-- The key gradient. -/
def dk (a : Head) (j : Fin 257) (l : Fin 104) : EReal := (∑ i : Fin 257, a.ds j i * a.q i l) * scl

/-- The query gradient. -/
def dq (a : Head) (i : Fin 257) (l : Fin 104) : EReal := (∑ j : Fin 257, a.ds j i * a.k j l) * scl

end Head

end Cert.Attn

end
-- ==== Proof.AtPieces.lean ====
/-
  The matrix products and the output pieces of a head at an index.
-/
module

public import proofs.«01_k».proof.Proof.Scratch4
public import proofs.«01_k».proof.Proof.Spec

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

theorem gDv_at (codes : FVec Ideal S264x256 .f32) (psb : FVec Ideal S1x256 .f32) (dO : FVec Ideal S256x128 .bf16) (pl : FVec Ideal S264x1 .f32) (dol : FVec Ideal S1x128 .f32)
    (j : Fin 264) (l : Fin 128) :
    gDv codes psb dO pl dol (ix2 j l) = (∑ i : Fin 256, codes (ix2 j i) * psb (ix2 0 i) * dO (ix2 i l)) + pl (ix2 j 0) * dol (ix2 0 l) := by
  pointwise [gDv]

theorem gDk_at (ds : FVec Ideal S264x256 .bf16) (q : FVec Ideal S256x128 .bf16) (dsl : FVec Ideal S264x1 .f32) (ql : FVec Ideal S1x128 .f32) (j : Fin 264) (l : Fin 128) :
    gDk ds q dsl ql (ix2 j l) = (∑ i : Fin 256, ds (ix2 j i) * q (ix2 i l)) + dsl (ix2 j 0) * ql (ix2 0 l) := by
  pointwise [gDk]

theorem gKcol_at (kl : FVec Ideal S1x128 .f32) (d : Fin 104) : gKcol kl (ix2 d 0) = kl (ix2 0 (⟨d.val, by omega⟩ : Fin 128)) := by
  pointwise [gKcol]

theorem gDqt_at (kt : FVec Ideal S104x256 .bf16) (ds : FVec Ideal S264x256 .bf16) (kcol : FVec Ideal S104x1 .f32) (d : Fin 104) (i : Fin 256) :
    gDqt kt ds kcol (ix2 d i) = (∑ j : Fin 256, kt (ix2 d j) * ds (ix2 (⟨j.val, by omega⟩ : Fin 264) i)) + kcol (ix2 d 0) * ds (ix2 (256 : Fin 264) i) := by
  pointwise [gDqt]

theorem gDql0_at (dsn : FVec Ideal S8x256 .bf16) (kt : FVec Ideal S104x256 .bf16) (r : Fin 8) (l : Fin 128) (hl : l.val < 104) :
    gDql dsn kt (iota .tc S8x1 32 [0] iota_S8x1_d0_w32) 0#32 (ix2 r l) = if r.val = 0 then ∑ j : Fin 256, dsn (ix2 r j) * kt (ix2 (⟨l.val, hl⟩ : Fin 104) j) else 0 := by
  rw [← sel_eq r.val 0 (by omega) (by omega)]
  pointwise [gDql]
  rw [dif_pos hl]

theorem gDql1_at (dsn : FVec Ideal S8x256 .bf16) (kt : FVec Ideal S104x256 .bf16) (r : Fin 8) (l : Fin 128) (hl : l.val < 104) :
    gDql dsn kt (iota .tc S8x1 32 [0] iota_S8x1_d0_w32) 1#32 (ix2 r l) = if r.val = 1 then ∑ j : Fin 256, dsn (ix2 r j) * kt (ix2 (⟨l.val, hl⟩ : Fin 104) j) else 0 := by
  rw [← sel_eq r.val 1 (by omega) (by omega)]
  pointwise [gDql]
  rw [dif_pos hl]

theorem gDql2_at (dsn : FVec Ideal S8x256 .bf16) (kt : FVec Ideal S104x256 .bf16) (r : Fin 8) (l : Fin 128) (hl : l.val < 104) :
    gDql dsn kt (iota .tc S8x1 32 [0] iota_S8x1_d0_w32) 2#32 (ix2 r l) = if r.val = 2 then ∑ j : Fin 256, dsn (ix2 r j) * kt (ix2 (⟨l.val, hl⟩ : Fin 104) j) else 0 := by
  rw [← sel_eq r.val 2 (by omega) (by omega)]
  pointwise [gDql]
  rw [dif_pos hl]

theorem gDql3_at (dsn : FVec Ideal S8x256 .bf16) (kt : FVec Ideal S104x256 .bf16) (r : Fin 8) (l : Fin 128) (hl : l.val < 104) :
    gDql dsn kt (iota .tc S8x1 32 [0] iota_S8x1_d0_w32) 3#32 (ix2 r l) = if r.val = 3 then ∑ j : Fin 256, dsn (ix2 r j) * kt (ix2 (⟨l.val, hl⟩ : Fin 104) j) else 0 := by
  rw [← sel_eq r.val 3 (by omega) (by omega)]
  pointwise [gDql]
  rw [dif_pos hl]

theorem gDql4_at (dsn : FVec Ideal S8x256 .bf16) (kt : FVec Ideal S104x256 .bf16) (r : Fin 8) (l : Fin 128) (hl : l.val < 104) :
    gDql dsn kt (iota .tc S8x1 32 [0] iota_S8x1_d0_w32) 4#32 (ix2 r l) = if r.val = 4 then ∑ j : Fin 256, dsn (ix2 r j) * kt (ix2 (⟨l.val, hl⟩ : Fin 104) j) else 0 := by
  rw [← sel_eq r.val 4 (by omega) (by omega)]
  pointwise [gDql]
  rw [dif_pos hl]

theorem gDql5_at (dsn : FVec Ideal S8x256 .bf16) (kt : FVec Ideal S104x256 .bf16) (r : Fin 8) (l : Fin 128) (hl : l.val < 104) :
    gDql dsn kt (iota .tc S8x1 32 [0] iota_S8x1_d0_w32) 5#32 (ix2 r l) = if r.val = 5 then ∑ j : Fin 256, dsn (ix2 r j) * kt (ix2 (⟨l.val, hl⟩ : Fin 104) j) else 0 := by
  rw [← sel_eq r.val 5 (by omega) (by omega)]
  pointwise [gDql]
  rw [dif_pos hl]

theorem gDql6_at (dsn : FVec Ideal S8x256 .bf16) (kt : FVec Ideal S104x256 .bf16) (r : Fin 8) (l : Fin 128) (hl : l.val < 104) :
    gDql dsn kt (iota .tc S8x1 32 [0] iota_S8x1_d0_w32) 6#32 (ix2 r l) = if r.val = 6 then ∑ j : Fin 256, dsn (ix2 r j) * kt (ix2 (⟨l.val, hl⟩ : Fin 104) j) else 0 := by
  rw [← sel_eq r.val 6 (by omega) (by omega)]
  pointwise [gDql]
  rw [dif_pos hl]

theorem gDql7_at (dsn : FVec Ideal S8x256 .bf16) (kt : FVec Ideal S104x256 .bf16) (r : Fin 8) (l : Fin 128) (hl : l.val < 104) :
    gDql dsn kt (iota .tc S8x1 32 [0] iota_S8x1_d0_w32) 7#32 (ix2 r l) = if r.val = 7 then ∑ j : Fin 256, dsn (ix2 r j) * kt (ix2 (⟨l.val, hl⟩ : Fin 104) j) else 0 := by
  rw [← sel_eq r.val 7 (by omega) (by omega)]
  pointwise [gDql]
  rw [dif_pos hl]

theorem gTurn_at (x : FVec Ideal S104x256 .f32) (i : Fin 256) (l : Fin 128) (hl : l.val < 104) : gTurn x (ix2 i l) = x (ix2 (⟨l.val, hl⟩ : Fin 104) i) * Attn.scl := by
  generalize hs : Attn.scl = s
  pointwise [gTurn]
  subst hs
  exact dif_pos hl

theorem gOutDq_lo (lo hi : FVec Ideal S256x128 .f32) (i : Fin 256) (l : Fin 128) : gOutDq lo hi (ix4 0 i 0 l) = lo (ix2 i l) := by
  pointwise [gOutDq]

theorem gOutDq_hi (lo hi : FVec Ideal S256x128 .f32) (i : Fin 256) (l : Fin 128) : gOutDq lo hi (ix4 0 i 1 l) = hi (ix2 i l) := by
  pointwise [gOutDq]

theorem gOutDk_lo (lo hi : FVec Ideal S264x128 .f32) (i : Fin 256) (l : Fin 128) : gOutDk lo hi (ix4 0 i 0 l) = lo (ix2 (⟨i.val, by omega⟩ : Fin 264) l) * Attn.scl := by
  generalize hs : Attn.scl = s
  pointwise [gOutDk]
  subst hs
  rfl

theorem gOutDkl_lo (lo hi : FVec Ideal S264x128 .f32) (l : Fin 128) : gOutDkl lo hi (ix4 0 0 0 l) = lo (ix2 (256 : Fin 264) l) * Attn.scl := by
  generalize hs : Attn.scl = s
  pointwise [gOutDkl]
  subst hs
  rfl

theorem gOutDv_lo (lo hi : FVec Ideal S264x128 .f32) (i : Fin 256) (l : Fin 128) : gOutDv lo hi (ix4 0 i 0 l) = lo (ix2 (⟨i.val, by omega⟩ : Fin 264) l) := by
  pointwise [gOutDv]

theorem gOutDvl_lo (lo hi : FVec Ideal S264x128 .f32) (l : Fin 128) : gOutDvl lo hi (ix4 0 0 0 l) = lo (ix2 (256 : Fin 264) l) := by
  pointwise [gOutDvl]

theorem gOutDk_hi (lo hi : FVec Ideal S264x128 .f32) (i : Fin 256) (l : Fin 128) : gOutDk lo hi (ix4 0 i 1 l) = hi (ix2 (⟨i.val, by omega⟩ : Fin 264) l) * Attn.scl := by
  generalize hs : Attn.scl = s
  pointwise [gOutDk]
  subst hs
  rfl

theorem gOutDkl_hi (lo hi : FVec Ideal S264x128 .f32) (l : Fin 128) : gOutDkl lo hi (ix4 0 0 1 l) = hi (ix2 (256 : Fin 264) l) * Attn.scl := by
  generalize hs : Attn.scl = s
  pointwise [gOutDkl]
  subst hs
  rfl

theorem gOutDv_hi (lo hi : FVec Ideal S264x128 .f32) (i : Fin 256) (l : Fin 128) : gOutDv lo hi (ix4 0 i 1 l) = hi (ix2 (⟨i.val, by omega⟩ : Fin 264) l) := by
  pointwise [gOutDv]

theorem gOutDvl_hi (lo hi : FVec Ideal S264x128 .f32) (l : Fin 128) : gOutDvl lo hi (ix4 0 0 1 l) = hi (ix2 (256 : Fin 264) l) := by
  pointwise [gOutDvl]

theorem gOutDqLast_at (x : FVec Ideal S8x128 .f32) (r : Fin 8) (l : Fin 128) : gOutDqLast x (ix4 0 0 r l) = x (ix2 r l) * Attn.scl := by
  generalize hs : Attn.scl = s
  pointwise [gOutDqLast]
  subst hs
  rfl

theorem gDsn_at (x : FVec Ideal S264x128 .bf16) (r : Fin 8) (j : Fin 256) : gDsn x (ix2 r j) = x (ix2 (⟨j.val, by omega⟩ : Fin 264) (⟨r.val, by omega⟩ : Fin 128)) := by
  pointwise [gDsn]

theorem gCorner_at (x : FVec Ideal S264x128 .f32) (k : Vec Ideal S1x1x8x128 .bf16) (r : Fin 8) (l : Fin 128) :
    gCorner x k (ix2 r l) = x (ix2 (256 : Fin 264) (⟨r.val, by omega⟩ : Fin 128)) * k (ix4 0 0 r l) := by
  pointwise [gCorner]

theorem gDsc_at (p t : FVec Ideal S264x128 .f32) (s : FVec Ideal S8x128 .f32) (j : Fin 264) (i : Fin 128) :
    gDsc p t s (ix2 j i) = p (ix2 j i) * (t (ix2 j i) - s (ix2 0 i)) := by
  pointwise [gDsc]

theorem gPcol_at (cc : FVec Ideal S264x128 .f32) (ps : FVec Ideal S1x128 .f32) (j : Fin 264) (i : Fin 128) : gPcol cc ps (ix2 j i) = cc (ix2 j i) * ps (ix2 0 i) := by
  pointwise [gPcol]

theorem gPhc_at (cc : FVec Ideal S264x128 .f32) (ps : FVec Ideal S1x128 .f32) (j : Fin 264) (i : Fin 128) : gPhc cc ps (ix2 j i) = cc (ix2 j i) * ps (ix2 0 i) := by
  pointwise [gPhc]

theorem gDpv_at (t : FVec Ideal S264x128 .f32) (vs : FVec Ideal S1x128 .f32) (j : Fin 264) (i : Fin 128) : gDpv t vs (ix2 j i) = t (ix2 j i) * vs (ix2 0 i) := by
  pointwise [gDpv]

theorem gTcol_at (x : FVec Ideal S8x264 .f32) (j : Fin 264) (i : Fin 8) : gTcol x (ix2 j (⟨i.val, by omega⟩ : Fin 128)) = x (ix2 i j) := by
  by_cases h1 : j.val < 128
  · pointwise [gTcol]
    rw [dif_pos h1]
  · by_cases h2 : j.val < 256
    · pointwise [gTcol]
      rw [dif_neg h1, dif_pos (by omega)]
      exact congrArg (fun k => x (ix2 i k)) (Fin.ext (by simp only; omega))
    · pointwise [gTcol]
      rw [dif_neg h1, dif_neg (by omega), dif_pos (by omega)]
      exact congrArg (fun k => x (ix2 i k)) (Fin.ext (by simp only; omega))

theorem gDpl_eq (dl : FVec Ideal S8x128 .bf16) (w : Fin 8 → FVec Ideal S264x128 .bf16) (r : Fin 8) (j : Fin 264) :
    gDpl dl (w 0) (w 1) (w 2) (w 3) (w 4) (w 5) (w 6) (w 7) (ix2 r j) = ∑ d : Fin 128, dl (ix2 r d) * w r (ix2 j d) := by
  have e : gDpl dl (w 0) (w 1) (w 2) (w 3) (w 4) (w 5) (w 6) (w 7) (ix2 r j)
      = (if r.val = 0 then ∑ d : Fin 128, dl (ix2 r d) * w 0 (ix2 j d) else 0) + (if r.val = 1 then ∑ d : Fin 128, dl (ix2 r d) * w 1 (ix2 j d) else 0)
        + (if r.val = 2 then ∑ d : Fin 128, dl (ix2 r d) * w 2 (ix2 j d) else 0) + (if r.val = 3 then ∑ d : Fin 128, dl (ix2 r d) * w 3 (ix2 j d) else 0)
        + (if r.val = 4 then ∑ d : Fin 128, dl (ix2 r d) * w 4 (ix2 j d) else 0) + (if r.val = 5 then ∑ d : Fin 128, dl (ix2 r d) * w 5 (ix2 j d) else 0)
        + (if r.val = 6 then ∑ d : Fin 128, dl (ix2 r d) * w 6 (ix2 j d) else 0) + (if r.val = 7 then ∑ d : Fin 128, dl (ix2 r d) * w 7 (ix2 j d) else 0) := by
    rw [← sel_eq r.val 0 (by omega) (by omega), ← sel_eq r.val 1 (by omega) (by omega), ← sel_eq r.val 2 (by omega) (by omega), ← sel_eq r.val 3 (by omega) (by omega),
      ← sel_eq r.val 4 (by omega) (by omega), ← sel_eq r.val 5 (by omega) (by omega), ← sel_eq r.val 6 (by omega) (by omega), ← sel_eq r.val 7 (by omega) (by omega)]
    pointwise [gDpl]
  rw [e]
  fin_cases r <;> simp

end Cert.KernelIdeal.Hand
-- ==== Proof.Algebra.lean ====
/-
  The algebra of the value scale.
-/
module

public import proofs.«01_k».proof.Proof.Scratch4
public import proofs.«01_k».proof.Proof.Spec

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

theorem sum_mul_scale {n : ℕ} (v : EReal) (h0 : 0 ≤ v) (h1 : v ≠ ⊤) (f : Fin n → EReal) : (∑ j, f j) * v = ∑ j, f j * v :=
  map_sum (⟨⟨fun a => a * v, zero_mul v⟩, fun a b => EReal.right_distrib_of_nonneg_of_ne_top h0 h1 a b⟩ : EReal →+ EReal) f Finset.univ

/-- A sum whose terms past the first `n` are zero. -/
theorem sum_cut {m n : ℕ} (hnm : n ≤ m) (f : Fin m → EReal) (h0 : ∀ j : Fin m, n ≤ j.val → f j = 0) :
    ∑ j : Fin m, f j = ∑ j : Fin n, f ⟨j.val, by omega⟩ := by
  obtain ⟨k, rfl⟩ : ∃ k, m = n + k := ⟨m - n, by omega⟩
  rw [Fin.sum_univ_add, Finset.sum_eq_zero (s := (Finset.univ : Finset (Fin k))), add_zero]
  · rfl
  · intro i _
    exact h0 _ (by simp)

theorem gInv_mul (v : EReal) (h0 : 0 < v) (h1 : v ≠ ⊤) : v * gInv (F := Ideal) v = 1 := by
  lift v to ℝ using ⟨h1, (lt_of_le_of_lt bot_le h0).ne'⟩
  have hv : (v : ℝ) ≠ 0 := by
    rintro rfl
    simp at h0
  show ((v : ℝ) : EReal) * (if Ideal.cmp .oeq ((v : ℝ) : EReal) (Ideal.ofBits .f32 0x00000000#32) = 1 then Ideal.ofBits .f32 0x00000000#32 else Ideal.div (Ideal.ofBits .f32 0x3F800000#32) ((v : ℝ) : EReal)) = 1
  have hz : ((v : ℝ) : EReal) ≠ 0 := by exact_mod_cast hv
  have hc : ¬ Ideal.cmp .oeq ((v : ℝ) : EReal) (Ideal.ofBits .f32 0x00000000#32) = 1 := by
    rw [Ideal.ofBits_zero_f32]
    show ¬ BitVec.ofBool (decide (((v : ℝ) : EReal) = 0)) = 1
    rw [decide_eq_false hz]
    decide
  rw [if_neg hc, Ideal.ofBits_one_f32]
  unfold Ideal.div
  rw [if_neg hz, one_mul, ← EReal.coe_inv, ← EReal.coe_mul, mul_inv_cancel₀ hv]
  rfl

/-- Scaling the weights by the value scale and the row sum by its reciprocal is scaling the products. -/
theorem scale_ds {n : ℕ} (vs inv : EReal) (h0 : 0 ≤ vs) (h1 : vs ≠ ⊤) (hi : 0 < vs → vs * inv = 1) (ps : EReal) (cc D : Fin n → EReal) (j : Fin n) :
    cc j * (ps * vs) * (D j - (∑ j', D j' * (cc j' * (ps * vs))) * inv)
      = cc j * ps * (D j * vs - ∑ j', D j' * vs * (cc j' * ps)) := by
  rcases h0.eq_or_lt with h | h
  · subst h
    simp
  · have e1 : ∑ j', D j' * (cc j' * (ps * vs)) = (∑ j', D j' * (cc j' * ps)) * vs := by
      rw [sum_mul_scale vs h0 h1]
      exact Finset.sum_congr rfl fun j' _ => by ac_rfl
    have e2 : ∑ j', D j' * vs * (cc j' * ps) = (∑ j', D j' * (cc j' * ps)) * vs := by
      rw [sum_mul_scale vs h0 h1]
      exact Finset.sum_congr rfl fun j' _ => by ac_rfl
    rw [e1, e2, mul_assoc _ vs inv, hi h, mul_one]
    generalize (∑ j', D j' * (cc j' * ps)) = S
    have e3 : D j * vs - S * vs = (D j - S) * vs := by
      rw [sub_eq_add_neg, sub_eq_add_neg, EReal.right_distrib_of_nonneg_of_ne_top h0 h1, EReal.neg_mul]
    rw [e3]
    ac_rfl

end Cert.KernelIdeal.Hand
-- ==== Proof.Closed.lean ====
/-
  A grid step's gradients in closed form: what the kernel computes of one head is the head's gradients.
-/
module

public import proofs.«01_k».proof.Proof.Index
public import proofs.«01_k».proof.Proof.IndexLast
public import proofs.«01_k».proof.Proof.RowSum
public import proofs.«01_k».proof.Proof.AtPieces
public import proofs.«01_k».proof.Proof.Algebra

@[expose] public section

set_option maxRecDepth 16384

noncomputable section

namespace Cert.KernelIdeal.Hand

open Cert.KernelIdeal Cert.KernelIdeal.Gen

open Idealize.ShloMosaic
open Idealize.ShloMosaic.TcCoe

set_option maxHeartbeats 4000000

variable {c : Dev nD}

/-- What the step's head `h` reads. -/
def hd (x : In Ideal c) (h : Fin 8) : Attn.Head where
  q i l := x.X0 (ix4 (0 : Fin 1) i h (⟨l.val, by omega⟩ : Fin 128))
  k j l := x.X1 (ix4 (0 : Fin 1) j h (⟨l.val, by omega⟩ : Fin 128))
  v j d := x.X6 (ix4 (0 : Fin 1) j h (⟨d.val, by omega⟩ : Fin 128))
  dO i d := x.X8 (ix4 (0 : Fin 1) i h (⟨d.val, by omega⟩ : Fin 128))
  p j i := cv x h j i
  ps i := x.X5 (ix3 (0 : Fin 1) h i)
  vs := x.X7 (ix3 (0 : Fin 1) (0 : Fin 1) h)

/-- The score gradient of a head from its inputs, queries below 256. -/
theorem ds_gen (x : In Ideal c) (h : Fin 8) (codes : FVec Ideal S264x256 .f32) (ps : Vec Ideal S1x1x256 .f32) (vs : Elt Ideal .f32)
    (val : FVec Ideal S264x128 .bf16) (dO : FVec Ideal S256x128 .bf16)
    (hC : ∀ (j : Fin 264) (i : Fin 256), codes (ix2 j i) = if hj : j.val < 257 then cv x h ⟨j.val, hj⟩ ⟨i.val, by omega⟩ else 0)
    (hV : ∀ (j : Fin 264) (d : Fin 128), val (ix2 j d) = if d.val < 104 then (if hj : j.val < 257 then x.X6 (ix4 (0 : Fin 1) ⟨j.val, hj⟩ h d) else 0) else 0)
    (hD : ∀ (i : Fin 256) (d : Fin 128), dO (ix2 i d) = if d.val < 104 then x.X8 (ix4 (0 : Fin 1) (⟨i.val, by omega⟩ : Fin 257) h d) else 0)
    (hP : ∀ i : Fin 256, ps (ix3 0 0 i) = x.X5 (ix3 (0 : Fin 1) h (⟨i.val, by omega⟩ : Fin 257)))
    (hS : vs = (hd x h).vs) (h0 : 0 ≤ (hd x h).vs) (h1 : (hd x h).vs ≠ ⊤) (j : Fin 264) (i : Fin 256) :
    gDs (gPh codes (gPsv ps vs)) (gDp val dO) (gDsum (gSum (gU (gDp val dO) (gPh codes (gPsv ps vs)))) (gInv vs)) (ix2 j i)
      = if hj : j.val < 257 then (hd x h).ds ⟨j.val, hj⟩ ⟨i.val, by omega⟩ else 0 := by
  subst hS
  have eP : ∀ j : Fin 264, gPh codes (gPsv ps (hd x h).vs) (ix2 j i) = codes (ix2 j i) * (ps (ix3 0 0 i) * (hd x h).vs) := by
    intro j
    generalize (hd x h).vs = s
    pointwise [gPh, gPsv]
  have eD : ∀ (j : Fin 264) (hj : j.val < 257), gDp val dO (ix2 j i) = (hd x h).prod ⟨j.val, hj⟩ ⟨i.val, by omega⟩ := by
    intro j hj
    have e : gDp val dO (ix2 j i) = ∑ d : Fin 128, val (ix2 j d) * dO (ix2 i d) := by
      pointwise [gDp]
    rw [e, sum_cut (n := 104) (by omega) _ (fun d hd => by rw [hV, if_neg (by omega), zero_mul])]
    unfold Attn.Head.prod
    refine Finset.sum_congr rfl fun d _ => ?_
    rw [hV, hD, if_pos (by exact d.isLt), if_pos (by exact d.isLt), dif_pos hj]
    rfl
  have hP' : ps (ix3 0 0 i) = (hd x h).ps ⟨i.val, by omega⟩ := hP i
  rw [gDs_at _ _ _ ((∑ j' : Fin 257, (hd x h).prod j' ⟨i.val, by omega⟩ * ((hd x h).p j' ⟨i.val, by omega⟩ * ((hd x h).ps ⟨i.val, by omega⟩ * (hd x h).vs))) * gInv (F := Ideal) (hd x h).vs) j i ?_]
  · by_cases hj : j.val < 257
    · rw [dif_pos hj, eP, eD j hj, hC, dif_pos hj, hP']
      exact scale_ds (hd x h).vs _ h0 h1 (fun hp => gInv_mul _ hp h1) ((hd x h).ps ⟨i.val, by omega⟩)
        (fun j => (hd x h).p j ⟨i.val, by omega⟩) (fun j => (hd x h).prod j ⟨i.val, by omega⟩) ⟨j.val, hj⟩
    · rw [dif_neg hj, eP, hC, dif_neg hj, zero_mul, zero_mul]
  · intro r
    have e : gDsum (gSum (gU (gDp val dO) (gPh codes (gPsv ps (hd x h).vs)))) (gInv (hd x h).vs) (ix2 r i)
        = gSum (gU (gDp val dO) (gPh codes (gPsv ps (hd x h).vs))) (ix2 r i) * gInv (F := Ideal) (hd x h).vs := rfl
    rw [e, gSum_at]
    refine congrArg (· * gInv (F := Ideal) (hd x h).vs) ?_
    have e2 : ∀ j : Fin 264, gU (gDp val dO) (gPh codes (gPsv ps (hd x h).vs)) (ix2 j i) = gDp val dO (ix2 j i) * gPh codes (gPsv ps (hd x h).vs) (ix2 j i) := fun _ => rfl
    rw [sum_cut (n := 257) (by omega) _ (fun j hj => by rw [e2, eP, hC, dif_neg (by omega), zero_mul, mul_zero])]
    refine Finset.sum_congr rfl fun j _ => ?_
    rw [e2, eP, eD _ (by exact j.isLt), hC, dif_pos (by exact j.isLt), hP']
    rfl

/-- The weights of the last query. -/
theorem pCol_at (x : In Ideal c) (h : Fin 8) (j : Fin 264) :
    pCol x (ix2 j (⟨h.val, by omega⟩ : Fin 128)) = if hj : j.val < 257 then (hd x h).w ⟨j.val, hj⟩ (Fin.last 256) else 0 := by
  unfold pCol
  rw [gPcol_at, cCol_at _ _ _ (by exact h.isLt), psRow_at, dif_pos (show (⟨h.val, by omega⟩ : Fin 128).val < 8 from h.isLt)]
  split
  · rfl
  · rw [zero_mul]

theorem phc_at (x : In Ideal c) (h : Fin 8) (j : Fin 264) :
    phc x (ix2 j (⟨h.val, by omega⟩ : Fin 128)) = if hj : j.val < 257 then (hd x h).w ⟨j.val, hj⟩ (Fin.last 256) else 0 := by
  unfold phc
  rw [gPhc_at, cCol_at _ _ _ (by exact h.isLt), psRow_at, dif_pos (show (⟨h.val, by omega⟩ : Fin 128).val < 8 from h.isLt)]
  split
  · rfl
  · rw [zero_mul]

/-- The value rows of head `h`. -/
def vals (x : In Ideal c) : Fin 8 → FVec Ideal S264x128 .bf16 := ![val0 x, val1 x, val2 x, val3 x, val4 x, val5 x, val6 x, val7 x]

theorem vals_at (x : In Ideal c) (h : Fin 8) (j : Fin 264) (d : Fin 128) :
    vals x h (ix2 j d) = if d.val < 104 then (if hj : j.val < 257 then x.X6 (ix4 (0 : Fin 1) ⟨j.val, hj⟩ h d) else 0) else 0 := by
  fin_cases h
  · exact val0_at x j d
  · exact val1_at x j d
  · exact val2_at x j d
  · exact val3_at x j d
  · exact val4_at x j d
  · exact val5_at x j d
  · exact val6_at x j d
  · exact val7_at x j d

theorem dpv_at (x : In Ideal c) (h : Fin 8) (j : Fin 264) (hj : j.val < 257) :
    dpv x (ix2 j (⟨h.val, by omega⟩ : Fin 128)) = (hd x h).prod ⟨j.val, hj⟩ (Fin.last 256) * (hd x h).vs := by
  unfold dpv
  rw [gDpv_at, gTcol_at, vsRow_at, dif_pos (by exact h.isLt)]
  refine congrArg (· * (hd x h).vs) ?_
  unfold dpl
  refine (gDpl_eq (doLast x) (vals x) h j).trans ?_
  rw [sum_cut (n := 104) (by omega) _ (fun d hd => by rw [vals_at, if_neg (by omega), mul_zero])]
  unfold Attn.Head.prod
  refine Finset.sum_congr rfl fun d _ => ?_
  rw [doLast_at, vals_at, if_pos (by exact d.isLt), if_pos (by exact d.isLt), dif_pos hj, mul_comm]
  rfl

/-- The score gradients of the last query. -/
theorem dsc_at (x : In Ideal c) (h : Fin 8) (j : Fin 264) :
    dsc x (ix2 j (⟨h.val, by omega⟩ : Fin 128)) = if hj : j.val < 257 then (hd x h).ds ⟨j.val, hj⟩ (Fin.last 256) else 0 := by
  unfold dsc
  rw [gDsc_at, gSumc_at, phc_at]
  by_cases hj : j.val < 257
  · rw [dif_pos hj, dif_pos hj, dpv_at x h j hj]
    unfold Attn.Head.ds
    have e2 : ∀ j : Fin 264, gUc (dpv x) (phc x) (ix2 j (⟨h.val, by omega⟩ : Fin 128)) = dpv x (ix2 j (⟨h.val, by omega⟩ : Fin 128)) * phc x (ix2 j (⟨h.val, by omega⟩ : Fin 128)) := fun _ => rfl
    rw [sum_cut (n := 257) (by omega) _ (fun j hj => by rw [e2, phc_at, dif_neg (by omega), mul_zero])]
    refine congrArg (fun s => (hd x h).w ⟨j.val, hj⟩ (Fin.last 256) * ((hd x h).prod ⟨j.val, hj⟩ (Fin.last 256) * (hd x h).vs - s)) (Finset.sum_congr rfl fun j _ => ?_)
    rw [e2, phc_at, dif_pos (by exact j.isLt), dpv_at x h _ (by exact j.isLt)]
  · rw [dif_neg hj, dif_neg hj, zero_mul]

/-- The value gradient of a head from its inputs. -/
theorem dv_gen (x : In Ideal c) (h : Fin 8) (codes : FVec Ideal S264x256 .f32) (ps : Vec Ideal S1x1x256 .f32)
    (dO : FVec Ideal S256x128 .bf16) (pl : FVec Ideal S264x1 .f32) (dol : FVec Ideal S1x128 .f32)
    (hC : ∀ (j : Fin 264) (i : Fin 256), codes (ix2 j i) = if hj : j.val < 257 then cv x h ⟨j.val, hj⟩ ⟨i.val, by omega⟩ else 0)
    (hD : ∀ (i : Fin 256) (d : Fin 128), dO (ix2 i d) = if d.val < 104 then x.X8 (ix4 (0 : Fin 1) (⟨i.val, by omega⟩ : Fin 257) h d) else 0)
    (hP : ∀ i : Fin 256, ps (ix3 0 0 i) = x.X5 (ix3 (0 : Fin 1) h (⟨i.val, by omega⟩ : Fin 257)))
    (hpl : ∀ j : Fin 264, pl (ix2 j 0) = pCol x (ix2 j (⟨h.val, by omega⟩ : Fin 128)))
    (hdol : ∀ l : Fin 128, dol (ix2 0 l) = doLast x (ix2 h l)) (j : Fin 264) (hj : j.val < 257) (l : Fin 128) (hl : l.val < 104) :
    gDv codes (gPsb ps) dO pl dol (ix2 j l) = (hd x h).dv ⟨j.val, hj⟩ ⟨l.val, hl⟩ := by
  have ePs : ∀ i : Fin 256, gPsb ps (ix2 0 i) = ps (ix3 0 0 i) := by
    intro i
    pointwise [gPsb]
  rw [gDv_at]
  unfold Attn.Head.dv
  rw [Fin.sum_univ_castSucc (n := 256)]
  refine congrArg₂ (· + ·) (Finset.sum_congr rfl fun i _ => ?_) ?_
  · rw [hC, dif_pos hj, ePs, hP, hD, if_pos hl]
    rfl
  · rw [hpl, pCol_at, dif_pos hj, hdol, doLast_at, if_pos hl]
    rfl

/-- The key gradient of a head from its score gradients, before the score scale. -/
theorem dk_gen (x : In Ideal c) (h : Fin 8) (ds : FVec Ideal S264x256 .bf16) (q : FVec Ideal S256x128 .bf16) (dsl : FVec Ideal S264x1 .f32) (ql : FVec Ideal S1x128 .f32)
    (hS : ∀ (j : Fin 264) (i : Fin 256), ds (ix2 j i) = if hj : j.val < 257 then (hd x h).ds ⟨j.val, hj⟩ ⟨i.val, by omega⟩ else 0)
    (hQ : ∀ (i : Fin 256) (d : Fin 128), q (ix2 i d) = x.X0 (ix4 (0 : Fin 1) (⟨i.val, by omega⟩ : Fin 257) h d))
    (hsl : ∀ j : Fin 264, dsl (ix2 j 0) = dsc x (ix2 j (⟨h.val, by omega⟩ : Fin 128)))
    (hql : ∀ l : Fin 128, ql (ix2 0 l) = qLast x (ix2 h l)) (j : Fin 264) (hj : j.val < 257) (l : Fin 128) (hl : l.val < 104) :
    gDk ds q dsl ql (ix2 j l) = ∑ i : Fin 257, (hd x h).ds ⟨j.val, hj⟩ i * (hd x h).q i ⟨l.val, hl⟩ := by
  rw [gDk_at, Fin.sum_univ_castSucc (n := 256)]
  refine congrArg₂ (· + ·) (Finset.sum_congr rfl fun i _ => ?_) ?_
  · rw [hS, dif_pos hj, hQ]
    rfl
  · rw [hsl, dsc_at, dif_pos hj, hql, qLast_at]
    rfl

/-- The query gradient of a head from its score gradients, before the score scale. -/
theorem dqt_gen (x : In Ideal c) (h : Fin 8) (ds : FVec Ideal S264x256 .bf16) (kt : FVec Ideal S104x256 .bf16) (kl : FVec Ideal S1x128 .f32)
    (hS : ∀ (j : Fin 264) (i : Fin 256), ds (ix2 j i) = if hj : j.val < 257 then (hd x h).ds ⟨j.val, hj⟩ ⟨i.val, by omega⟩ else 0)
    (hK : ∀ (d : Fin 104) (j : Fin 256), kt (ix2 d j) = x.X1 (ix4 (0 : Fin 1) (⟨j.val, by omega⟩ : Fin 257) h (⟨d.val, by omega⟩ : Fin 128)))
    (hkl : ∀ d : Fin 128, kl (ix2 0 d) = x.X1 (ix4 (0 : Fin 1) (256 : Fin 257) h d)) (d : Fin 104) (i : Fin 256) :
    gDqt kt ds (gKcol kl) (ix2 d i) = ∑ j : Fin 257, (hd x h).ds j ⟨i.val, by omega⟩ * (hd x h).k j d := by
  rw [gDqt_at, Fin.sum_univ_castSucc (n := 256)]
  refine congrArg₂ (· + ·) (Finset.sum_congr rfl fun j _ => ?_) ?_
  · rw [hS, dif_pos (by simp only; omega), hK, mul_comm]
    rfl
  · rw [gKcol_at, hkl, hS, dif_pos (by decide), mul_comm]
    rfl

/-- The first 256 keys' part of the last query's gradient. -/
theorem dql_gen (x : In Ideal c) (h : Fin 8) (kt : FVec Ideal S104x256 .bf16)
    (hK : ∀ (d : Fin 104) (j : Fin 256), kt (ix2 d j) = x.X1 (ix4 (0 : Fin 1) (⟨j.val, by omega⟩ : Fin 257) h (⟨d.val, by omega⟩ : Fin 128))) (l : Fin 128) (hl : l.val < 104) :
    (∑ j : Fin 256, gDsn (dsc x) (ix2 h j) * kt (ix2 (⟨l.val, hl⟩ : Fin 104) j))
      = ∑ j : Fin 256, (hd x h).ds j.castSucc (Fin.last 256) * (hd x h).k j.castSucc ⟨l.val, hl⟩ := by
  refine Finset.sum_congr rfl fun j _ => ?_
  rw [gDsn_at, dsc_at, dif_pos (by simp only; omega), hK]
  rfl

theorem ds0_at (x : In Ideal c) (h0 : 0 ≤ (hd x 0).vs) (h1 : (hd x 0).vs ≠ ⊤) (j : Fin 264) (i : Fin 256) :
    ds0 x (ix2 j i) = if hj : j.val < 257 then (hd x 0).ds ⟨j.val, hj⟩ ⟨i.val, by omega⟩ else 0 :=
  ds_gen x 0 (codes0 x) (ps0 x) (vs0 x) (val0 x) (dO0 x) (codes0_at x) (val0_at x) (dO0_at x) (ps0_at x) (vs0_at x) h0 h1 j i

theorem dv0_at (x : In Ideal c) (j : Fin 264) (hj : j.val < 257) (l : Fin 128) (hl : l.val < 104) :
    dv0 x (ix2 j l) = (hd x 0).dv ⟨j.val, hj⟩ ⟨l.val, hl⟩ :=
  dv_gen x 0 (codes0 x) (ps0 x) (dO0 x) _ _ (codes0_at x) (dO0_at x) (ps0_at x)
    (fun j => by generalize pCol x = u; pointwise []) (fun l => by generalize doLast x = u; pointwise [gWide]) j hj l hl

theorem dk0_at (x : In Ideal c) (h0 : 0 ≤ (hd x 0).vs) (h1 : (hd x 0).vs ≠ ⊤) (j : Fin 264) (hj : j.val < 257) (l : Fin 128) (hl : l.val < 104) :
    dk0 x (ix2 j l) = ∑ i : Fin 257, (hd x 0).ds ⟨j.val, hj⟩ i * (hd x 0).q i ⟨l.val, hl⟩ :=
  dk_gen x 0 (ds0 x) (qr0 x) _ _ (ds0_at x h0 h1) (qr0_at x)
    (fun j => by generalize dsc x = u; pointwise [gDsw]) (fun l => by generalize qLast x = u; pointwise []) j hj l hl

theorem dqt0_at (x : In Ideal c) (h0 : 0 ≤ (hd x 0).vs) (h1 : (hd x 0).vs ≠ ⊤) (d : Fin 104) (i : Fin 256) :
    dqt0 x (ix2 d i) = ∑ j : Fin 257, (hd x 0).ds j ⟨i.val, by omega⟩ * (hd x 0).k j d :=
  dqt_gen x 0 (ds0 x) (kt0 x) (kl0 x) (ds0_at x h0 h1) (kt0_at x) (kl0_at x) d i

theorem ds1_at (x : In Ideal c) (h0 : 0 ≤ (hd x 1).vs) (h1 : (hd x 1).vs ≠ ⊤) (j : Fin 264) (i : Fin 256) :
    ds1 x (ix2 j i) = if hj : j.val < 257 then (hd x 1).ds ⟨j.val, hj⟩ ⟨i.val, by omega⟩ else 0 :=
  ds_gen x 1 (codes1 x) (ps1 x) (vs1 x) (val1 x) (dO1 x) (codes1_at x) (val1_at x) (dO1_at x) (ps1_at x) (vs1_at x) h0 h1 j i

theorem dv1_at (x : In Ideal c) (j : Fin 264) (hj : j.val < 257) (l : Fin 128) (hl : l.val < 104) :
    dv1 x (ix2 j l) = (hd x 1).dv ⟨j.val, hj⟩ ⟨l.val, hl⟩ :=
  dv_gen x 1 (codes1 x) (ps1 x) (dO1 x) _ _ (codes1_at x) (dO1_at x) (ps1_at x)
    (fun j => by generalize pCol x = u; pointwise []) (fun l => by generalize doLast x = u; pointwise [gWide]) j hj l hl

theorem dk1_at (x : In Ideal c) (h0 : 0 ≤ (hd x 1).vs) (h1 : (hd x 1).vs ≠ ⊤) (j : Fin 264) (hj : j.val < 257) (l : Fin 128) (hl : l.val < 104) :
    dk1 x (ix2 j l) = ∑ i : Fin 257, (hd x 1).ds ⟨j.val, hj⟩ i * (hd x 1).q i ⟨l.val, hl⟩ :=
  dk_gen x 1 (ds1 x) (qr1 x) _ _ (ds1_at x h0 h1) (qr1_at x)
    (fun j => by generalize dsc x = u; pointwise [gDsw]) (fun l => by generalize qLast x = u; pointwise []) j hj l hl

theorem dqt1_at (x : In Ideal c) (h0 : 0 ≤ (hd x 1).vs) (h1 : (hd x 1).vs ≠ ⊤) (d : Fin 104) (i : Fin 256) :
    dqt1 x (ix2 d i) = ∑ j : Fin 257, (hd x 1).ds j ⟨i.val, by omega⟩ * (hd x 1).k j d :=
  dqt_gen x 1 (ds1 x) (kt1 x) (kl1 x) (ds1_at x h0 h1) (kt1_at x) (kl1_at x) d i

theorem ds2_at (x : In Ideal c) (h0 : 0 ≤ (hd x 2).vs) (h1 : (hd x 2).vs ≠ ⊤) (j : Fin 264) (i : Fin 256) :
    ds2 x (ix2 j i) = if hj : j.val < 257 then (hd x 2).ds ⟨j.val, hj⟩ ⟨i.val, by omega⟩ else 0 :=
  ds_gen x 2 (codes2 x) (ps2 x) (vs2 x) (val2 x) (dO2 x) (codes2_at x) (val2_at x) (dO2_at x) (ps2_at x) (vs2_at x) h0 h1 j i

theorem dv2_at (x : In Ideal c) (j : Fin 264) (hj : j.val < 257) (l : Fin 128) (hl : l.val < 104) :
    dv2 x (ix2 j l) = (hd x 2).dv ⟨j.val, hj⟩ ⟨l.val, hl⟩ :=
  dv_gen x 2 (codes2 x) (ps2 x) (dO2 x) _ _ (codes2_at x) (dO2_at x) (ps2_at x)
    (fun j => by generalize pCol x = u; pointwise []) (fun l => by generalize doLast x = u; pointwise [gWide]) j hj l hl

theorem dk2_at (x : In Ideal c) (h0 : 0 ≤ (hd x 2).vs) (h1 : (hd x 2).vs ≠ ⊤) (j : Fin 264) (hj : j.val < 257) (l : Fin 128) (hl : l.val < 104) :
    dk2 x (ix2 j l) = ∑ i : Fin 257, (hd x 2).ds ⟨j.val, hj⟩ i * (hd x 2).q i ⟨l.val, hl⟩ :=
  dk_gen x 2 (ds2 x) (qr2 x) _ _ (ds2_at x h0 h1) (qr2_at x)
    (fun j => by generalize dsc x = u; pointwise [gDsw]) (fun l => by generalize qLast x = u; pointwise []) j hj l hl

theorem dqt2_at (x : In Ideal c) (h0 : 0 ≤ (hd x 2).vs) (h1 : (hd x 2).vs ≠ ⊤) (d : Fin 104) (i : Fin 256) :
    dqt2 x (ix2 d i) = ∑ j : Fin 257, (hd x 2).ds j ⟨i.val, by omega⟩ * (hd x 2).k j d :=
  dqt_gen x 2 (ds2 x) (kt2 x) (kl2 x) (ds2_at x h0 h1) (kt2_at x) (kl2_at x) d i

theorem ds3_at (x : In Ideal c) (h0 : 0 ≤ (hd x 3).vs) (h1 : (hd x 3).vs ≠ ⊤) (j : Fin 264) (i : Fin 256) :
    ds3 x (ix2 j i) = if hj : j.val < 257 then (hd x 3).ds ⟨j.val, hj⟩ ⟨i.val, by omega⟩ else 0 :=
  ds_gen x 3 (codes3 x) (ps3 x) (vs3 x) (val3 x) (dO3 x) (codes3_at x) (val3_at x) (dO3_at x) (ps3_at x) (vs3_at x) h0 h1 j i

theorem dv3_at (x : In Ideal c) (j : Fin 264) (hj : j.val < 257) (l : Fin 128) (hl : l.val < 104) :
    dv3 x (ix2 j l) = (hd x 3).dv ⟨j.val, hj⟩ ⟨l.val, hl⟩ :=
  dv_gen x 3 (codes3 x) (ps3 x) (dO3 x) _ _ (codes3_at x) (dO3_at x) (ps3_at x)
    (fun j => by generalize pCol x = u; pointwise []) (fun l => by generalize doLast x = u; pointwise [gWide]) j hj l hl

theorem dk3_at (x : In Ideal c) (h0 : 0 ≤ (hd x 3).vs) (h1 : (hd x 3).vs ≠ ⊤) (j : Fin 264) (hj : j.val < 257) (l : Fin 128) (hl : l.val < 104) :
    dk3 x (ix2 j l) = ∑ i : Fin 257, (hd x 3).ds ⟨j.val, hj⟩ i * (hd x 3).q i ⟨l.val, hl⟩ :=
  dk_gen x 3 (ds3 x) (qr3 x) _ _ (ds3_at x h0 h1) (qr3_at x)
    (fun j => by generalize dsc x = u; pointwise [gDsw]) (fun l => by generalize qLast x = u; pointwise []) j hj l hl

theorem dqt3_at (x : In Ideal c) (h0 : 0 ≤ (hd x 3).vs) (h1 : (hd x 3).vs ≠ ⊤) (d : Fin 104) (i : Fin 256) :
    dqt3 x (ix2 d i) = ∑ j : Fin 257, (hd x 3).ds j ⟨i.val, by omega⟩ * (hd x 3).k j d :=
  dqt_gen x 3 (ds3 x) (kt3 x) (kl3 x) (ds3_at x h0 h1) (kt3_at x) (kl3_at x) d i

theorem ds4_at (x : In Ideal c) (h0 : 0 ≤ (hd x 4).vs) (h1 : (hd x 4).vs ≠ ⊤) (j : Fin 264) (i : Fin 256) :
    ds4 x (ix2 j i) = if hj : j.val < 257 then (hd x 4).ds ⟨j.val, hj⟩ ⟨i.val, by omega⟩ else 0 :=
  ds_gen x 4 (codes4 x) (ps4 x) (vs4 x) (val4 x) (dO4 x) (codes4_at x) (val4_at x) (dO4_at x) (ps4_at x) (vs4_at x) h0 h1 j i

theorem dv4_at (x : In Ideal c) (j : Fin 264) (hj : j.val < 257) (l : Fin 128) (hl : l.val < 104) :
    dv4 x (ix2 j l) = (hd x 4).dv ⟨j.val, hj⟩ ⟨l.val, hl⟩ :=
  dv_gen x 4 (codes4 x) (ps4 x) (dO4 x) _ _ (codes4_at x) (dO4_at x) (ps4_at x)
    (fun j => by generalize pCol x = u; pointwise []) (fun l => by generalize doLast x = u; pointwise [gWide]) j hj l hl

theorem dk4_at (x : In Ideal c) (h0 : 0 ≤ (hd x 4).vs) (h1 : (hd x 4).vs ≠ ⊤) (j : Fin 264) (hj : j.val < 257) (l : Fin 128) (hl : l.val < 104) :
    dk4 x (ix2 j l) = ∑ i : Fin 257, (hd x 4).ds ⟨j.val, hj⟩ i * (hd x 4).q i ⟨l.val, hl⟩ :=
  dk_gen x 4 (ds4 x) (qr4 x) _ _ (ds4_at x h0 h1) (qr4_at x)
    (fun j => by generalize dsc x = u; pointwise [gDsw]) (fun l => by generalize qLast x = u; pointwise []) j hj l hl

theorem dqt4_at (x : In Ideal c) (h0 : 0 ≤ (hd x 4).vs) (h1 : (hd x 4).vs ≠ ⊤) (d : Fin 104) (i : Fin 256) :
    dqt4 x (ix2 d i) = ∑ j : Fin 257, (hd x 4).ds j ⟨i.val, by omega⟩ * (hd x 4).k j d :=
  dqt_gen x 4 (ds4 x) (kt4 x) (kl4 x) (ds4_at x h0 h1) (kt4_at x) (kl4_at x) d i

theorem ds5_at (x : In Ideal c) (h0 : 0 ≤ (hd x 5).vs) (h1 : (hd x 5).vs ≠ ⊤) (j : Fin 264) (i : Fin 256) :
    ds5 x (ix2 j i) = if hj : j.val < 257 then (hd x 5).ds ⟨j.val, hj⟩ ⟨i.val, by omega⟩ else 0 :=
  ds_gen x 5 (codes5 x) (ps5 x) (vs5 x) (val5 x) (dO5 x) (codes5_at x) (val5_at x) (dO5_at x) (ps5_at x) (vs5_at x) h0 h1 j i

theorem dv5_at (x : In Ideal c) (j : Fin 264) (hj : j.val < 257) (l : Fin 128) (hl : l.val < 104) :
    dv5 x (ix2 j l) = (hd x 5).dv ⟨j.val, hj⟩ ⟨l.val, hl⟩ :=
  dv_gen x 5 (codes5 x) (ps5 x) (dO5 x) _ _ (codes5_at x) (dO5_at x) (ps5_at x)
    (fun j => by generalize pCol x = u; pointwise []) (fun l => by generalize doLast x = u; pointwise [gWide]) j hj l hl

theorem dk5_at (x : In Ideal c) (h0 : 0 ≤ (hd x 5).vs) (h1 : (hd x 5).vs ≠ ⊤) (j : Fin 264) (hj : j.val < 257) (l : Fin 128) (hl : l.val < 104) :
    dk5 x (ix2 j l) = ∑ i : Fin 257, (hd x 5).ds ⟨j.val, hj⟩ i * (hd x 5).q i ⟨l.val, hl⟩ :=
  dk_gen x 5 (ds5 x) (qr5 x) _ _ (ds5_at x h0 h1) (qr5_at x)
    (fun j => by generalize dsc x = u; pointwise [gDsw]) (fun l => by generalize qLast x = u; pointwise []) j hj l hl

theorem dqt5_at (x : In Ideal c) (h0 : 0 ≤ (hd x 5).vs) (h1 : (hd x 5).vs ≠ ⊤) (d : Fin 104) (i : Fin 256) :
    dqt5 x (ix2 d i) = ∑ j : Fin 257, (hd x 5).ds j ⟨i.val, by omega⟩ * (hd x 5).k j d :=
  dqt_gen x 5 (ds5 x) (kt5 x) (kl5 x) (ds5_at x h0 h1) (kt5_at x) (kl5_at x) d i

theorem ds6_at (x : In Ideal c) (h0 : 0 ≤ (hd x 6).vs) (h1 : (hd x 6).vs ≠ ⊤) (j : Fin 264) (i : Fin 256) :
    ds6 x (ix2 j i) = if hj : j.val < 257 then (hd x 6).ds ⟨j.val, hj⟩ ⟨i.val, by omega⟩ else 0 :=
  ds_gen x 6 (codes6 x) (ps6 x) (vs6 x) (val6 x) (dO6 x) (codes6_at x) (val6_at x) (dO6_at x) (ps6_at x) (vs6_at x) h0 h1 j i

theorem dv6_at (x : In Ideal c) (j : Fin 264) (hj : j.val < 257) (l : Fin 128) (hl : l.val < 104) :
    dv6 x (ix2 j l) = (hd x 6).dv ⟨j.val, hj⟩ ⟨l.val, hl⟩ :=
  dv_gen x 6 (codes6 x) (ps6 x) (dO6 x) _ _ (codes6_at x) (dO6_at x) (ps6_at x)
    (fun j => by generalize pCol x = u; pointwise []) (fun l => by generalize doLast x = u; pointwise [gWide]) j hj l hl

theorem dk6_at (x : In Ideal c) (h0 : 0 ≤ (hd x 6).vs) (h1 : (hd x 6).vs ≠ ⊤) (j : Fin 264) (hj : j.val < 257) (l : Fin 128) (hl : l.val < 104) :
    dk6 x (ix2 j l) = ∑ i : Fin 257, (hd x 6).ds ⟨j.val, hj⟩ i * (hd x 6).q i ⟨l.val, hl⟩ :=
  dk_gen x 6 (ds6 x) (qr6 x) _ _ (ds6_at x h0 h1) (qr6_at x)
    (fun j => by generalize dsc x = u; pointwise [gDsw]) (fun l => by generalize qLast x = u; pointwise []) j hj l hl

theorem dqt6_at (x : In Ideal c) (h0 : 0 ≤ (hd x 6).vs) (h1 : (hd x 6).vs ≠ ⊤) (d : Fin 104) (i : Fin 256) :
    dqt6 x (ix2 d i) = ∑ j : Fin 257, (hd x 6).ds j ⟨i.val, by omega⟩ * (hd x 6).k j d :=
  dqt_gen x 6 (ds6 x) (kt6 x) (kl6 x) (ds6_at x h0 h1) (kt6_at x) (kl6_at x) d i

theorem ds7_at (x : In Ideal c) (h0 : 0 ≤ (hd x 7).vs) (h1 : (hd x 7).vs ≠ ⊤) (j : Fin 264) (i : Fin 256) :
    ds7 x (ix2 j i) = if hj : j.val < 257 then (hd x 7).ds ⟨j.val, hj⟩ ⟨i.val, by omega⟩ else 0 :=
  ds_gen x 7 (codes7 x) (ps7 x) (vs7 x) (val7 x) (dO7 x) (codes7_at x) (val7_at x) (dO7_at x) (ps7_at x) (vs7_at x) h0 h1 j i

theorem dv7_at (x : In Ideal c) (j : Fin 264) (hj : j.val < 257) (l : Fin 128) (hl : l.val < 104) :
    dv7 x (ix2 j l) = (hd x 7).dv ⟨j.val, hj⟩ ⟨l.val, hl⟩ :=
  dv_gen x 7 (codes7 x) (ps7 x) (dO7 x) _ _ (codes7_at x) (dO7_at x) (ps7_at x)
    (fun j => by generalize pCol x = u; pointwise []) (fun l => by generalize doLast x = u; pointwise [gWide]) j hj l hl

theorem dk7_at (x : In Ideal c) (h0 : 0 ≤ (hd x 7).vs) (h1 : (hd x 7).vs ≠ ⊤) (j : Fin 264) (hj : j.val < 257) (l : Fin 128) (hl : l.val < 104) :
    dk7 x (ix2 j l) = ∑ i : Fin 257, (hd x 7).ds ⟨j.val, hj⟩ i * (hd x 7).q i ⟨l.val, hl⟩ :=
  dk_gen x 7 (ds7 x) (qr7 x) _ _ (ds7_at x h0 h1) (qr7_at x)
    (fun j => by generalize dsc x = u; pointwise [gDsw]) (fun l => by generalize qLast x = u; pointwise []) j hj l hl

theorem dqt7_at (x : In Ideal c) (h0 : 0 ≤ (hd x 7).vs) (h1 : (hd x 7).vs ≠ ⊤) (d : Fin 104) (i : Fin 256) :
    dqt7 x (ix2 d i) = ∑ j : Fin 257, (hd x 7).ds j ⟨i.val, by omega⟩ * (hd x 7).k j d :=
  dqt_gen x 7 (ds7 x) (kt7 x) (kl7 x) (ds7_at x h0 h1) (kt7_at x) (kl7_at x) d i

/-- The transposed keys of head `h`. -/
def kts (x : In Ideal c) : Fin 8 → FVec Ideal S104x256 .bf16 := ![kt0 x, kt1 x, kt2 x, kt3 x, kt4 x, kt5 x, kt6 x, kt7 x]

theorem kts_at (x : In Ideal c) (h : Fin 8) (d : Fin 104) (j : Fin 256) :
    kts x h (ix2 d j) = x.X1 (ix4 (0 : Fin 1) (⟨j.val, by omega⟩ : Fin 257) h (⟨d.val, by omega⟩ : Fin 128)) := by
  fin_cases h
  · exact kt0_at x d j
  · exact kt1_at x d j
  · exact kt2_at x d j
  · exact kt3_at x d j
  · exact kt4_at x d j
  · exact kt5_at x d j
  · exact kt6_at x d j
  · exact kt7_at x d j

/-- The last key's part of the last query's gradient. -/
theorem corner_at (x : In Ideal c) (r : Fin 8) (l : Fin 128) (hl : l.val < 104) :
    gCorner (gDsw (dsc x)) (View.readAt (Elt Ideal) x.M1.view (Rect.unit (s := S1x257x8x128) ![0, 256, 0, 0] S1x1x8x128.size inb_S1x257x8x128_S1x1x8x128_0_256_0_0).toLoadRect x.f1) (ix2 r l)
      = (hd x r).ds (Fin.last 256) (Fin.last 256) * (hd x r).k (Fin.last 256) ⟨l.val, hl⟩ := by
  have e : gDsw (dsc x) (ix2 (256 : Fin 264) (⟨r.val, by omega⟩ : Fin 128)) = dsc x (ix2 (256 : Fin 264) (⟨r.val, by omega⟩ : Fin 128)) := rfl
  rw [gCorner_at, e, dsc_at, dif_pos (by decide)]
  refine congrArg₂ (· * ·) rfl ?_
  refine ld_at (T := S1x257x8x128) x.M1 x.h1 x.X1 _ _ (ix4 (0 : Fin 1) (256 : Fin 257) r l) (fun a => ?_)
  fin_cases a <;> simp [LoadRect.idx, Rect.unit]

/-- The last query's gradient, before the score scale. -/
theorem dqLast_at (x : In Ideal c) (r : Fin 8) (l : Fin 128) (hl : l.val < 104) :
    dqLast x (ix2 r l) = ∑ j : Fin 257, (hd x r).ds j (Fin.last 256) * (hd x r).k j ⟨l.val, hl⟩ := by
  have e : dqLast x (ix2 r l) = gCorner (gDsw (dsc x)) (View.readAt (Elt Ideal) x.M1.view (Rect.unit (s := S1x257x8x128) ![0, 256, 0, 0] S1x1x8x128.size inb_S1x257x8x128_S1x1x8x128_0_256_0_0).toLoadRect x.f1) (ix2 r l)
      + dql0 x (ix2 r l) + dql1 x (ix2 r l) + dql2 x (ix2 r l) + dql3 x (ix2 r l) + dql4 x (ix2 r l) + dql5 x (ix2 r l) + dql6 x (ix2 r l) + dql7 x (ix2 r l) := rfl
  rw [e, corner_at x r l hl, Fin.sum_univ_castSucc, ← dql_gen x r (kts x r) (kts_at x r) l hl]
  have e0 : dql0 x (ix2 r l) = _ := gDql0_at (gDsn (dsc x)) (kt0 x) r l hl
  have e1 : dql1 x (ix2 r l) = _ := gDql1_at (gDsn (dsc x)) (kt1 x) r l hl
  have e2 : dql2 x (ix2 r l) = _ := gDql2_at (gDsn (dsc x)) (kt2 x) r l hl
  have e3 : dql3 x (ix2 r l) = _ := gDql3_at (gDsn (dsc x)) (kt3 x) r l hl
  have e4 : dql4 x (ix2 r l) = _ := gDql4_at (gDsn (dsc x)) (kt4 x) r l hl
  have e5 : dql5 x (ix2 r l) = _ := gDql5_at (gDsn (dsc x)) (kt5 x) r l hl
  have e6 : dql6 x (ix2 r l) = _ := gDql6_at (gDsn (dsc x)) (kt6 x) r l hl
  have e7 : dql7 x (ix2 r l) = _ := gDql7_at (gDsn (dsc x)) (kt7 x) r l hl
  rw [e0, e1, e2, e3, e4, e5, e6, e7, add_comm (∑ j : Fin 256, _)]
  generalize gDsn (dsc x) = u
  generalize (hd x r).ds (Fin.last 256) (Fin.last 256) * (hd x r).k (Fin.last 256) ⟨l.val, hl⟩ = w
  unfold kts
  fin_cases r <;> simp

end Cert.KernelIdeal.Hand
-- ==== Proof.Blocks.lean ====
/-
  What the blocks of a grid point hold, by the argument arrays: the step's head `h` at point `(b, g)` is head `8 g + h` of
  batch `b`.
-/
module

public import proofs.«01_k».proof.Proof.Closed
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic

set_option maxHeartbeats 4000000

variable (m : (ℓ : Loc nD τ sig) → Buf (Elt Ideal) ℓ) (c : Dev nD)

/-- Head `h` of batch `b`, read off the argument arrays. -/
def ahd (b : Fin 36) (h : Fin 16) : Attn.Head where
  q i l := (m ((c : Thread nD τ).loc main_arg0) : Vec Ideal S36x257x16x104 .bf16) (ix4 b i h l)
  k j l := (m ((c : Thread nD τ).loc main_arg1) : Vec Ideal S36x257x16x104 .bf16) (ix4 b j h l)
  v j d := (m ((c : Thread nD τ).loc main_arg4) : Vec Ideal S36x257x16x104 .fp8e4m3) (ix4 b j h d)
  dO i d := (m ((c : Thread nD τ).loc main_arg6) : Vec Ideal S36x257x16x104 .bf16) (ix4 b i h d)
  p j i := cod ((m ((c : Thread nD τ).loc main_arg2) : Vec Ideal S36x16x257x257 .i8) (ix4 b h i j))
  ps i := (m ((c : Thread nD τ).loc main_arg3) : Vec Ideal S36x16x257 .f32) (ix3 b h i)
  vs := (m ((c : Thread nD τ).loc main_arg5) : Vec Ideal S36x16 .f32) (ix2 b h)

/-- The batch of a grid point. -/
def bat (t : Fin cfg0.N) : Fin 36 := grid0.coords t 0
/-- The first eight or the last eight heads. -/
def grp2 (t : Fin cfg0.N) : Fin 2 := grid0.coords t 1
/-- The head that the step's head `h` is. -/
def hdx (t : Fin cfg0.N) (h : Fin 8) : Fin 16 := ⟨8 * (grp2 t).val + h.val, by omega⟩

theorem V_v0 (b : Fin 36) (i : Fin 257) (h : Fin 16) (j : Fin 257) :
    (V m c main_v0 : Vec Ideal S36x257x16x257 .i8) (ix4 b i h j) = (m ((c : Thread nD τ).loc main_arg2) : Vec Ideal S36x16x257x257 .i8) (ix4 b h i j) := by
  unfold_abbrev_sides
  after_results_simp
  generalize (m (c, Proc.devRef .tc main_arg2)) = u
  pointwise []

/-- The value scales cast to one row for each grid point. -/
theorem cast_at (u : Vec Ideal S36x16 .f32) (n : Fin 72) (h : Fin 8) (b : Fin 36) (g : Fin 16) (e : 8 * n.val + h.val = 16 * b.val + g.val) :
    shapeCast S72x1x8 u shapeCasts_S36x16_S72x1x8 (ix3 n (0 : Fin 1) h) = u (ix2 b g) :=
  shapeCast_apply u shapeCasts_S36x16_S72x1x8 (ix3 n (0 : Fin 1) h) (ix2 b g) (by
    rw [Shape.rowMajor_val_two, Shape.rowMajor_val_three]
    show b.val * 16 + g.val = (n.val * 1 + 0) * 8 + h.val
    omega)

theorem V_v1 (n : Fin 72) (h : Fin 8) (b : Fin 36) (g : Fin 16) (e : 8 * n.val + h.val = 16 * b.val + g.val) :
    (V m c main_v1 : Vec Ideal S72x1x8 .f32) (ix3 n (0 : Fin 1) h) = (m ((c : Thread nD τ).loc main_arg5) : Vec Ideal S36x16 .f32) (ix2 b g) := by
  unfold_abbrev_sides
  after_results_simp
  generalize (m (c, Proc.devRef .tc main_arg5)) = u
  exact cast_at u n h b g e

theorem e0_0 : ∀ t : Fin cfg0.N, win0_0.index t = ![(bat t).val, 0, (grp2 t).val, 0] := (by decide +kernel : ∀ t : Fin grid0.N, _)
theorem e0_1 : ∀ t : Fin cfg0.N, win0_1.index t = ![(bat t).val, 0, (grp2 t).val, 0] := (by decide +kernel : ∀ t : Fin grid0.N, _)
theorem e0_2 : ∀ t : Fin cfg0.N, win0_2.index t = ![(bat t).val, 0, (grp2 t).val, 0] := (by decide +kernel : ∀ t : Fin grid0.N, _)
theorem e0_3 : ∀ t : Fin cfg0.N, win0_3.index t = ![(bat t).val, 0, (grp2 t).val, 1] := (by decide +kernel : ∀ t : Fin grid0.N, _)
theorem e0_4 : ∀ t : Fin cfg0.N, win0_4.index t = ![(bat t).val, 0, (grp2 t).val, 2] := (by decide +kernel : ∀ t : Fin grid0.N, _)
theorem e0_5 : ∀ t : Fin cfg0.N, win0_5.index t = ![(bat t).val, (grp2 t).val, 0] := (by decide +kernel : ∀ t : Fin grid0.N, _)
theorem e0_6 : ∀ t : Fin cfg0.N, win0_6.index t = ![(bat t).val, 0, (grp2 t).val, 0] := (by decide +kernel : ∀ t : Fin grid0.N, _)
theorem e0_7 : ∀ t : Fin cfg0.N, win0_7.index t = ![2 * (bat t).val + (grp2 t).val, 0, 0] := (by decide +kernel : ∀ t : Fin grid0.N, _)
theorem e0_8 : ∀ t : Fin cfg0.N, win0_8.index t = ![(bat t).val, 0, (grp2 t).val, 0] := (by decide +kernel : ∀ t : Fin grid0.N, _)

theorem xs0_0 : ∀ t : Fin cfg0.N, ∀ a, (cfg0.win 0).xsize (cfg0.grid.coords t) a = (![1, 257, 8, 104] : Fin 4 → ℕ) a := by decide +kernel
theorem xs0_1 : ∀ t : Fin cfg0.N, ∀ a, (cfg0.win 1).xsize (cfg0.grid.coords t) a = (![1, 257, 8, 104] : Fin 4 → ℕ) a := by decide +kernel
theorem xs0_4 : ∀ t : Fin cfg0.N, ∀ a, (cfg0.win 4).xsize (cfg0.grid.coords t) a = (![1, 257, 8, 1] : Fin 4 → ℕ) a := by decide +kernel
theorem xs0_6 : ∀ t : Fin cfg0.N, ∀ a, (cfg0.win 6).xsize (cfg0.grid.coords t) a = (![1, 257, 8, 104] : Fin 4 → ℕ) a := by decide +kernel
theorem xs0_8 : ∀ t : Fin cfg0.N, ∀ a, (cfg0.win 8).xsize (cfg0.grid.coords t) a = (![1, 257, 8, 104] : Fin 4 → ℕ) a := by decide +kernel

theorem blk0 (t : Fin cfg0.N) (d) (i : Fin 257) (h : Fin 8) (l : Fin 128) (hl : l.val < 104) :
    ((cfg0.win 0).fill (cfg0.grid.coords t) d (iblk m c 0 t) : Vec Ideal S1x257x8x128 .bf16) (ix4 (0 : Fin 1) i h l)
      = (m ((c : Thread nD τ).loc main_arg0) : Vec Ideal S36x257x16x104 .bf16) (ix4 (bat t) i (hdx t h) ⟨l.val, hl⟩) := by
  unfold Pipeline.Window.fill
  rw [dif_pos (((cfg0.win 0).moved_iff _ _).mpr fun a => by rw [xs0_0 t a]; fin_cases a <;> simp [hl])]
  blk_simp [iblk]
  refine (congrFun (V_main_arg0 m c) _).trans (congrArg _ ?_)
  blk_ext [e0_0]
  show _ = 8 * (grp2 t).val + h.val
  omega

theorem blk1 (t : Fin cfg0.N) (d) (i : Fin 257) (h : Fin 8) (l : Fin 128) (hl : l.val < 104) :
    ((cfg0.win 1).fill (cfg0.grid.coords t) d (iblk m c 1 t) : Vec Ideal S1x257x8x128 .bf16) (ix4 (0 : Fin 1) i h l)
      = (m ((c : Thread nD τ).loc main_arg1) : Vec Ideal S36x257x16x104 .bf16) (ix4 (bat t) i (hdx t h) ⟨l.val, hl⟩) := by
  unfold Pipeline.Window.fill
  rw [dif_pos (((cfg0.win 1).moved_iff _ _).mpr fun a => by rw [xs0_1 t a]; fin_cases a <;> simp [hl])]
  blk_simp [iblk]
  refine (congrFun (V_main_arg1 m c) _).trans (congrArg _ ?_)
  blk_ext [e0_1]
  show _ = 8 * (grp2 t).val + h.val
  omega

theorem blk6 (t : Fin cfg0.N) (d) (i : Fin 257) (h : Fin 8) (l : Fin 128) (hl : l.val < 104) :
    ((cfg0.win 6).fill (cfg0.grid.coords t) d (iblk m c 6 t) : Vec Ideal S1x257x8x128 .fp8e4m3) (ix4 (0 : Fin 1) i h l)
      = (m ((c : Thread nD τ).loc main_arg4) : Vec Ideal S36x257x16x104 .fp8e4m3) (ix4 (bat t) i (hdx t h) ⟨l.val, hl⟩) := by
  unfold Pipeline.Window.fill
  rw [dif_pos (((cfg0.win 6).moved_iff _ _).mpr fun a => by rw [xs0_6 t a]; fin_cases a <;> simp [hl])]
  blk_simp [iblk]
  refine (congrFun (V_main_arg4 m c) _).trans (congrArg _ ?_)
  blk_ext [e0_6]
  show _ = 8 * (grp2 t).val + h.val
  omega

theorem blk8 (t : Fin cfg0.N) (d) (i : Fin 257) (h : Fin 8) (l : Fin 128) (hl : l.val < 104) :
    ((cfg0.win 8).fill (cfg0.grid.coords t) d (iblk m c 8 t) : Vec Ideal S1x257x8x128 .bf16) (ix4 (0 : Fin 1) i h l)
      = (m ((c : Thread nD τ).loc main_arg6) : Vec Ideal S36x257x16x104 .bf16) (ix4 (bat t) i (hdx t h) ⟨l.val, hl⟩) := by
  unfold Pipeline.Window.fill
  rw [dif_pos (((cfg0.win 8).moved_iff _ _).mpr fun a => by rw [xs0_8 t a]; fin_cases a <;> simp [hl])]
  blk_simp [iblk]
  refine (congrFun (V_main_arg6 m c) _).trans (congrArg _ ?_)
  blk_ext [e0_8]
  show _ = 8 * (grp2 t).val + h.val
  omega

theorem blk2 (t : Fin cfg0.N) (i : Fin 257) (h : Fin 8) (l : Fin 128) :
    (X0_2 m c t : Vec Ideal S1x257x8x128 .i8) (ix4 (0 : Fin 1) i h l)
      = (m ((c : Thread nD τ).loc main_arg2) : Vec Ideal S36x16x257x257 .i8) (ix4 (bat t) (hdx t h) i (⟨0 + l.val, by omega⟩ : Fin 257)) := by
  unfold X0_2 Pipeline.Window.fill
  rw [dif_pos (moved0_2 t _)]
  refine Eq.trans ?_ (V_v0 m c (bat t) i (hdx t h) (⟨0 + l.val, by omega⟩ : Fin 257))
  blk_simp [iblk]
  refine (congrArg (V m c main_v0) ?_)
  blk_ext [e0_2]
  show _ = 8 * (grp2 t).val + h.val
  omega

theorem blk3 (t : Fin cfg0.N) (i : Fin 257) (h : Fin 8) (l : Fin 128) :
    (X0_3 m c t : Vec Ideal S1x257x8x128 .i8) (ix4 (0 : Fin 1) i h l)
      = (m ((c : Thread nD τ).loc main_arg2) : Vec Ideal S36x16x257x257 .i8) (ix4 (bat t) (hdx t h) i (⟨128 + l.val, by omega⟩ : Fin 257)) := by
  unfold X0_3 Pipeline.Window.fill
  rw [dif_pos (moved0_3 t _)]
  refine Eq.trans ?_ (V_v0 m c (bat t) i (hdx t h) (⟨128 + l.val, by omega⟩ : Fin 257))
  blk_simp [iblk]
  refine (congrArg (V m c main_v0) ?_)
  blk_ext [e0_3]
  show _ = 8 * (grp2 t).val + h.val
  omega

theorem blk4 (t : Fin cfg0.N) (d) (i : Fin 257) (h : Fin 8) :
    ((cfg0.win 4).fill (cfg0.grid.coords t) d (iblk m c 4 t) : Vec Ideal S1x257x8x128 .i8) (ix4 (0 : Fin 1) i h (0 : Fin 128))
      = (m ((c : Thread nD τ).loc main_arg2) : Vec Ideal S36x16x257x257 .i8) (ix4 (bat t) (hdx t h) i (256 : Fin 257)) := by
  unfold Pipeline.Window.fill
  rw [dif_pos (((cfg0.win 4).moved_iff _ _).mpr fun a => by rw [xs0_4 t a]; fin_cases a <;> simp)]
  refine Eq.trans ?_ (V_v0 m c (bat t) i (hdx t h) (256 : Fin 257))
  blk_simp [iblk]
  refine (congrArg (V m c main_v0) ?_)
  blk_ext [e0_4]
  show _ = 8 * (grp2 t).val + h.val
  omega

theorem blk5 (t : Fin cfg0.N) (h : Fin 8) (i : Fin 257) :
    (iblk m c 5 t : Vec Ideal S1x8x257 .f32) (ix3 (0 : Fin 1) h i)
      = (m ((c : Thread nD τ).loc main_arg3) : Vec Ideal S36x16x257 .f32) (ix3 (bat t) (hdx t h) i) := by
  blk_simp [iblk]
  refine (congrFun (V_main_arg3 m c) _).trans (congrArg _ ?_)
  blk_ext [e0_5]
  show _ = 8 * (grp2 t).val + h.val
  omega

theorem blk7 (t : Fin cfg0.N) (h : Fin 8) :
    (iblk m c 7 t : Vec Ideal S1x1x8 .f32) (ix3 (0 : Fin 1) (0 : Fin 1) h)
      = (m ((c : Thread nD τ).loc main_arg5) : Vec Ideal S36x16 .f32) (ix2 (bat t) (hdx t h)) := by
  rw [← V_v1 m c ⟨2 * (bat t).val + (grp2 t).val, by omega⟩ h (bat t) (hdx t h) (by show 8 * (2 * (bat t).val + (grp2 t).val) + h.val = 16 * (bat t).val + (8 * (grp2 t).val + h.val); omega)]
  blk_simp [iblk]
  refine (congrArg (V m c main_v1) ?_)
  blk_ext [e0_7]

/-- The step's head is the head of the argument arrays. -/
theorem hd_eq (x : In Ideal c) (t : Fin cfg0.N) (d0 d1 d4 d6 d8)
    (g0 : x.X0 = (cfg0.win 0).fill (cfg0.grid.coords t) d0 (iblk m c 0 t))
    (g1 : x.X1 = (cfg0.win 1).fill (cfg0.grid.coords t) d1 (iblk m c 1 t))
    (g2 : x.X2 = X0_2 m c t) (g3 : x.X3 = X0_3 m c t)
    (g4 : x.X4 = (cfg0.win 4).fill (cfg0.grid.coords t) d4 (iblk m c 4 t))
    (g5 : x.X5 = iblk m c 5 t)
    (g6 : x.X6 = (cfg0.win 6).fill (cfg0.grid.coords t) d6 (iblk m c 6 t))
    (g7 : x.X7 = iblk m c 7 t)
    (g8 : x.X8 = (cfg0.win 8).fill (cfg0.grid.coords t) d8 (iblk m c 8 t)) (h : Fin 8) :
    hd x h = ahd m c (bat t) (hdx t h) := by
  have cvE : ∀ j i : Fin 257, cv x h j i = cod ((m ((c : Thread nD τ).loc main_arg2) : Vec Ideal S36x16x257x257 .i8) (ix4 (bat t) (hdx t h) i j)) := by
    intro j i
    unfold cv
    split
    · rw [g2]
      refine congrArg cod ((blk2 m c t i h _).trans (congrArg _ (congrArg _ (Fin.ext ?_))))
      show 0 + j.val = j.val
      omega
    · split
      · rw [g3]
        refine congrArg cod ((blk3 m c t i h _).trans (congrArg _ (congrArg _ (Fin.ext ?_))))
        show 128 + (j.val - 128) = j.val
        omega
      · rw [g4]
        refine congrArg cod ((blk4 m c t d4 i h).trans (congrArg _ (congrArg _ (Fin.ext ?_))))
        show 256 = j.val
        omega
  unfold hd ahd
  congr 1
  · funext i l
    rw [g0]
    exact blk0 m c t d0 i h _ l.isLt
  · funext j l
    rw [g1]
    exact blk1 m c t d1 j h _ l.isLt
  · funext j l
    rw [g6]
    exact blk6 m c t d6 j h _ l.isLt
  · funext j l
    rw [g8]
    exact blk8 m c t d8 j h _ l.isLt
  · funext j i
    exact cvE j i
  · funext i
    rw [g5]
    exact blk5 m c t h i
  · rw [g7]
    exact blk7 m c t h

end Cert.KernelIdeal.Hand
-- ==== Proof.HeadsInA.lean ====
/-
  The inputs of heads 0 to 3, as the body names them.
-/
module

public import proofs.«01_k».proof.Proof.Heads

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem codes0_eq (x : In F c) : kernelRun.sl.r_23 c x.M2 x.M3 x.M4 x.M12 x.f2 x.f3 x.f4 x.f12 = codes0 x := rfl

theorem val0_eq (x : In F c) : kernelRun.sl.r_24 c x.M6 x.M13 x.f6 x.f13 = val0 x := rfl

theorem dO0_eq (x : In F c) : kernelRun.sl.r_25 c x.M8 x.f8 = dO0 x := rfl

theorem qr0_eq (x : In F c) : kernelRun.sl.r_26 c x.M0 x.f0 = qr0 x := rfl

theorem kt0_eq (x : In F c) : kernelRun.sl.r_27 c x.M1 x.f1 = kt0 x := rfl

theorem kl0_eq (x : In F c) : kernelRun.sl.r_28 c x.M1 x.f1 = kl0 x := rfl

theorem codes1_eq (x : In F c) : kernelRun.sl.r_29 c x.M2 x.M3 x.M4 x.M12 x.f2 x.f3 x.f4 x.f12 = codes1 x := rfl

theorem val1_eq (x : In F c) : kernelRun.sl.r_30 c x.M6 x.M13 x.f6 x.f13 = val1 x := rfl

theorem dO1_eq (x : In F c) : kernelRun.sl.r_32 c x.M8 x.f8 = dO1 x := rfl

theorem qr1_eq (x : In F c) : kernelRun.sl.r_33 c x.M0 x.f0 = qr1 x := rfl

theorem kt1_eq (x : In F c) : kernelRun.sl.r_34 c x.M1 x.f1 = kt1 x := rfl

theorem kl1_eq (x : In F c) : kernelRun.sl.r_35 c x.M1 x.f1 = kl1 x := rfl

theorem codes2_eq (x : In F c) : kernelRun.sl.r_48 c x.M2 x.M3 x.M4 x.M12 x.f2 x.f3 x.f4 x.f12 = codes2 x := rfl

theorem val2_eq (x : In F c) : kernelRun.sl.r_49 c x.M6 x.M13 x.f6 x.f13 = val2 x := rfl

theorem dO2_eq (x : In F c) : kernelRun.sl.r_51 c x.M8 x.f8 = dO2 x := rfl

theorem qr2_eq (x : In F c) : kernelRun.sl.r_52 c x.M0 x.f0 = qr2 x := rfl

theorem kt2_eq (x : In F c) : kernelRun.sl.r_53 c x.M1 x.f1 = kt2 x := rfl

theorem kl2_eq (x : In F c) : kernelRun.sl.r_54 c x.M1 x.f1 = kl2 x := rfl

theorem codes3_eq (x : In F c) : kernelRun.sl.r_55 c x.M2 x.M3 x.M4 x.M12 x.f2 x.f3 x.f4 x.f12 = codes3 x := rfl

theorem val3_eq (x : In F c) : kernelRun.sl.r_56 c x.M6 x.M13 x.f6 x.f13 = val3 x := rfl

theorem dO3_eq (x : In F c) : kernelRun.sl.r_59 c x.M8 x.f8 = dO3 x := rfl

theorem qr3_eq (x : In F c) : kernelRun.sl.r_60 c x.M0 x.f0 = qr3 x := rfl

theorem kt3_eq (x : In F c) : kernelRun.sl.r_61 c x.M1 x.f1 = kt3 x := rfl

theorem kl3_eq (x : In F c) : kernelRun.sl.r_62 c x.M1 x.f1 = kl3 x := rfl

end Cert.KernelIdeal.Hand
-- ==== Proof.HeadsDs0.lean ====
/-
  The products, weights and row sums of heads 0 and 1, as the body names them.
-/
module

public import proofs.«01_k».proof.Proof.HeadsInA

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem r_167_eq (x : In F c) : kernelRun.sl.r_167 c x.M6 x.M8 x.M13 x.f6 x.f8 x.f13 = dp0 x := by
  simp only [kernelRun.sl.r_167, val0_eq, dO0_eq]
  unfold dp0
  generalize val0 x = a_r_24
  generalize dO0 x = a_r_25
  rfl

theorem r_168_eq (x : In F c) : kernelRun.sl.r_168 c x.M2 x.M3 x.M4 x.M5 x.M7 x.M12 x.f2 x.f3 x.f4 x.f5 x.f7 x.f12 = ph0 x := by
  simp only [kernelRun.sl.r_168, kernelRun.sl.r_111, codes0_eq]
  unfold ph0 ps0 vs0
  generalize codes0 x = a_r_23
  rfl

set_option maxHeartbeats 2000000 in
theorem r_196_eq (x : In F c) : kernelRun.sl.r_196 c x.M2 x.M3 x.M4 x.M5 x.M6 x.M7 x.M8 x.M12 x.M13 x.f2 x.f3 x.f4 x.f5 x.f6 x.f7 x.f8 x.f12 x.f13 = gDsum (gSum (gU (dp0 x) (ph0 x))) (gInv (vs0 x)) := by
  simp only [kernelRun.sl.r_196, kernelRun.sl.r_194, kernelRun.sl.r_169, kernelRun.sl.r_111, kernelRun.sl.r_170, kernelRun.sl.r_171, kernelRun.sl.r_172, kernelRun.sl.r_173, kernelRun.sl.r_174, kernelRun.sl.r_175, kernelRun.sl.r_176, kernelRun.sl.r_177, kernelRun.sl.r_178, kernelRun.sl.r_179, kernelRun.sl.r_180, kernelRun.sl.r_181, kernelRun.sl.r_182, kernelRun.sl.r_183, kernelRun.sl.r_184, kernelRun.sl.r_185, kernelRun.sl.r_186, kernelRun.sl.r_187, kernelRun.sl.r_188, kernelRun.sl.r_189, kernelRun.sl.r_190, kernelRun.sl.r_191, kernelRun.sl.r_192, kernelRun.sl.r_193, kernelRun.sl.r_195, kernelRun.sl.r_165, codes0_eq, val0_eq, dO0_eq]
  unfold dp0 ph0 ps0 vs0
  generalize codes0 x = a_r_23
  generalize val0 x = a_r_24
  generalize dO0 x = a_r_25
  rfl

theorem r_236_eq (x : In F c) : kernelRun.sl.r_236 c x.M6 x.M8 x.M13 x.f6 x.f8 x.f13 = dp1 x := by
  simp only [kernelRun.sl.r_236, val1_eq, dO1_eq]
  unfold dp1
  generalize val1 x = a_r_30
  generalize dO1 x = a_r_32
  rfl

theorem r_237_eq (x : In F c) : kernelRun.sl.r_237 c x.M2 x.M3 x.M4 x.M5 x.M7 x.M12 x.f2 x.f3 x.f4 x.f5 x.f7 x.f12 = ph1 x := by
  simp only [kernelRun.sl.r_237, kernelRun.sl.r_112, codes1_eq]
  unfold ph1 ps1 vs1
  generalize codes1 x = a_r_29
  rfl

set_option maxHeartbeats 2000000 in
theorem r_269_eq (x : In F c) : kernelRun.sl.r_269 c x.M2 x.M3 x.M4 x.M5 x.M6 x.M7 x.M8 x.M12 x.M13 x.f2 x.f3 x.f4 x.f5 x.f6 x.f7 x.f8 x.f12 x.f13 = gDsum (gSum (gU (dp1 x) (ph1 x))) (gInv (vs1 x)) := by
  simp only [kernelRun.sl.r_269, kernelRun.sl.r_234, kernelRun.sl.r_112, kernelRun.sl.r_238, kernelRun.sl.r_239, kernelRun.sl.r_240, kernelRun.sl.r_241, kernelRun.sl.r_242, kernelRun.sl.r_243, kernelRun.sl.r_244, kernelRun.sl.r_245, kernelRun.sl.r_246, kernelRun.sl.r_247, kernelRun.sl.r_248, kernelRun.sl.r_249, kernelRun.sl.r_250, kernelRun.sl.r_251, kernelRun.sl.r_252, kernelRun.sl.r_253, kernelRun.sl.r_254, kernelRun.sl.r_255, kernelRun.sl.r_256, kernelRun.sl.r_257, kernelRun.sl.r_258, kernelRun.sl.r_259, kernelRun.sl.r_260, kernelRun.sl.r_261, kernelRun.sl.r_262, kernelRun.sl.r_263, kernelRun.sl.r_264, kernelRun.sl.r_265, kernelRun.sl.r_266, kernelRun.sl.r_267, kernelRun.sl.r_268, codes1_eq, val1_eq, dO1_eq]
  unfold dp1 ph1 ps1 vs1
  generalize codes1 x = a_r_29
  generalize val1 x = a_r_30
  generalize dO1 x = a_r_32
  rfl

end Cert.KernelIdeal.Hand
-- ==== Proof.HeadsInC.lean ====
/-
  The last query's inputs, as the body names them.
-/
module

public import proofs.«01_k».proof.Proof.Heads

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem doLast_eq (x : In F c) : kernelRun.sl.r_3 c x.M8 x.f8 = doLast x := rfl

theorem psRow_eq (x : In F c) : kernelRun.sl.r_131 c x.M5 x.f5 = psRow x := rfl

theorem vsRow_eq (x : In F c) : kernelRun.sl.r_132 c x.M7 x.f7 = vsRow x := rfl

theorem cCol_eq (x : In F c) : kernelRun.sl.r_133 c x.M2 x.M3 x.M4 x.f2 x.f3 x.f4 = cCol x := rfl

theorem dpl_eq (x : In F c) : kernelRun.sl.r_118 c x.M6 x.M8 x.M13 x.f6 x.f8 x.f13 = dpl x := rfl

theorem pCol_eq (x : In F c) : kernelRun.sl.r_137 c x.M2 x.M3 x.M4 x.M5 x.f2 x.f3 x.f4 x.f5 = pCol x := rfl

theorem phc_eq (x : In F c) : kernelRun.sl.r_138 c x.M2 x.M3 x.M4 x.M5 x.f2 x.f3 x.f4 x.f5 = phc x := rfl

theorem dpv_eq (x : In F c) : kernelRun.sl.r_139 c x.M6 x.M7 x.M8 x.M13 x.f6 x.f7 x.f8 x.f13 = dpv x := rfl

end Cert.KernelIdeal.Hand
-- ==== Proof.HeadsLast.lean ====
/-
  The last query's score gradient and query rows.
-/
module

public import proofs.«01_k».proof.Proof.HeadsInC

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 1000000 in
theorem r_160_eq (x : In F c) : kernelRun.sl.r_160 c x.M2 x.M3 x.M4 x.M5 x.M6 x.M7 x.M8 x.M13 x.f2 x.f3 x.f4 x.f5 x.f6 x.f7 x.f8 x.f13 = gDsn (dsc x) := by
  simp only [kernelRun.sl.r_160, kernelRun.sl.r_140, kernelRun.sl.r_134, kernelRun.sl.r_135, kernelRun.sl.r_136, kernelRun.sl.r_141, kernelRun.sl.r_142, kernelRun.sl.r_143, kernelRun.sl.r_144, kernelRun.sl.r_145, kernelRun.sl.r_146, kernelRun.sl.r_147, kernelRun.sl.r_148, kernelRun.sl.r_149, kernelRun.sl.r_150, kernelRun.sl.r_151, kernelRun.sl.r_152, kernelRun.sl.r_153, kernelRun.sl.r_154, kernelRun.sl.r_155, kernelRun.sl.r_156, kernelRun.sl.r_157, kernelRun.sl.r_158, kernelRun.sl.r_159, phc_eq, dpv_eq, psRow_eq, vsRow_eq, cCol_eq, dpl_eq]
  unfold dsc phc dpv
  generalize phc x = a_r_138
  generalize dpv x = a_r_139
  generalize psRow x = a_r_131
  generalize vsRow x = a_r_132
  generalize cCol x = a_r_133
  generalize dpl x = a_r_118
  rfl

set_option maxHeartbeats 1000000 in
theorem r_161_eq (x : In F c) : kernelRun.sl.r_161 c x.M2 x.M3 x.M4 x.M5 x.M6 x.M7 x.M8 x.M13 x.f2 x.f3 x.f4 x.f5 x.f6 x.f7 x.f8 x.f13 = gDsw (dsc x) := by
  simp only [kernelRun.sl.r_161, kernelRun.sl.r_140, kernelRun.sl.r_134, kernelRun.sl.r_135, kernelRun.sl.r_136, kernelRun.sl.r_141, kernelRun.sl.r_142, kernelRun.sl.r_143, kernelRun.sl.r_144, kernelRun.sl.r_145, kernelRun.sl.r_146, kernelRun.sl.r_147, kernelRun.sl.r_148, kernelRun.sl.r_149, kernelRun.sl.r_150, kernelRun.sl.r_151, kernelRun.sl.r_152, kernelRun.sl.r_153, kernelRun.sl.r_154, kernelRun.sl.r_155, kernelRun.sl.r_156, kernelRun.sl.r_157, kernelRun.sl.r_158, kernelRun.sl.r_159, phc_eq, dpv_eq, psRow_eq, vsRow_eq, cCol_eq, dpl_eq]
  unfold dsc phc dpv
  generalize phc x = a_r_138
  generalize dpv x = a_r_139
  generalize psRow x = a_r_131
  generalize vsRow x = a_r_132
  generalize cCol x = a_r_133
  generalize dpl x = a_r_118
  rfl

theorem r_162_eq (x : In F c) : kernelRun.sl.r_162 c x.M0 x.f0 = qLast x := rfl

end Cert.KernelIdeal.Hand
-- ==== Proof.HeadsDk0.lean ====
/-
  What the body stores to the key gradient, heads 0 and 1.
-/
module

public import proofs.«01_k».proof.Proof.HeadsDs0
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H10_2_eq (x : In F c) : kernelRun.sl.H10_2 c x.M0 x.M2 x.M3 x.M4 x.M5 x.M6 x.M7 x.M8 x.M12 x.M13 x.f0 x.f2 x.f3 x.f4 x.f5 x.f6 x.f7 x.f8 x.f12 x.f13 =
    ⟨Rect.unit (s := S1x257x8x128) ![0, 256, 0, 0] S1x1x2x128.size inb_S1x257x8x128_S1x1x2x128_0_256_0_0, gOutDkl (dk0 x) (dk1 x)⟩ ::
    ⟨Rect.unit (s := S1x257x8x128) ![0, 0, 0, 0] S1x256x2x128.size inb_S1x257x8x128_S1x256x2x128_0_0_0_0, gOutDk (dk0 x) (dk1 x)⟩ ::
    [] := by
  unfold dk0 dk1 ds0 ds1
  rw [← r_196_eq, ← r_269_eq]
  simp only [kernelRun.sl.H10_2, kernelRun.sl.r_310, kernelRun.sl.r_230, kernelRun.sl.r_196, kernelRun.sl.r_197, kernelRun.sl.r_198, kernelRun.sl.r_199, kernelRun.sl.r_200, kernelRun.sl.r_201, kernelRun.sl.r_202, kernelRun.sl.r_203, kernelRun.sl.r_204, kernelRun.sl.r_205, kernelRun.sl.r_206, kernelRun.sl.r_207, kernelRun.sl.r_208, kernelRun.sl.r_209, kernelRun.sl.r_210, kernelRun.sl.r_213, kernelRun.sl.r_211, kernelRun.sl.r_212, kernelRun.sl.r_214, kernelRun.sl.r_215, kernelRun.sl.r_216, kernelRun.sl.r_217, kernelRun.sl.r_218, kernelRun.sl.r_219, kernelRun.sl.r_220, kernelRun.sl.r_221, kernelRun.sl.r_222, kernelRun.sl.r_223, kernelRun.sl.r_224, kernelRun.sl.r_225, kernelRun.sl.r_226, kernelRun.sl.r_227, kernelRun.sl.r_228, kernelRun.sl.r_229, kernelRun.sl.r_311, kernelRun.sl.r_269, kernelRun.sl.r_270, kernelRun.sl.r_271, kernelRun.sl.r_274, kernelRun.sl.r_272, kernelRun.sl.r_273, kernelRun.sl.r_275, kernelRun.sl.r_276, kernelRun.sl.r_277, kernelRun.sl.r_278, kernelRun.sl.r_279, kernelRun.sl.r_280, kernelRun.sl.r_281, kernelRun.sl.r_282, kernelRun.sl.r_283, kernelRun.sl.r_284, kernelRun.sl.r_285, kernelRun.sl.r_286, kernelRun.sl.r_287, kernelRun.sl.r_288, kernelRun.sl.r_291, kernelRun.sl.r_289, kernelRun.sl.r_290, kernelRun.sl.r_292, kernelRun.sl.r_293, kernelRun.sl.r_294, kernelRun.sl.r_295, kernelRun.sl.r_296, kernelRun.sl.r_297, kernelRun.sl.r_298, kernelRun.sl.r_299, kernelRun.sl.r_300, kernelRun.sl.r_301, kernelRun.sl.r_302, kernelRun.sl.r_303, kernelRun.sl.r_304, kernelRun.sl.r_305, kernelRun.sl.r_306, kernelRun.sl.r_307, qr0_eq, r_161_eq, r_162_eq, r_167_eq, r_168_eq, qr1_eq, r_236_eq, r_237_eq]
  generalize qr0 x = a_r_26
  generalize gDsw (dsc x) = a_r_161
  generalize qLast x = a_r_162
  generalize dp0 x = a_r_167
  generalize ph0 x = a_r_168
  generalize qr1 x = a_r_33
  generalize dp1 x = a_r_236
  generalize ph1 x = a_r_237
  generalize kernelRun.sl.r_194 c x.M2 x.M3 x.M4 x.M5 x.M6 x.M7 x.M8 x.M12 x.M13 x.f2 x.f3 x.f4 x.f5 x.f6 x.f7 x.f8 x.f12 x.f13 = b_r_194
  generalize kernelRun.sl.r_195 c x.M7 x.f7 = b_r_195
  generalize kernelRun.sl.r_234 c x.M7 x.f7 = b_r_234
  generalize kernelRun.sl.r_238 c x.M2 x.M3 x.M4 x.M5 x.M6 x.M7 x.M8 x.M12 x.M13 x.f2 x.f3 x.f4 x.f5 x.f6 x.f7 x.f8 x.f12 x.f13 = b_r_238
  generalize kernelRun.sl.r_239 c x.M2 x.M3 x.M4 x.M5 x.M6 x.M7 x.M8 x.M12 x.M13 x.f2 x.f3 x.f4 x.f5 x.f6 x.f7 x.f8 x.f12 x.f13 = b_r_239
  generalize kernelRun.sl.r_240 c x.M2 x.M3 x.M4 x.M5 x.M6 x.M7 x.M8 x.M12 x.M13 x.f2 x.f3 x.f4 x.f5 x.f6 x.f7 x.f8 x.f12 x.f13 = b_r_240
  generalize kernelRun.sl.r_241 c x.M2 x.M3 x.M4 x.M5 x.M6 x.M7 x.M8 x.M12 x.M13 x.f2 x.f3 x.f4 x.f5 x.f6 x.f7 x.f8 x.f12 x.f13 = b_r_241
  generalize kernelRun.sl.r_242 c x.M2 x.M3 x.M4 x.M5 x.M6 x.M7 x.M8 x.M12 x.M13 x.f2 x.f3 x.f4 x.f5 x.f6 x.f7 x.f8 x.f12 x.f13 = b_r_242
  generalize kernelRun.sl.r_243 c x.M2 x.M3 x.M4 x.M5 x.M6 x.M7 x.M8 x.M12 x.M13 x.f2 x.f3 x.f4 x.f5 x.f6 x.f7 x.f8 x.f12 x.f13 = b_r_243
  generalize kernelRun.sl.r_244 c x.M2 x.M3 x.M4 x.M5 x.M6 x.M7 x.M8 x.M12 x.M13 x.f2 x.f3 x.f4 x.f5 x.f6 x.f7 x.f8 x.f12 x.f13 = b_r_244
  generalize kernelRun.sl.r_245 c x.M2 x.M3 x.M4 x.M5 x.M6 x.M7 x.M8 x.M12 x.M13 x.f2 x.f3 x.f4 x.f5 x.f6 x.f7 x.f8 x.f12 x.f13 = b_r_245
  generalize kernelRun.sl.r_246 c x.M2 x.M3 x.M4 x.M5 x.M6 x.M7 x.M8 x.M12 x.M13 x.f2 x.f3 x.f4 x.f5 x.f6 x.f7 x.f8 x.f12 x.f13 = b_r_246
  generalize kernelRun.sl.r_247 c x.M2 x.M3 x.M4 x.M5 x.M6 x.M7 x.M8 x.M12 x.M13 x.f2 x.f3 x.f4 x.f5 x.f6 x.f7 x.f8 x.f12 x.f13 = b_r_247
  generalize kernelRun.sl.r_248 c x.M2 x.M3 x.M4 x.M5 x.M6 x.M7 x.M8 x.M12 x.M13 x.f2 x.f3 x.f4 x.f5 x.f6 x.f7 x.f8 x.f12 x.f13 = b_r_248
  generalize kernelRun.sl.r_249 c x.M2 x.M3 x.M4 x.M5 x.M6 x.M7 x.M8 x.M12 x.M13 x.f2 x.f3 x.f4 x.f5 x.f6 x.f7 x.f8 x.f12 x.f13 = b_r_249
  generalize kernelRun.sl.r_250 c x.M2 x.M3 x.M4 x.M5 x.M6 x.M7 x.M8 x.M12 x.M13 x.f2 x.f3 x.f4 x.f5 x.f6 x.f7 x.f8 x.f12 x.f13 = b_r_250
  generalize kernelRun.sl.r_251 c x.M2 x.M3 x.M4 x.M5 x.M6 x.M7 x.M8 x.M12 x.M13 x.f2 x.f3 x.f4 x.f5 x.f6 x.f7 x.f8 x.f12 x.f13 = b_r_251
  generalize kernelRun.sl.r_252 c x.M2 x.M3 x.M4 x.M5 x.M6 x.M7 x.M8 x.M12 x.M13 x.f2 x.f3 x.f4 x.f5 x.f6 x.f7 x.f8 x.f12 x.f13 = b_r_252
  generalize kernelRun.sl.r_253 c x.M2 x.M3 x.M4 x.M5 x.M6 x.M7 x.M8 x.M12 x.M13 x.f2 x.f3 x.f4 x.f5 x.f6 x.f7 x.f8 x.f12 x.f13 = b_r_253
  generalize kernelRun.sl.r_254 c x.M2 x.M3 x.M4 x.M5 x.M6 x.M7 x.M8 x.M12 x.M13 x.f2 x.f3 x.f4 x.f5 x.f6 x.f7 x.f8 x.f12 x.f13 = b_r_254
  generalize kernelRun.sl.r_255 c x.M2 x.M3 x.M4 x.M5 x.M6 x.M7 x.M8 x.M12 x.M13 x.f2 x.f3 x.f4 x.f5 x.f6 x.f7 x.f8 x.f12 x.f13 = b_r_255
  generalize kernelRun.sl.r_256 c x.M2 x.M3 x.M4 x.M5 x.M6 x.M7 x.M8 x.M12 x.M13 x.f2 x.f3 x.f4 x.f5 x.f6 x.f7 x.f8 x.f12 x.f13 = b_r_256
  generalize kernelRun.sl.r_257 c x.M2 x.M3 x.M4 x.M5 x.M6 x.M7 x.M8 x.M12 x.M13 x.f2 x.f3 x.f4 x.f5 x.f6 x.f7 x.f8 x.f12 x.f13 = b_r_257
  generalize kernelRun.sl.r_258 c x.M2 x.M3 x.M4 x.M5 x.M6 x.M7 x.M8 x.M12 x.M13 x.f2 x.f3 x.f4 x.f5 x.f6 x.f7 x.f8 x.f12 x.f13 = b_r_258
  generalize kernelRun.sl.r_259 c x.M2 x.M3 x.M4 x.M5 x.M6 x.M7 x.M8 x.M12 x.M13 x.f2 x.f3 x.f4 x.f5 x.f6 x.f7 x.f8 x.f12 x.f13 = b_r_259
  generalize kernelRun.sl.r_260 c x.M2 x.M3 x.M4 x.M5 x.M6 x.M7 x.M8 x.M12 x.M13 x.f2 x.f3 x.f4 x.f5 x.f6 x.f7 x.f8 x.f12 x.f13 = b_r_260
  generalize kernelRun.sl.r_261 c x.M2 x.M3 x.M4 x.M5 x.M6 x.M7 x.M8 x.M12 x.M13 x.f2 x.f3 x.f4 x.f5 x.f6 x.f7 x.f8 x.f12 x.f13 = b_r_261
  generalize kernelRun.sl.r_262 c x.M2 x.M3 x.M4 x.M5 x.M6 x.M7 x.M8 x.M12 x.M13 x.f2 x.f3 x.f4 x.f5 x.f6 x.f7 x.f8 x.f12 x.f13 = b_r_262
  generalize kernelRun.sl.r_263 c x.M2 x.M3 x.M4 x.M5 x.M6 x.M7 x.M8 x.M12 x.M13 x.f2 x.f3 x.f4 x.f5 x.f6 x.f7 x.f8 x.f12 x.f13 = b_r_263
  generalize kernelRun.sl.r_264 c x.M2 x.M3 x.M4 x.M5 x.M6 x.M7 x.M8 x.M12 x.M13 x.f2 x.f3 x.f4 x.f5 x.f6 x.f7 x.f8 x.f12 x.f13 = b_r_264
  generalize kernelRun.sl.r_265 c x.M2 x.M3 x.M4 x.M5 x.M6 x.M7 x.M8 x.M12 x.M13 x.f2 x.f3 x.f4 x.f5 x.f6 x.f7 x.f8 x.f12 x.f13 = b_r_265
  generalize kernelRun.sl.r_266 c x.M2 x.M3 x.M4 x.M5 x.M6 x.M7 x.M8 x.M12 x.M13 x.f2 x.f3 x.f4 x.f5 x.f6 x.f7 x.f8 x.f12 x.f13 = b_r_266
  generalize kernelRun.sl.r_267 c x.M2 x.M3 x.M4 x.M5 x.M6 x.M7 x.M8 x.M12 x.M13 x.f2 x.f3 x.f4 x.f5 x.f6 x.f7 x.f8 x.f12 x.f13 = b_r_267
  generalize kernelRun.sl.r_268 c x.M2 x.M3 x.M4 x.M5 x.M6 x.M7 x.M8 x.M12 x.M13 x.f2 x.f3 x.f4 x.f5 x.f6 x.f7 x.f8 x.f12 x.f13 = b_r_268
  rfl

end Cert.KernelIdeal.Hand
-- ==== Proof.HeadsDs1.lean ====
/-
  The products, weights and row sums of heads 2 and 3, as the body names them.
-/
module

public import proofs.«01_k».proof.Proof.HeadsInA

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem r_316_eq (x : In F c) : kernelRun.sl.r_316 c x.M6 x.M8 x.M13 x.f6 x.f8 x.f13 = dp2 x := by
  simp only [kernelRun.sl.r_316, val2_eq, dO2_eq]
  unfold dp2
  generalize val2 x = a_r_49
  generalize dO2 x = a_r_51
  rfl

theorem r_317_eq (x : In F c) : kernelRun.sl.r_317 c x.M2 x.M3 x.M4 x.M5 x.M7 x.M12 x.f2 x.f3 x.f4 x.f5 x.f7 x.f12 = ph2 x := by
  simp only [kernelRun.sl.r_317, kernelRun.sl.r_124, codes2_eq]
  unfold ph2 ps2 vs2
  generalize codes2 x = a_r_48
  rfl

set_option maxHeartbeats 2000000 in
theorem r_347_eq (x : In F c) : kernelRun.sl.r_347 c x.M2 x.M3 x.M4 x.M5 x.M6 x.M7 x.M8 x.M12 x.M13 x.f2 x.f3 x.f4 x.f5 x.f6 x.f7 x.f8 x.f12 x.f13 = gDsum (gSum (gU (dp2 x) (ph2 x))) (gInv (vs2 x)) := by
  simp only [kernelRun.sl.r_347, kernelRun.sl.r_314, kernelRun.sl.r_124, kernelRun.sl.r_318, kernelRun.sl.r_319, kernelRun.sl.r_320, kernelRun.sl.r_321, kernelRun.sl.r_322, kernelRun.sl.r_323, kernelRun.sl.r_324, kernelRun.sl.r_325, kernelRun.sl.r_326, kernelRun.sl.r_327, kernelRun.sl.r_328, kernelRun.sl.r_329, kernelRun.sl.r_330, kernelRun.sl.r_331, kernelRun.sl.r_332, kernelRun.sl.r_333, kernelRun.sl.r_334, kernelRun.sl.r_335, kernelRun.sl.r_336, kernelRun.sl.r_337, kernelRun.sl.r_338, kernelRun.sl.r_339, kernelRun.sl.r_340, kernelRun.sl.r_341, kernelRun.sl.r_342, kernelRun.sl.r_343, kernelRun.sl.r_344, kernelRun.sl.r_345, kernelRun.sl.r_346, codes2_eq, val2_eq, dO2_eq]
  unfold dp2 ph2 ps2 vs2
  generalize codes2 x = a_r_48
  generalize val2 x = a_r_49
  generalize dO2 x = a_r_51
  rfl

theorem r_389_eq (x : In F c) : kernelRun.sl.r_389 c x.M6 x.M8 x.M13 x.f6 x.f8 x.f13 = dp3 x := by
  simp only [kernelRun.sl.r_389, val3_eq, dO3_eq]
  unfold dp3
  generalize val3 x = a_r_56
  generalize dO3 x = a_r_59
  rfl

theorem r_390_eq (x : In F c) : kernelRun.sl.r_390 c x.M2 x.M3 x.M4 x.M5 x.M7 x.M12 x.f2 x.f3 x.f4 x.f5 x.f7 x.f12 = ph3 x := by
  simp only [kernelRun.sl.r_390, kernelRun.sl.r_386, kernelRun.sl.r_125, codes3_eq]
  unfold ph3 ps3 vs3
  generalize codes3 x = a_r_55
  rfl

set_option maxHeartbeats 2000000 in
theorem r_409_eq (x : In F c) : kernelRun.sl.r_409 c x.M2 x.M3 x.M4 x.M5 x.M6 x.M7 x.M8 x.M12 x.M13 x.f2 x.f3 x.f4 x.f5 x.f6 x.f7 x.f8 x.f12 x.f13 = gDsum (gSum (gU (dp3 x) (ph3 x))) (gInv (vs3 x)) := by
  simp only [kernelRun.sl.r_409, kernelRun.sl.r_387, kernelRun.sl.r_125, kernelRun.sl.r_391, kernelRun.sl.r_386, kernelRun.sl.r_392, kernelRun.sl.r_393, kernelRun.sl.r_394, kernelRun.sl.r_395, kernelRun.sl.r_396, kernelRun.sl.r_397, kernelRun.sl.r_398, kernelRun.sl.r_399, kernelRun.sl.r_400, kernelRun.sl.r_401, kernelRun.sl.r_402, kernelRun.sl.r_403, kernelRun.sl.r_404, kernelRun.sl.r_405, kernelRun.sl.r_406, kernelRun.sl.r_407, kernelRun.sl.r_408, codes3_eq, val3_eq, dO3_eq]
  unfold dp3 ph3 ps3 vs3
  generalize codes3 x = a_r_55
  generalize val3 x = a_r_56
  generalize dO3 x = a_r_59
  rfl

end Cert.KernelIdeal.Hand
-- ==== Proof.HeadsDk1.lean ====
/-
  What the body stores to the key gradient, heads 2 and 3.
-/
module

public import proofs.«01_k».proof.Proof.HeadsDs1
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H10_4_eq (x : In F c) : kernelRun.sl.H10_4 c x.M0 x.M2 x.M3 x.M4 x.M5 x.M6 x.M7 x.M8 x.M12 x.M13 x.f0 x.f2 x.f3 x.f4 x.f5 x.f6 x.f7 x.f8 x.f12 x.f13 =
    ⟨Rect.unit (s := S1x257x8x128) ![0, 256, 2, 0] S1x1x2x128.size inb_S1x257x8x128_S1x1x2x128_0_256_2_0, gOutDkl (dk2 x) (dk3 x)⟩ ::
    ⟨Rect.unit (s := S1x257x8x128) ![0, 0, 2, 0] S1x256x2x128.size inb_S1x257x8x128_S1x256x2x128_0_0_2_0, gOutDk (dk2 x) (dk3 x)⟩ ::
    kernelRun.sl.H10_2 c x.M0 x.M2 x.M3 x.M4 x.M5 x.M6 x.M7 x.M8 x.M12 x.M13 x.f0 x.f2 x.f3 x.f4 x.f5 x.f6 x.f7 x.f8 x.f12 x.f13 := by
  unfold dk2 dk3 ds2 ds3
  rw [← r_347_eq, ← r_409_eq]
  simp only [kernelRun.sl.H10_4, kernelRun.sl.r_440, kernelRun.sl.r_381, kernelRun.sl.r_348, kernelRun.sl.r_349, kernelRun.sl.r_350, kernelRun.sl.r_351, kernelRun.sl.r_347, kernelRun.sl.r_352, kernelRun.sl.r_353, kernelRun.sl.r_354, kernelRun.sl.r_355, kernelRun.sl.r_356, kernelRun.sl.r_357, kernelRun.sl.r_358, kernelRun.sl.r_359, kernelRun.sl.r_360, kernelRun.sl.r_361, kernelRun.sl.r_362, kernelRun.sl.r_363, kernelRun.sl.r_364, kernelRun.sl.r_365, kernelRun.sl.r_366, kernelRun.sl.r_367, kernelRun.sl.r_368, kernelRun.sl.r_369, kernelRun.sl.r_370, kernelRun.sl.r_371, kernelRun.sl.r_372, kernelRun.sl.r_373, kernelRun.sl.r_374, kernelRun.sl.r_375, kernelRun.sl.r_376, kernelRun.sl.r_377, kernelRun.sl.r_378, kernelRun.sl.r_379, kernelRun.sl.r_380, kernelRun.sl.r_441, kernelRun.sl.r_435, kernelRun.sl.r_409, kernelRun.sl.r_410, kernelRun.sl.r_411, kernelRun.sl.r_412, kernelRun.sl.r_413, kernelRun.sl.r_414, kernelRun.sl.r_417, kernelRun.sl.r_415, kernelRun.sl.r_416, kernelRun.sl.r_418, kernelRun.sl.r_419, kernelRun.sl.r_420, kernelRun.sl.r_421, kernelRun.sl.r_422, kernelRun.sl.r_423, kernelRun.sl.r_424, kernelRun.sl.r_425, kernelRun.sl.r_426, kernelRun.sl.r_427, kernelRun.sl.r_428, kernelRun.sl.r_429, kernelRun.sl.r_430, kernelRun.sl.r_431, kernelRun.sl.r_432, kernelRun.sl.r_433, kernelRun.sl.r_437, kernelRun.sl.r_438, qr2_eq, r_161_eq, r_162_eq, r_316_eq, r_317_eq, qr3_eq, r_389_eq, r_390_eq]
  generalize qr2 x = a_r_52
  generalize gDsw (dsc x) = a_r_161
  generalize qLast x = a_r_162
  generalize dp2 x = a_r_316
  generalize ph2 x = a_r_317
  generalize qr3 x = a_r_60
  generalize dp3 x = a_r_389
  generalize ph3 x = a_r_390
  generalize kernelRun.sl.r_314 c x.M7 x.f7 = b_r_314
  generalize kernelRun.sl.r_318 c x.M2 x.M3 x.M4 x.M5 x.M6 x.M7 x.M8 x.M12 x.M13 x.f2 x.f3 x.f4 x.f5 x.f6 x.f7 x.f8 x.f12 x.f13 = b_r_318
  generalize kernelRun.sl.r_319 c x.M2 x.M3 x.M4 x.M5 x.M6 x.M7 x.M8 x.M12 x.M13 x.f2 x.f3 x.f4 x.f5 x.f6 x.f7 x.f8 x.f12 x.f13 = b_r_319
  generalize kernelRun.sl.r_320 c x.M2 x.M3 x.M4 x.M5 x.M6 x.M7 x.M8 x.M12 x.M13 x.f2 x.f3 x.f4 x.f5 x.f6 x.f7 x.f8 x.f12 x.f13 = b_r_320
  generalize kernelRun.sl.r_321 c x.M2 x.M3 x.M4 x.M5 x.M6 x.M7 x.M8 x.M12 x.M13 x.f2 x.f3 x.f4 x.f5 x.f6 x.f7 x.f8 x.f12 x.f13 = b_r_321
  generalize kernelRun.sl.r_322 c x.M2 x.M3 x.M4 x.M5 x.M6 x.M7 x.M8 x.M12 x.M13 x.f2 x.f3 x.f4 x.f5 x.f6 x.f7 x.f8 x.f12 x.f13 = b_r_322
  generalize kernelRun.sl.r_323 c x.M2 x.M3 x.M4 x.M5 x.M6 x.M7 x.M8 x.M12 x.M13 x.f2 x.f3 x.f4 x.f5 x.f6 x.f7 x.f8 x.f12 x.f13 = b_r_323
  generalize kernelRun.sl.r_324 c x.M2 x.M3 x.M4 x.M5 x.M6 x.M7 x.M8 x.M12 x.M13 x.f2 x.f3 x.f4 x.f5 x.f6 x.f7 x.f8 x.f12 x.f13 = b_r_324
  generalize kernelRun.sl.r_325 c x.M2 x.M3 x.M4 x.M5 x.M6 x.M7 x.M8 x.M12 x.M13 x.f2 x.f3 x.f4 x.f5 x.f6 x.f7 x.f8 x.f12 x.f13 = b_r_325
  generalize kernelRun.sl.r_326 c x.M2 x.M3 x.M4 x.M5 x.M6 x.M7 x.M8 x.M12 x.M13 x.f2 x.f3 x.f4 x.f5 x.f6 x.f7 x.f8 x.f12 x.f13 = b_r_326
  generalize kernelRun.sl.r_327 c x.M2 x.M3 x.M4 x.M5 x.M6 x.M7 x.M8 x.M12 x.M13 x.f2 x.f3 x.f4 x.f5 x.f6 x.f7 x.f8 x.f12 x.f13 = b_r_327
  generalize kernelRun.sl.r_328 c x.M2 x.M3 x.M4 x.M5 x.M6 x.M7 x.M8 x.M12 x.M13 x.f2 x.f3 x.f4 x.f5 x.f6 x.f7 x.f8 x.f12 x.f13 = b_r_328
  generalize kernelRun.sl.r_329 c x.M2 x.M3 x.M4 x.M5 x.M6 x.M7 x.M8 x.M12 x.M13 x.f2 x.f3 x.f4 x.f5 x.f6 x.f7 x.f8 x.f12 x.f13 = b_r_329
  generalize kernelRun.sl.r_330 c x.M2 x.M3 x.M4 x.M5 x.M6 x.M7 x.M8 x.M12 x.M13 x.f2 x.f3 x.f4 x.f5 x.f6 x.f7 x.f8 x.f12 x.f13 = b_r_330
  generalize kernelRun.sl.r_331 c x.M2 x.M3 x.M4 x.M5 x.M6 x.M7 x.M8 x.M12 x.M13 x.f2 x.f3 x.f4 x.f5 x.f6 x.f7 x.f8 x.f12 x.f13 = b_r_331
  generalize kernelRun.sl.r_332 c x.M2 x.M3 x.M4 x.M5 x.M6 x.M7 x.M8 x.M12 x.M13 x.f2 x.f3 x.f4 x.f5 x.f6 x.f7 x.f8 x.f12 x.f13 = b_r_332
  generalize kernelRun.sl.r_333 c x.M2 x.M3 x.M4 x.M5 x.M6 x.M7 x.M8 x.M12 x.M13 x.f2 x.f3 x.f4 x.f5 x.f6 x.f7 x.f8 x.f12 x.f13 = b_r_333
  generalize kernelRun.sl.r_334 c x.M2 x.M3 x.M4 x.M5 x.M6 x.M7 x.M8 x.M12 x.M13 x.f2 x.f3 x.f4 x.f5 x.f6 x.f7 x.f8 x.f12 x.f13 = b_r_334
  generalize kernelRun.sl.r_335 c x.M2 x.M3 x.M4 x.M5 x.M6 x.M7 x.M8 x.M12 x.M13 x.f2 x.f3 x.f4 x.f5 x.f6 x.f7 x.f8 x.f12 x.f13 = b_r_335
  generalize kernelRun.sl.r_336 c x.M2 x.M3 x.M4 x.M5 x.M6 x.M7 x.M8 x.M12 x.M13 x.f2 x.f3 x.f4 x.f5 x.f6 x.f7 x.f8 x.f12 x.f13 = b_r_336
  generalize kernelRun.sl.r_337 c x.M2 x.M3 x.M4 x.M5 x.M6 x.M7 x.M8 x.M12 x.M13 x.f2 x.f3 x.f4 x.f5 x.f6 x.f7 x.f8 x.f12 x.f13 = b_r_337
  generalize kernelRun.sl.r_338 c x.M2 x.M3 x.M4 x.M5 x.M6 x.M7 x.M8 x.M12 x.M13 x.f2 x.f3 x.f4 x.f5 x.f6 x.f7 x.f8 x.f12 x.f13 = b_r_338
  generalize kernelRun.sl.r_339 c x.M2 x.M3 x.M4 x.M5 x.M6 x.M7 x.M8 x.M12 x.M13 x.f2 x.f3 x.f4 x.f5 x.f6 x.f7 x.f8 x.f12 x.f13 = b_r_339
  generalize kernelRun.sl.r_340 c x.M2 x.M3 x.M4 x.M5 x.M6 x.M7 x.M8 x.M12 x.M13 x.f2 x.f3 x.f4 x.f5 x.f6 x.f7 x.f8 x.f12 x.f13 = b_r_340
  generalize kernelRun.sl.r_341 c x.M2 x.M3 x.M4 x.M5 x.M6 x.M7 x.M8 x.M12 x.M13 x.f2 x.f3 x.f4 x.f5 x.f6 x.f7 x.f8 x.f12 x.f13 = b_r_341
  generalize kernelRun.sl.r_342 c x.M2 x.M3 x.M4 x.M5 x.M6 x.M7 x.M8 x.M12 x.M13 x.f2 x.f3 x.f4 x.f5 x.f6 x.f7 x.f8 x.f12 x.f13 = b_r_342
  generalize kernelRun.sl.r_343 c x.M2 x.M3 x.M4 x.M5 x.M6 x.M7 x.M8 x.M12 x.M13 x.f2 x.f3 x.f4 x.f5 x.f6 x.f7 x.f8 x.f12 x.f13 = b_r_343
  generalize kernelRun.sl.r_344 c x.M2 x.M3 x.M4 x.M5 x.M6 x.M7 x.M8 x.M12 x.M13 x.f2 x.f3 x.f4 x.f5 x.f6 x.f7 x.f8 x.f12 x.f13 = b_r_344
  generalize kernelRun.sl.r_345 c x.M2 x.M3 x.M4 x.M5 x.M6 x.M7 x.M8 x.M12 x.M13 x.f2 x.f3 x.f4 x.f5 x.f6 x.f7 x.f8 x.f12 x.f13 = b_r_345
  generalize kernelRun.sl.r_346 c x.M2 x.M3 x.M4 x.M5 x.M6 x.M7 x.M8 x.M12 x.M13 x.f2 x.f3 x.f4 x.f5 x.f6 x.f7 x.f8 x.f12 x.f13 = b_r_346
  generalize kernelRun.sl.r_387 c x.M7 x.f7 = b_r_387
  generalize kernelRun.sl.r_391 c x.M2 x.M3 x.M4 x.M5 x.M6 x.M7 x.M8 x.M12 x.M13 x.f2 x.f3 x.f4 x.f5 x.f6 x.f7 x.f8 x.f12 x.f13 = b_r_391
  generalize kernelRun.sl.r_392 c x.M2 x.M3 x.M4 x.M5 x.M6 x.M7 x.M8 x.M12 x.M13 x.f2 x.f3 x.f4 x.f5 x.f6 x.f7 x.f8 x.f12 x.f13 = b_r_392
  generalize kernelRun.sl.r_393 c x.M2 x.M3 x.M4 x.M5 x.M6 x.M7 x.M8 x.M12 x.M13 x.f2 x.f3 x.f4 x.f5 x.f6 x.f7 x.f8 x.f12 x.f13 = b_r_393
  generalize kernelRun.sl.r_394 c x.M2 x.M3 x.M4 x.M5 x.M6 x.M7 x.M8 x.M12 x.M13 x.f2 x.f3 x.f4 x.f5 x.f6 x.f7 x.f8 x.f12 x.f13 = b_r_394
  generalize kernelRun.sl.r_395 c x.M2 x.M3 x.M4 x.M5 x.M6 x.M7 x.M8 x.M12 x.M13 x.f2 x.f3 x.f4 x.f5 x.f6 x.f7 x.f8 x.f12 x.f13 = b_r_395
  generalize kernelRun.sl.r_396 c x.M2 x.M3 x.M4 x.M5 x.M6 x.M7 x.M8 x.M12 x.M13 x.f2 x.f3 x.f4 x.f5 x.f6 x.f7 x.f8 x.f12 x.f13 = b_r_396
  generalize kernelRun.sl.r_397 c x.M2 x.M3 x.M4 x.M5 x.M6 x.M7 x.M8 x.M12 x.M13 x.f2 x.f3 x.f4 x.f5 x.f6 x.f7 x.f8 x.f12 x.f13 = b_r_397
  generalize kernelRun.sl.r_398 c x.M2 x.M3 x.M4 x.M5 x.M6 x.M7 x.M8 x.M12 x.M13 x.f2 x.f3 x.f4 x.f5 x.f6 x.f7 x.f8 x.f12 x.f13 = b_r_398
  generalize kernelRun.sl.r_399 c x.M2 x.M3 x.M4 x.M5 x.M6 x.M7 x.M8 x.M12 x.M13 x.f2 x.f3 x.f4 x.f5 x.f6 x.f7 x.f8 x.f12 x.f13 = b_r_399
  generalize kernelRun.sl.r_400 c x.M2 x.M3 x.M4 x.M5 x.M6 x.M7 x.M8 x.M12 x.M13 x.f2 x.f3 x.f4 x.f5 x.f6 x.f7 x.f8 x.f12 x.f13 = b_r_400
  generalize kernelRun.sl.r_401 c x.M2 x.M3 x.M4 x.M5 x.M6 x.M7 x.M8 x.M12 x.M13 x.f2 x.f3 x.f4 x.f5 x.f6 x.f7 x.f8 x.f12 x.f13 = b_r_401
  generalize kernelRun.sl.r_402 c x.M2 x.M3 x.M4 x.M5 x.M6 x.M7 x.M8 x.M12 x.M13 x.f2 x.f3 x.f4 x.f5 x.f6 x.f7 x.f8 x.f12 x.f13 = b_r_402
  generalize kernelRun.sl.r_403 c x.M2 x.M3 x.M4 x.M5 x.M6 x.M7 x.M8 x.M12 x.M13 x.f2 x.f3 x.f4 x.f5 x.f6 x.f7 x.f8 x.f12 x.f13 = b_r_403
  generalize kernelRun.sl.r_404 c x.M2 x.M3 x.M4 x.M5 x.M6 x.M7 x.M8 x.M12 x.M13 x.f2 x.f3 x.f4 x.f5 x.f6 x.f7 x.f8 x.f12 x.f13 = b_r_404
  generalize kernelRun.sl.r_405 c x.M2 x.M3 x.M4 x.M5 x.M6 x.M7 x.M8 x.M12 x.M13 x.f2 x.f3 x.f4 x.f5 x.f6 x.f7 x.f8 x.f12 x.f13 = b_r_405
  generalize kernelRun.sl.r_406 c x.M2 x.M3 x.M4 x.M5 x.M6 x.M7 x.M8 x.M12 x.M13 x.f2 x.f3 x.f4 x.f5 x.f6 x.f7 x.f8 x.f12 x.f13 = b_r_406
  generalize kernelRun.sl.r_407 c x.M2 x.M3 x.M4 x.M5 x.M6 x.M7 x.M8 x.M12 x.M13 x.f2 x.f3 x.f4 x.f5 x.f6 x.f7 x.f8 x.f12 x.f13 = b_r_407
  generalize kernelRun.sl.r_408 c x.M2 x.M3 x.M4 x.M5 x.M6 x.M7 x.M8 x.M12 x.M13 x.f2 x.f3 x.f4 x.f5 x.f6 x.f7 x.f8 x.f12 x.f13 = b_r_408
  rfl

end Cert.KernelIdeal.Hand
-- ==== Proof.HeadsInB.lean ====
/-
  The inputs of heads 4 to 7, as the body names them.
-/
module

public import proofs.«01_k».proof.Proof.Heads

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem codes4_eq (x : In F c) : kernelRun.sl.r_80 c x.M2 x.M3 x.M4 x.M12 x.f2 x.f3 x.f4 = codes4 x := rfl

theorem val4_eq (x : In F c) : kernelRun.sl.r_81 c x.M6 x.M13 x.f6 = val4 x := rfl

theorem dO4_eq (x : In F c) : kernelRun.sl.r_83 c x.M8 x.f8 = dO4 x := rfl

theorem qr4_eq (x : In F c) : kernelRun.sl.r_84 c x.M0 x.f0 = qr4 x := rfl

theorem kt4_eq (x : In F c) : kernelRun.sl.r_85 c x.M1 x.f1 = kt4 x := rfl

theorem kl4_eq (x : In F c) : kernelRun.sl.r_86 c x.M1 x.f1 = kl4 x := rfl

theorem codes5_eq (x : In F c) : kernelRun.sl.r_87 c x.M2 x.M3 x.M4 x.M12 x.f2 x.f3 x.f4 = codes5 x := rfl

theorem val5_eq (x : In F c) : kernelRun.sl.r_88 c x.M6 x.M13 x.f6 = val5 x := rfl

theorem dO5_eq (x : In F c) : kernelRun.sl.r_91 c x.M8 x.f8 = dO5 x := rfl

theorem qr5_eq (x : In F c) : kernelRun.sl.r_92 c x.M0 x.f0 = qr5 x := rfl

theorem kt5_eq (x : In F c) : kernelRun.sl.r_93 c x.M1 x.f1 = kt5 x := rfl

theorem kl5_eq (x : In F c) : kernelRun.sl.r_94 c x.M1 x.f1 = kl5 x := rfl

theorem codes6_eq (x : In F c) : kernelRun.sl.r_107 c x.M2 x.M3 x.M4 x.M12 x.f2 x.f3 x.f4 = codes6 x := rfl

theorem val6_eq (x : In F c) : kernelRun.sl.r_108 c x.M6 x.M13 x.f6 = val6 x := rfl

theorem dO6_eq (x : In F c) : kernelRun.sl.r_110 c x.M8 x.f8 = dO6 x := rfl

theorem qr6_eq (x : In F c) : kernelRun.sl.r_113 c x.M0 x.f0 = qr6 x := rfl

theorem kt6_eq (x : In F c) : kernelRun.sl.r_114 c x.M1 x.f1 = kt6 x := rfl

theorem kl6_eq (x : In F c) : kernelRun.sl.r_115 c x.M1 x.f1 = kl6 x := rfl

theorem codes7_eq (x : In F c) : kernelRun.sl.r_116 c x.M2 x.M3 x.M4 x.M12 x.f2 x.f3 x.f4 = codes7 x := rfl

theorem val7_eq (x : In F c) : kernelRun.sl.r_117 c x.M6 x.M13 x.f6 = val7 x := rfl

theorem dO7_eq (x : In F c) : kernelRun.sl.r_119 c x.M8 x.f8 = dO7 x := rfl

theorem qr7_eq (x : In F c) : kernelRun.sl.r_120 c x.M0 x.f0 = qr7 x := rfl

theorem kt7_eq (x : In F c) : kernelRun.sl.r_121 c x.M1 x.f1 = kt7 x := rfl

theorem kl7_eq (x : In F c) : kernelRun.sl.r_122 c x.M1 x.f1 = kl7 x := rfl

end Cert.KernelIdeal.Hand
-- ==== Proof.HeadsDs2.lean ====
/-
  The products, weights and row sums of heads 4 and 5, as the body names them.
-/
module

public import proofs.«01_k».proof.Proof.HeadsInB

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem r_450_eq (x : In F c) : kernelRun.sl.r_450 c x.M6 x.M8 x.M13 x.f6 x.f8 = dp4 x := by
  simp only [kernelRun.sl.r_450, val4_eq, dO4_eq]
  unfold dp4
  generalize val4 x = a_r_81
  generalize dO4 x = a_r_83
  rfl

theorem r_451_eq (x : In F c) : kernelRun.sl.r_451 c x.M2 x.M3 x.M4 x.M5 x.M7 x.M12 x.f2 x.f3 x.f4 x.f5 x.f7 = ph4 x := by
  simp only [kernelRun.sl.r_451, kernelRun.sl.r_446, kernelRun.sl.r_126, codes4_eq]
  unfold ph4 ps4 vs4
  generalize codes4 x = a_r_80
  rfl

set_option maxHeartbeats 2000000 in
theorem r_469_eq (x : In F c) : kernelRun.sl.r_469 c x.M2 x.M3 x.M4 x.M5 x.M6 x.M7 x.M8 x.M12 x.M13 x.f2 x.f3 x.f4 x.f5 x.f6 x.f7 x.f8 = gDsum (gSum (gU (dp4 x) (ph4 x))) (gInv (vs4 x)) := by
  simp only [kernelRun.sl.r_469, kernelRun.sl.r_447, kernelRun.sl.r_126, kernelRun.sl.r_452, kernelRun.sl.r_446, kernelRun.sl.r_453, kernelRun.sl.r_454, kernelRun.sl.r_455, kernelRun.sl.r_456, kernelRun.sl.r_457, kernelRun.sl.r_458, kernelRun.sl.r_459, kernelRun.sl.r_460, kernelRun.sl.r_461, kernelRun.sl.r_462, kernelRun.sl.r_463, kernelRun.sl.r_464, kernelRun.sl.r_465, kernelRun.sl.r_466, kernelRun.sl.r_467, kernelRun.sl.r_468, codes4_eq, val4_eq, dO4_eq]
  unfold dp4 ph4 ps4 vs4
  generalize codes4 x = a_r_80
  generalize val4 x = a_r_81
  generalize dO4 x = a_r_83
  rfl

theorem r_501_eq (x : In F c) : kernelRun.sl.r_501 c x.M6 x.M8 x.M13 x.f6 x.f8 = dp5 x := by
  simp only [kernelRun.sl.r_501, val5_eq, dO5_eq]
  unfold dp5
  generalize val5 x = a_r_88
  generalize dO5 x = a_r_91
  rfl

theorem r_502_eq (x : In F c) : kernelRun.sl.r_502 c x.M2 x.M3 x.M4 x.M5 x.M7 x.M12 x.f2 x.f3 x.f4 x.f5 x.f7 = ph5 x := by
  simp only [kernelRun.sl.r_502, kernelRun.sl.r_127, codes5_eq]
  unfold ph5 ps5 vs5
  generalize codes5 x = a_r_87
  rfl

set_option maxHeartbeats 2000000 in
theorem r_519_eq (x : In F c) : kernelRun.sl.r_519 c x.M2 x.M3 x.M4 x.M5 x.M6 x.M7 x.M8 x.M12 x.M13 x.f2 x.f3 x.f4 x.f5 x.f6 x.f7 x.f8 = gDsum (gSum (gU (dp5 x) (ph5 x))) (gInv (vs5 x)) := by
  simp only [kernelRun.sl.r_519, kernelRun.sl.r_499, kernelRun.sl.r_127, kernelRun.sl.r_505, kernelRun.sl.r_503, kernelRun.sl.r_506, kernelRun.sl.r_507, kernelRun.sl.r_508, kernelRun.sl.r_509, kernelRun.sl.r_510, kernelRun.sl.r_511, kernelRun.sl.r_512, kernelRun.sl.r_513, kernelRun.sl.r_514, kernelRun.sl.r_515, kernelRun.sl.r_516, kernelRun.sl.r_517, kernelRun.sl.r_504, kernelRun.sl.r_518, codes5_eq, val5_eq, dO5_eq]
  unfold dp5 ph5 ps5 vs5
  generalize codes5 x = a_r_87
  generalize val5 x = a_r_88
  generalize dO5 x = a_r_91
  rfl

end Cert.KernelIdeal.Hand
-- ==== Proof.HeadsDk2.lean ====
/-
  What the body stores to the key gradient, heads 4 and 5.
-/
module

public import proofs.«01_k».proof.Proof.HeadsDs2
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H10_6_eq (x : In F c) : kernelRun.sl.H10_6 c x.M0 x.M2 x.M3 x.M4 x.M5 x.M6 x.M7 x.M8 x.M12 x.M13 x.f0 x.f2 x.f3 x.f4 x.f5 x.f6 x.f7 x.f8 x.f12 x.f13 =
    ⟨Rect.unit (s := S1x257x8x128) ![0, 256, 4, 0] S1x1x2x128.size inb_S1x257x8x128_S1x1x2x128_0_256_4_0, gOutDkl (dk4 x) (dk5 x)⟩ ::
    ⟨Rect.unit (s := S1x257x8x128) ![0, 0, 4, 0] S1x256x2x128.size inb_S1x257x8x128_S1x256x2x128_0_0_4_0, gOutDk (dk4 x) (dk5 x)⟩ ::
    kernelRun.sl.H10_4 c x.M0 x.M2 x.M3 x.M4 x.M5 x.M6 x.M7 x.M8 x.M12 x.M13 x.f0 x.f2 x.f3 x.f4 x.f5 x.f6 x.f7 x.f8 x.f12 x.f13 := by
  unfold dk4 dk5 ds4 ds5
  rw [← r_469_eq, ← r_519_eq]
  simp only [kernelRun.sl.H10_6, kernelRun.sl.r_554, kernelRun.sl.r_495, kernelRun.sl.r_469, kernelRun.sl.r_470, kernelRun.sl.r_471, kernelRun.sl.r_472, kernelRun.sl.r_473, kernelRun.sl.r_474, kernelRun.sl.r_475, kernelRun.sl.r_477, kernelRun.sl.r_476, kernelRun.sl.r_478, kernelRun.sl.r_479, kernelRun.sl.r_480, kernelRun.sl.r_481, kernelRun.sl.r_482, kernelRun.sl.r_483, kernelRun.sl.r_484, kernelRun.sl.r_485, kernelRun.sl.r_486, kernelRun.sl.r_487, kernelRun.sl.r_488, kernelRun.sl.r_489, kernelRun.sl.r_490, kernelRun.sl.r_491, kernelRun.sl.r_492, kernelRun.sl.r_555, kernelRun.sl.r_546, kernelRun.sl.r_519, kernelRun.sl.r_520, kernelRun.sl.r_521, kernelRun.sl.r_522, kernelRun.sl.r_523, kernelRun.sl.r_524, kernelRun.sl.r_525, kernelRun.sl.r_526, kernelRun.sl.r_527, kernelRun.sl.r_528, kernelRun.sl.r_529, kernelRun.sl.r_530, kernelRun.sl.r_531, kernelRun.sl.r_532, kernelRun.sl.r_533, kernelRun.sl.r_534, kernelRun.sl.r_535, kernelRun.sl.r_536, kernelRun.sl.r_537, kernelRun.sl.r_538, kernelRun.sl.r_539, kernelRun.sl.r_540, kernelRun.sl.r_541, kernelRun.sl.r_542, kernelRun.sl.r_543, kernelRun.sl.H10_5, qr4_eq, r_161_eq, r_162_eq, r_450_eq, r_451_eq, qr5_eq, r_501_eq, r_502_eq]
  generalize qr4 x = a_r_84
  generalize gDsw (dsc x) = a_r_161
  generalize qLast x = a_r_162
  generalize dp4 x = a_r_450
  generalize ph4 x = a_r_451
  generalize qr5 x = a_r_92
  generalize dp5 x = a_r_501
  generalize ph5 x = a_r_502
  generalize kernelRun.sl.r_447 c x.M7 x.f7 = b_r_447
  generalize kernelRun.sl.r_452 c x.M2 x.M3 x.M4 x.M5 x.M6 x.M7 x.M8 x.M12 x.M13 x.f2 x.f3 x.f4 x.f5 x.f6 x.f7 x.f8 = b_r_452
  generalize kernelRun.sl.r_453 c x.M2 x.M3 x.M4 x.M5 x.M6 x.M7 x.M8 x.M12 x.M13 x.f2 x.f3 x.f4 x.f5 x.f6 x.f7 x.f8 = b_r_453
  generalize kernelRun.sl.r_454 c x.M2 x.M3 x.M4 x.M5 x.M6 x.M7 x.M8 x.M12 x.M13 x.f2 x.f3 x.f4 x.f5 x.f6 x.f7 x.f8 = b_r_454
  generalize kernelRun.sl.r_455 c x.M2 x.M3 x.M4 x.M5 x.M6 x.M7 x.M8 x.M12 x.M13 x.f2 x.f3 x.f4 x.f5 x.f6 x.f7 x.f8 = b_r_455
  generalize kernelRun.sl.r_456 c x.M2 x.M3 x.M4 x.M5 x.M6 x.M7 x.M8 x.M12 x.M13 x.f2 x.f3 x.f4 x.f5 x.f6 x.f7 x.f8 = b_r_456
  generalize kernelRun.sl.r_457 c x.M2 x.M3 x.M4 x.M5 x.M6 x.M7 x.M8 x.M12 x.M13 x.f2 x.f3 x.f4 x.f5 x.f6 x.f7 x.f8 = b_r_457
  generalize kernelRun.sl.r_458 c x.M2 x.M3 x.M4 x.M5 x.M6 x.M7 x.M8 x.M12 x.M13 x.f2 x.f3 x.f4 x.f5 x.f6 x.f7 x.f8 = b_r_458
  generalize kernelRun.sl.r_459 c x.M2 x.M3 x.M4 x.M5 x.M6 x.M7 x.M8 x.M12 x.M13 x.f2 x.f3 x.f4 x.f5 x.f6 x.f7 x.f8 = b_r_459
  generalize kernelRun.sl.r_460 c x.M2 x.M3 x.M4 x.M5 x.M6 x.M7 x.M8 x.M12 x.M13 x.f2 x.f3 x.f4 x.f5 x.f6 x.f7 x.f8 = b_r_460
  generalize kernelRun.sl.r_461 c x.M2 x.M3 x.M4 x.M5 x.M6 x.M7 x.M8 x.M12 x.M13 x.f2 x.f3 x.f4 x.f5 x.f6 x.f7 x.f8 = b_r_461
  generalize kernelRun.sl.r_462 c x.M2 x.M3 x.M4 x.M5 x.M6 x.M7 x.M8 x.M12 x.M13 x.f2 x.f3 x.f4 x.f5 x.f6 x.f7 x.f8 = b_r_462
  generalize kernelRun.sl.r_463 c x.M2 x.M3 x.M4 x.M5 x.M6 x.M7 x.M8 x.M12 x.M13 x.f2 x.f3 x.f4 x.f5 x.f6 x.f7 x.f8 = b_r_463
  generalize kernelRun.sl.r_464 c x.M2 x.M3 x.M4 x.M5 x.M6 x.M7 x.M8 x.M12 x.M13 x.f2 x.f3 x.f4 x.f5 x.f6 x.f7 x.f8 = b_r_464
  generalize kernelRun.sl.r_465 c x.M2 x.M3 x.M4 x.M5 x.M6 x.M7 x.M8 x.M12 x.M13 x.f2 x.f3 x.f4 x.f5 x.f6 x.f7 x.f8 = b_r_465
  generalize kernelRun.sl.r_466 c x.M2 x.M3 x.M4 x.M5 x.M6 x.M7 x.M8 x.M12 x.M13 x.f2 x.f3 x.f4 x.f5 x.f6 x.f7 x.f8 = b_r_466
  generalize kernelRun.sl.r_467 c x.M2 x.M3 x.M4 x.M5 x.M6 x.M7 x.M8 x.M12 x.M13 x.f2 x.f3 x.f4 x.f5 x.f6 x.f7 x.f8 = b_r_467
  generalize kernelRun.sl.r_468 c x.M2 x.M3 x.M4 x.M5 x.M6 x.M7 x.M8 x.M12 x.M13 x.f2 x.f3 x.f4 x.f5 x.f6 x.f7 x.f8 = b_r_468
  generalize kernelRun.sl.r_499 c x.M7 x.f7 = b_r_499
  generalize kernelRun.sl.r_505 c x.M2 x.M3 x.M4 x.M5 x.M6 x.M7 x.M8 x.M12 x.M13 x.f2 x.f3 x.f4 x.f5 x.f6 x.f7 x.f8 = b_r_505
  generalize kernelRun.sl.r_506 c x.M2 x.M3 x.M4 x.M5 x.M6 x.M7 x.M8 x.M12 x.M13 x.f2 x.f3 x.f4 x.f5 x.f6 x.f7 x.f8 = b_r_506
  generalize kernelRun.sl.r_507 c x.M2 x.M3 x.M4 x.M5 x.M6 x.M7 x.M8 x.M12 x.M13 x.f2 x.f3 x.f4 x.f5 x.f6 x.f7 x.f8 = b_r_507
  generalize kernelRun.sl.r_508 c x.M2 x.M3 x.M4 x.M5 x.M6 x.M7 x.M8 x.M12 x.M13 x.f2 x.f3 x.f4 x.f5 x.f6 x.f7 x.f8 = b_r_508
  generalize kernelRun.sl.r_509 c x.M2 x.M3 x.M4 x.M5 x.M6 x.M7 x.M8 x.M12 x.M13 x.f2 x.f3 x.f4 x.f5 x.f6 x.f7 x.f8 = b_r_509
  generalize kernelRun.sl.r_510 c x.M2 x.M3 x.M4 x.M5 x.M6 x.M7 x.M8 x.M12 x.M13 x.f2 x.f3 x.f4 x.f5 x.f6 x.f7 x.f8 = b_r_510
  generalize kernelRun.sl.r_511 c x.M2 x.M3 x.M4 x.M5 x.M6 x.M7 x.M8 x.M12 x.M13 x.f2 x.f3 x.f4 x.f5 x.f6 x.f7 x.f8 = b_r_511
  generalize kernelRun.sl.r_512 c x.M2 x.M3 x.M4 x.M5 x.M6 x.M7 x.M8 x.M12 x.M13 x.f2 x.f3 x.f4 x.f5 x.f6 x.f7 x.f8 = b_r_512
  generalize kernelRun.sl.r_513 c x.M2 x.M3 x.M4 x.M5 x.M6 x.M7 x.M8 x.M12 x.M13 x.f2 x.f3 x.f4 x.f5 x.f6 x.f7 x.f8 = b_r_513
  generalize kernelRun.sl.r_514 c x.M2 x.M3 x.M4 x.M5 x.M6 x.M7 x.M8 x.M12 x.M13 x.f2 x.f3 x.f4 x.f5 x.f6 x.f7 x.f8 = b_r_514
  generalize kernelRun.sl.r_515 c x.M2 x.M3 x.M4 x.M5 x.M6 x.M7 x.M8 x.M12 x.M13 x.f2 x.f3 x.f4 x.f5 x.f6 x.f7 x.f8 = b_r_515
  generalize kernelRun.sl.r_516 c x.M2 x.M3 x.M4 x.M5 x.M6 x.M7 x.M8 x.M12 x.M13 x.f2 x.f3 x.f4 x.f5 x.f6 x.f7 x.f8 = b_r_516
  generalize kernelRun.sl.r_517 c x.M2 x.M3 x.M4 x.M5 x.M6 x.M7 x.M8 x.M12 x.M13 x.f2 x.f3 x.f4 x.f5 x.f6 x.f7 x.f8 = b_r_517
  generalize kernelRun.sl.r_518 c x.M2 x.M3 x.M4 x.M5 x.M6 x.M7 x.M8 x.M12 x.M13 x.f2 x.f3 x.f4 x.f5 x.f6 x.f7 x.f8 = b_r_518
  rfl

end Cert.KernelIdeal.Hand
-- ==== Proof.HeadsDs3.lean ====
/-
  The products, weights and row sums of heads 6 and 7, as the body names them.
-/
module

public import proofs.«01_k».proof.Proof.HeadsInB

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem r_558_eq (x : In F c) : kernelRun.sl.r_558 c x.M6 x.M8 x.M13 x.f6 x.f8 = dp6 x := by
  simp only [kernelRun.sl.r_558, val6_eq, dO6_eq]
  unfold dp6
  generalize val6 x = a_r_108
  generalize dO6 x = a_r_110
  rfl

theorem r_559_eq (x : In F c) : kernelRun.sl.r_559 c x.M2 x.M3 x.M4 x.M5 x.M7 x.M12 x.f2 x.f3 x.f4 x.f5 x.f7 = ph6 x := by
  simp only [kernelRun.sl.r_559, kernelRun.sl.r_128, codes6_eq]
  unfold ph6 ps6 vs6
  generalize codes6 x = a_r_107
  rfl

set_option maxHeartbeats 2000000 in
theorem r_576_eq (x : In F c) : kernelRun.sl.r_576 c x.M2 x.M3 x.M4 x.M5 x.M6 x.M7 x.M8 x.M12 x.M13 x.f2 x.f3 x.f4 x.f5 x.f6 x.f7 x.f8 = gDsum (gSum (gU (dp6 x) (ph6 x))) (gInv (vs6 x)) := by
  simp only [kernelRun.sl.r_576, kernelRun.sl.r_556, kernelRun.sl.r_128, kernelRun.sl.r_564, kernelRun.sl.r_560, kernelRun.sl.r_565, kernelRun.sl.r_566, kernelRun.sl.r_567, kernelRun.sl.r_568, kernelRun.sl.r_569, kernelRun.sl.r_570, kernelRun.sl.r_571, kernelRun.sl.r_572, kernelRun.sl.r_573, kernelRun.sl.r_574, kernelRun.sl.r_561, kernelRun.sl.r_562, kernelRun.sl.r_563, kernelRun.sl.r_575, codes6_eq, val6_eq, dO6_eq]
  unfold dp6 ph6 ps6 vs6
  generalize codes6 x = a_r_107
  generalize val6 x = a_r_108
  generalize dO6 x = a_r_110
  rfl

theorem r_614_eq (x : In F c) : kernelRun.sl.r_614 c x.M6 x.M8 x.M13 x.f6 x.f8 = dp7 x := by
  simp only [kernelRun.sl.r_614, val7_eq, dO7_eq]
  unfold dp7
  generalize val7 x = a_r_117
  generalize dO7 x = a_r_119
  rfl

theorem r_615_eq (x : In F c) : kernelRun.sl.r_615 c x.M2 x.M3 x.M4 x.M5 x.M7 x.M12 x.f2 x.f3 x.f4 x.f5 x.f7 = ph7 x := by
  simp only [kernelRun.sl.r_615, kernelRun.sl.r_129, codes7_eq]
  unfold ph7 ps7 vs7
  generalize codes7 x = a_r_116
  rfl

set_option maxHeartbeats 2000000 in
theorem r_633_eq (x : In F c) : kernelRun.sl.r_633 c x.M2 x.M3 x.M4 x.M5 x.M6 x.M7 x.M8 x.M12 x.M13 x.f2 x.f3 x.f4 x.f5 x.f6 x.f7 x.f8 = gDsum (gSum (gU (dp7 x) (ph7 x))) (gInv (vs7 x)) := by
  simp only [kernelRun.sl.r_633, kernelRun.sl.r_612, kernelRun.sl.r_129, kernelRun.sl.r_631, kernelRun.sl.r_616, kernelRun.sl.r_617, kernelRun.sl.r_618, kernelRun.sl.r_619, kernelRun.sl.r_620, kernelRun.sl.r_621, kernelRun.sl.r_622, kernelRun.sl.r_623, kernelRun.sl.r_624, kernelRun.sl.r_625, kernelRun.sl.r_626, kernelRun.sl.r_627, kernelRun.sl.r_628, kernelRun.sl.r_629, kernelRun.sl.r_630, kernelRun.sl.r_632, codes7_eq, val7_eq, dO7_eq]
  unfold dp7 ph7 ps7 vs7
  generalize codes7 x = a_r_116
  generalize val7 x = a_r_117
  generalize dO7 x = a_r_119
  rfl

end Cert.KernelIdeal.Hand
-- ==== Proof.HeadsDk3.lean ====
/-
  What the body stores to the key gradient, heads 6 and 7.
-/
module

public import proofs.«01_k».proof.Proof.HeadsDs3
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H10_8_eq (x : In F c) : kernelRun.sl.H10_8 c x.M0 x.M2 x.M3 x.M4 x.M5 x.M6 x.M7 x.M8 x.M12 x.M13 x.f0 x.f2 x.f3 x.f4 x.f5 x.f6 x.f7 x.f8 x.f12 x.f13 =
    ⟨Rect.unit (s := S1x257x8x128) ![0, 256, 6, 0] S1x1x2x128.size inb_S1x257x8x128_S1x1x2x128_0_256_6_0, gOutDkl (dk6 x) (dk7 x)⟩ ::
    ⟨Rect.unit (s := S1x257x8x128) ![0, 0, 6, 0] S1x256x2x128.size inb_S1x257x8x128_S1x256x2x128_0_0_6_0, gOutDk (dk6 x) (dk7 x)⟩ ::
    kernelRun.sl.H10_6 c x.M0 x.M2 x.M3 x.M4 x.M5 x.M6 x.M7 x.M8 x.M12 x.M13 x.f0 x.f2 x.f3 x.f4 x.f5 x.f6 x.f7 x.f8 x.f12 x.f13 := by
  unfold dk6 dk7 ds6 ds7
  rw [← r_576_eq, ← r_633_eq]
  simp only [kernelRun.sl.H10_8, kernelRun.sl.r_607, kernelRun.sl.r_576, kernelRun.sl.r_577, kernelRun.sl.r_578, kernelRun.sl.r_579, kernelRun.sl.r_580, kernelRun.sl.r_581, kernelRun.sl.r_582, kernelRun.sl.r_583, kernelRun.sl.r_584, kernelRun.sl.r_585, kernelRun.sl.r_588, kernelRun.sl.r_586, kernelRun.sl.r_587, kernelRun.sl.r_589, kernelRun.sl.r_590, kernelRun.sl.r_591, kernelRun.sl.r_592, kernelRun.sl.r_593, kernelRun.sl.r_594, kernelRun.sl.r_595, kernelRun.sl.r_596, kernelRun.sl.r_597, kernelRun.sl.r_598, kernelRun.sl.r_599, kernelRun.sl.r_600, kernelRun.sl.r_601, kernelRun.sl.r_602, kernelRun.sl.r_603, kernelRun.sl.r_604, kernelRun.sl.r_663, kernelRun.sl.r_633, kernelRun.sl.r_634, kernelRun.sl.r_635, kernelRun.sl.r_636, kernelRun.sl.r_637, kernelRun.sl.r_638, kernelRun.sl.r_639, kernelRun.sl.r_640, kernelRun.sl.r_641, kernelRun.sl.r_642, kernelRun.sl.r_643, kernelRun.sl.r_644, kernelRun.sl.r_645, kernelRun.sl.r_647, kernelRun.sl.r_646, kernelRun.sl.r_648, kernelRun.sl.r_649, kernelRun.sl.r_650, kernelRun.sl.r_651, kernelRun.sl.r_652, kernelRun.sl.r_653, kernelRun.sl.r_654, kernelRun.sl.r_655, kernelRun.sl.r_656, kernelRun.sl.r_657, kernelRun.sl.r_658, kernelRun.sl.r_659, kernelRun.sl.r_660, kernelRun.sl.r_661, kernelRun.sl.r_662, qr6_eq, r_161_eq, r_162_eq, r_558_eq, r_559_eq, qr7_eq, r_614_eq, r_615_eq]
  generalize qr6 x = a_r_113
  generalize gDsw (dsc x) = a_r_161
  generalize qLast x = a_r_162
  generalize dp6 x = a_r_558
  generalize ph6 x = a_r_559
  generalize qr7 x = a_r_120
  generalize dp7 x = a_r_614
  generalize ph7 x = a_r_615
  generalize kernelRun.sl.r_556 c x.M7 x.f7 = b_r_556
  generalize kernelRun.sl.r_564 c x.M2 x.M3 x.M4 x.M5 x.M6 x.M7 x.M8 x.M12 x.M13 x.f2 x.f3 x.f4 x.f5 x.f6 x.f7 x.f8 = b_r_564
  generalize kernelRun.sl.r_565 c x.M2 x.M3 x.M4 x.M5 x.M6 x.M7 x.M8 x.M12 x.M13 x.f2 x.f3 x.f4 x.f5 x.f6 x.f7 x.f8 = b_r_565
  generalize kernelRun.sl.r_566 c x.M2 x.M3 x.M4 x.M5 x.M6 x.M7 x.M8 x.M12 x.M13 x.f2 x.f3 x.f4 x.f5 x.f6 x.f7 x.f8 = b_r_566
  generalize kernelRun.sl.r_567 c x.M2 x.M3 x.M4 x.M5 x.M6 x.M7 x.M8 x.M12 x.M13 x.f2 x.f3 x.f4 x.f5 x.f6 x.f7 x.f8 = b_r_567
  generalize kernelRun.sl.r_568 c x.M2 x.M3 x.M4 x.M5 x.M6 x.M7 x.M8 x.M12 x.M13 x.f2 x.f3 x.f4 x.f5 x.f6 x.f7 x.f8 = b_r_568
  generalize kernelRun.sl.r_569 c x.M2 x.M3 x.M4 x.M5 x.M6 x.M7 x.M8 x.M12 x.M13 x.f2 x.f3 x.f4 x.f5 x.f6 x.f7 x.f8 = b_r_569
  generalize kernelRun.sl.r_570 c x.M2 x.M3 x.M4 x.M5 x.M6 x.M7 x.M8 x.M12 x.M13 x.f2 x.f3 x.f4 x.f5 x.f6 x.f7 x.f8 = b_r_570
  generalize kernelRun.sl.r_571 c x.M2 x.M3 x.M4 x.M5 x.M6 x.M7 x.M8 x.M12 x.M13 x.f2 x.f3 x.f4 x.f5 x.f6 x.f7 x.f8 = b_r_571
  generalize kernelRun.sl.r_572 c x.M2 x.M3 x.M4 x.M5 x.M6 x.M7 x.M8 x.M12 x.M13 x.f2 x.f3 x.f4 x.f5 x.f6 x.f7 x.f8 = b_r_572
  generalize kernelRun.sl.r_573 c x.M2 x.M3 x.M4 x.M5 x.M6 x.M7 x.M8 x.M12 x.M13 x.f2 x.f3 x.f4 x.f5 x.f6 x.f7 x.f8 = b_r_573
  generalize kernelRun.sl.r_574 c x.M2 x.M3 x.M4 x.M5 x.M6 x.M7 x.M8 x.M12 x.M13 x.f2 x.f3 x.f4 x.f5 x.f6 x.f7 x.f8 = b_r_574
  generalize kernelRun.sl.r_575 c x.M2 x.M3 x.M4 x.M5 x.M6 x.M7 x.M8 x.M12 x.M13 x.f2 x.f3 x.f4 x.f5 x.f6 x.f7 x.f8 = b_r_575
  generalize kernelRun.sl.r_612 c x.M7 x.f7 = b_r_612
  generalize kernelRun.sl.r_631 c x.M2 x.M3 x.M4 x.M5 x.M6 x.M7 x.M8 x.M12 x.M13 x.f2 x.f3 x.f4 x.f5 x.f6 x.f7 x.f8 = b_r_631
  generalize kernelRun.sl.r_632 c x.M2 x.M3 x.M4 x.M5 x.M6 x.M7 x.M8 x.M12 x.M13 x.f2 x.f3 x.f4 x.f5 x.f6 x.f7 x.f8 = b_r_632
  rfl

end Cert.KernelIdeal.Hand
-- ==== Proof.HeadsDq0.lean ====
/-
  What the body stores to the query gradient, heads 0 and 1.
-/
module

public import proofs.«01_k».proof.Proof.HeadsDs0
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H9_1_eq (x : In F c) : kernelRun.sl.H9_1 c x.M1 x.M2 x.M3 x.M4 x.M5 x.M6 x.M7 x.M8 x.M12 x.M13 x.f1 x.f2 x.f3 x.f4 x.f5 x.f6 x.f7 x.f8 x.f12 x.f13 =
    ⟨Rect.unit (s := S1x257x8x128) ![0, 0, 0, 0] S1x256x2x128.size inb_S1x257x8x128_S1x256x2x128_0_0_0_0, gOutDq (gTurn (dqt0 x)) (gTurn (dqt1 x))⟩ ::
    [] := by
  unfold dqt0 dqt1 ds0 ds1
  rw [← r_196_eq, ← r_269_eq]
  simp only [kernelRun.sl.H9_1, kernelRun.sl.r_232, kernelRun.sl.r_196, kernelRun.sl.r_197, kernelRun.sl.r_198, kernelRun.sl.r_199, kernelRun.sl.r_200, kernelRun.sl.r_201, kernelRun.sl.r_202, kernelRun.sl.r_203, kernelRun.sl.r_204, kernelRun.sl.r_205, kernelRun.sl.r_206, kernelRun.sl.r_207, kernelRun.sl.r_208, kernelRun.sl.r_209, kernelRun.sl.r_210, kernelRun.sl.r_213, kernelRun.sl.r_211, kernelRun.sl.r_212, kernelRun.sl.r_214, kernelRun.sl.r_215, kernelRun.sl.r_216, kernelRun.sl.r_217, kernelRun.sl.r_218, kernelRun.sl.r_219, kernelRun.sl.r_220, kernelRun.sl.r_221, kernelRun.sl.r_222, kernelRun.sl.r_223, kernelRun.sl.r_224, kernelRun.sl.r_225, kernelRun.sl.r_226, kernelRun.sl.r_227, kernelRun.sl.r_228, kernelRun.sl.r_229, kernelRun.sl.r_308, kernelRun.sl.r_269, kernelRun.sl.r_270, kernelRun.sl.r_271, kernelRun.sl.r_274, kernelRun.sl.r_272, kernelRun.sl.r_273, kernelRun.sl.r_275, kernelRun.sl.r_276, kernelRun.sl.r_277, kernelRun.sl.r_278, kernelRun.sl.r_279, kernelRun.sl.r_280, kernelRun.sl.r_281, kernelRun.sl.r_282, kernelRun.sl.r_283, kernelRun.sl.r_284, kernelRun.sl.r_285, kernelRun.sl.r_286, kernelRun.sl.r_287, kernelRun.sl.r_288, kernelRun.sl.r_291, kernelRun.sl.r_289, kernelRun.sl.r_290, kernelRun.sl.r_292, kernelRun.sl.r_293, kernelRun.sl.r_294, kernelRun.sl.r_295, kernelRun.sl.r_296, kernelRun.sl.r_297, kernelRun.sl.r_298, kernelRun.sl.r_299, kernelRun.sl.r_300, kernelRun.sl.r_301, kernelRun.sl.r_302, kernelRun.sl.r_303, kernelRun.sl.r_304, kernelRun.sl.r_305, kernelRun.sl.r_306, kernelRun.sl.r_307, kernelRun.sl.cst_382, kt0_eq, kl0_eq, r_167_eq, r_168_eq, kt1_eq, kl1_eq, r_236_eq, r_237_eq]
  generalize kt0 x = a_r_27
  generalize kl0 x = a_r_28
  generalize dp0 x = a_r_167
  generalize ph0 x = a_r_168
  generalize kt1 x = a_r_34
  generalize kl1 x = a_r_35
  generalize dp1 x = a_r_236
  generalize ph1 x = a_r_237
  generalize kernelRun.sl.r_194 c x.M2 x.M3 x.M4 x.M5 x.M6 x.M7 x.M8 x.M12 x.M13 x.f2 x.f3 x.f4 x.f5 x.f6 x.f7 x.f8 x.f12 x.f13 = b_r_194
  generalize kernelRun.sl.r_195 c x.M7 x.f7 = b_r_195
  generalize kernelRun.sl.r_234 c x.M7 x.f7 = b_r_234
  generalize kernelRun.sl.r_238 c x.M2 x.M3 x.M4 x.M5 x.M6 x.M7 x.M8 x.M12 x.M13 x.f2 x.f3 x.f4 x.f5 x.f6 x.f7 x.f8 x.f12 x.f13 = b_r_238
  generalize kernelRun.sl.r_239 c x.M2 x.M3 x.M4 x.M5 x.M6 x.M7 x.M8 x.M12 x.M13 x.f2 x.f3 x.f4 x.f5 x.f6 x.f7 x.f8 x.f12 x.f13 = b_r_239
  generalize kernelRun.sl.r_240 c x.M2 x.M3 x.M4 x.M5 x.M6 x.M7 x.M8 x.M12 x.M13 x.f2 x.f3 x.f4 x.f5 x.f6 x.f7 x.f8 x.f12 x.f13 = b_r_240
  generalize kernelRun.sl.r_241 c x.M2 x.M3 x.M4 x.M5 x.M6 x.M7 x.M8 x.M12 x.M13 x.f2 x.f3 x.f4 x.f5 x.f6 x.f7 x.f8 x.f12 x.f13 = b_r_241
  generalize kernelRun.sl.r_242 c x.M2 x.M3 x.M4 x.M5 x.M6 x.M7 x.M8 x.M12 x.M13 x.f2 x.f3 x.f4 x.f5 x.f6 x.f7 x.f8 x.f12 x.f13 = b_r_242
  generalize kernelRun.sl.r_243 c x.M2 x.M3 x.M4 x.M5 x.M6 x.M7 x.M8 x.M12 x.M13 x.f2 x.f3 x.f4 x.f5 x.f6 x.f7 x.f8 x.f12 x.f13 = b_r_243
  generalize kernelRun.sl.r_244 c x.M2 x.M3 x.M4 x.M5 x.M6 x.M7 x.M8 x.M12 x.M13 x.f2 x.f3 x.f4 x.f5 x.f6 x.f7 x.f8 x.f12 x.f13 = b_r_244
  generalize kernelRun.sl.r_245 c x.M2 x.M3 x.M4 x.M5 x.M6 x.M7 x.M8 x.M12 x.M13 x.f2 x.f3 x.f4 x.f5 x.f6 x.f7 x.f8 x.f12 x.f13 = b_r_245
  generalize kernelRun.sl.r_246 c x.M2 x.M3 x.M4 x.M5 x.M6 x.M7 x.M8 x.M12 x.M13 x.f2 x.f3 x.f4 x.f5 x.f6 x.f7 x.f8 x.f12 x.f13 = b_r_246
  generalize kernelRun.sl.r_247 c x.M2 x.M3 x.M4 x.M5 x.M6 x.M7 x.M8 x.M12 x.M13 x.f2 x.f3 x.f4 x.f5 x.f6 x.f7 x.f8 x.f12 x.f13 = b_r_247
  generalize kernelRun.sl.r_248 c x.M2 x.M3 x.M4 x.M5 x.M6 x.M7 x.M8 x.M12 x.M13 x.f2 x.f3 x.f4 x.f5 x.f6 x.f7 x.f8 x.f12 x.f13 = b_r_248
  generalize kernelRun.sl.r_249 c x.M2 x.M3 x.M4 x.M5 x.M6 x.M7 x.M8 x.M12 x.M13 x.f2 x.f3 x.f4 x.f5 x.f6 x.f7 x.f8 x.f12 x.f13 = b_r_249
  generalize kernelRun.sl.r_250 c x.M2 x.M3 x.M4 x.M5 x.M6 x.M7 x.M8 x.M12 x.M13 x.f2 x.f3 x.f4 x.f5 x.f6 x.f7 x.f8 x.f12 x.f13 = b_r_250
  generalize kernelRun.sl.r_251 c x.M2 x.M3 x.M4 x.M5 x.M6 x.M7 x.M8 x.M12 x.M13 x.f2 x.f3 x.f4 x.f5 x.f6 x.f7 x.f8 x.f12 x.f13 = b_r_251
  generalize kernelRun.sl.r_252 c x.M2 x.M3 x.M4 x.M5 x.M6 x.M7 x.M8 x.M12 x.M13 x.f2 x.f3 x.f4 x.f5 x.f6 x.f7 x.f8 x.f12 x.f13 = b_r_252
  generalize kernelRun.sl.r_253 c x.M2 x.M3 x.M4 x.M5 x.M6 x.M7 x.M8 x.M12 x.M13 x.f2 x.f3 x.f4 x.f5 x.f6 x.f7 x.f8 x.f12 x.f13 = b_r_253
  generalize kernelRun.sl.r_254 c x.M2 x.M3 x.M4 x.M5 x.M6 x.M7 x.M8 x.M12 x.M13 x.f2 x.f3 x.f4 x.f5 x.f6 x.f7 x.f8 x.f12 x.f13 = b_r_254
  generalize kernelRun.sl.r_255 c x.M2 x.M3 x.M4 x.M5 x.M6 x.M7 x.M8 x.M12 x.M13 x.f2 x.f3 x.f4 x.f5 x.f6 x.f7 x.f8 x.f12 x.f13 = b_r_255
  generalize kernelRun.sl.r_256 c x.M2 x.M3 x.M4 x.M5 x.M6 x.M7 x.M8 x.M12 x.M13 x.f2 x.f3 x.f4 x.f5 x.f6 x.f7 x.f8 x.f12 x.f13 = b_r_256
  generalize kernelRun.sl.r_257 c x.M2 x.M3 x.M4 x.M5 x.M6 x.M7 x.M8 x.M12 x.M13 x.f2 x.f3 x.f4 x.f5 x.f6 x.f7 x.f8 x.f12 x.f13 = b_r_257
  generalize kernelRun.sl.r_258 c x.M2 x.M3 x.M4 x.M5 x.M6 x.M7 x.M8 x.M12 x.M13 x.f2 x.f3 x.f4 x.f5 x.f6 x.f7 x.f8 x.f12 x.f13 = b_r_258
  generalize kernelRun.sl.r_259 c x.M2 x.M3 x.M4 x.M5 x.M6 x.M7 x.M8 x.M12 x.M13 x.f2 x.f3 x.f4 x.f5 x.f6 x.f7 x.f8 x.f12 x.f13 = b_r_259
  generalize kernelRun.sl.r_260 c x.M2 x.M3 x.M4 x.M5 x.M6 x.M7 x.M8 x.M12 x.M13 x.f2 x.f3 x.f4 x.f5 x.f6 x.f7 x.f8 x.f12 x.f13 = b_r_260
  generalize kernelRun.sl.r_261 c x.M2 x.M3 x.M4 x.M5 x.M6 x.M7 x.M8 x.M12 x.M13 x.f2 x.f3 x.f4 x.f5 x.f6 x.f7 x.f8 x.f12 x.f13 = b_r_261
  generalize kernelRun.sl.r_262 c x.M2 x.M3 x.M4 x.M5 x.M6 x.M7 x.M8 x.M12 x.M13 x.f2 x.f3 x.f4 x.f5 x.f6 x.f7 x.f8 x.f12 x.f13 = b_r_262
  generalize kernelRun.sl.r_263 c x.M2 x.M3 x.M4 x.M5 x.M6 x.M7 x.M8 x.M12 x.M13 x.f2 x.f3 x.f4 x.f5 x.f6 x.f7 x.f8 x.f12 x.f13 = b_r_263
  generalize kernelRun.sl.r_264 c x.M2 x.M3 x.M4 x.M5 x.M6 x.M7 x.M8 x.M12 x.M13 x.f2 x.f3 x.f4 x.f5 x.f6 x.f7 x.f8 x.f12 x.f13 = b_r_264
  generalize kernelRun.sl.r_265 c x.M2 x.M3 x.M4 x.M5 x.M6 x.M7 x.M8 x.M12 x.M13 x.f2 x.f3 x.f4 x.f5 x.f6 x.f7 x.f8 x.f12 x.f13 = b_r_265
  generalize kernelRun.sl.r_266 c x.M2 x.M3 x.M4 x.M5 x.M6 x.M7 x.M8 x.M12 x.M13 x.f2 x.f3 x.f4 x.f5 x.f6 x.f7 x.f8 x.f12 x.f13 = b_r_266
  generalize kernelRun.sl.r_267 c x.M2 x.M3 x.M4 x.M5 x.M6 x.M7 x.M8 x.M12 x.M13 x.f2 x.f3 x.f4 x.f5 x.f6 x.f7 x.f8 x.f12 x.f13 = b_r_267
  generalize kernelRun.sl.r_268 c x.M2 x.M3 x.M4 x.M5 x.M6 x.M7 x.M8 x.M12 x.M13 x.f2 x.f3 x.f4 x.f5 x.f6 x.f7 x.f8 x.f12 x.f13 = b_r_268
  rfl

end Cert.KernelIdeal.Hand
-- ==== Proof.HeadsDq1.lean ====
/-
  What the body stores to the query gradient, heads 2 and 3.
-/
module

public import proofs.«01_k».proof.Proof.HeadsDs1
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H9_2_eq (x : In F c) : kernelRun.sl.H9_2 c x.M1 x.M2 x.M3 x.M4 x.M5 x.M6 x.M7 x.M8 x.M12 x.M13 x.f1 x.f2 x.f3 x.f4 x.f5 x.f6 x.f7 x.f8 x.f12 x.f13 =
    ⟨Rect.unit (s := S1x257x8x128) ![0, 0, 2, 0] S1x256x2x128.size inb_S1x257x8x128_S1x256x2x128_0_0_2_0, gOutDq (gTurn (dqt2 x)) (gTurn (dqt3 x))⟩ ::
    kernelRun.sl.H9_1 c x.M1 x.M2 x.M3 x.M4 x.M5 x.M6 x.M7 x.M8 x.M12 x.M13 x.f1 x.f2 x.f3 x.f4 x.f5 x.f6 x.f7 x.f8 x.f12 x.f13 := by
  unfold dqt2 dqt3 ds2 ds3
  rw [← r_347_eq, ← r_409_eq]
  simp only [kernelRun.sl.H9_2, kernelRun.sl.r_444, kernelRun.sl.r_383, kernelRun.sl.r_348, kernelRun.sl.r_349, kernelRun.sl.r_350, kernelRun.sl.r_351, kernelRun.sl.r_347, kernelRun.sl.r_352, kernelRun.sl.r_353, kernelRun.sl.r_354, kernelRun.sl.r_355, kernelRun.sl.r_356, kernelRun.sl.r_357, kernelRun.sl.r_358, kernelRun.sl.r_359, kernelRun.sl.r_360, kernelRun.sl.r_361, kernelRun.sl.r_362, kernelRun.sl.r_363, kernelRun.sl.r_364, kernelRun.sl.r_365, kernelRun.sl.r_366, kernelRun.sl.r_367, kernelRun.sl.r_368, kernelRun.sl.r_369, kernelRun.sl.r_370, kernelRun.sl.r_371, kernelRun.sl.r_372, kernelRun.sl.r_373, kernelRun.sl.r_374, kernelRun.sl.r_375, kernelRun.sl.r_376, kernelRun.sl.r_377, kernelRun.sl.r_378, kernelRun.sl.r_379, kernelRun.sl.r_380, kernelRun.sl.r_445, kernelRun.sl.r_434, kernelRun.sl.r_409, kernelRun.sl.r_410, kernelRun.sl.r_411, kernelRun.sl.r_412, kernelRun.sl.r_413, kernelRun.sl.r_414, kernelRun.sl.r_417, kernelRun.sl.r_415, kernelRun.sl.r_416, kernelRun.sl.r_418, kernelRun.sl.r_419, kernelRun.sl.r_420, kernelRun.sl.r_421, kernelRun.sl.r_422, kernelRun.sl.r_423, kernelRun.sl.r_424, kernelRun.sl.r_425, kernelRun.sl.r_426, kernelRun.sl.r_427, kernelRun.sl.r_428, kernelRun.sl.r_429, kernelRun.sl.r_430, kernelRun.sl.r_431, kernelRun.sl.r_432, kernelRun.sl.r_433, kernelRun.sl.r_436, kt2_eq, kl2_eq, r_316_eq, r_317_eq, kl3_eq, r_389_eq, r_390_eq, kt3_eq]
  generalize kt2 x = a_r_53
  generalize kl2 x = a_r_54
  generalize dp2 x = a_r_316
  generalize ph2 x = a_r_317
  generalize kl3 x = a_r_62
  generalize dp3 x = a_r_389
  generalize ph3 x = a_r_390
  generalize kt3 x = a_r_61
  generalize kernelRun.sl.r_314 c x.M7 x.f7 = b_r_314
  generalize kernelRun.sl.r_318 c x.M2 x.M3 x.M4 x.M5 x.M6 x.M7 x.M8 x.M12 x.M13 x.f2 x.f3 x.f4 x.f5 x.f6 x.f7 x.f8 x.f12 x.f13 = b_r_318
  generalize kernelRun.sl.r_319 c x.M2 x.M3 x.M4 x.M5 x.M6 x.M7 x.M8 x.M12 x.M13 x.f2 x.f3 x.f4 x.f5 x.f6 x.f7 x.f8 x.f12 x.f13 = b_r_319
  generalize kernelRun.sl.r_320 c x.M2 x.M3 x.M4 x.M5 x.M6 x.M7 x.M8 x.M12 x.M13 x.f2 x.f3 x.f4 x.f5 x.f6 x.f7 x.f8 x.f12 x.f13 = b_r_320
  generalize kernelRun.sl.r_321 c x.M2 x.M3 x.M4 x.M5 x.M6 x.M7 x.M8 x.M12 x.M13 x.f2 x.f3 x.f4 x.f5 x.f6 x.f7 x.f8 x.f12 x.f13 = b_r_321
  generalize kernelRun.sl.r_322 c x.M2 x.M3 x.M4 x.M5 x.M6 x.M7 x.M8 x.M12 x.M13 x.f2 x.f3 x.f4 x.f5 x.f6 x.f7 x.f8 x.f12 x.f13 = b_r_322
  generalize kernelRun.sl.r_323 c x.M2 x.M3 x.M4 x.M5 x.M6 x.M7 x.M8 x.M12 x.M13 x.f2 x.f3 x.f4 x.f5 x.f6 x.f7 x.f8 x.f12 x.f13 = b_r_323
  generalize kernelRun.sl.r_324 c x.M2 x.M3 x.M4 x.M5 x.M6 x.M7 x.M8 x.M12 x.M13 x.f2 x.f3 x.f4 x.f5 x.f6 x.f7 x.f8 x.f12 x.f13 = b_r_324
  generalize kernelRun.sl.r_325 c x.M2 x.M3 x.M4 x.M5 x.M6 x.M7 x.M8 x.M12 x.M13 x.f2 x.f3 x.f4 x.f5 x.f6 x.f7 x.f8 x.f12 x.f13 = b_r_325
  generalize kernelRun.sl.r_326 c x.M2 x.M3 x.M4 x.M5 x.M6 x.M7 x.M8 x.M12 x.M13 x.f2 x.f3 x.f4 x.f5 x.f6 x.f7 x.f8 x.f12 x.f13 = b_r_326
  generalize kernelRun.sl.r_327 c x.M2 x.M3 x.M4 x.M5 x.M6 x.M7 x.M8 x.M12 x.M13 x.f2 x.f3 x.f4 x.f5 x.f6 x.f7 x.f8 x.f12 x.f13 = b_r_327
  generalize kernelRun.sl.r_328 c x.M2 x.M3 x.M4 x.M5 x.M6 x.M7 x.M8 x.M12 x.M13 x.f2 x.f3 x.f4 x.f5 x.f6 x.f7 x.f8 x.f12 x.f13 = b_r_328
  generalize kernelRun.sl.r_329 c x.M2 x.M3 x.M4 x.M5 x.M6 x.M7 x.M8 x.M12 x.M13 x.f2 x.f3 x.f4 x.f5 x.f6 x.f7 x.f8 x.f12 x.f13 = b_r_329
  generalize kernelRun.sl.r_330 c x.M2 x.M3 x.M4 x.M5 x.M6 x.M7 x.M8 x.M12 x.M13 x.f2 x.f3 x.f4 x.f5 x.f6 x.f7 x.f8 x.f12 x.f13 = b_r_330
  generalize kernelRun.sl.r_331 c x.M2 x.M3 x.M4 x.M5 x.M6 x.M7 x.M8 x.M12 x.M13 x.f2 x.f3 x.f4 x.f5 x.f6 x.f7 x.f8 x.f12 x.f13 = b_r_331
  generalize kernelRun.sl.r_332 c x.M2 x.M3 x.M4 x.M5 x.M6 x.M7 x.M8 x.M12 x.M13 x.f2 x.f3 x.f4 x.f5 x.f6 x.f7 x.f8 x.f12 x.f13 = b_r_332
  generalize kernelRun.sl.r_333 c x.M2 x.M3 x.M4 x.M5 x.M6 x.M7 x.M8 x.M12 x.M13 x.f2 x.f3 x.f4 x.f5 x.f6 x.f7 x.f8 x.f12 x.f13 = b_r_333
  generalize kernelRun.sl.r_334 c x.M2 x.M3 x.M4 x.M5 x.M6 x.M7 x.M8 x.M12 x.M13 x.f2 x.f3 x.f4 x.f5 x.f6 x.f7 x.f8 x.f12 x.f13 = b_r_334
  generalize kernelRun.sl.r_335 c x.M2 x.M3 x.M4 x.M5 x.M6 x.M7 x.M8 x.M12 x.M13 x.f2 x.f3 x.f4 x.f5 x.f6 x.f7 x.f8 x.f12 x.f13 = b_r_335
  generalize kernelRun.sl.r_336 c x.M2 x.M3 x.M4 x.M5 x.M6 x.M7 x.M8 x.M12 x.M13 x.f2 x.f3 x.f4 x.f5 x.f6 x.f7 x.f8 x.f12 x.f13 = b_r_336
  generalize kernelRun.sl.r_337 c x.M2 x.M3 x.M4 x.M5 x.M6 x.M7 x.M8 x.M12 x.M13 x.f2 x.f3 x.f4 x.f5 x.f6 x.f7 x.f8 x.f12 x.f13 = b_r_337
  generalize kernelRun.sl.r_338 c x.M2 x.M3 x.M4 x.M5 x.M6 x.M7 x.M8 x.M12 x.M13 x.f2 x.f3 x.f4 x.f5 x.f6 x.f7 x.f8 x.f12 x.f13 = b_r_338
  generalize kernelRun.sl.r_339 c x.M2 x.M3 x.M4 x.M5 x.M6 x.M7 x.M8 x.M12 x.M13 x.f2 x.f3 x.f4 x.f5 x.f6 x.f7 x.f8 x.f12 x.f13 = b_r_339
  generalize kernelRun.sl.r_340 c x.M2 x.M3 x.M4 x.M5 x.M6 x.M7 x.M8 x.M12 x.M13 x.f2 x.f3 x.f4 x.f5 x.f6 x.f7 x.f8 x.f12 x.f13 = b_r_340
  generalize kernelRun.sl.r_341 c x.M2 x.M3 x.M4 x.M5 x.M6 x.M7 x.M8 x.M12 x.M13 x.f2 x.f3 x.f4 x.f5 x.f6 x.f7 x.f8 x.f12 x.f13 = b_r_341
  generalize kernelRun.sl.r_342 c x.M2 x.M3 x.M4 x.M5 x.M6 x.M7 x.M8 x.M12 x.M13 x.f2 x.f3 x.f4 x.f5 x.f6 x.f7 x.f8 x.f12 x.f13 = b_r_342
  generalize kernelRun.sl.r_343 c x.M2 x.M3 x.M4 x.M5 x.M6 x.M7 x.M8 x.M12 x.M13 x.f2 x.f3 x.f4 x.f5 x.f6 x.f7 x.f8 x.f12 x.f13 = b_r_343
  generalize kernelRun.sl.r_344 c x.M2 x.M3 x.M4 x.M5 x.M6 x.M7 x.M8 x.M12 x.M13 x.f2 x.f3 x.f4 x.f5 x.f6 x.f7 x.f8 x.f12 x.f13 = b_r_344
  generalize kernelRun.sl.r_345 c x.M2 x.M3 x.M4 x.M5 x.M6 x.M7 x.M8 x.M12 x.M13 x.f2 x.f3 x.f4 x.f5 x.f6 x.f7 x.f8 x.f12 x.f13 = b_r_345
  generalize kernelRun.sl.r_346 c x.M2 x.M3 x.M4 x.M5 x.M6 x.M7 x.M8 x.M12 x.M13 x.f2 x.f3 x.f4 x.f5 x.f6 x.f7 x.f8 x.f12 x.f13 = b_r_346
  generalize kernelRun.sl.r_387 c x.M7 x.f7 = b_r_387
  generalize kernelRun.sl.r_391 c x.M2 x.M3 x.M4 x.M5 x.M6 x.M7 x.M8 x.M12 x.M13 x.f2 x.f3 x.f4 x.f5 x.f6 x.f7 x.f8 x.f12 x.f13 = b_r_391
  generalize kernelRun.sl.r_392 c x.M2 x.M3 x.M4 x.M5 x.M6 x.M7 x.M8 x.M12 x.M13 x.f2 x.f3 x.f4 x.f5 x.f6 x.f7 x.f8 x.f12 x.f13 = b_r_392
  generalize kernelRun.sl.r_393 c x.M2 x.M3 x.M4 x.M5 x.M6 x.M7 x.M8 x.M12 x.M13 x.f2 x.f3 x.f4 x.f5 x.f6 x.f7 x.f8 x.f12 x.f13 = b_r_393
  generalize kernelRun.sl.r_394 c x.M2 x.M3 x.M4 x.M5 x.M6 x.M7 x.M8 x.M12 x.M13 x.f2 x.f3 x.f4 x.f5 x.f6 x.f7 x.f8 x.f12 x.f13 = b_r_394
  generalize kernelRun.sl.r_395 c x.M2 x.M3 x.M4 x.M5 x.M6 x.M7 x.M8 x.M12 x.M13 x.f2 x.f3 x.f4 x.f5 x.f6 x.f7 x.f8 x.f12 x.f13 = b_r_395
  generalize kernelRun.sl.r_396 c x.M2 x.M3 x.M4 x.M5 x.M6 x.M7 x.M8 x.M12 x.M13 x.f2 x.f3 x.f4 x.f5 x.f6 x.f7 x.f8 x.f12 x.f13 = b_r_396
  generalize kernelRun.sl.r_397 c x.M2 x.M3 x.M4 x.M5 x.M6 x.M7 x.M8 x.M12 x.M13 x.f2 x.f3 x.f4 x.f5 x.f6 x.f7 x.f8 x.f12 x.f13 = b_r_397
  generalize kernelRun.sl.r_398 c x.M2 x.M3 x.M4 x.M5 x.M6 x.M7 x.M8 x.M12 x.M13 x.f2 x.f3 x.f4 x.f5 x.f6 x.f7 x.f8 x.f12 x.f13 = b_r_398
  generalize kernelRun.sl.r_399 c x.M2 x.M3 x.M4 x.M5 x.M6 x.M7 x.M8 x.M12 x.M13 x.f2 x.f3 x.f4 x.f5 x.f6 x.f7 x.f8 x.f12 x.f13 = b_r_399
  generalize kernelRun.sl.r_400 c x.M2 x.M3 x.M4 x.M5 x.M6 x.M7 x.M8 x.M12 x.M13 x.f2 x.f3 x.f4 x.f5 x.f6 x.f7 x.f8 x.f12 x.f13 = b_r_400
  generalize kernelRun.sl.r_401 c x.M2 x.M3 x.M4 x.M5 x.M6 x.M7 x.M8 x.M12 x.M13 x.f2 x.f3 x.f4 x.f5 x.f6 x.f7 x.f8 x.f12 x.f13 = b_r_401
  generalize kernelRun.sl.r_402 c x.M2 x.M3 x.M4 x.M5 x.M6 x.M7 x.M8 x.M12 x.M13 x.f2 x.f3 x.f4 x.f5 x.f6 x.f7 x.f8 x.f12 x.f13 = b_r_402
  generalize kernelRun.sl.r_403 c x.M2 x.M3 x.M4 x.M5 x.M6 x.M7 x.M8 x.M12 x.M13 x.f2 x.f3 x.f4 x.f5 x.f6 x.f7 x.f8 x.f12 x.f13 = b_r_403
  generalize kernelRun.sl.r_404 c x.M2 x.M3 x.M4 x.M5 x.M6 x.M7 x.M8 x.M12 x.M13 x.f2 x.f3 x.f4 x.f5 x.f6 x.f7 x.f8 x.f12 x.f13 = b_r_404
  generalize kernelRun.sl.r_405 c x.M2 x.M3 x.M4 x.M5 x.M6 x.M7 x.M8 x.M12 x.M13 x.f2 x.f3 x.f4 x.f5 x.f6 x.f7 x.f8 x.f12 x.f13 = b_r_405
  generalize kernelRun.sl.r_406 c x.M2 x.M3 x.M4 x.M5 x.M6 x.M7 x.M8 x.M12 x.M13 x.f2 x.f3 x.f4 x.f5 x.f6 x.f7 x.f8 x.f12 x.f13 = b_r_406
  generalize kernelRun.sl.r_407 c x.M2 x.M3 x.M4 x.M5 x.M6 x.M7 x.M8 x.M12 x.M13 x.f2 x.f3 x.f4 x.f5 x.f6 x.f7 x.f8 x.f12 x.f13 = b_r_407
  generalize kernelRun.sl.r_408 c x.M2 x.M3 x.M4 x.M5 x.M6 x.M7 x.M8 x.M12 x.M13 x.f2 x.f3 x.f4 x.f5 x.f6 x.f7 x.f8 x.f12 x.f13 = b_r_408
  rfl

end Cert.KernelIdeal.Hand
-- ==== Proof.HeadsDq2.lean ====
/-
  What the body stores to the query gradient, heads 4 and 5.
-/
module

public import proofs.«01_k».proof.Proof.HeadsDs2
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H9_3_eq (x : In F c) : kernelRun.sl.H9_3 c x.M1 x.M2 x.M3 x.M4 x.M5 x.M6 x.M7 x.M8 x.M12 x.M13 x.f1 x.f2 x.f3 x.f4 x.f5 x.f6 x.f7 x.f8 x.f12 x.f13 =
    ⟨Rect.unit (s := S1x257x8x128) ![0, 0, 4, 0] S1x256x2x128.size inb_S1x257x8x128_S1x256x2x128_0_0_4_0, gOutDq (gTurn (dqt4 x)) (gTurn (dqt5 x))⟩ ::
    kernelRun.sl.H9_2 c x.M1 x.M2 x.M3 x.M4 x.M5 x.M6 x.M7 x.M8 x.M12 x.M13 x.f1 x.f2 x.f3 x.f4 x.f5 x.f6 x.f7 x.f8 x.f12 x.f13 := by
  unfold dqt4 dqt5 ds4 ds5
  rw [← r_469_eq, ← r_519_eq]
  simp only [kernelRun.sl.H9_3, kernelRun.sl.r_552, kernelRun.sl.r_497, kernelRun.sl.r_493, kernelRun.sl.r_469, kernelRun.sl.r_470, kernelRun.sl.r_471, kernelRun.sl.r_472, kernelRun.sl.r_473, kernelRun.sl.r_474, kernelRun.sl.r_475, kernelRun.sl.r_477, kernelRun.sl.r_476, kernelRun.sl.r_478, kernelRun.sl.r_479, kernelRun.sl.r_480, kernelRun.sl.r_481, kernelRun.sl.r_482, kernelRun.sl.r_483, kernelRun.sl.r_484, kernelRun.sl.r_485, kernelRun.sl.r_486, kernelRun.sl.r_487, kernelRun.sl.r_488, kernelRun.sl.r_489, kernelRun.sl.r_490, kernelRun.sl.r_491, kernelRun.sl.r_492, kernelRun.sl.r_494, kernelRun.sl.r_553, kernelRun.sl.r_544, kernelRun.sl.r_519, kernelRun.sl.r_520, kernelRun.sl.r_521, kernelRun.sl.r_522, kernelRun.sl.r_523, kernelRun.sl.r_524, kernelRun.sl.r_525, kernelRun.sl.r_526, kernelRun.sl.r_527, kernelRun.sl.r_528, kernelRun.sl.r_529, kernelRun.sl.r_530, kernelRun.sl.r_531, kernelRun.sl.r_532, kernelRun.sl.r_533, kernelRun.sl.r_534, kernelRun.sl.r_535, kernelRun.sl.r_536, kernelRun.sl.r_537, kernelRun.sl.r_538, kernelRun.sl.r_539, kernelRun.sl.r_540, kernelRun.sl.r_541, kernelRun.sl.r_542, kernelRun.sl.r_543, kernelRun.sl.r_545, kernelRun.sl.r_548, kl4_eq, r_450_eq, r_451_eq, kt4_eq, r_501_eq, r_502_eq, kt5_eq, kl5_eq]
  generalize kl4 x = a_r_86
  generalize dp4 x = a_r_450
  generalize ph4 x = a_r_451
  generalize kt4 x = a_r_85
  generalize dp5 x = a_r_501
  generalize ph5 x = a_r_502
  generalize kt5 x = a_r_93
  generalize kl5 x = a_r_94
  generalize kernelRun.sl.r_447 c x.M7 x.f7 = b_r_447
  generalize kernelRun.sl.r_452 c x.M2 x.M3 x.M4 x.M5 x.M6 x.M7 x.M8 x.M12 x.M13 x.f2 x.f3 x.f4 x.f5 x.f6 x.f7 x.f8 = b_r_452
  generalize kernelRun.sl.r_453 c x.M2 x.M3 x.M4 x.M5 x.M6 x.M7 x.M8 x.M12 x.M13 x.f2 x.f3 x.f4 x.f5 x.f6 x.f7 x.f8 = b_r_453
  generalize kernelRun.sl.r_454 c x.M2 x.M3 x.M4 x.M5 x.M6 x.M7 x.M8 x.M12 x.M13 x.f2 x.f3 x.f4 x.f5 x.f6 x.f7 x.f8 = b_r_454
  generalize kernelRun.sl.r_455 c x.M2 x.M3 x.M4 x.M5 x.M6 x.M7 x.M8 x.M12 x.M13 x.f2 x.f3 x.f4 x.f5 x.f6 x.f7 x.f8 = b_r_455
  generalize kernelRun.sl.r_456 c x.M2 x.M3 x.M4 x.M5 x.M6 x.M7 x.M8 x.M12 x.M13 x.f2 x.f3 x.f4 x.f5 x.f6 x.f7 x.f8 = b_r_456
  generalize kernelRun.sl.r_457 c x.M2 x.M3 x.M4 x.M5 x.M6 x.M7 x.M8 x.M12 x.M13 x.f2 x.f3 x.f4 x.f5 x.f6 x.f7 x.f8 = b_r_457
  generalize kernelRun.sl.r_458 c x.M2 x.M3 x.M4 x.M5 x.M6 x.M7 x.M8 x.M12 x.M13 x.f2 x.f3 x.f4 x.f5 x.f6 x.f7 x.f8 = b_r_458
  generalize kernelRun.sl.r_459 c x.M2 x.M3 x.M4 x.M5 x.M6 x.M7 x.M8 x.M12 x.M13 x.f2 x.f3 x.f4 x.f5 x.f6 x.f7 x.f8 = b_r_459
  generalize kernelRun.sl.r_460 c x.M2 x.M3 x.M4 x.M5 x.M6 x.M7 x.M8 x.M12 x.M13 x.f2 x.f3 x.f4 x.f5 x.f6 x.f7 x.f8 = b_r_460
  generalize kernelRun.sl.r_461 c x.M2 x.M3 x.M4 x.M5 x.M6 x.M7 x.M8 x.M12 x.M13 x.f2 x.f3 x.f4 x.f5 x.f6 x.f7 x.f8 = b_r_461
  generalize kernelRun.sl.r_462 c x.M2 x.M3 x.M4 x.M5 x.M6 x.M7 x.M8 x.M12 x.M13 x.f2 x.f3 x.f4 x.f5 x.f6 x.f7 x.f8 = b_r_462
  generalize kernelRun.sl.r_463 c x.M2 x.M3 x.M4 x.M5 x.M6 x.M7 x.M8 x.M12 x.M13 x.f2 x.f3 x.f4 x.f5 x.f6 x.f7 x.f8 = b_r_463
  generalize kernelRun.sl.r_464 c x.M2 x.M3 x.M4 x.M5 x.M6 x.M7 x.M8 x.M12 x.M13 x.f2 x.f3 x.f4 x.f5 x.f6 x.f7 x.f8 = b_r_464
  generalize kernelRun.sl.r_465 c x.M2 x.M3 x.M4 x.M5 x.M6 x.M7 x.M8 x.M12 x.M13 x.f2 x.f3 x.f4 x.f5 x.f6 x.f7 x.f8 = b_r_465
  generalize kernelRun.sl.r_466 c x.M2 x.M3 x.M4 x.M5 x.M6 x.M7 x.M8 x.M12 x.M13 x.f2 x.f3 x.f4 x.f5 x.f6 x.f7 x.f8 = b_r_466
  generalize kernelRun.sl.r_467 c x.M2 x.M3 x.M4 x.M5 x.M6 x.M7 x.M8 x.M12 x.M13 x.f2 x.f3 x.f4 x.f5 x.f6 x.f7 x.f8 = b_r_467
  generalize kernelRun.sl.r_468 c x.M2 x.M3 x.M4 x.M5 x.M6 x.M7 x.M8 x.M12 x.M13 x.f2 x.f3 x.f4 x.f5 x.f6 x.f7 x.f8 = b_r_468
  generalize kernelRun.sl.r_499 c x.M7 x.f7 = b_r_499
  generalize kernelRun.sl.r_505 c x.M2 x.M3 x.M4 x.M5 x.M6 x.M7 x.M8 x.M12 x.M13 x.f2 x.f3 x.f4 x.f5 x.f6 x.f7 x.f8 = b_r_505
  generalize kernelRun.sl.r_506 c x.M2 x.M3 x.M4 x.M5 x.M6 x.M7 x.M8 x.M12 x.M13 x.f2 x.f3 x.f4 x.f5 x.f6 x.f7 x.f8 = b_r_506
  generalize kernelRun.sl.r_507 c x.M2 x.M3 x.M4 x.M5 x.M6 x.M7 x.M8 x.M12 x.M13 x.f2 x.f3 x.f4 x.f5 x.f6 x.f7 x.f8 = b_r_507
  generalize kernelRun.sl.r_508 c x.M2 x.M3 x.M4 x.M5 x.M6 x.M7 x.M8 x.M12 x.M13 x.f2 x.f3 x.f4 x.f5 x.f6 x.f7 x.f8 = b_r_508
  generalize kernelRun.sl.r_509 c x.M2 x.M3 x.M4 x.M5 x.M6 x.M7 x.M8 x.M12 x.M13 x.f2 x.f3 x.f4 x.f5 x.f6 x.f7 x.f8 = b_r_509
  generalize kernelRun.sl.r_510 c x.M2 x.M3 x.M4 x.M5 x.M6 x.M7 x.M8 x.M12 x.M13 x.f2 x.f3 x.f4 x.f5 x.f6 x.f7 x.f8 = b_r_510
  generalize kernelRun.sl.r_511 c x.M2 x.M3 x.M4 x.M5 x.M6 x.M7 x.M8 x.M12 x.M13 x.f2 x.f3 x.f4 x.f5 x.f6 x.f7 x.f8 = b_r_511
  generalize kernelRun.sl.r_512 c x.M2 x.M3 x.M4 x.M5 x.M6 x.M7 x.M8 x.M12 x.M13 x.f2 x.f3 x.f4 x.f5 x.f6 x.f7 x.f8 = b_r_512
  generalize kernelRun.sl.r_513 c x.M2 x.M3 x.M4 x.M5 x.M6 x.M7 x.M8 x.M12 x.M13 x.f2 x.f3 x.f4 x.f5 x.f6 x.f7 x.f8 = b_r_513
  generalize kernelRun.sl.r_514 c x.M2 x.M3 x.M4 x.M5 x.M6 x.M7 x.M8 x.M12 x.M13 x.f2 x.f3 x.f4 x.f5 x.f6 x.f7 x.f8 = b_r_514
  generalize kernelRun.sl.r_515 c x.M2 x.M3 x.M4 x.M5 x.M6 x.M7 x.M8 x.M12 x.M13 x.f2 x.f3 x.f4 x.f5 x.f6 x.f7 x.f8 = b_r_515
  generalize kernelRun.sl.r_516 c x.M2 x.M3 x.M4 x.M5 x.M6 x.M7 x.M8 x.M12 x.M13 x.f2 x.f3 x.f4 x.f5 x.f6 x.f7 x.f8 = b_r_516
  generalize kernelRun.sl.r_517 c x.M2 x.M3 x.M4 x.M5 x.M6 x.M7 x.M8 x.M12 x.M13 x.f2 x.f3 x.f4 x.f5 x.f6 x.f7 x.f8 = b_r_517
  generalize kernelRun.sl.r_518 c x.M2 x.M3 x.M4 x.M5 x.M6 x.M7 x.M8 x.M12 x.M13 x.f2 x.f3 x.f4 x.f5 x.f6 x.f7 x.f8 = b_r_518
  rfl

end Cert.KernelIdeal.Hand
-- ==== Proof.HeadsDqL.lean ====
/-
  The last query's gradient of every head.
-/
module

public import proofs.«01_k».proof.Proof.HeadsInA
public import proofs.«01_k».proof.Proof.HeadsInB
public import proofs.«01_k».proof.Proof.HeadsLast

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem r_667_eq (x : In F c) : kernelRun.sl.r_667 c x.M1 x.M2 x.M3 x.M4 x.M5 x.M6 x.M7 x.M8 x.M13 x.f1 x.f2 x.f3 x.f4 x.f5 x.f6 x.f7 x.f8 x.f13 = dqLast x := by
  simp only [kernelRun.sl.r_667, kernelRun.sl.v1, kernelRun.sl.r_611, kernelRun.sl.r_114, kernelRun.sl.r_101, kernelRun.sl.r_549, kernelRun.sl.r_93, kernelRun.sl.r_75, kernelRun.sl.r_498, kernelRun.sl.r_85, kernelRun.sl.r_74, kernelRun.sl.r_439, kernelRun.sl.r_61, kernelRun.sl.r_43, kernelRun.sl.r_384, kernelRun.sl.r_53, kernelRun.sl.r_42, kernelRun.sl.r_309, kernelRun.sl.r_34, kernelRun.sl.r_19, kernelRun.sl.r_233, kernelRun.sl.r_27, kernelRun.sl.r_18, kernelRun.sl.r_164, kernelRun.sl.r_666, kernelRun.sl.r_121, kernelRun.sl.r_102, r_160_eq, r_161_eq]
  unfold dqLast dql0 dql1 dql2 dql3 dql4 dql5 dql6 dql7
  generalize gDsn (dsc x) = a_r_160
  generalize gDsw (dsc x) = a_r_161
  rfl

end Cert.KernelIdeal.Hand
-- ==== Proof.HeadsDq3.lean ====
/-
  What the body stores to the query gradient, heads 6 and 7 and the last query.
-/
module

public import proofs.«01_k».proof.Proof.HeadsDs3
public import proofs.«01_k».proof.Proof.HeadsDqL

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

set_option maxHeartbeats 2000000 in
theorem H9_5_eq (x : In F c) : kernelRun.sl.H9_5 c x.M1 x.M2 x.M3 x.M4 x.M5 x.M6 x.M7 x.M8 x.M12 x.M13 x.f1 x.f2 x.f3 x.f4 x.f5 x.f6 x.f7 x.f8 x.f12 x.f13 =
    ⟨Rect.unit (s := S1x257x8x128) ![0, 256, 0, 0] S1x1x8x128.size inb_S1x257x8x128_S1x1x8x128_0_256_0_0, gOutDqLast (dqLast x)⟩ ::
    ⟨Rect.unit (s := S1x257x8x128) ![0, 0, 6, 0] S1x256x2x128.size inb_S1x257x8x128_S1x256x2x128_0_0_6_0, gOutDq (gTurn (dqt6 x)) (gTurn (dqt7 x))⟩ ::
    kernelRun.sl.H9_3 c x.M1 x.M2 x.M3 x.M4 x.M5 x.M6 x.M7 x.M8 x.M12 x.M13 x.f1 x.f2 x.f3 x.f4 x.f5 x.f6 x.f7 x.f8 x.f12 x.f13 := by
  unfold dqt6 dqt7 ds6 ds7
  rw [← r_576_eq, ← r_633_eq]
  simp only [kernelRun.sl.H9_5, kernelRun.sl.r_670, kernelRun.sl.r_610, kernelRun.sl.r_605, kernelRun.sl.r_576, kernelRun.sl.r_577, kernelRun.sl.r_578, kernelRun.sl.r_579, kernelRun.sl.r_580, kernelRun.sl.r_581, kernelRun.sl.r_582, kernelRun.sl.r_583, kernelRun.sl.r_584, kernelRun.sl.r_585, kernelRun.sl.r_588, kernelRun.sl.r_586, kernelRun.sl.r_587, kernelRun.sl.r_589, kernelRun.sl.r_590, kernelRun.sl.r_591, kernelRun.sl.r_592, kernelRun.sl.r_593, kernelRun.sl.r_594, kernelRun.sl.r_595, kernelRun.sl.r_596, kernelRun.sl.r_597, kernelRun.sl.r_598, kernelRun.sl.r_599, kernelRun.sl.r_600, kernelRun.sl.r_601, kernelRun.sl.r_602, kernelRun.sl.r_603, kernelRun.sl.r_604, kernelRun.sl.r_606, kernelRun.sl.r_609, kernelRun.sl.r_671, kernelRun.sl.r_665, kernelRun.sl.r_633, kernelRun.sl.r_634, kernelRun.sl.r_635, kernelRun.sl.r_636, kernelRun.sl.r_637, kernelRun.sl.r_638, kernelRun.sl.r_639, kernelRun.sl.r_640, kernelRun.sl.r_641, kernelRun.sl.r_642, kernelRun.sl.r_643, kernelRun.sl.r_644, kernelRun.sl.r_645, kernelRun.sl.r_647, kernelRun.sl.r_646, kernelRun.sl.r_648, kernelRun.sl.r_649, kernelRun.sl.r_650, kernelRun.sl.r_651, kernelRun.sl.r_652, kernelRun.sl.r_653, kernelRun.sl.r_654, kernelRun.sl.r_655, kernelRun.sl.r_656, kernelRun.sl.r_657, kernelRun.sl.r_658, kernelRun.sl.r_659, kernelRun.sl.r_660, kernelRun.sl.r_661, kernelRun.sl.r_662, r_667_eq, r_558_eq, r_559_eq, kt6_eq, kl6_eq, kt7_eq, kl7_eq, r_614_eq, r_615_eq]
  generalize dqLast x = a_r_667
  generalize dp6 x = a_r_558
  generalize ph6 x = a_r_559
  generalize kt6 x = a_r_114
  generalize kl6 x = a_r_115
  generalize kt7 x = a_r_121
  generalize kl7 x = a_r_122
  generalize dp7 x = a_r_614
  generalize ph7 x = a_r_615
  generalize kernelRun.sl.r_556 c x.M7 x.f7 = b_r_556
  generalize kernelRun.sl.r_564 c x.M2 x.M3 x.M4 x.M5 x.M6 x.M7 x.M8 x.M12 x.M13 x.f2 x.f3 x.f4 x.f5 x.f6 x.f7 x.f8 = b_r_564
  generalize kernelRun.sl.r_565 c x.M2 x.M3 x.M4 x.M5 x.M6 x.M7 x.M8 x.M12 x.M13 x.f2 x.f3 x.f4 x.f5 x.f6 x.f7 x.f8 = b_r_565
  generalize kernelRun.sl.r_566 c x.M2 x.M3 x.M4 x.M5 x.M6 x.M7 x.M8 x.M12 x.M13 x.f2 x.f3 x.f4 x.f5 x.f6 x.f7 x.f8 = b_r_566
  generalize kernelRun.sl.r_567 c x.M2 x.M3 x.M4 x.M5 x.M6 x.M7 x.M8 x.M12 x.M13 x.f2 x.f3 x.f4 x.f5 x.f6 x.f7 x.f8 = b_r_567
  generalize kernelRun.sl.r_568 c x.M2 x.M3 x.M4 x.M5 x.M6 x.M7 x.M8 x.M12 x.M13 x.f2 x.f3 x.f4 x.f5 x.f6 x.f7 x.f8 = b_r_568
  generalize kernelRun.sl.r_569 c x.M2 x.M3 x.M4 x.M5 x.M6 x.M7 x.M8 x.M12 x.M13 x.f2 x.f3 x.f4 x.f5 x.f6 x.f7 x.f8 = b_r_569
  generalize kernelRun.sl.r_570 c x.M2 x.M3 x.M4 x.M5 x.M6 x.M7 x.M8 x.M12 x.M13 x.f2 x.f3 x.f4 x.f5 x.f6 x.f7 x.f8 = b_r_570
  generalize kernelRun.sl.r_571 c x.M2 x.M3 x.M4 x.M5 x.M6 x.M7 x.M8 x.M12 x.M13 x.f2 x.f3 x.f4 x.f5 x.f6 x.f7 x.f8 = b_r_571
  generalize kernelRun.sl.r_572 c x.M2 x.M3 x.M4 x.M5 x.M6 x.M7 x.M8 x.M12 x.M13 x.f2 x.f3 x.f4 x.f5 x.f6 x.f7 x.f8 = b_r_572
  generalize kernelRun.sl.r_573 c x.M2 x.M3 x.M4 x.M5 x.M6 x.M7 x.M8 x.M12 x.M13 x.f2 x.f3 x.f4 x.f5 x.f6 x.f7 x.f8 = b_r_573
  generalize kernelRun.sl.r_574 c x.M2 x.M3 x.M4 x.M5 x.M6 x.M7 x.M8 x.M12 x.M13 x.f2 x.f3 x.f4 x.f5 x.f6 x.f7 x.f8 = b_r_574
  generalize kernelRun.sl.r_575 c x.M2 x.M3 x.M4 x.M5 x.M6 x.M7 x.M8 x.M12 x.M13 x.f2 x.f3 x.f4 x.f5 x.f6 x.f7 x.f8 = b_r_575
  generalize kernelRun.sl.r_612 c x.M7 x.f7 = b_r_612
  generalize kernelRun.sl.r_631 c x.M2 x.M3 x.M4 x.M5 x.M6 x.M7 x.M8 x.M12 x.M13 x.f2 x.f3 x.f4 x.f5 x.f6 x.f7 x.f8 = b_r_631
  generalize kernelRun.sl.r_632 c x.M2 x.M3 x.M4 x.M5 x.M6 x.M7 x.M8 x.M12 x.M13 x.f2 x.f3 x.f4 x.f5 x.f6 x.f7 x.f8 = b_r_632
  rfl

end Cert.KernelIdeal.Hand
-- ==== Proof.HeadsDv.lean ====
/-
  What the body stores to the value gradient.
-/
module

public import proofs.«01_k».proof.Proof.HeadsInA
public import proofs.«01_k».proof.Proof.HeadsInB
public import proofs.«01_k».proof.Proof.HeadsInC

@[expose] public section

noncomputable section

namespace Cert.KernelIdeal.Hand

open Cert.KernelIdeal Cert.KernelIdeal.Gen

open Idealize.ShloMosaic
open Idealize.ShloMosaic.TcCoe

variable {F : FTy → Type} [FloatOps F] {c : Dev nD}

theorem H11_2_eq (x : In F c) : kernelRun.sl.H11_2 c x.M2 x.M3 x.M4 x.M5 x.M8 x.M12 x.f2 x.f3 x.f4 x.f5 x.f8 x.f12 = [
    ⟨Rect.unit (s := S1x257x8x128) ![0, 256, 0, 0] S1x1x2x128.size inb_S1x257x8x128_S1x1x2x128_0_256_0_0, gOutDvl (dv0 x) (dv1 x)⟩,
    ⟨Rect.unit (s := S1x257x8x128) ![0, 0, 0, 0] S1x256x2x128.size inb_S1x257x8x128_S1x256x2x128_0_0_0_0, gOutDv (dv0 x) (dv1 x)⟩] := by
  simp only [kernelRun.sl.H11_2, kernelRun.sl.r_312, kernelRun.sl.r_231, kernelRun.sl.r_163, kernelRun.sl.r_166, kernelRun.sl.r_23, kernelRun.sl.r_8, kernelRun.sl.v1, kernelRun.sl.r_2, kernelRun.sl.v130_raw, kernelRun.sl.H12_4, kernelRun.sl.r_1, kernelRun.sl.r_7, kernelRun.sl.H12_2, kernelRun.sl.r, kernelRun.sl.v135_raw, kernelRun.sl.r_25, kernelRun.sl.r_14, kernelRun.sl.r_313, kernelRun.sl.r_235, kernelRun.sl.r_29, kernelRun.sl.r_22, kernelRun.sl.r_32, kernelRun.sl.r_15, pCol_eq, doLast_eq]
  unfold dv0 dv1 ps0 ps1
  generalize pCol x = a_pCol
  generalize doLast x = a_doLast
  rfl

theorem H11_4_eq (x : In F c) : kernelRun.sl.H11_4 c x.M2 x.M3 x.M4 x.M5 x.M8 x.M12 x.f2 x.f3 x.f4 x.f5 x.f8 x.f12 = [
    ⟨Rect.unit (s := S1x257x8x128) ![0, 256, 2, 0] S1x1x2x128.size inb_S1x257x8x128_S1x1x2x128_0_256_2_0, gOutDvl (dv2 x) (dv3 x)⟩,
    ⟨Rect.unit (s := S1x257x8x128) ![0, 0, 2, 0] S1x256x2x128.size inb_S1x257x8x128_S1x256x2x128_0_0_2_0, gOutDv (dv2 x) (dv3 x)⟩,
    ⟨Rect.unit (s := S1x257x8x128) ![0, 256, 0, 0] S1x1x2x128.size inb_S1x257x8x128_S1x1x2x128_0_256_0_0, gOutDvl (dv0 x) (dv1 x)⟩,
    ⟨Rect.unit (s := S1x257x8x128) ![0, 0, 0, 0] S1x256x2x128.size inb_S1x257x8x128_S1x256x2x128_0_0_0_0, gOutDv (dv0 x) (dv1 x)⟩] := by
  simp only [kernelRun.sl.H11_4, kernelRun.sl.r_442, kernelRun.sl.r_382, kernelRun.sl.r_163, kernelRun.sl.r_315, kernelRun.sl.r_48, kernelRun.sl.r_8, kernelRun.sl.v1, kernelRun.sl.r_2, kernelRun.sl.r_46, kernelRun.sl.v231_raw, kernelRun.sl.H12_4, kernelRun.sl.r_1, kernelRun.sl.r_7, kernelRun.sl.H12_2, kernelRun.sl.r, kernelRun.sl.v236_raw, kernelRun.sl.r_51, kernelRun.sl.r_38, kernelRun.sl.r_443, kernelRun.sl.r_388, kernelRun.sl.r_55, kernelRun.sl.r_47, kernelRun.sl.r_59, kernelRun.sl.r_39, kernelRun.sl.r_385, pCol_eq, doLast_eq, H11_2_eq]
  unfold dv2 dv3 ps2 ps3
  generalize pCol x = a_pCol
  generalize doLast x = a_doLast
  rfl

theorem H11_6_eq (x : In F c) : kernelRun.sl.H11_6 c x.M2 x.M3 x.M4 x.M5 x.M8 x.M12 x.f2 x.f3 x.f4 x.f5 x.f8 x.f12 = [
    ⟨Rect.unit (s := S1x257x8x128) ![0, 256, 4, 0] S1x1x2x128.size inb_S1x257x8x128_S1x1x2x128_0_256_4_0, gOutDvl (dv4 x) (dv5 x)⟩,
    ⟨Rect.unit (s := S1x257x8x128) ![0, 0, 4, 0] S1x256x2x128.size inb_S1x257x8x128_S1x256x2x128_0_0_4_0, gOutDv (dv4 x) (dv5 x)⟩,
    ⟨Rect.unit (s := S1x257x8x128) ![0, 256, 2, 0] S1x1x2x128.size inb_S1x257x8x128_S1x1x2x128_0_256_2_0, gOutDvl (dv2 x) (dv3 x)⟩,
    ⟨Rect.unit (s := S1x257x8x128) ![0, 0, 2, 0] S1x256x2x128.size inb_S1x257x8x128_S1x256x2x128_0_0_2_0, gOutDv (dv2 x) (dv3 x)⟩,
    ⟨Rect.unit (s := S1x257x8x128) ![0, 256, 0, 0] S1x1x2x128.size inb_S1x257x8x128_S1x1x2x128_0_256_0_0, gOutDvl (dv0 x) (dv1 x)⟩,
    ⟨Rect.unit (s := S1x257x8x128) ![0, 0, 0, 0] S1x256x2x128.size inb_S1x257x8x128_S1x256x2x128_0_0_0_0, gOutDv (dv0 x) (dv1 x)⟩] := by
  simp only [kernelRun.sl.H11_6, kernelRun.sl.r_550, kernelRun.sl.r_496, kernelRun.sl.r_163, kernelRun.sl.r_449, kernelRun.sl.r_80, kernelRun.sl.r_67, kernelRun.sl.r_65, kernelRun.sl.v1, kernelRun.sl.r_2, kernelRun.sl.r_66, kernelRun.sl.r_78, kernelRun.sl.v407_raw, kernelRun.sl.H12_8, kernelRun.sl.r_1, kernelRun.sl.r_63, kernelRun.sl.r, kernelRun.sl.r_64, kernelRun.sl.H12_5, kernelRun.sl.H12_4, kernelRun.sl.r_7, kernelRun.sl.H12_2, kernelRun.sl.v412_raw, kernelRun.sl.r_83, kernelRun.sl.r_70, kernelRun.sl.r_448, kernelRun.sl.r_551, kernelRun.sl.r_547, kernelRun.sl.r_500, kernelRun.sl.r_87, kernelRun.sl.r_79, kernelRun.sl.r_91, kernelRun.sl.r_71, pCol_eq, doLast_eq, H11_4_eq]
  unfold dv4 dv5 ps4 ps5
  generalize pCol x = a_pCol
  generalize doLast x = a_doLast
  rfl

theorem H11_8_eq (x : In F c) : kernelRun.sl.H11_8 c x.M2 x.M3 x.M4 x.M5 x.M8 x.M12 x.f2 x.f3 x.f4 x.f5 x.f8 x.f12 = [
    ⟨Rect.unit (s := S1x257x8x128) ![0, 256, 6, 0] S1x1x2x128.size inb_S1x257x8x128_S1x1x2x128_0_256_6_0, gOutDvl (dv6 x) (dv7 x)⟩,
    ⟨Rect.unit (s := S1x257x8x128) ![0, 0, 6, 0] S1x256x2x128.size inb_S1x257x8x128_S1x256x2x128_0_0_6_0, gOutDv (dv6 x) (dv7 x)⟩,
    ⟨Rect.unit (s := S1x257x8x128) ![0, 256, 4, 0] S1x1x2x128.size inb_S1x257x8x128_S1x1x2x128_0_256_4_0, gOutDvl (dv4 x) (dv5 x)⟩,
    ⟨Rect.unit (s := S1x257x8x128) ![0, 0, 4, 0] S1x256x2x128.size inb_S1x257x8x128_S1x256x2x128_0_0_4_0, gOutDv (dv4 x) (dv5 x)⟩,
    ⟨Rect.unit (s := S1x257x8x128) ![0, 256, 2, 0] S1x1x2x128.size inb_S1x257x8x128_S1x1x2x128_0_256_2_0, gOutDvl (dv2 x) (dv3 x)⟩,
    ⟨Rect.unit (s := S1x257x8x128) ![0, 0, 2, 0] S1x256x2x128.size inb_S1x257x8x128_S1x256x2x128_0_0_2_0, gOutDv (dv2 x) (dv3 x)⟩,
    ⟨Rect.unit (s := S1x257x8x128) ![0, 256, 0, 0] S1x1x2x128.size inb_S1x257x8x128_S1x1x2x128_0_256_0_0, gOutDvl (dv0 x) (dv1 x)⟩,
    ⟨Rect.unit (s := S1x257x8x128) ![0, 0, 0, 0] S1x256x2x128.size inb_S1x257x8x128_S1x256x2x128_0_0_0_0, gOutDv (dv0 x) (dv1 x)⟩] := by
  simp only [kernelRun.sl.H11_8, kernelRun.sl.r_668, kernelRun.sl.r_608, kernelRun.sl.r_163, kernelRun.sl.r_557, kernelRun.sl.r_107, kernelRun.sl.r_67, kernelRun.sl.r_65, kernelRun.sl.v1, kernelRun.sl.r_2, kernelRun.sl.r_66, kernelRun.sl.v509_raw, kernelRun.sl.H12_8, kernelRun.sl.r_1, kernelRun.sl.r_63, kernelRun.sl.r, kernelRun.sl.r_64, kernelRun.sl.H12_5, kernelRun.sl.H12_4, kernelRun.sl.r_7, kernelRun.sl.H12_2, kernelRun.sl.v514_raw, kernelRun.sl.r_110, kernelRun.sl.r_97, kernelRun.sl.r_669, kernelRun.sl.r_664, kernelRun.sl.r_613, kernelRun.sl.r_116, kernelRun.sl.r_106, kernelRun.sl.r_119, kernelRun.sl.r_98, kernelRun.sl.r_672, kernelRun.sl.r_673, pCol_eq, doLast_eq, H11_6_eq]
  unfold dv6 dv7 ps6 ps7
  generalize pCol x = a_pCol
  generalize doLast x = a_doLast
  rfl

end Cert.KernelIdeal.Hand
-- ==== Proof.OutRead.lean ====
/-
  What the step leaves in its three output blocks, by row, head and lane.
-/
module

public import proofs.«01_k».proof.Proof.Closed
public import proofs.«01_k».proof.Proof.HeadsDk0
public import proofs.«01_k».proof.Proof.HeadsDk1
public import proofs.«01_k».proof.Proof.HeadsDk2
public import proofs.«01_k».proof.Proof.HeadsDk3
public import proofs.«01_k».proof.Proof.HeadsDq0
public import proofs.«01_k».proof.Proof.HeadsDq1
public import proofs.«01_k».proof.Proof.HeadsDq2
public import proofs.«01_k».proof.Proof.HeadsDq3
public import proofs.«01_k».proof.Proof.HeadsDv

@[expose] public section

set_option maxRecDepth 16384

noncomputable section

namespace Cert.KernelIdeal.Hand

open Cert.KernelIdeal Cert.KernelIdeal.Gen

open Idealize.ShloMosaic
open Idealize.ShloMosaic.TcCoe

variable {c : Dev nD}

/-! Which of the stored pieces holds an element. -/

theorem pick0 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (0 : Fin 8) l) = p0 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (0 : Fin 2) l) rfl (fun a => by fin_cases a <;> simp)]

theorem pickl0 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (0 : Fin 8) l) = r0 (ix4 (0 : Fin 1) (0 : Fin 1) (0 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (0 : Fin 2) l) rfl (fun a => by fin_cases a <;> simp)]

theorem pickq0 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (0 : Fin 8) l) = p0 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_mem _ _ _ _ _ _ (ix4 (0 : Fin 1) i (0 : Fin 2) l) rfl (fun a => by fin_cases a <;> simp)]

theorem pick1 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (1 : Fin 8) l) = p0 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (1 : Fin 2) l) rfl (fun a => by fin_cases a <;> simp)]

theorem pickl1 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (1 : Fin 8) l) = r0 (ix4 (0 : Fin 1) (0 : Fin 1) (1 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (1 : Fin 2) l) rfl (fun a => by fin_cases a <;> simp)]

theorem pickq1 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (1 : Fin 8) l) = p0 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_mem _ _ _ _ _ _ (ix4 (0 : Fin 1) i (1 : Fin 2) l) rfl (fun a => by fin_cases a <;> simp)]

theorem pick2 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (2 : Fin 8) l) = p1 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (0 : Fin 2) l) rfl (fun a => by fin_cases a <;> simp)]

theorem pickl2 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (2 : Fin 8) l) = r1 (ix4 (0 : Fin 1) (0 : Fin 1) (0 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (0 : Fin 2) l) rfl (fun a => by fin_cases a <;> simp)]

theorem pickq2 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (2 : Fin 8) l) = p1 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_mem _ _ _ _ _ _ (ix4 (0 : Fin 1) i (0 : Fin 2) l) rfl (fun a => by fin_cases a <;> simp)]

theorem pick3 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (3 : Fin 8) l) = p1 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (1 : Fin 2) l) rfl (fun a => by fin_cases a <;> simp)]

theorem pickl3 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (3 : Fin 8) l) = r1 (ix4 (0 : Fin 1) (0 : Fin 1) (1 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (1 : Fin 2) l) rfl (fun a => by fin_cases a <;> simp)]

theorem pickq3 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (3 : Fin 8) l) = p1 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 2 (by simp <;> omega)]
  rw [View.read_writes_cons_unit_of_mem _ _ _ _ _ _ (ix4 (0 : Fin 1) i (1 : Fin 2) l) rfl (fun a => by fin_cases a <;> simp)]

theorem pick4 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (4 : Fin 8) l) = p2 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (0 : Fin 2) l) rfl (fun a => by fin_cases a <;> simp)]

theorem pickl4 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (4 : Fin 8) l) = r2 (ix4 (0 : Fin 1) (0 : Fin 1) (0 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (0 : Fin 2) l) rfl (fun a => by fin_cases a <;> simp)]

theorem pickq4 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (4 : Fin 8) l) = p2 (ix4 (0 : Fin 1) i (0 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_mem _ _ _ _ _ _ (ix4 (0 : Fin 1) i (0 : Fin 2) l) rfl (fun a => by fin_cases a <;> simp)]

theorem pick5 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (5 : Fin 8) l) = p2 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) i (1 : Fin 2) l) rfl (fun a => by fin_cases a <;> simp)]

theorem pickl5 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (5 : Fin 8) l) = r2 (ix4 (0 : Fin 1) (0 : Fin 1) (1 : Fin 2) l) := by
  rw [View.read_writes_cons_unit_of_not_mem _ _ _ _ _ _ rfl 2 (by simp <;> omega)]
  rw [View.read_writes_cons_unit_of_not_mem _ _ _ _ _ _ rfl 1 (by simp <;> omega)]
  rw [View.read_writes_cons_unit_of_mem _ _ _ _ _ _ (ix4 (0 : Fin 1) (0 : Fin 1) (1 : Fin 2) l) rfl (fun a => by fin_cases a <;> simp)]

theorem pickq5 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (5 : Fin 8) l) = p2 (ix4 (0 : Fin 1) i (1 : Fin 2) l) := by
  rw [View.read_writes_cons_unit_of_not_mem _ _ _ _ _ _ rfl 1 (by simp <;> omega)]
  rw [View.read_writes_cons_unit_of_not_mem _ _ _ _ _ _ rfl 2 (by simp <;> omega)]
  rw [View.read_writes_cons_unit_of_mem _ _ _ _ _ _ (ix4 (0 : Fin 1) i (1 : Fin 2) l) rfl (fun a => by fin_cases a <;> simp)]

theorem pick6 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (6 : Fin 8) l) = p3 (ix4 (0 : Fin 1) i (0 : Fin 2) l) := by
  rw [View.read_writes_cons_unit_of_not_mem _ _ _ _ _ _ rfl 1 (by simp <;> omega)]
  rw [View.read_writes_cons_unit_of_mem _ _ _ _ _ _ (ix4 (0 : Fin 1) i (0 : Fin 2) l) rfl (fun a => by fin_cases a <;> simp)]

theorem pickl6 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (6 : Fin 8) l) = r3 (ix4 (0 : Fin 1) (0 : Fin 1) (0 : Fin 2) l) := by
  rw [View.read_writes_cons_unit_of_mem _ _ _ _ _ _ (ix4 (0 : Fin 1) (0 : Fin 1) (0 : Fin 2) l) rfl (fun a => by fin_cases a <;> simp)]

theorem pickq6 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (6 : Fin 8) l) = p3 (ix4 (0 : Fin 1) i (0 : Fin 2) l) := by
  rw [View.read_writes_cons_unit_of_not_mem _ _ _ _ _ _ rfl 1 (by simp <;> omega)]
  rw [View.read_writes_cons_unit_of_mem _ _ _ _ _ _ (ix4 (0 : Fin 1) i (0 : Fin 2) l) rfl (fun a => by fin_cases a <;> simp)]

theorem pick7 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (i : Fin 256) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (7 : Fin 8) l) = p3 (ix4 (0 : Fin 1) i (1 : Fin 2) l) := by
  rw [View.read_writes_cons_unit_of_not_mem _ _ _ _ _ _ rfl 1 (by simp <;> omega)]
  rw [View.read_writes_cons_unit_of_mem _ _ _ _ _ _ (ix4 (0 : Fin 1) i (1 : Fin 2) l) rfl (fun a => by fin_cases a <;> simp)]

theorem pickl7 (M : Memref sig .tc .vmem S1x257x8x128 .bf16) (f : M.view.ty.Contents (Elt Ideal)) (r3 : FVec Ideal S1x1x2x128 .bf16) (p3 : FVec Ideal S1x256x2x128 .bf16) (r2 : FVec Ideal S1x1x2x128 .bf16) (p2 : FVec Ideal S1x256x2x128 .bf16) (r1 : FVec Ideal S1x1x2x128 .bf16) (p1 : FVec Ideal S1x256x2x128 .bf16) (r0 : FVec Ideal S1x1x2x128 .bf16) (p0 : FVec Ideal S1x256x2x128 .bf16) (l : Fin 128) :
    M.view.read (Elt Ideal) (M.view.writes (Elt Ideal) f [
    ⟨Rect.unit (s := S1x257x8x128) ![0, 256, 6, 0] S1x1x2x128.size inb_S1x257x8x128_S1x1x2x128_0_256_6_0, r3⟩,
    ⟨Rect.unit (s := S1x257x8x128) ![0, 0, 6, 0] S1x256x2x128.size inb_S1x257x8x128_S1x256x2x128_0_0_6_0, p3⟩,
    ⟨Rect.unit (s := S1x257x8x128) ![0, 256, 4, 0] S1x1x2x128.size inb_S1x257x8x128_S1x1x2x128_0_256_4_0, r2⟩,
    ⟨Rect.unit (s := S1x257x8x128) ![0, 0, 4, 0] S1x256x2x128.size inb_S1x257x8x128_S1x256x2x128_0_0_4_0, p2⟩,
    ⟨Rect.unit (s := S1x257x8x128) ![0, 256, 2, 0] S1x1x2x128.size inb_S1x257x8x128_S1x1x2x128_0_256_2_0, r1⟩,
    ⟨Rect.unit (s := S1x257x8x128) ![0, 0, 2, 0] S1x256x2x128.size inb_S1x257x8x128_S1x256x2x128_0_0_2_0, p1⟩,
    ⟨Rect.unit (s := S1x257x8x128) ![0, 256, 0, 0] S1x1x2x128.size inb_S1x257x8x128_S1x1x2x128_0_256_0_0, r0⟩,
    ⟨Rect.unit (s := S1x257x8x128) ![0, 0, 0, 0] S1x256x2x128.size inb_S1x257x8x128_S1x256x2x128_0_0_0_0, p0⟩]) (ix4 (0 : Fin 1) (256 : Fin 257) (7 : Fin 8) l) = r3 (ix4 (0 : Fin 1) (0 : Fin 1) (1 : Fin 2) l) := by
  rw [View.read_writes_cons_unit_of_mem _ _ _ _ _ _ (ix4 (0 : Fin 1) (0 : Fin 1) (1 : Fin 2) l) rfl (fun a => by fin_cases a <;> simp)]

theorem pickq7 (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (i : Fin 256) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (⟨i.val, by omega⟩ : Fin 257) (7 : Fin 8) l) = p3 (ix4 (0 : Fin 1) i (1 : Fin 2) l) := by
  rw [View.read_writes_cons_unit_of_not_mem _ _ _ _ _ _ rfl 1 (by simp <;> omega)]
  rw [View.read_writes_cons_unit_of_mem _ _ _ _ _ _ (ix4 (0 : Fin 1) i (1 : Fin 2) l) rfl (fun a => by fin_cases a <;> simp)]

theorem pickql (M : Memref sig .tc .vmem S1x257x8x128 .bf16) (f : M.view.ty.Contents (Elt Ideal)) (r : FVec Ideal S1x1x8x128 .bf16) (p3 : FVec Ideal S1x256x2x128 .bf16) (p2 : FVec Ideal S1x256x2x128 .bf16) (p1 : FVec Ideal S1x256x2x128 .bf16) (p0 : FVec Ideal S1x256x2x128 .bf16) (h : Fin 8) (l : Fin 128) :
    M.view.read (Elt Ideal) (M.view.writes (Elt Ideal) f [
    ⟨Rect.unit (s := S1x257x8x128) ![0, 256, 0, 0] S1x1x8x128.size inb_S1x257x8x128_S1x1x8x128_0_256_0_0, r⟩,
    ⟨Rect.unit (s := S1x257x8x128) ![0, 0, 6, 0] S1x256x2x128.size inb_S1x257x8x128_S1x256x2x128_0_0_6_0, p3⟩,
    ⟨Rect.unit (s := S1x257x8x128) ![0, 0, 4, 0] S1x256x2x128.size inb_S1x257x8x128_S1x256x2x128_0_0_4_0, p2⟩,
    ⟨Rect.unit (s := S1x257x8x128) ![0, 0, 2, 0] S1x256x2x128.size inb_S1x257x8x128_S1x256x2x128_0_0_2_0, p1⟩,
    ⟨Rect.unit (s := S1x257x8x128) ![0, 0, 0, 0] S1x256x2x128.size inb_S1x257x8x128_S1x256x2x128_0_0_0_0, p0⟩]) (ix4 (0 : Fin 1) (256 : Fin 257) h l) = r (ix4 (0 : Fin 1) (0 : Fin 1) h l) := by
  rw [View.read_writes_cons_unit_of_mem _ _ _ _ _ _ (ix4 (0 : Fin 1) (0 : Fin 1) h l) rfl (fun a => by fin_cases a <;> simp)]

/-- The query gradient rows below 256 are the transposed gradients, scaled. -/
theorem turn_at (x : In Ideal c) (h : Fin 8) (u : FVec Ideal S104x256 .f32)
    (hu : ∀ (d : Fin 104) (i : Fin 256), u (ix2 d i) = ∑ j : Fin 257, (hd x h).ds j ⟨i.val, by omega⟩ * (hd x h).k j d) (i : Fin 256) (l : Fin 128) (hl : l.val < 104) :
    gTurn u (ix2 i l) = (hd x h).dq ⟨i.val, by omega⟩ ⟨l.val, hl⟩ := by
  rw [gTurn_at u i l hl, hu]
  rfl

theorem out9_0 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (0 : Fin 8) l) = (hd x 0).dq ⟨i.val, by omega⟩ ⟨l.val, hl⟩ := by
  rw [H9_5_eq, H9_3_eq, H9_2_eq, H9_1_eq]
  refine (pickq0 M f _ _ _ _ _ i l).trans ((gOutDq_lo _ _ i l).trans ?_)
  exact turn_at x 0 (dqt0 x) (dqt0_at x (h0 0) (h1 0)) i l hl

theorem out9_1 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (1 : Fin 8) l) = (hd x 1).dq ⟨i.val, by omega⟩ ⟨l.val, hl⟩ := by
  rw [H9_5_eq, H9_3_eq, H9_2_eq, H9_1_eq]
  refine (pickq1 M f _ _ _ _ _ i l).trans ((gOutDq_hi _ _ i l).trans ?_)
  exact turn_at x 1 (dqt1 x) (dqt1_at x (h0 1) (h1 1)) i l hl

theorem out9_2 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (2 : Fin 8) l) = (hd x 2).dq ⟨i.val, by omega⟩ ⟨l.val, hl⟩ := by
  rw [H9_5_eq, H9_3_eq, H9_2_eq, H9_1_eq]
  refine (pickq2 M f _ _ _ _ _ i l).trans ((gOutDq_lo _ _ i l).trans ?_)
  exact turn_at x 2 (dqt2 x) (dqt2_at x (h0 2) (h1 2)) i l hl

theorem out9_3 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (3 : Fin 8) l) = (hd x 3).dq ⟨i.val, by omega⟩ ⟨l.val, hl⟩ := by
  rw [H9_5_eq, H9_3_eq, H9_2_eq, H9_1_eq]
  refine (pickq3 M f _ _ _ _ _ i l).trans ((gOutDq_hi _ _ i l).trans ?_)
  exact turn_at x 3 (dqt3 x) (dqt3_at x (h0 3) (h1 3)) i l hl

theorem out9_4 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (4 : Fin 8) l) = (hd x 4).dq ⟨i.val, by omega⟩ ⟨l.val, hl⟩ := by
  rw [H9_5_eq, H9_3_eq, H9_2_eq, H9_1_eq]
  refine (pickq4 M f _ _ _ _ _ i l).trans ((gOutDq_lo _ _ i l).trans ?_)
  exact turn_at x 4 (dqt4 x) (dqt4_at x (h0 4) (h1 4)) i l hl

theorem out9_5 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (5 : Fin 8) l) = (hd x 5).dq ⟨i.val, by omega⟩ ⟨l.val, hl⟩ := by
  rw [H9_5_eq, H9_3_eq, H9_2_eq, H9_1_eq]
  refine (pickq5 M f _ _ _ _ _ i l).trans ((gOutDq_hi _ _ i l).trans ?_)
  exact turn_at x 5 (dqt5 x) (dqt5_at x (h0 5) (h1 5)) i l hl

theorem out9_6 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (6 : Fin 8) l) = (hd x 6).dq ⟨i.val, by omega⟩ ⟨l.val, hl⟩ := by
  rw [H9_5_eq, H9_3_eq, H9_2_eq, H9_1_eq]
  refine (pickq6 M f _ _ _ _ _ i l).trans ((gOutDq_lo _ _ i l).trans ?_)
  exact turn_at x 6 (dqt6 x) (dqt6_at x (h0 6) (h1 6)) i l hl

theorem out9_7 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (⟨i.val, by omega⟩ : Fin 257) (7 : Fin 8) l) = (hd x 7).dq ⟨i.val, by omega⟩ ⟨l.val, hl⟩ := by
  rw [H9_5_eq, H9_3_eq, H9_2_eq, H9_1_eq]
  refine (pickq7 M f _ _ _ _ _ i l).trans ((gOutDq_hi _ _ i l).trans ?_)
  exact turn_at x 7 (dqt7 x) (dqt7_at x (h0 7) (h1 7)) i l hl

theorem outl9 (x : In Ideal c) (h0 : ∀ h, 0 ≤ (hd x h).vs) (h1 : ∀ h, (hd x h).vs ≠ ⊤) (M : Memref sig .tc .vmem S1x257x8x128 .bf16) (f : M.view.ty.Contents (Elt Ideal)) (h : Fin 8) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) (256 : Fin 257) h l) = (hd x h).dq 256 ⟨l.val, hl⟩ := by
  rw [H9_5_eq, H9_3_eq, H9_2_eq, H9_1_eq]
  refine (pickql M f _ _ _ _ _ h l).trans ((gOutDqLast_at _ h l).trans ?_)
  rw [dqLast_at x h l hl]
  rfl

/-- Result block 0, at a row, a head and a lane. -/
theorem out9 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 257) (h : Fin 8) (l : Fin 128) (hl : l.val < 104) :
    M.view.read (Elt Ideal) (M.view.writes (Elt Ideal) f (kernelRun.sl.H9_5 c x.M1 x.M2 x.M3 x.M4 x.M5 x.M6 x.M7 x.M8 x.M12 x.M13 x.f1 x.f2 x.f3 x.f4 x.f5 x.f6 x.f7 x.f8 x.f12 x.f13)) (ix4 (0 : Fin 1) i h l) = (hd x h).dq i ⟨l.val, hl⟩ := by
  by_cases hi : i.val < 256
  · fin_cases h
    · exact out9_0 x h0 h1 M f ⟨i.val, hi⟩ l hl
    · exact out9_1 x h0 h1 M f ⟨i.val, hi⟩ l hl
    · exact out9_2 x h0 h1 M f ⟨i.val, hi⟩ l hl
    · exact out9_3 x h0 h1 M f ⟨i.val, hi⟩ l hl
    · exact out9_4 x h0 h1 M f ⟨i.val, hi⟩ l hl
    · exact out9_5 x h0 h1 M f ⟨i.val, hi⟩ l hl
    · exact out9_6 x h0 h1 M f ⟨i.val, hi⟩ l hl
    · exact out9_7 x h0 h1 M f ⟨i.val, hi⟩ l hl
  · obtain rfl : i = 256 := Fin.ext (by show i.val = 256; omega)
    exact outl9 x h0 h1 M f h l hl

theorem out10_0 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (0 : Fin 8) l) = (hd x 0).dk ⟨i.val, by omega⟩ ⟨l.val, hl⟩ := by
  rw [H10_8_eq, H10_6_eq, H10_4_eq, H10_2_eq]
  refine (pick0 M f _ _ _ _ _ _ _ _ i l).trans ((gOutDk_lo _ _ i l).trans ?_)
  rw [dk0_at x (h0 0) (h1 0) _ (by show i.val < 257; omega) l hl]
  rfl

theorem outl10_0 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (0 : Fin 8) l) = (hd x 0).dk 256 ⟨l.val, hl⟩ := by
  rw [H10_8_eq, H10_6_eq, H10_4_eq, H10_2_eq]
  refine (pickl0 M f _ _ _ _ _ _ _ _ l).trans ((gOutDkl_lo _ _ l).trans ?_)
  rw [dk0_at x (h0 0) (h1 0) _ (by decide) l hl]
  rfl

theorem out10_1 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (1 : Fin 8) l) = (hd x 1).dk ⟨i.val, by omega⟩ ⟨l.val, hl⟩ := by
  rw [H10_8_eq, H10_6_eq, H10_4_eq, H10_2_eq]
  refine (pick1 M f _ _ _ _ _ _ _ _ i l).trans ((gOutDk_hi _ _ i l).trans ?_)
  rw [dk1_at x (h0 1) (h1 1) _ (by show i.val < 257; omega) l hl]
  rfl

theorem outl10_1 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (1 : Fin 8) l) = (hd x 1).dk 256 ⟨l.val, hl⟩ := by
  rw [H10_8_eq, H10_6_eq, H10_4_eq, H10_2_eq]
  refine (pickl1 M f _ _ _ _ _ _ _ _ l).trans ((gOutDkl_hi _ _ l).trans ?_)
  rw [dk1_at x (h0 1) (h1 1) _ (by decide) l hl]
  rfl

theorem out10_2 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (2 : Fin 8) l) = (hd x 2).dk ⟨i.val, by omega⟩ ⟨l.val, hl⟩ := by
  rw [H10_8_eq, H10_6_eq, H10_4_eq, H10_2_eq]
  refine (pick2 M f _ _ _ _ _ _ _ _ i l).trans ((gOutDk_lo _ _ i l).trans ?_)
  rw [dk2_at x (h0 2) (h1 2) _ (by show i.val < 257; omega) l hl]
  rfl

theorem outl10_2 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (2 : Fin 8) l) = (hd x 2).dk 256 ⟨l.val, hl⟩ := by
  rw [H10_8_eq, H10_6_eq, H10_4_eq, H10_2_eq]
  refine (pickl2 M f _ _ _ _ _ _ _ _ l).trans ((gOutDkl_lo _ _ l).trans ?_)
  rw [dk2_at x (h0 2) (h1 2) _ (by decide) l hl]
  rfl

theorem out10_3 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (3 : Fin 8) l) = (hd x 3).dk ⟨i.val, by omega⟩ ⟨l.val, hl⟩ := by
  rw [H10_8_eq, H10_6_eq, H10_4_eq, H10_2_eq]
  refine (pick3 M f _ _ _ _ _ _ _ _ i l).trans ((gOutDk_hi _ _ i l).trans ?_)
  rw [dk3_at x (h0 3) (h1 3) _ (by show i.val < 257; omega) l hl]
  rfl

theorem outl10_3 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (3 : Fin 8) l) = (hd x 3).dk 256 ⟨l.val, hl⟩ := by
  rw [H10_8_eq, H10_6_eq, H10_4_eq, H10_2_eq]
  refine (pickl3 M f _ _ _ _ _ _ _ _ l).trans ((gOutDkl_hi _ _ l).trans ?_)
  rw [dk3_at x (h0 3) (h1 3) _ (by decide) l hl]
  rfl

theorem out10_4 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (4 : Fin 8) l) = (hd x 4).dk ⟨i.val, by omega⟩ ⟨l.val, hl⟩ := by
  rw [H10_8_eq, H10_6_eq, H10_4_eq, H10_2_eq]
  refine (pick4 M f _ _ _ _ _ _ _ _ i l).trans ((gOutDk_lo _ _ i l).trans ?_)
  rw [dk4_at x (h0 4) (h1 4) _ (by show i.val < 257; omega) l hl]
  rfl

theorem outl10_4 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (4 : Fin 8) l) = (hd x 4).dk 256 ⟨l.val, hl⟩ := by
  rw [H10_8_eq, H10_6_eq, H10_4_eq, H10_2_eq]
  refine (pickl4 M f _ _ _ _ _ _ _ _ l).trans ((gOutDkl_lo _ _ l).trans ?_)
  rw [dk4_at x (h0 4) (h1 4) _ (by decide) l hl]
  rfl

theorem out10_5 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (5 : Fin 8) l) = (hd x 5).dk ⟨i.val, by omega⟩ ⟨l.val, hl⟩ := by
  rw [H10_8_eq, H10_6_eq, H10_4_eq, H10_2_eq]
  refine (pick5 M f _ _ _ _ _ _ _ _ i l).trans ((gOutDk_hi _ _ i l).trans ?_)
  rw [dk5_at x (h0 5) (h1 5) _ (by show i.val < 257; omega) l hl]
  rfl

theorem outl10_5 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (5 : Fin 8) l) = (hd x 5).dk 256 ⟨l.val, hl⟩ := by
  rw [H10_8_eq, H10_6_eq, H10_4_eq, H10_2_eq]
  refine (pickl5 M f _ _ _ _ _ _ _ _ l).trans ((gOutDkl_hi _ _ l).trans ?_)
  rw [dk5_at x (h0 5) (h1 5) _ (by decide) l hl]
  rfl

theorem out10_6 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (6 : Fin 8) l) = (hd x 6).dk ⟨i.val, by omega⟩ ⟨l.val, hl⟩ := by
  rw [H10_8_eq, H10_6_eq, H10_4_eq, H10_2_eq]
  refine (pick6 M f _ _ _ _ _ _ _ _ i l).trans ((gOutDk_lo _ _ i l).trans ?_)
  rw [dk6_at x (h0 6) (h1 6) _ (by show i.val < 257; omega) l hl]
  rfl

theorem outl10_6 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (6 : Fin 8) l) = (hd x 6).dk 256 ⟨l.val, hl⟩ := by
  rw [H10_8_eq, H10_6_eq, H10_4_eq, H10_2_eq]
  refine (pickl6 M f _ _ _ _ _ _ _ _ l).trans ((gOutDkl_lo _ _ l).trans ?_)
  rw [dk6_at x (h0 6) (h1 6) _ (by decide) l hl]
  rfl

theorem out10_7 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (⟨i.val, by omega⟩ : Fin 257) (7 : Fin 8) l) = (hd x 7).dk ⟨i.val, by omega⟩ ⟨l.val, hl⟩ := by
  rw [H10_8_eq, H10_6_eq, H10_4_eq, H10_2_eq]
  refine (pick7 M f _ _ _ _ _ _ _ _ i l).trans ((gOutDk_hi _ _ i l).trans ?_)
  rw [dk7_at x (h0 7) (h1 7) _ (by show i.val < 257; omega) l hl]
  rfl

theorem outl10_7 (x : In Ideal c) (h0 : ∀ h, 0 ≤ (hd x h).vs) (h1 : ∀ h, (hd x h).vs ≠ ⊤) (M : Memref sig .tc .vmem S1x257x8x128 .bf16) (f : M.view.ty.Contents (Elt Ideal)) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) (256 : Fin 257) (7 : Fin 8) l) = (hd x 7).dk 256 ⟨l.val, hl⟩ := by
  rw [H10_8_eq, H10_6_eq, H10_4_eq, H10_2_eq]
  refine (pickl7 M f _ _ _ _ _ _ _ _ l).trans ((gOutDkl_hi _ _ l).trans ?_)
  rw [dk7_at x (h0 7) (h1 7) _ (by decide) l hl]
  rfl

/-- Result block 1, at a row, a head and a lane. -/
theorem out10 (x : In Ideal c) (h0 : ∀ h, 0 ≤ (hd x h).vs) (h1 : ∀ h, (hd x h).vs ≠ ⊤) (M : Memref sig .tc .vmem S1x257x8x128 .bf16) (f : M.view.ty.Contents (Elt Ideal)) (i : Fin 257) (h : Fin 8) (l : Fin 128) (hl : l.val < 104) :
    M.view.read (Elt Ideal) (M.view.writes (Elt Ideal) f (kernelRun.sl.H10_8 c x.M0 x.M2 x.M3 x.M4 x.M5 x.M6 x.M7 x.M8 x.M12 x.M13 x.f0 x.f2 x.f3 x.f4 x.f5 x.f6 x.f7 x.f8 x.f12 x.f13)) (ix4 (0 : Fin 1) i h l) = (hd x h).dk i ⟨l.val, hl⟩ := by
  by_cases hi : i.val < 256
  · fin_cases h
    · exact out10_0 x h0 h1 M f ⟨i.val, hi⟩ l hl
    · exact out10_1 x h0 h1 M f ⟨i.val, hi⟩ l hl
    · exact out10_2 x h0 h1 M f ⟨i.val, hi⟩ l hl
    · exact out10_3 x h0 h1 M f ⟨i.val, hi⟩ l hl
    · exact out10_4 x h0 h1 M f ⟨i.val, hi⟩ l hl
    · exact out10_5 x h0 h1 M f ⟨i.val, hi⟩ l hl
    · exact out10_6 x h0 h1 M f ⟨i.val, hi⟩ l hl
    · exact out10_7 x h0 h1 M f ⟨i.val, hi⟩ l hl
  · obtain rfl : i = 256 := Fin.ext (by show i.val = 256; omega)
    fin_cases h
    · exact outl10_0 x h0 h1 M f l hl
    · exact outl10_1 x h0 h1 M f l hl
    · exact outl10_2 x h0 h1 M f l hl
    · exact outl10_3 x h0 h1 M f l hl
    · exact outl10_4 x h0 h1 M f l hl
    · exact outl10_5 x h0 h1 M f l hl
    · exact outl10_6 x h0 h1 M f l hl
    · exact outl10_7 x h0 h1 M f l hl

theorem out11_0 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (0 : Fin 8) l) = (hd x 0).dv ⟨i.val, by omega⟩ ⟨l.val, hl⟩ := by
  rw [H11_8_eq]
  refine (pick0 M f _ _ _ _ _ _ _ _ i l).trans ((gOutDv_lo _ _ i l).trans ?_)
  exact dv0_at x _ (by show i.val < 257; omega) l hl

theorem outl11_0 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (0 : Fin 8) l) = (hd x 0).dv 256 ⟨l.val, hl⟩ := by
  rw [H11_8_eq]
  refine (pickl0 M f _ _ _ _ _ _ _ _ l).trans ((gOutDvl_lo _ _ l).trans ?_)
  exact dv0_at x _ (by decide) l hl

theorem out11_1 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (1 : Fin 8) l) = (hd x 1).dv ⟨i.val, by omega⟩ ⟨l.val, hl⟩ := by
  rw [H11_8_eq]
  refine (pick1 M f _ _ _ _ _ _ _ _ i l).trans ((gOutDv_hi _ _ i l).trans ?_)
  exact dv1_at x _ (by show i.val < 257; omega) l hl

theorem outl11_1 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (1 : Fin 8) l) = (hd x 1).dv 256 ⟨l.val, hl⟩ := by
  rw [H11_8_eq]
  refine (pickl1 M f _ _ _ _ _ _ _ _ l).trans ((gOutDvl_hi _ _ l).trans ?_)
  exact dv1_at x _ (by decide) l hl

theorem out11_2 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (2 : Fin 8) l) = (hd x 2).dv ⟨i.val, by omega⟩ ⟨l.val, hl⟩ := by
  rw [H11_8_eq]
  refine (pick2 M f _ _ _ _ _ _ _ _ i l).trans ((gOutDv_lo _ _ i l).trans ?_)
  exact dv2_at x _ (by show i.val < 257; omega) l hl

theorem outl11_2 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (2 : Fin 8) l) = (hd x 2).dv 256 ⟨l.val, hl⟩ := by
  rw [H11_8_eq]
  refine (pickl2 M f _ _ _ _ _ _ _ _ l).trans ((gOutDvl_lo _ _ l).trans ?_)
  exact dv2_at x _ (by decide) l hl

theorem out11_3 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (3 : Fin 8) l) = (hd x 3).dv ⟨i.val, by omega⟩ ⟨l.val, hl⟩ := by
  rw [H11_8_eq]
  refine (pick3 M f _ _ _ _ _ _ _ _ i l).trans ((gOutDv_hi _ _ i l).trans ?_)
  exact dv3_at x _ (by show i.val < 257; omega) l hl

theorem outl11_3 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (3 : Fin 8) l) = (hd x 3).dv 256 ⟨l.val, hl⟩ := by
  rw [H11_8_eq]
  refine (pickl3 M f _ _ _ _ _ _ _ _ l).trans ((gOutDvl_hi _ _ l).trans ?_)
  exact dv3_at x _ (by decide) l hl

theorem out11_4 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (4 : Fin 8) l) = (hd x 4).dv ⟨i.val, by omega⟩ ⟨l.val, hl⟩ := by
  rw [H11_8_eq]
  refine (pick4 M f _ _ _ _ _ _ _ _ i l).trans ((gOutDv_lo _ _ i l).trans ?_)
  exact dv4_at x _ (by show i.val < 257; omega) l hl

theorem outl11_4 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (4 : Fin 8) l) = (hd x 4).dv 256 ⟨l.val, hl⟩ := by
  rw [H11_8_eq]
  refine (pickl4 M f _ _ _ _ _ _ _ _ l).trans ((gOutDvl_lo _ _ l).trans ?_)
  exact dv4_at x _ (by decide) l hl

theorem out11_5 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (5 : Fin 8) l) = (hd x 5).dv ⟨i.val, by omega⟩ ⟨l.val, hl⟩ := by
  rw [H11_8_eq]
  refine (pick5 M f _ _ _ _ _ _ _ _ i l).trans ((gOutDv_hi _ _ i l).trans ?_)
  exact dv5_at x _ (by show i.val < 257; omega) l hl

theorem outl11_5 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (5 : Fin 8) l) = (hd x 5).dv 256 ⟨l.val, hl⟩ := by
  rw [H11_8_eq]
  refine (pickl5 M f _ _ _ _ _ _ _ _ l).trans ((gOutDvl_hi _ _ l).trans ?_)
  exact dv5_at x _ (by decide) l hl

theorem out11_6 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (6 : Fin 8) l) = (hd x 6).dv ⟨i.val, by omega⟩ ⟨l.val, hl⟩ := by
  rw [H11_8_eq]
  refine (pick6 M f _ _ _ _ _ _ _ _ i l).trans ((gOutDv_lo _ _ i l).trans ?_)
  exact dv6_at x _ (by show i.val < 257; omega) l hl

theorem outl11_6 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (6 : Fin 8) l) = (hd x 6).dv 256 ⟨l.val, hl⟩ := by
  rw [H11_8_eq]
  refine (pickl6 M f _ _ _ _ _ _ _ _ l).trans ((gOutDvl_lo _ _ l).trans ?_)
  exact dv6_at x _ (by decide) l hl

theorem out11_7 (x : In Ideal c) (M : Memref sig .tc .vmem S1x257x8x128 .bf16) (f : M.view.ty.Contents (Elt Ideal)) (i : Fin 256) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (⟨i.val, by omega⟩ : Fin 257) (7 : Fin 8) l) = (hd x 7).dv ⟨i.val, by omega⟩ ⟨l.val, hl⟩ := by
  rw [H11_8_eq]
  refine (pick7 M f _ _ _ _ _ _ _ _ i l).trans ((gOutDv_hi _ _ i l).trans ?_)
  exact dv7_at x _ (by show i.val < 257; omega) l hl

theorem outl11_7 (x : In Ideal c) (M : Memref sig .tc .vmem S1x257x8x128 .bf16) (f : M.view.ty.Contents (Elt Ideal)) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) (256 : Fin 257) (7 : Fin 8) l) = (hd x 7).dv 256 ⟨l.val, hl⟩ := by
  rw [H11_8_eq]
  refine (pickl7 M f _ _ _ _ _ _ _ _ l).trans ((gOutDvl_hi _ _ l).trans ?_)
  exact dv7_at x _ (by decide) l hl

/-- Result block 2, at a row, a head and a lane. -/
theorem out11 (x : In Ideal c) (M : Memref sig .tc .vmem S1x257x8x128 .bf16) (f : M.view.ty.Contents (Elt Ideal)) (i : Fin 257) (h : Fin 8) (l : Fin 128) (hl : l.val < 104) :
    M.view.read (Elt Ideal) (M.view.writes (Elt Ideal) f (kernelRun.sl.H11_8 c x.M2 x.M3 x.M4 x.M5 x.M8 x.M12 x.f2 x.f3 x.f4 x.f5 x.f8 x.f12)) (ix4 (0 : Fin 1) i h l) = (hd x h).dv i ⟨l.val, hl⟩ := by
  by_cases hi : i.val < 256
  · fin_cases h
    · exact out11_0 x M f ⟨i.val, hi⟩ l hl
    · exact out11_1 x M f ⟨i.val, hi⟩ l hl
    · exact out11_2 x M f ⟨i.val, hi⟩ l hl
    · exact out11_3 x M f ⟨i.val, hi⟩ l hl
    · exact out11_4 x M f ⟨i.val, hi⟩ l hl
    · exact out11_5 x M f ⟨i.val, hi⟩ l hl
    · exact out11_6 x M f ⟨i.val, hi⟩ l hl
    · exact out11_7 x M f ⟨i.val, hi⟩ l hl
  · obtain rfl : i = 256 := Fin.ext (by show i.val = 256; omega)
    fin_cases h
    · exact outl11_0 x M f l hl
    · exact outl11_1 x M f l hl
    · exact outl11_2 x M f l hl
    · exact outl11_3 x M f l hl
    · exact outl11_4 x M f l hl
    · exact outl11_5 x M f l hl
    · exact outl11_6 x M f l hl
    · exact outl11_7 x M f l hl

end Cert.KernelIdeal.Hand
-- ==== Proof.Exact.lean ====
/-
  The values of `KernelIdeal`: every run whose value scales are finite and at least zero leaves the three gradients of every
  head in the result arrays.
-/
module

public import proofs.«01_k».proof.Proof.Blocks
public import proofs.«01_k».proof.Proof.OutRead
public import proofs.«01_k».proof.Proof.KernelIdealBody
public import Idealize.ShloMosaic.Lib.LaneScatter.Own

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

set_option maxHeartbeats 4000000

/-- What the run leaves in the output blocks, as the lists of its stores. -/
theorem run_val {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole) :
    (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1
      = (M9.view.writes (Elt Ideal) M9.view.junk (kernelRun.sl.H9_5 c x.M1 x.M2 x.M3 x.M4 x.M5 x.M6 x.M7 x.M8 x.M12 x.M13 x.f1 x.f2 x.f3 x.f4 x.f5 x.f6 x.f7 x.f8 x.f12 x.f13), M10.view.writes (Elt Ideal) M10.view.junk (kernelRun.sl.H10_8 c x.M0 x.M2 x.M3 x.M4 x.M5 x.M6 x.M7 x.M8 x.M12 x.M13 x.f0 x.f2 x.f3 x.f4 x.f5 x.f6 x.f7 x.f8 x.f12 x.f13), M11.view.writes (Elt Ideal) M11.view.junk (kernelRun.sl.H11_8 c x.M2 x.M3 x.M4 x.M5 x.M8 x.M12 x.f2 x.f3 x.f4 x.f5 x.f8 x.f12)) := by
  unfold kernelRun
  rfl

theorem val9 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole) :
    (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.1 = M9.view.writes (Elt Ideal) M9.view.junk (kernelRun.sl.H9_5 c x.M1 x.M2 x.M3 x.M4 x.M5 x.M6 x.M7 x.M8 x.M12 x.M13 x.f1 x.f2 x.f3 x.f4 x.f5 x.f6 x.f7 x.f8 x.f12 x.f13) :=
  congrArg (fun W => W.1) (run_val x i M9 h9 M10 h10 M11 h11)

theorem val10 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole) :
    (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.2.1 = M10.view.writes (Elt Ideal) M10.view.junk (kernelRun.sl.H10_8 c x.M0 x.M2 x.M3 x.M4 x.M5 x.M6 x.M7 x.M8 x.M12 x.M13 x.f0 x.f2 x.f3 x.f4 x.f5 x.f6 x.f7 x.f8 x.f12 x.f13) :=
  congrArg (fun W => W.2.1) (run_val x i M9 h9 M10 h10 M11 h11)

theorem val11 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole) :
    (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.2.2 = M11.view.writes (Elt Ideal) M11.view.junk (kernelRun.sl.H11_8 c x.M2 x.M3 x.M4 x.M5 x.M8 x.M12 x.f2 x.f3 x.f4 x.f5 x.f8 x.f12) :=
  congrArg (fun W => W.2.2) (run_val x i M9 h9 M10 h10 M11 h11)

theorem read9 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole)  (h0 : ∀ h, 0 ≤ (hd x h).vs) (h1 : ∀ h, (hd x h).vs ≠ ⊤)
    (r : Fin 257) (h : Fin 8) (l : Fin 128) (hl : l.val < 104) :
    M9.view.read (Elt Ideal) (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.1 (ix4 (0 : Fin 1) r h l) = (hd x h).dq r ⟨l.val, hl⟩ :=
  (congrArg (fun g => M9.view.read (Elt Ideal) g (ix4 (0 : Fin 1) r h l)) (val9 x i M9 h9 M10 h10 M11 h11)).trans
    (out9 x h0 h1 M9 M9.view.junk r h l hl)

theorem read10 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole)  (h0 : ∀ h, 0 ≤ (hd x h).vs) (h1 : ∀ h, (hd x h).vs ≠ ⊤)
    (r : Fin 257) (h : Fin 8) (l : Fin 128) (hl : l.val < 104) :
    M10.view.read (Elt Ideal) (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.2.1 (ix4 (0 : Fin 1) r h l) = (hd x h).dk r ⟨l.val, hl⟩ :=
  (congrArg (fun g => M10.view.read (Elt Ideal) g (ix4 (0 : Fin 1) r h l)) (val10 x i M9 h9 M10 h10 M11 h11)).trans
    (out10 x h0 h1 M10 M10.view.junk r h l hl)

theorem read11 {c : Dev nD} (x : In Ideal c) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole)
    (r : Fin 257) (h : Fin 8) (l : Fin 128) (hl : l.val < 104) :
    M11.view.read (Elt Ideal) (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1.2.2 (ix4 (0 : Fin 1) r h l) = (hd x h).dv r ⟨l.val, hl⟩ :=
  (congrArg (fun g => M11.view.read (Elt Ideal) g (ix4 (0 : Fin 1) r h l)) (val11 x i M9 h9 M10 h10 M11 h11)).trans
    (out11 x M11 M11.view.junk r h l hl)

/-- One step of the kernel on given input blocks: the inputs stay, and the output blocks end at the gradients. -/
theorem step {c : Dev nD} (x : In Ideal c) (h0 : ∀ h, 0 ≤ (hd x h).vs) (h1 : ∀ h, (hd x h).vs ≠ ⊤) (i : grid0.Coords)
    (M9 : Memref sig .tc .vmem S1x257x8x128 .bf16) (h9 : M9.IsWhole)
    (M10 : Memref sig .tc .vmem S1x257x8x128 .bf16) (h10 : M10.IsWhole)
    (M11 : Memref sig .tc .vmem S1x257x8x128 .bf16) (h11 : M11.IsWhole) :
    ∃ W : Bf (F := Ideal) c M9 × Bf (F := Ideal) c M10 × Bf (F := Ideal) c M11,
      (∀ (r : Fin 257) (h : Fin 8) (l : Fin 128) (hl : l.val < 104), M9.view.read (Elt Ideal) W.1 (ix4 (0 : Fin 1) r h l) = (hd x h).dq r ⟨l.val, hl⟩)
      ∧ (∀ (r : Fin 257) (h : Fin 8) (l : Fin 128) (hl : l.val < 104), M10.view.read (Elt Ideal) W.2.1 (ix4 (0 : Fin 1) r h l) = (hd x h).dk r ⟨l.val, hl⟩)
      ∧ (∀ (r : Fin 257) (h : Fin 8) (l : Fin 128) (hl : l.val < 104), M11.view.read (Elt Ideal) W.2.2 (ix4 (0 : Fin 1) r h l) = (hd x h).dv r ⟨l.val, hl⟩)
      ∧ ∀ (f9 : Bf (F := Ideal) c M9) (f10 : Bf (F := Ideal) c M10) (f11 : Bf (F := Ideal) c M11) (E : Set ℕ) (Q : PUnit → sProp 𝕄),
        iprop(pt c x.M0 x.f0 ∗ pt c x.M1 x.f1 ∗ pt c x.M2 x.f2 ∗ pt c x.M3 x.f3 ∗ pt c x.M4 x.f4 ∗ pt c x.M5 x.f5 ∗ pt c x.M6 x.f6 ∗ pt c x.M7 x.f7 ∗ pt c x.M8 x.f8 ∗ pt c M9 f9 ∗ pt c M10 f10 ∗ pt c M11 f11 ∗ pt c x.M12 x.f12 ∗ pt c x.M13 x.f13
          ∗ (iprop(pt c x.M0 x.f0 ∗ pt c x.M1 x.f1 ∗ pt c x.M2 x.f2 ∗ pt c x.M3 x.f3 ∗ pt c x.M4 x.f4 ∗ pt c x.M5 x.f5 ∗ pt c x.M6 x.f6 ∗ pt c x.M7 x.f7 ∗ pt c x.M8 x.f8 ∗ pt c M9 W.1 ∗ pt c M10 W.2.1 ∗ pt c M11 W.2.2
                ∗ (∃ f, pt c x.M12 f) ∗ (∃ f, pt c x.M13 f)) -∗ Q ⟨⟩))
        ⊢ wp Idealize.ShloMosaic.frame (wpE (defs₀ (F := Ideal)) Variants.none c none) E
            (cc0_attn_bwd i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13) Q :=
  ⟨(kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).1,
    read9 x i M9 h9 M10 h10 M11 h11 h0 h1, read10 x i M9 h9 M10 h10 M11 h11 h0 h1, read11 x i M9 h9 M10 h10 M11 h11,
    (kernelRun (F := Ideal) c i x.M0 x.h0 x.M1 x.h1 x.M2 x.h2 x.M3 x.h3 x.M4 x.h4 x.M5 x.h5 x.M6 x.h6 x.M7 x.h7 x.M8 x.h8 M9 h9 M10 h10 M11 h11 x.M12 x.h12 x.M13 x.h13 x.f0 x.f1 x.f2 x.f3 x.f4 x.f5 x.f6 x.f7 x.f8 x.f12 x.f13).2⟩

variable (m : (ℓ : Loc nD τ sig) → Buf (Elt Ideal) ℓ) (ρ : Dev nD → PrngReg)

/-- A whole memref owned at given contents is its buffer held at them. -/
theorem owns_eq_pt (c : Dev nD) {sp : Space} {S : Shape} {e : EltTy} (M : Memref sig .tc sp S e) (h : M.IsWhole) (x : S.Idx → Elt Ideal e) :
    (owns (Ix := Unit) (Name := ℕ) (U := UR sig nD τ) (Lvl := ℕ) (c : Thread nD τ) M fullShare x : sProp 𝕄) = (pt c M (h.unread x) : sProp 𝕄) := by
  obtain ⟨b, hsp, hsh, he, h'⟩ := h
  subst hsp hsh he
  cases h'
  show owns (c : Thread nD τ) (Memref.whole b) fullShare x = _
  rw [owns_whole]
  exact congrArg (fun f => (pt c (Memref.whole b) f : sProp 𝕄)) ((Memref.isWhole_whole b).eq_unread rfl)

/-- Result 0: the gradient `dq` of every head. -/
def res9 (c : Dev nD) : FVec Ideal S36x257x16x104 .bf16 := fun y => (ahd m c (y 0) (y 2)).dq (y 1) (y 3)
/-- Its block at a grid point. -/
def rblk9 (c : Dev nD) (t : Fin cfg0.N) : ((cfg0.win 9).xblock (cfg0.grid.coords t)).Idx → Elt Ideal (cfg0.win 9).elt :=
  ((cfg0.win 9).blk t).view.read (Elt Ideal) (res9 m c)

theorem e0_9 : ∀ t : Fin cfg0.N, win0_9.index t = ![(bat t).val, 0, (grp2 t).val, 0] := (by decide +kernel : ∀ t : Fin grid0.N, _)
theorem xs0_9 : ∀ t : Fin cfg0.N, ∀ a, (cfg0.win 9).xsize (cfg0.grid.coords t) a = (![1, 257, 8, 104] : Fin 4 → ℕ) a := by decide +kernel

/-- Contents that hold the gradients of the point's heads are filled with the result's block. -/
theorem fillr9 (c : Dev nD) (t : Fin cfg0.N) (X : Vec Ideal S1x257x8x128 .bf16)
    (hX : ∀ (r : Fin 257) (h : Fin 8) (l : Fin 128) (hl : l.val < 104), X (ix4 (0 : Fin 1) r h l) = (ahd m c (bat t) (hdx t h)).dq r ⟨l.val, hl⟩) :
    (cfg0.win 9).fill (cfg0.grid.coords t) X (rblk9 m c t) = X := by
  funext y
  unfold Pipeline.Window.fill
  split
  · rename_i hm
    have hl : (y 3).val < 104 := by
      have := ((cfg0.win 9).moved_iff _ _).mp hm 3
      rw [xs0_9 t 3] at this
      exact this
    have hy : y = ix4 (0 : Fin 1) (y 1) (y 2) (y 3) := by
      funext a
      fin_cases a
      · exact Subsingleton.elim (α := Fin 1) _ _
      · rfl
      · rfl
      · rfl
    refine Eq.trans ?_ ((congrArg X hy).trans (hX (y 1) (y 2) (y 3) hl)).symm
    refine Eq.trans ?_ (show res9 m c (ix4 (bat t) (y 1) (hdx t (y 2)) ⟨(y 3).val, hl⟩) = _ from rfl)
    unfold rblk9
    blk_simp
    refine congrArg (res9 m c) ?_
    blk_ext [e0_9]
    show (grp2 t).val * 8 + (y 2).val = 8 * (grp2 t).val + (y 2).val
    omega
  · rfl

/-- Result 1: the gradient `dk` of every head. -/
def res10 (c : Dev nD) : FVec Ideal S36x257x16x104 .bf16 := fun y => (ahd m c (y 0) (y 2)).dk (y 1) (y 3)
/-- Its block at a grid point. -/
def rblk10 (c : Dev nD) (t : Fin cfg0.N) : ((cfg0.win 10).xblock (cfg0.grid.coords t)).Idx → Elt Ideal (cfg0.win 10).elt :=
  ((cfg0.win 10).blk t).view.read (Elt Ideal) (res10 m c)

theorem e0_10 : ∀ t : Fin cfg0.N, win0_10.index t = ![(bat t).val, 0, (grp2 t).val, 0] := (by decide +kernel : ∀ t : Fin grid0.N, _)
theorem xs0_10 : ∀ t : Fin cfg0.N, ∀ a, (cfg0.win 10).xsize (cfg0.grid.coords t) a = (![1, 257, 8, 104] : Fin 4 → ℕ) a := by decide +kernel

/-- Contents that hold the gradients of the point's heads are filled with the result's block. -/
theorem fillr10 (c : Dev nD) (t : Fin cfg0.N) (X : Vec Ideal S1x257x8x128 .bf16)
    (hX : ∀ (r : Fin 257) (h : Fin 8) (l : Fin 128) (hl : l.val < 104), X (ix4 (0 : Fin 1) r h l) = (ahd m c (bat t) (hdx t h)).dk r ⟨l.val, hl⟩) :
    (cfg0.win 10).fill (cfg0.grid.coords t) X (rblk10 m c t) = X := by
  funext y
  unfold Pipeline.Window.fill
  split
  · rename_i hm
    have hl : (y 3).val < 104 := by
      have := ((cfg0.win 10).moved_iff _ _).mp hm 3
      rw [xs0_10 t 3] at this
      exact this
    have hy : y = ix4 (0 : Fin 1) (y 1) (y 2) (y 3) := by
      funext a
      fin_cases a
      · exact Subsingleton.elim (α := Fin 1) _ _
      · rfl
      · rfl
      · rfl
    refine Eq.trans ?_ ((congrArg X hy).trans (hX (y 1) (y 2) (y 3) hl)).symm
    refine Eq.trans ?_ (show res10 m c (ix4 (bat t) (y 1) (hdx t (y 2)) ⟨(y 3).val, hl⟩) = _ from rfl)
    unfold rblk10
    blk_simp
    refine congrArg (res10 m c) ?_
    blk_ext [e0_10]
    show (grp2 t).val * 8 + (y 2).val = 8 * (grp2 t).val + (y 2).val
    omega
  · rfl

/-- Result 2: the gradient `dv` of every head. -/
def res11 (c : Dev nD) : FVec Ideal S36x257x16x104 .bf16 := fun y => (ahd m c (y 0) (y 2)).dv (y 1) (y 3)
/-- Its block at a grid point. -/
def rblk11 (c : Dev nD) (t : Fin cfg0.N) : ((cfg0.win 11).xblock (cfg0.grid.coords t)).Idx → Elt Ideal (cfg0.win 11).elt :=
  ((cfg0.win 11).blk t).view.read (Elt Ideal) (res11 m c)

theorem e0_11 : ∀ t : Fin cfg0.N, win0_11.index t = ![(bat t).val, 0, (grp2 t).val, 0] := (by decide +kernel : ∀ t : Fin grid0.N, _)
theorem xs0_11 : ∀ t : Fin cfg0.N, ∀ a, (cfg0.win 11).xsize (cfg0.grid.coords t) a = (![1, 257, 8, 104] : Fin 4 → ℕ) a := by decide +kernel

/-- Contents that hold the gradients of the point's heads are filled with the result's block. -/
theorem fillr11 (c : Dev nD) (t : Fin cfg0.N) (X : Vec Ideal S1x257x8x128 .bf16)
    (hX : ∀ (r : Fin 257) (h : Fin 8) (l : Fin 128) (hl : l.val < 104), X (ix4 (0 : Fin 1) r h l) = (ahd m c (bat t) (hdx t h)).dv r ⟨l.val, hl⟩) :
    (cfg0.win 11).fill (cfg0.grid.coords t) X (rblk11 m c t) = X := by
  funext y
  unfold Pipeline.Window.fill
  split
  · rename_i hm
    have hl : (y 3).val < 104 := by
      have := ((cfg0.win 11).moved_iff _ _).mp hm 3
      rw [xs0_11 t 3] at this
      exact this
    have hy : y = ix4 (0 : Fin 1) (y 1) (y 2) (y 3) := by
      funext a
      fin_cases a
      · exact Subsingleton.elim (α := Fin 1) _ _
      · rfl
      · rfl
      · rfl
    refine Eq.trans ?_ ((congrArg X hy).trans (hX (y 1) (y 2) (y 3) hl)).symm
    refine Eq.trans ?_ (show res11 m c (ix4 (bat t) (y 1) (hdx t (y 2)) ⟨(y 3).val, hl⟩) = _ from rfl)
    unfold rblk11
    blk_simp
    refine congrArg (res11 m c) ?_
    blk_ext [e0_11]
    show (grp2 t).val * 8 + (y 2).val = 8 * (grp2 t).val + (y 2).val
    omega
  · rfl

/-- The proof data: the arrays as the region finds them; after the body the inputs' blocks and the results'. -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (cfg0.grid.coords t) (fun _ => Classical.choice inferInstance) (iblk m c 0 t)
    | ⟨1, _⟩ => (cfg0.win 1).fill (cfg0.grid.coords t) (fun _ => Classical.choice inferInstance) (iblk m c 1 t)
    | ⟨2, _⟩ => X0_2 m c t
    | ⟨3, _⟩ => X0_3 m c t
    | ⟨4, _⟩ => (cfg0.win 4).fill (cfg0.grid.coords t) (fun _ => Classical.choice inferInstance) (iblk m c 4 t)
    | ⟨5, _⟩ => iblk m c 5 t
    | ⟨6, _⟩ => (cfg0.win 6).fill (cfg0.grid.coords t) (fun _ => Classical.choice inferInstance) (iblk m c 6 t)
    | ⟨7, _⟩ => iblk m c 7 t
    | ⟨8, _⟩ => (cfg0.win 8).fill (cfg0.grid.coords t) (fun _ => Classical.choice inferInstance) (iblk m c 8 t)
    | ⟨9, _⟩ => (cfg0.win 9).fill (cfg0.grid.coords t) (fun _ => Classical.choice inferInstance) (rblk9 m c t)
    | ⟨10, _⟩ => (cfg0.win 10).fill (cfg0.grid.coords t) (fun _ => Classical.choice inferInstance) (rblk10 m c t)
    | ⟨11, _⟩ => (cfg0.win 11).fill (cfg0.grid.coords t) (fun _ => Classical.choice inferInstance) (rblk11 m c t)
  Φ _ := Pipeline.ΦA spec0 c
  q w := Pipeline.shareOf spec0 w
  owed _ := 0

theorem before0 (c : Dev nD) (t : Fin cfg0.N) (d) : (dats m 0 c).before 0 t d = (cfg0.win 0).fill (cfg0.grid.coords t) d (iblk m c 0 t) := by
  unfold Dat.before; rw [if_pos (fetch0_0 t)]; rfl
theorem cut0 (c : Dev nD) (t : Fin cfg0.N) : (cfg0.win 0).cut (cfg0.grid.coords t) ((dats m 0 c).after 0 t) = iblk m c 0 t :=
  (cfg0.win 0).cut_fill _ _ _
theorem before1 (c : Dev nD) (t : Fin cfg0.N) (d) : (dats m 0 c).before 1 t d = (cfg0.win 1).fill (cfg0.grid.coords t) d (iblk m c 1 t) := by
  unfold Dat.before; rw [if_pos (fetch0_1 t)]; rfl
theorem cut1 (c : Dev nD) (t : Fin cfg0.N) : (cfg0.win 1).cut (cfg0.grid.coords t) ((dats m 0 c).after 1 t) = iblk m c 1 t :=
  (cfg0.win 1).cut_fill _ _ _
theorem before4 (c : Dev nD) (t : Fin cfg0.N) (d) : (dats m 0 c).before 4 t d = (cfg0.win 4).fill (cfg0.grid.coords t) d (iblk m c 4 t) := by
  unfold Dat.before; rw [if_pos (fetch0_4 t)]; rfl
theorem cut4 (c : Dev nD) (t : Fin cfg0.N) : (cfg0.win 4).cut (cfg0.grid.coords t) ((dats m 0 c).after 4 t) = iblk m c 4 t :=
  (cfg0.win 4).cut_fill _ _ _
theorem before6 (c : Dev nD) (t : Fin cfg0.N) (d) : (dats m 0 c).before 6 t d = (cfg0.win 6).fill (cfg0.grid.coords t) d (iblk m c 6 t) := by
  unfold Dat.before; rw [if_pos (fetch0_6 t)]; rfl
theorem cut6 (c : Dev nD) (t : Fin cfg0.N) : (cfg0.win 6).cut (cfg0.grid.coords t) ((dats m 0 c).after 6 t) = iblk m c 6 t :=
  (cfg0.win 6).cut_fill _ _ _
theorem before8 (c : Dev nD) (t : Fin cfg0.N) (d) : (dats m 0 c).before 8 t d = (cfg0.win 8).fill (cfg0.grid.coords t) d (iblk m c 8 t) := by
  unfold Dat.before; rw [if_pos (fetch0_8 t)]; rfl
theorem cut8 (c : Dev nD) (t : Fin cfg0.N) : (cfg0.win 8).cut (cfg0.grid.coords t) ((dats m 0 c).after 8 t) = iblk m c 8 t :=
  (cfg0.win 8).cut_fill _ _ _
theorem before2 (c : Dev nD) (t : Fin cfg0.N) (d) : (dats m 0 c).before 2 t d = X0_2 m c t :=
  before0_2_of m (dats m 0 c) rfl (fun _ => rfl) t d
theorem before3 (c : Dev nD) (t : Fin cfg0.N) (d) : (dats m 0 c).before 3 t d = X0_3 m c t :=
  before0_3_of m (dats m 0 c) rfl (fun _ => rfl) t d
theorem before5 (c : Dev nD) (t : Fin cfg0.N) (d) : (dats m 0 c).before 5 t d = iblk m c 5 t :=
  before0_5_of m (dats m 0 c) rfl (fun _ => rfl) t d
theorem before7 (c : Dev nD) (t : Fin cfg0.N) (d) : (dats m 0 c).before 7 t d = iblk m c 7 t :=
  before0_7_of m (dats m 0 c) rfl (fun _ => rfl) t d
theorem cut9 (c : Dev nD) (t : Fin cfg0.N) : (cfg0.win 9).cut (cfg0.grid.coords t) ((dats m 0 c).after 9 t) = rblk9 m c t :=
  (cfg0.win 9).cut_fill _ _ _
theorem cut10 (c : Dev nD) (t : Fin cfg0.N) : (cfg0.win 10).cut (cfg0.grid.coords t) ((dats m 0 c).after 10 t) = rblk10 m c t :=
  (cfg0.win 10).cut_fill _ _ _
theorem cut11 (c : Dev nD) (t : Fin cfg0.N) : (cfg0.win 11).cut (cfg0.grid.coords t) ((dats m 0 c).after 11 t) = rblk11 m c t :=
  (cfg0.win 11).cut_fill _ _ _

theorem fillcut2 (c : Dev nD) (t : Fin cfg0.N) (d) : (cfg0.win 2).fill (cfg0.grid.coords t) d ((cfg0.win 2).cut (cfg0.grid.coords t) ((dats m 0 c).after 2 t)) = X0_2 m c t :=
  (fill0_2 t d dflt0_2 _).trans (congrArg _ ((cfg0.win 2).cut_fill _ _ _))
theorem fillcut3 (c : Dev nD) (t : Fin cfg0.N) (d) : (cfg0.win 3).fill (cfg0.grid.coords t) d ((cfg0.win 3).cut (cfg0.grid.coords t) ((dats m 0 c).after 3 t)) = X0_3 m c t :=
  (fill0_3 t d dflt0_3 _).trans (congrArg _ ((cfg0.win 3).cut_fill _ _ _))

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
/-- What the body returns at point `t`. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ (∃ d, owns (c : Thread nD τ) (st0_6 t) fullShare ((cfg0.win 6).fill (cfg0.grid.coords t) d ((cfg0.win 6).cut (cfg0.grid.coords t) ((dats m 0 c).after 6 t))))
    ∗ owns (c : Thread nD τ) (st0_7 t) fullShare ((dats m 0 c).after 7 t)
    ∗ (∃ d, owns (c : Thread nD τ) (st0_8 t) fullShare ((cfg0.win 8).fill (cfg0.grid.coords t) d ((cfg0.win 8).cut (cfg0.grid.coords t) ((dats m 0 c).after 8 t))))
    ∗ (∃ d, owns (c : Thread nD τ) (st0_9 t) fullShare ((cfg0.win 9).fill (cfg0.grid.coords t) d ((cfg0.win 9).cut (cfg0.grid.coords t) ((dats m 0 c).after 9 t))))
    ∗ (∃ d, owns (c : Thread nD τ) (st0_10 t) fullShare ((cfg0.win 10).fill (cfg0.grid.coords t) d ((cfg0.win 10).cut (cfg0.grid.coords t) ((dats m 0 c).after 10 t))))
    ∗ (∃ d, owns (c : Thread nD τ) (st0_11 t) fullShare ((cfg0.win 11).fill (cfg0.grid.coords t) d ((cfg0.win 11).cut (cfg0.grid.coords t) ((dats m 0 c).after 11 t)))))

variable (h0 : ∀ (c : Dev nD) (b : Fin 36) (h : Fin 16), 0 ≤ (ahd m c b h).vs) (h1 : ∀ (c : Dev nD) (b : Fin 36) (h : Fin 16), (ahd m c b h).vs ≠ ⊤)

include h0 h1 in
/-- The body at a point. -/
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    show (dats m 0 c).after 5 t = iblk m c 5 t from rfl, show (dats m 0 c).after 7 t = iblk m c 7 t from rfl]
  simp only [before0 m c t, before1 m c t, before2 m c t, before3 m c t, before4 m c t, before5 m c t, before6 m c t, before7 m c t, before8 m c t, cut0 m c t, cut1 m c t, cut4 m c t, cut6 m c t, cut8 m c t, cut9 m c t, cut10 m c t, cut11 m c t, fillcut2 m c t, fillcut3 m c t]
  unfold Pipeline.ΦA
  rw [scopedRest0_eq]
  simp only [owns_eq_pt c (st0_0 t) (hstage0_0 ((cfg0.slots t 0).cast nbuf0_0)), owns_eq_pt c (st0_1 t) (hstage0_1 ((cfg0.slots t 1).cast nbuf0_1)), owns_eq_pt c (st0_2 t) (hstage0_2 ((cfg0.slots t 2).cast nbuf0_2)), owns_eq_pt c (st0_3 t) (hstage0_3 ((cfg0.slots t 3).cast nbuf0_3)), owns_eq_pt c (st0_4 t) (hstage0_4 ((cfg0.slots t 4).cast nbuf0_4)), owns_eq_pt c (st0_5 t) (hstage0_5 ((cfg0.slots t 5).cast nbuf0_5)), owns_eq_pt c (st0_6 t) (hstage0_6 ((cfg0.slots t 6).cast nbuf0_6)), owns_eq_pt c (st0_7 t) (hstage0_7 ((cfg0.slots t 7).cast nbuf0_7)), owns_eq_pt c (st0_8 t) (hstage0_8 ((cfg0.slots t 8).cast nbuf0_8)), owns_eq_pt c (st0_9 t) (hstage0_9 ((cfg0.slots t 9).cast nbuf0_9)), owns_eq_pt c (st0_10 t) (hstage0_10 ((cfg0.slots t 10).cast nbuf0_10)), owns_eq_pt c (st0_11 t) (hstage0_11 ((cfg0.slots t 11).cast nbuf0_11))]
  iintro ⟨⟨⟨⟨%g0, HS0⟩, ⟨%g1, HS1⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hx : ∃ x : In Ideal c, x = {
      M0 := st0_0 t, h0 := hstage0_0 ((cfg0.slots t 0).cast nbuf0_0), X0 := (cfg0.win 0).fill (cfg0.grid.coords t) d0 (iblk m c 0 t),
      M1 := st0_1 t, h1 := hstage0_1 ((cfg0.slots t 1).cast nbuf0_1), X1 := (cfg0.win 1).fill (cfg0.grid.coords t) d1 (iblk m c 1 t),
      M2 := st0_2 t, h2 := hstage0_2 ((cfg0.slots t 2).cast nbuf0_2), X2 := X0_2 m c t,
      M3 := st0_3 t, h3 := hstage0_3 ((cfg0.slots t 3).cast nbuf0_3), X3 := X0_3 m c t,
      M4 := st0_4 t, h4 := hstage0_4 ((cfg0.slots t 4).cast nbuf0_4), X4 := (cfg0.win 4).fill (cfg0.grid.coords t) d4 (iblk m c 4 t),
      M5 := st0_5 t, h5 := hstage0_5 ((cfg0.slots t 5).cast nbuf0_5), X5 := iblk m c 5 t,
      M6 := st0_6 t, h6 := hstage0_6 ((cfg0.slots t 6).cast nbuf0_6), X6 := (cfg0.win 6).fill (cfg0.grid.coords t) d6 (iblk m c 6 t),
      M7 := st0_7 t, h7 := hstage0_7 ((cfg0.slots t 7).cast nbuf0_7), X7 := iblk m c 7 t,
      M8 := st0_8 t, h8 := hstage0_8 ((cfg0.slots t 8).cast nbuf0_8), X8 := (cfg0.win 8).fill (cfg0.grid.coords t) d8 (iblk m c 8 t),
      M12 := Memref.whole cc0_scratch0, h12 := Memref.isWhole_whole _, f12 := g0,
      M13 := Memref.whole cc0_scratch1, h13 := Memref.isWhole_whole _, f13 := g1 } := ⟨_, rfl⟩
  obtain ⟨x, hx⟩ := hx
  have hd' : ∀ h : Fin 8, hd x h = ahd m c (bat t) (hdx t h) :=
    hd_eq m c x t d0 d1 d4 d6 d8 (by rw [hx]) (by rw [hx]) (by rw [hx]) (by rw [hx]) (by rw [hx]) (by rw [hx]) (by rw [hx]) (by rw [hx]) (by rw [hx])
  obtain ⟨W, hW9, hW10, hW11, hW⟩ := step x (fun h => by rw [hd']; exact h0 c _ _) (fun h => by rw [hd']; exact h1 c _ _) (grid0.coords t)
    (st0_9 t) (hstage0_9 ((cfg0.slots t 9).cast nbuf0_9)) (st0_10 t) (hstage0_10 ((cfg0.slots t 10).cast nbuf0_10)) (st0_11 t) (hstage0_11 ((cfg0.slots t 11).cast nbuf0_11))
  subst hx
  have e9 : (hstage0_9 ((cfg0.slots t 9).cast nbuf0_9)).unread ((cfg0.win 9).fill (cfg0.grid.coords t) ((st0_9 t).view.read (Elt Ideal) W.1) (rblk9 m c t)) = W.1 :=
    (congrArg _ (fillr9 m c t _ fun r h l hl => (hW9 r h l hl).trans (by rw [hd']))).trans ((hstage0_9 ((cfg0.slots t 9).cast nbuf0_9)).eq_unread rfl).symm
  have e10 : (hstage0_10 ((cfg0.slots t 10).cast nbuf0_10)).unread ((cfg0.win 10).fill (cfg0.grid.coords t) ((st0_10 t).view.read (Elt Ideal) W.2.1) (rblk10 m c t)) = W.2.1 :=
    (congrArg _ (fillr10 m c t _ fun r h l hl => (hW10 r h l hl).trans (by rw [hd']))).trans ((hstage0_10 ((cfg0.slots t 10).cast nbuf0_10)).eq_unread rfl).symm
  have e11 : (hstage0_11 ((cfg0.slots t 11).cast nbuf0_11)).unread ((cfg0.win 11).fill (cfg0.grid.coords t) ((st0_11 t).view.read (Elt Ideal) W.2.2) (rblk11 m c t)) = W.2.2 :=
    (congrArg _ (fillr11 m c t _ fun r h l hl => (hW11 r h l hl).trans (by rw [hd']))).trans ((hstage0_11 ((cfg0.slots t 11).cast nbuf0_11)).eq_unread rfl).symm
  iapply (hW ((hstage0_9 ((cfg0.slots t 9).cast nbuf0_9)).unread ((dats m 0 c).before 9 t d9)) ((hstage0_10 ((cfg0.slots t 10).cast nbuf0_10)).unread ((dats m 0 c).before 10 t d10)) ((hstage0_11 ((cfg0.slots t 11).cast nbuf0_11)).unread ((dats m 0 c).before 11 t d11)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]; · iexact HS0
      iexact HS1
    iexact Hg
  isplitl [HO]; · iexact HO
  isplitl [H0]; · iexists d0; iexact H0
  isplitl [H1]; · iexists d1; iexact H1
  isplitl [H2]; · iexists d2; iexact H2
  isplitl [H3]; · iexists d3; iexact H3
  isplitl [H4]; · iexists d4; iexact H4
  isplitl [H5]; · iexact H5
  isplitl [H6]; · iexists d6; iexact H6
  isplitl [H7]; · iexact H7
  isplitl [H8]; · iexists d8; iexact H8
  isplitl [H9]; · iexists ((st0_9 t).view.read (Elt Ideal) W.1); rw [e9]; iexact H9
  isplitl [H10]; · iexists ((st0_10 t).view.read (Elt Ideal) W.2.1); rw [e10]; iexact H10
  iexists ((st0_11 t).view.read (Elt Ideal) W.2.2); rw [e11]; iexact H11

include h0 h1 in
theorem body_obligation (c : Dev nD) : BodyObligationLoose (dats m 0 c) (defs₀ (F := Ideal)) Variants.none () Set.univ := fun t => by
  rw [bigSep_W0, bigSep_W0, defs₀_row]
  exact triple_restated (sound_body m h0 h1 c t) rfl .rfl fun _ => .rfl

theorem A_eq (c : Dev nD) (w : Fin cfg0.W) : (dats m 0 c).A w = V m c (Pipeline.arrRef spec0 w) := rfl

set_option backward.isDefEq.respectTransparency.types false in
include h0 h1 in
theorem run_main : θ_run defs (onTc (τ := τ) (main (F := Ideal))) (s₀ m ρ) (Pipeline.FramePost cfgs (dats m) 0 (V m)) :=
  Pipeline.θ_run_frame_shared cfgs (dats m) (0 : Fin 1) launch₀0 defs₀ Variants.none m ρ main
    (hbody := fun c => body_obligation m h0 h1 c) (hq := fun _ _ _ => rfl)
    (howed := fun _ _ => rfl) (V := V m) (hmain := hmain m Variants.none) (hA := A_eq m) (hΦ := fun _ _ => rfl)

theorem final9 (c : Dev nD) : (dats m 0 c).arrAt 9 cfg0.N = res9 m c := by
  refine (dats m 0 c).arrAt_eq_of_covers 9 _ (by decide +kernel) fun t hf y => ?_
  have e := congrFun (cut9 m c t) y
  exact e

theorem final10 (c : Dev nD) : (dats m 0 c).arrAt 10 cfg0.N = res10 m c := by
  refine (dats m 0 c).arrAt_eq_of_covers 10 _ (by decide +kernel) fun t hf y => ?_
  have e := congrFun (cut10 m c t) y
  exact e

theorem final11 (c : Dev nD) : (dats m 0 c).arrAt 11 cfg0.N = res11 m c := by
  refine (dats m 0 c).arrAt_eq_of_covers 11 _ (by decide +kernel) fun t hf y => ?_
  have e := congrFun (cut11 m c t) y
  exact e

include h0 h1 in
/-- Every run ends with the three gradients in the result arrays and the arguments unchanged. -/
theorem values : θ_run defs (onTc (τ := τ) (main (F := Ideal))) ⟨m, fun _ => 0, ρ⟩ (fun r => ∀ c : Dev nD,
      r.2.mem ((c.tc : Thread nD τ).loc main_v2_0) = res9 m c
      ∧ r.2.mem ((c.tc : Thread nD τ).loc main_v2_1) = res10 m c
      ∧ r.2.mem ((c.tc : Thread nD τ).loc main_v2_2) = res11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (θ_run_and (run_main m ρ h0 h1) (frame_of m ρ (dats m) (A_eq m) (run_main m ρ h0 h1))) fun r h c =>
    ⟨((h.1 c).1 9).trans (final9 m c), ((h.1 c).1 10).trans (final10 m c), ((h.1 c).1 11).trans (final11 m c), h.2 c⟩

end Cert.KernelIdeal.Hand

end
-- ==== Proof.RefRun.lean ====
/-
  What the reference leaves: its three results in closed form.
-/

module

public import proofs.«01_k».proof.Proof.Spec
public import proofs.«01_k».proof.Proof.Gen.ReferenceIdeal.Frame
public import Idealize.ShloMosaic.Lib.Pipeline.ValueKit
public import Idealize.ShloMosaic.Lib.Claim

@[expose] public section

set_option maxRecDepth 16384
set_option maxHeartbeats 4000000

noncomputable section

namespace Cert.ReferenceIdeal.Hand

open Cert.ReferenceIdeal Cert.ReferenceIdeal.Gen

open Idealize.ShloMosaic
open Idealize.ShloMosaic.TcCoe

/-- What head `h` of batch entry `b` reads of the arguments, the codes and the value rows already turned into numbers. -/
def hdOf (q k : FVec Ideal S36x257x16x104 .bf16) (p : FVec Ideal S36x16x257x257 .f32) (ps : FVec Ideal S36x16x257 .f32)
    (v : FVec Ideal S36x257x16x104 .bf16) (vs : FVec Ideal S36x16 .f32) (dO : FVec Ideal S36x257x16x104 .bf16) (b : Fin 36) (h : Fin 16) : Attn.Head where
  q i l := q (ix4 b i h l)
  k j l := k (ix4 b j h l)
  v j d := v (ix4 b j h d)
  dO i d := dO (ix4 b i h d)
  p j i := p (ix4 b h i j)
  ps i := ps (ix3 b h i)
  vs := vs (ix2 b h)

theorem dv_turned (H : Attn.Head) (i : Fin 257) (l : Fin 104) : H.dv i l = ∑ x, H.dO x l * (H.p i x * H.ps x) := by
  unfold Attn.Head.dv Attn.Head.w
  exact Finset.sum_congr rfl fun x _ => mul_comm _ _

theorem prod_turned (H : Attn.Head) (j i : Fin 257) : H.prod j i = ∑ d, H.dO i d * H.v j d :=
  Finset.sum_congr rfl fun x _ => mul_comm _ _

theorem ds_turned (H : Attn.Head) (j i : Fin 257) : H.ds j i = H.p j i * H.ps i * ((∑ d, H.dO i d * H.v j d) * H.vs
    - ∑ x, (∑ d, H.dO i d * H.v x d) * H.vs * (H.p x i * H.ps i)) := by
  unfold Attn.Head.ds Attn.Head.w
  simp only [prod_turned]

theorem dq_turned (H : Attn.Head) (i : Fin 257) (l : Fin 104) : H.dq i l = Attn.scl * ∑ x, H.k x l * (H.p x i * H.ps i * ((∑ d, H.dO i d * H.v x d) * H.vs
    - ∑ y, (∑ d, H.dO i d * H.v y d) * H.vs * (H.p y i * H.ps i))) := by
  unfold Attn.Head.dq
  refine (mul_comm _ _).trans (congrArg (Attn.scl * ·) (Finset.sum_congr rfl fun x _ => ?_))
  rw [mul_comm, ds_turned]

theorem dk_turned (H : Attn.Head) (j : Fin 257) (l : Fin 104) : H.dk j l = Attn.scl * ∑ x, H.q x l * (H.p j x * H.ps x * ((∑ d, H.dO x d * H.v j d) * H.vs
    - ∑ y, (∑ d, H.dO x d * H.v y d) * H.vs * (H.p y x * H.ps x))) := by
  unfold Attn.Head.dk
  refine (mul_comm _ _).trans (congrArg (Attn.scl * ·) (Finset.sum_congr rfl fun x _ => ?_))
  rw [mul_comm, ds_turned]

/-- The value gradient the last lines of the program leave. -/
theorem read32 (X : Valuation τ sig (Elt Ideal)) (b : Fin 36) (i : Fin 257) (h : Fin 16) (l : Fin 104) :
    (StableHlo.after hostOps1 X (Proc.devRef .tc main_v32) (ix4 b i h l) : EReal)
      = (hdOf (X (Proc.tc.devRef main_arg0)) (X (Proc.tc.devRef main_arg1)) (X (Proc.tc.devRef main_v0_0)) (X (Proc.tc.devRef main_arg3))
          (X (Proc.tc.devRef main_v0_1)) (X (Proc.tc.devRef main_arg5)) (X (Proc.tc.devRef main_arg6)) b h).dv i l := by
  unfold_abbrev_sides
  after_results_simp
  generalize X (Proc.tc.devRef main_v0_0) = c, X (Proc.tc.devRef main_v0_1) = v, X (Proc.tc.devRef main_arg0) = q, X (Proc.tc.devRef main_arg1) = k, X (Proc.tc.devRef main_arg3) = ps, X (Proc.tc.devRef main_arg5) = vs, X (Proc.tc.devRef main_arg6) = dO
  generalize hr : (hdOf q k c ps v vs dO b h).dv i l = r
  pointwise []
  subst hr
  exact (dv_turned (hdOf q k c ps v vs dO b h) i l).symm

/-- The query gradient the last lines of the program leave. -/
theorem read30 (X : Valuation τ sig (Elt Ideal)) (b : Fin 36) (i : Fin 257) (h : Fin 16) (l : Fin 104) :
    (StableHlo.after hostOps1 X (Proc.devRef .tc main_v30) (ix4 b i h l) : EReal)
      = (hdOf (X (Proc.tc.devRef main_arg0)) (X (Proc.tc.devRef main_arg1)) (X (Proc.tc.devRef main_v0_0)) (X (Proc.tc.devRef main_arg3))
          (X (Proc.tc.devRef main_v0_1)) (X (Proc.tc.devRef main_arg5)) (X (Proc.tc.devRef main_arg6)) b h).dq i l := by
  unfold_abbrev_sides
  after_results_simp
  generalize X (Proc.tc.devRef main_v0_0) = c, X (Proc.tc.devRef main_v0_1) = v, X (Proc.tc.devRef main_arg0) = q, X (Proc.tc.devRef main_arg1) = k, X (Proc.tc.devRef main_arg3) = ps, X (Proc.tc.devRef main_arg5) = vs, X (Proc.tc.devRef main_arg6) = dO
  generalize hr : (hdOf q k c ps v vs dO b h).dq i l = r
  pointwise []
  subst hr
  exact (dq_turned (hdOf q k c ps v vs dO b h) i l).symm

/-- The key gradient the last lines of the program leave. -/
theorem read31 (X : Valuation τ sig (Elt Ideal)) (b : Fin 36) (i : Fin 257) (h : Fin 16) (l : Fin 104) :
    (StableHlo.after hostOps1 X (Proc.devRef .tc main_v31) (ix4 b i h l) : EReal)
      = (hdOf (X (Proc.tc.devRef main_arg0)) (X (Proc.tc.devRef main_arg1)) (X (Proc.tc.devRef main_v0_0)) (X (Proc.tc.devRef main_arg3))
          (X (Proc.tc.devRef main_v0_1)) (X (Proc.tc.devRef main_arg5)) (X (Proc.tc.devRef main_arg6)) b h).dk i l := by
  unfold_abbrev_sides
  after_results_simp
  generalize X (Proc.tc.devRef main_v0_0) = c, X (Proc.tc.devRef main_v0_1) = v, X (Proc.tc.devRef main_arg0) = q, X (Proc.tc.devRef main_arg1) = k, X (Proc.tc.devRef main_arg3) = ps, X (Proc.tc.devRef main_arg5) = vs, X (Proc.tc.devRef main_arg6) = dO
  generalize hr : (hdOf q k c ps v vs dO b h).dk i l = r
  pointwise []
  subst hr
  exact (dk_turned (hdOf q k c ps v vs dO b h) i l).symm

theorem out2_at (x0 : Vec Ideal S36x16x257x257 .i8) (x1 : Vec Ideal S36x257x16x104 .fp8e4m3) (y) :
    out0_2 x0 x1 y = FloatOps.sitofp (F := Ideal) .f32 (x0 y) := by
  unfold out0_2
  frame_out
  pointwise [k0_pay1]

theorem out3_at (x0 : Vec Ideal S36x16x257x257 .i8) (x1 : Vec Ideal S36x257x16x104 .fp8e4m3) (y) :
    out0_3 x0 x1 y = x1 y := by
  unfold out0_3
  frame_out
  pointwise [k0_pay2]

variable (m : (ℓ : Loc nD τ sig) → Buf (Elt Ideal) ℓ) (ρ : Dev nD → PrngReg)

theorem arr2 (c : Dev nD) : (dats m 0 c).arrAt 2 (cfgs 0).N = fun y => FloatOps.sitofp (F := Ideal) .f32 (m (c, Proc.devRef .tc main_arg2) y) := by
  refine (dats m 0 c).arrAt_eq_of_covers 2 _ (by decide +kernel) fun t hf y => ?_
  rw [after0_2, out2_at]
  blk_simp [iblk]
  rfl

theorem arr3 (c : Dev nD) : (dats m 0 c).arrAt 3 (cfgs 0).N = fun y => m (c, Proc.devRef .tc main_arg4) y := by
  refine (dats m 0 c).arrAt_eq_of_covers 3 _ (by decide +kernel) fun t hf y => ?_
  rw [after0_3, out3_at]
  blk_simp [iblk]
  rfl

theorem winVal (c : Dev nD) (b : Ref sig .tc) (hb : ∀ w, Pipeline.arrRef spec0 w ≠ b) :
    Pipeline.withArrays spec0 c (V0 m c) (fun w => (dats m 0 c).arrAt w (cfgs 0).N) (Proc.devRef .tc b) = V0 m c (Proc.devRef .tc b) :=
  Pipeline.withArrays_of_ne spec0 c (V0 m c) _ b hb

/-- What head `h` of batch entry `b` reads of the memory. -/
def hd (c : Dev nD) (b : Fin 36) (h : Fin 16) : Attn.Head :=
  hdOf (m (c, Proc.devRef .tc main_arg0)) (m (c, Proc.devRef .tc main_arg1)) (fun y => FloatOps.sitofp (F := Ideal) .f32 (m (c, Proc.devRef .tc main_arg2) y))
    (m (c, Proc.devRef .tc main_arg3)) (fun y => m (c, Proc.devRef .tc main_arg4) y) (m (c, Proc.devRef .tc main_arg5)) (m (c, Proc.devRef .tc main_arg6)) b h

theorem hd_eq (c : Dev nD) (b : Fin 36) (h : Fin 16) (X : Valuation τ sig (Elt Ideal))
    (hX : X = Pipeline.withArrays spec0 c (V0 m c) fun w => (dats m 0 c).arrAt w (cfgs 0).N) :
    hdOf (X (Proc.tc.devRef main_arg0)) (X (Proc.tc.devRef main_arg1)) (X (Proc.tc.devRef main_v0_0)) (X (Proc.tc.devRef main_arg3))
          (X (Proc.tc.devRef main_v0_1)) (X (Proc.tc.devRef main_arg5)) (X (Proc.tc.devRef main_arg6)) b h = hd m c b h := by
  have e0 : X (Proc.tc.devRef main_arg0) = m (c, Proc.devRef .tc main_arg0) := by rw [hX, winVal m c main_arg0 (by decide)]; rfl
  have e1 : X (Proc.tc.devRef main_arg1) = m (c, Proc.devRef .tc main_arg1) := by rw [hX, winVal m c main_arg1 (by decide)]; rfl
  have e3 : X (Proc.tc.devRef main_arg3) = m (c, Proc.devRef .tc main_arg3) := by rw [hX, winVal m c main_arg3 (by decide)]; rfl
  have e5 : X (Proc.tc.devRef main_arg5) = m (c, Proc.devRef .tc main_arg5) := by rw [hX, winVal m c main_arg5 (by decide)]; rfl
  have e6 : X (Proc.tc.devRef main_arg6) = m (c, Proc.devRef .tc main_arg6) := by rw [hX, winVal m c main_arg6 (by decide)]; rfl
  have e2 : X (Proc.tc.devRef main_v0_0) = fun y => FloatOps.sitofp (F := Ideal) .f32 (m (c, Proc.devRef .tc main_arg2) y) := by
    rw [hX]
    exact (Pipeline.withArrays_arr spec0 (by decide) c _ _ 2).trans (arr2 m c)
  have e4 : X (Proc.tc.devRef main_v0_1) = fun y => m (c, Proc.devRef .tc main_arg4) y := by
    rw [hX]
    exact (Pipeline.withArrays_arr spec0 (by decide) c _ _ 3).trans (arr3 m c)
  rw [e0, e1, e2, e3, e4, e5, e6]
  rfl

/-- The array `main_v30` ends with. -/
def res30 (c : Dev nD) : FVec Ideal S36x257x16x104 .bf16 := fun y => (hd m c (y 0) (y 2)).dq (y 1) (y 3)

theorem tail30 (c : Dev nD) : Pipeline.afterTail₀ cfgs (dats m) 0 (V0 m) [hostOps1] c main_v30 = res30 m c := by
  refine funext fun (y : S36x257x16x104.Idx) => ?_
  obtain ⟨b, i, h, l, rfl⟩ : ∃ (b : Fin 36) (i : Fin 257) (h : Fin 16) (l : Fin 104), y = ix4 b i h l := ⟨y 0, y 1, y 2, y 3, eq_ix4 y⟩
  have e := read30 (Pipeline.withArrays spec0 c (V0 m c) fun w => (dats m 0 c).arrAt w (cfgs 0).N) b i h l
  rw [hd_eq m c b h _ rfl] at e
  exact e

/-- The array `main_v31` ends with. -/
def res31 (c : Dev nD) : FVec Ideal S36x257x16x104 .bf16 := fun y => (hd m c (y 0) (y 2)).dk (y 1) (y 3)

theorem tail31 (c : Dev nD) : Pipeline.afterTail₀ cfgs (dats m) 0 (V0 m) [hostOps1] c main_v31 = res31 m c := by
  refine funext fun (y : S36x257x16x104.Idx) => ?_
  obtain ⟨b, i, h, l, rfl⟩ : ∃ (b : Fin 36) (i : Fin 257) (h : Fin 16) (l : Fin 104), y = ix4 b i h l := ⟨y 0, y 1, y 2, y 3, eq_ix4 y⟩
  have e := read31 (Pipeline.withArrays spec0 c (V0 m c) fun w => (dats m 0 c).arrAt w (cfgs 0).N) b i h l
  rw [hd_eq m c b h _ rfl] at e
  exact e

/-- The array `main_v32` ends with. -/
def res32 (c : Dev nD) : FVec Ideal S36x257x16x104 .bf16 := fun y => (hd m c (y 0) (y 2)).dv (y 1) (y 3)

theorem tail32 (c : Dev nD) : Pipeline.afterTail₀ cfgs (dats m) 0 (V0 m) [hostOps1] c main_v32 = res32 m c := by
  refine funext fun (y : S36x257x16x104.Idx) => ?_
  obtain ⟨b, i, h, l, rfl⟩ : ∃ (b : Fin 36) (i : Fin 257) (h : Fin 16) (l : Fin 104), y = ix4 b i h l := ⟨y 0, y 1, y 2, y 3, eq_ix4 y⟩
  have e := read32 (Pipeline.withArrays spec0 c (V0 m c) fun w => (dats m 0 c).arrAt w (cfgs 0).N) b i h l
  rw [hd_eq m c b h _ rfl] at e
  exact e

/-- The reference leaves the three gradients, and its arguments as they were. -/
theorem run : θ_run defs (onTc (τ := τ) (main (F := Ideal))) ⟨m, fun _ => 0, ρ⟩ fun r => ∀ c : Dev nD,
      r.2.mem ((c.tc : Thread nD τ).loc main_v30) = res30 m c
      ∧ r.2.mem ((c.tc : Thread nD τ).loc main_v31) = res31 m c
      ∧ r.2.mem ((c.tc : Thread nD τ).loc main_v32) = res32 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine θ_run_mono (θ_run_and (Gen.run_main m ρ) (Gen.unchanged m ρ)) fun r h c => ?_
  exact ⟨(((h.1 c).2 main_v30 (Pipeline.mem_restRefs_of main_v30 (by decide) (by decide))).trans (tail30 m c)),
    (((h.1 c).2 main_v31 (Pipeline.mem_restRefs_of main_v31 (by decide) (by decide))).trans (tail31 m c)),
    (((h.1 c).2 main_v32 (Pipeline.mem_restRefs_of main_v32 (by decide) (by decide))).trans (tail32 m c)), h.2 c⟩

end Cert.ReferenceIdeal.Hand

end
-- ==== Proof.Agree.lean ====
/-
  The precondition and the two programs' results: what the precondition says of the value scales, and that
  the kernel's gradients are the reference's.
-/
module

public import proofs.«01_k».proof.Defs
public import proofs.«01_k».proof.Proof.Blocks
public import proofs.«01_k».proof.Proof.RefRun

@[expose] public section

set_option maxRecDepth 16384

noncomputable section

namespace Cert.Pre_scale_in_range.Hand

/-- The precondition's side conditions. -/
theorem facts : Cert.Pre_scale_in_range.Facts where
  bcast_S_S36x16 := by decide +kernel

end Cert.Pre_scale_in_range.Hand

namespace Cert.KernelIdeal.Hand

open Idealize.ShloMosaic Idealize.ShloMosaic.TcCoe

set_option maxHeartbeats 1000000

/-- The `f32` pattern of positive infinity is the top of the extended reals. -/
theorem ofBits_inf : FloatOps.ofBits (F := Ideal) .f32 0x7F800000#32 = (⊤ : EReal) := by
  show Ideal.ofBits .f32 0x7F800000#32 = ⊤
  simp [Ideal.ofBits]
  try decide +kernel

/-- A comparison and another, both one. -/
theorem bits_one {a b : Bool} (h : BitVec.ofBool a &&& BitVec.ofBool b = 1#1) : a = true ∧ b = true := by
  revert h; cases a <;> cases b <;> decide

/-- Under the precondition every value scale is at least zero and not infinite. -/
theorem scale_of_pre (m : (ℓ : Loc Cert.KernelIdeal.nD Cert.KernelIdeal.τ Cert.KernelIdeal.sig) → Buf (Elt Ideal) ℓ)
    (hp : Cert.Pre_KernelIdeal_scale_in_range (hPre_scale_in_range := Cert.Pre_scale_in_range.Hand.facts) m) (c : Dev Cert.KernelIdeal.nD) (b : Fin 36) (h : Fin 16) :
    0 ≤ (ahd m c b h).vs ∧ (ahd m c b h).vs ≠ ⊤ := by
  have e := congrFun (hp c) (ix2 b h)
  have e' : BitVec.ofBool (decide ((ahd m c b h).vs ≥ FloatOps.ofBits (F := Ideal) .f32 0x00000000#32)) &&& BitVec.ofBool (decide ((ahd m c b h).vs < FloatOps.ofBits (F := Ideal) .f32 0x7F800000#32)) = 1#1 := e
  obtain ⟨p, q⟩ := bits_one e'
  rw [show FloatOps.ofBits (F := Ideal) .f32 0x00000000#32 = (0 : EReal) from Ideal.ofBits_zero_f32] at p
  rw [ofBits_inf] at q
  exact ⟨of_decide_eq_true p, ne_of_lt (of_decide_eq_true q)⟩

/-- The two programs' heads are the same when their arguments agree. -/
theorem heads_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (b : Fin 36) (h : Fin 16) : Cert.ReferenceIdeal.Hand.hd m' c b h = ahd m c b h := by
  obtain ⟨a0, a1, a2, a3, a4, a5, a6⟩ := a
  have e : Cert.ReferenceIdeal.Hand.hd m' c b h = Cert.ReferenceIdeal.Hand.hdOf
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (fun y => FloatOps.sitofp (F := Ideal) .f32 ((m' ((c.tc : Thread Cert.ReferenceIdeal.nD Cert.ReferenceIdeal.τ).loc Cert.ReferenceIdeal.main_arg2)) y))
      (m' ((c.tc : Thread Cert.ReferenceIdeal.nD Cert.ReferenceIdeal.τ).loc Cert.ReferenceIdeal.main_arg3))
      (fun y => (m' ((c.tc : Thread Cert.ReferenceIdeal.nD Cert.ReferenceIdeal.τ).loc Cert.ReferenceIdeal.main_arg4)) y)
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) b h := rfl
  rw [e, a0, a1, a2, a3, a4, a5, a6]
  rfl

end Cert.KernelIdeal.Hand

end
-- ==== Proof.lean ====
/-
  The proof of `Cert.Claim` (proofs.«01_k».proof.Defs), assembled from the modules of `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelBody
public import proofs.«01_k».proof.Proof.KernelIdealBody
public import proofs.«01_k».proof.Proof.Preserves
public import proofs.«01_k».proof.Proof.Exact
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The two programs leave the same three gradients in their results. -/
theorem algebraic : Cert.algebraic_KernelIdeal_ReferenceIdeal_pre_scale_in_range (hKernelIdeal := Cert.KernelIdeal.Gen.facts)
    (hReferenceIdeal := Cert.ReferenceIdeal.Gen.facts) (hPre_scale_in_range := Cert.Pre_scale_in_range.Hand.facts) := by
  intro m g m' g' hp ha
  have hh : ∀ (c : Dev Cert.KernelIdeal.nD) (b : Fin 36) (h : Fin 16), Cert.ReferenceIdeal.Hand.hd m' c b h = Cert.KernelIdeal.Hand.ahd m c b h :=
    fun c b h => Cert.KernelIdeal.Hand.heads_agree m m' c (ha c) b h
  refine ⟨Cert.KernelIdeal.Hand.res9 m, Cert.KernelIdeal.Hand.res10 m, Cert.KernelIdeal.Hand.res11 m,
    Cert.KernelIdeal.Hand.values m g (fun c b h => (Cert.KernelIdeal.Hand.scale_of_pre m hp c b h).1) (fun c b h => (Cert.KernelIdeal.Hand.scale_of_pre m hp c b h).2), ?_⟩
  refine θ_run_mono (Cert.ReferenceIdeal.Hand.run m' g') fun r h c => ?_
  obtain ⟨r0, r1, r2, hargs⟩ := h c
  refine ⟨r0.trans ?_, r1.trans ?_, r2.trans ?_, hargs⟩
  · unfold Cert.ReferenceIdeal.Hand.res30 Cert.KernelIdeal.Hand.res9
    exact funext fun y => congrArg (fun H : Cert.Attn.Head => H.dq (y 1) (y 3)) (hh c (y 0) (y 2))
  · unfold Cert.ReferenceIdeal.Hand.res31 Cert.KernelIdeal.Hand.res10
    exact funext fun y => congrArg (fun H : Cert.Attn.Head => H.dk (y 1) (y 3)) (hh c (y 0) (y 2))
  · unfold Cert.ReferenceIdeal.Hand.res32 Cert.KernelIdeal.Hand.res11
    exact funext fun y => congrArg (fun H : Cert.Attn.Head => H.dv (y 1) (y 3)) (hh c (y 0) (y 2))

theorem claim : Cert.Claim := ⟨Cert.Kernel.Gen.facts, Cert.KernelIdeal.Gen.facts, Cert.ReferenceIdeal.Gen.facts, Cert.Pre_scale_in_range.Hand.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  Cert.Preserves.preserves,
  algebraic⟩

end Cert.Proof

end
